-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_in_range_finite [hPre_in_range_finite : Cert.Pre_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_finite [hPre_in_range_finite : Cert.Pre_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_in_range_finite [hKernelIdeal : Cert.KernelIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_range_finite [hReferenceIdeal : Cert.ReferenceIdeal.Facts] [hPre_in_range_finite : Cert.Pre_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_in_range_finite [hKernelIdeal : Cert.KernelIdeal.Facts] [hReferenceIdeal : Cert.ReferenceIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_finite : Cert.Pre_in_range_finite.Facts),
    quiescent_Kernel (hKernel := hKernel) (hPre_in_range := hPre_in_range)
    ∧ quiescent_KernelIdeal (hKernelIdeal := hKernelIdeal) (hPre_in_range := hPre_in_range)
    ∧ quiescent_KernelIdeal_pre_in_range_finite (hKernelIdeal := hKernelIdeal) (hPre_in_range_finite := hPre_in_range_finite)
    ∧ quiescent_ReferenceIdeal (hReferenceIdeal := hReferenceIdeal)
    ∧ quiescent_ReferenceIdeal_pre_in_range_finite (hReferenceIdeal := hReferenceIdeal) (hPre_in_range_finite := hPre_in_range_finite)
    ∧ preserves_Kernel_KernelIdeal
    ∧ algebraic_KernelIdeal_ReferenceIdeal_pre_in_range_finite (hKernelIdeal := hKernelIdeal) (hReferenceIdeal := hReferenceIdeal) (hPre_in_range_finite := hPre_in_range_finite)
-- ==== Pre_in_range.lean ====
abbrev S16384x3 : Shape := ⟨2, ![16384, 3]⟩
abbrev S_ : Shape := ⟨0, ![]⟩
abbrev S1000000x32 : Shape := ⟨2, ![1000000, 32]⟩
abbrev S200x32x32 : Shape := ⟨3, ![200, 32, 32]⟩
abbrev S200x32 : Shape := ⟨2, ![200, 32]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel

variable [Facts]

def fn {F : FTy → Type} [FloatOps F] (main_arg0 : IVec S16384x3 32) (main_arg1 : IVec S_ 32) (main_arg2 : FVec F S1000000x32 .f32) (main_arg3 : FVec F S1000000x32 .f32) (main_arg4 : FVec F S1000000x32 .f32) (main_arg5 : FVec F S200x32x32 .f32) (main_arg6 : FVec F S200x32 .f32) : IVec S_ 1 :=
  let main_c : IVec S_ 32 := constantI S_ 32 0#32
  let main_v0 : IVec S16384x3 32 := broadcastInDim S16384x3 ![] bcast_S_S16384x3 main_c
  let main_v1 : IVec S16384x3 1 := cmpi .sge main_arg0 main_v0
  let main_c_0 : IVec S_ 32 := constantI S_ 32 1000000#32
  let main_v2 : IVec S16384x3 32 := broadcastInDim S16384x3 ![] bcast_S_S16384x3 main_c_0
  let main_v3 : IVec S16384x3 1 := cmpi .slt main_arg0 main_v2
  let main_v4 : IVec S16384x3 1 := andi main_v1 main_v3
  let main_c_1 : IVec S_ 1 := constantI S_ 1 1#1
  let main_v5 : IVec S_ 1 := (fun x v => Host.reduce IntOp.andi x v reducesTo_S16384x3_S_d0_1 h_S_) main_v4 main_c_1
  main_v5
-- ==== Pre_in_range_finite.lean ====
abbrev S16384x3 : Shape := ⟨2, ![16384, 3]⟩
abbrev S_ : Shape := ⟨0, ![]⟩
abbrev S1000000x32 : Shape := ⟨2, ![1000000, 32]⟩
abbrev S200x32x32 : Shape := ⟨3, ![200, 32, 32]⟩
abbrev S200x32 : Shape := ⟨2, ![200, 32]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel
  bcast_S_S1000000x32 : S_.BroadcastsInDim S1000000x32 (![] : Fin 0 → Fin S1000000x32.rank)
  reducesTo_S1000000x32_S_d0_1 : S1000000x32.ReducesTo [0, 1] S_

variable [Facts]

def fn_part1 {F : FTy → Type} [FloatOps F] (main_v15 : IVec S_ 1) (main_v16 : FVec F S1000000x32 .f32) : IVec S_ 1 :=
  let main_cst_5 : FVec F S_ .f32 := constant S_ .f32 0x7F800000#32
  let main_v17 : FVec F S1000000x32 .f32 := broadcastInDim S1000000x32 ![] bcast_S_S1000000x32 main_cst_5
  let main_v18 : IVec S1000000x32 1 := cmpf .olt main_v16 main_v17
  let main_c_6 : IVec S_ 1 := constantI S_ 1 1#1
  let main_v19 : IVec S_ 1 := (fun x v => Host.reduce IntOp.andi x v reducesTo_S1000000x32_S_d0_1 h_S_) main_v18 main_c_6
  let main_v20 : IVec S_ 1 := andi main_v15 main_v19
  main_v20

def fn {F : FTy → Type} [FloatOps F] (main_arg0 : IVec S16384x3 32) (main_arg1 : IVec S_ 32) (main_arg2 : FVec F S1000000x32 .f32) (main_arg3 : FVec F S1000000x32 .f32) (main_arg4 : FVec F S1000000x32 .f32) (main_arg5 : FVec F S200x32x32 .f32) (main_arg6 : FVec F S200x32 .f32) : IVec S_ 1 :=
  let main_c : IVec S_ 32 := constantI S_ 32 0#32
  let main_v0 : IVec S16384x3 32 := broadcastInDim S16384x3 ![] bcast_S_S16384x3 main_c
  let main_v1 : IVec S16384x3 1 := cmpi .sge main_arg0 main_v0
  let main_c_0 : IVec S_ 32 := constantI S_ 32 1000000#32
  let main_v2 : IVec S16384x3 32 := broadcastInDim S16384x3 ![] bcast_S_S16384x3 main_c_0
  let main_v3 : IVec S16384x3 1 := cmpi .slt main_arg0 main_v2
  let main_v4 : IVec S16384x3 1 := andi main_v1 main_v3
  let main_c_1 : IVec S_ 1 := constantI S_ 1 1#1
  let main_v5 : IVec S_ 1 := (fun x v => Host.reduce IntOp.andi x v reducesTo_S16384x3_S_d0_1 h_S_) main_v4 main_c_1
  let main_v6 : FVec F S1000000x32 .f32 := Host.absf main_arg2
  let main_cst : FVec F S_ .f32 := constant S_ .f32 0x7F800000#32
  let main_v7 : FVec F S1000000x32 .f32 := broadcastInDim S1000000x32 ![] bcast_S_S1000000x32 main_cst
  let main_v8 : IVec S1000000x32 1 := cmpf .olt main_v6 main_v7
  let main_c_2 : IVec S_ 1 := constantI S_ 1 1#1
  let main_v9 : IVec S_ 1 := (fun x v => Host.reduce IntOp.andi x v reducesTo_S1000000x32_S_d0_1 h_S_) main_v8 main_c_2
  let main_v10 : IVec S_ 1 := andi main_v5 main_v9
  let main_v11 : FVec F S1000000x32 .f32 := Host.absf main_arg3
  let main_cst_3 : FVec F S_ .f32 := constant S_ .f32 0x7F800000#32
  let main_v12 : FVec F S1000000x32 .f32 := broadcastInDim S1000000x32 ![] bcast_S_S1000000x32 main_cst_3
  let main_v13 : IVec S1000000x32 1 := cmpf .olt main_v11 main_v12
  let main_c_4 : IVec S_ 1 := constantI S_ 1 1#1
  let main_v14 : IVec S_ 1 := (fun x v => Host.reduce IntOp.andi x v reducesTo_S1000000x32_S_d0_1 h_S_) main_v13 main_c_4
  let main_v15 : IVec S_ 1 := andi main_v10 main_v14
  let main_v16 : FVec F S1000000x32 .f32 := Host.absf main_arg4
  fn_part1 (F := F) main_v15 main_v16
-- ==== Kernel.lean ====
abbrev S16384x3 : Shape := ⟨2, ![16384, 3]⟩
abbrev S_ : Shape := ⟨0, ![]⟩
abbrev S1000000x32 : Shape := ⟨2, ![1000000, 32]⟩
abbrev S200x32x32 : Shape := ⟨3, ![200, 32, 32]⟩
abbrev S200x32 : Shape := ⟨2, ![200, 32]⟩
abbrev S250000x128 : Shape := ⟨2, ![250000, 128]⟩
abbrev S16384x1 : Shape := ⟨2, ![16384, 1]⟩
abbrev S16384 : Shape := ⟨1, ![16384]⟩
abbrev S512 : Shape := ⟨1, ![512]⟩
abbrev S128x128 : Shape := ⟨2, ![128, 128]⟩
abbrev S16 : Shape := ⟨1, ![16]⟩
abbrev S128 : Shape := ⟨1, ![128]⟩
abbrev S1x1 : Shape := ⟨2, ![1, 1]⟩
abbrev S1x128x128 : Shape := ⟨3, ![1, 128, 128]⟩
abbrev S1 : Shape := ⟨1, ![1]⟩
abbrev S1x1x1 : Shape := ⟨3, ![1, 1, 1]⟩

abbrev nBuf : Table → Nat
  | .hbm => 20
  | .local .tc .vmem => 1
  | .local .tc .smem => 1
  | .local .scVector .vmem => 12
  | _ => 0

abbrev bufTy : (tb : Table) → Fin (nBuf tb) → BufTy
  | .hbm, ⟨0, _⟩ => ⟨S16384x3, .i32⟩
  | .hbm, ⟨1, _⟩ => ⟨S_, .i32⟩
  | .hbm, ⟨2, _⟩ => ⟨S1000000x32, .f32⟩
  | .hbm, ⟨3, _⟩ => ⟨S1000000x32, .f32⟩
  | .hbm, ⟨4, _⟩ => ⟨S1000000x32, .f32⟩
  | .hbm, ⟨5, _⟩ => ⟨S200x32x32, .f32⟩
  | .hbm, ⟨6, _⟩ => ⟨S200x32, .f32⟩
  | .hbm, ⟨7, _⟩ => ⟨S250000x128, .f32⟩
  | .hbm, ⟨8, _⟩ => ⟨S250000x128, .f32⟩
  | .hbm, ⟨9, _⟩ => ⟨S250000x128, .f32⟩
  | .hbm, ⟨10, _⟩ => ⟨S16384x1, .i32⟩
  | .hbm, ⟨11, _⟩ => ⟨S16384, .i32⟩
  | .hbm, ⟨12, _⟩ => ⟨S16384x1, .i32⟩
  | .hbm, ⟨13, _⟩ => ⟨S16384, .i32⟩
  | .hbm, ⟨14, _⟩ => ⟨S16384x1, .i32⟩
  | .hbm, ⟨15, _⟩ => ⟨S16384, .i32⟩
  | .hbm, ⟨16, _⟩ => ⟨S16384, .f32⟩
  | .hbm, ⟨17, _⟩ => ⟨S128x128, .f32⟩
  | .hbm, ⟨18, _⟩ => ⟨S1x1, .f32⟩
  | .hbm, ⟨19, _⟩ => ⟨S_, .f32⟩
  | .local .tc .vmem, ⟨0, _⟩ => ⟨S128x128, .f32⟩
  | .local .tc .smem, ⟨0, _⟩ => ⟨S1x1, .f32⟩
  | .local .scVector .vmem, ⟨0, _⟩ => ⟨S512, .i32⟩
  | .local .scVector .vmem, ⟨1, _⟩ => ⟨S512, .i32⟩
  | .local .scVector .vmem, ⟨2, _⟩ => ⟨S512, .i32⟩
  | .local .scVector .vmem, ⟨3, _⟩ => ⟨S512, .i32⟩
  | .local .scVector .vmem, ⟨4, _⟩ => ⟨S512, .i32⟩
  | .local .scVector .vmem, ⟨5, _⟩ => ⟨S512, .i32⟩
  | .local .scVector .vmem, ⟨6, _⟩ => ⟨S128x128, .f32⟩
  | .local .scVector .vmem, ⟨7, _⟩ => ⟨S128x128, .f32⟩
  | .local .scVector .vmem, ⟨8, _⟩ => ⟨S128x128, .f32⟩
  | .local .scVector .vmem, ⟨9, _⟩ => ⟨S128x128, .f32⟩
  | .local .scVector .vmem, ⟨10, _⟩ => ⟨S128x128, .f32⟩
  | .local .scVector .vmem, ⟨11, _⟩ => ⟨S512, .f32⟩
  | _, _ => ⟨S16384x3, .i32⟩

abbrev bufScoped : (cs : CoreSpace) → Fin (nBuf (.local .tc cs)) → Bool
  | .vmem, ⟨0, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => true
  | ⟨6, _⟩ => true
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v4_scv : Ref sig .scVector := ⟨.hbm, 11, rfl⟩
abbrev main_v6_scv : Ref sig .scVector := ⟨.hbm, 13, rfl⟩
abbrev main_v8_scv : Ref sig .scVector := ⟨.hbm, 15, rfl⟩
abbrev main_v0_scv : Ref sig .scVector := ⟨.hbm, 7, rfl⟩
abbrev main_v1_scv : Ref sig .scVector := ⟨.hbm, 8, rfl⟩
abbrev main_v2_scv : Ref sig .scVector := ⟨.hbm, 9, rfl⟩
abbrev main_v9_scv : Ref sig .scVector := ⟨.hbm, 16, rfl⟩
abbrev cc1_stg0_0 : Ref sig .tc := ⟨.vmem, 0, rfl⟩
abbrev cc1_stg1_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc1_sem0_0 : DmaSem sig := 5
abbrev cc1_sem1_0 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  ![v2.toNat]
@[reducible] def k0_t1_loop : Scf.Loop 32 :=
  let c0_i32_0 : BitVec 32 := 0#32
  let c32_i32 : BitVec 32 := 32#32
  let v4 : BitVec 32 := Scalar.addi c0_i32_0 c32_i32
  let c1_i32 : BitVec 32 := 1#32
  ⟨c0_i32_0, v4, c1_i32⟩
def k0_off2 (k0_t1 : Fin k0_t1_loop.trips) : Fin 1 → Nat :=
  let c0_i32_0 : BitVec 32 := 0#32
  let c1_i32 : BitVec 32 := 1#32
  let arg22 : BitVec 32 := Scf.iv c0_i32_0 c1_i32 k0_t1
  let c16_i32_138 : BitVec 32 := 16#32
  let v89 : BitVec 32 := Scalar.muli arg22 c16_i32_138
  let v90 : Index := Scalar.indexCast v89
  ![v90.toNat]
@[reducible] def k0_t2_loop : Scf.Loop 32 :=
  let c0_i32_33 : BitVec 32 := 0#32
  let c8_i32 : BitVec 32 := 8#32
  let v25 : BitVec 32 := Scalar.addi c0_i32_33 c8_i32
  let c1_i32_34 : BitVec 32 := 1#32
  ⟨c0_i32_33, v25, c1_i32_34⟩
def k0_off3 (k0_t2 : Fin k0_t2_loop.trips) : Fin 1 → Nat :=
  let c0_i32_140 : BitVec 32 := 0#32
  let c0_i32_33 : BitVec 32 := 0#32
  let c1_i32_34 : BitVec 32 := 1#32
  let arg22 : BitVec 32 := Scf.iv c0_i32_33 c1_i32_34 k0_t2
  let c16_i32_139 : BitVec 32 := 16#32
  let v92 : BitVec 32 := Scalar.muli arg22 c16_i32_139
  let v93 : BitVec 32 := Scalar.addi c0_i32_140 v92
  let v94 : Index := Scalar.indexCast v93
  ![v94.toNat]

def k0_chk1 (v91 : IVec S16 32) (v119 : IVec S16 32) : Prop :=
  (∀ a x, ((![v91, v119] : Fin 2 → IVec S16 32) a x).toNat < S128x128.size a)
theorem k0_idx1_inb : ∀ (v91 : IVec S16 32) (v119 : IVec S16 32) (k0_hw1 : k0_chk1 v91 v119), ∀ a x, ((![v91, v119] : Fin 2 → IVec S16 32) a x).toNat < S128x128.size a := fun v91 v119 k0_hw1 => k0_hw1

def k0_chk2 (v91 : IVec S16 32) (v121 : IVec S16 32) : Prop :=
  (∀ a x, ((![v91, v121] : Fin 2 → IVec S16 32) a x).toNat < S128x128.size a)
theorem k0_idx2_inb : ∀ (v91 : IVec S16 32) (v121 : IVec S16 32) (k0_hw2 : k0_chk2 v91 v121), ∀ a x, ((![v91, v121] : Fin 2 → IVec S16 32) a x).toNat < S128x128.size a := fun v91 v121 k0_hw2 => k0_hw2

def k0_chk3 (v91 : IVec S16 32) (v123 : IVec S16 32) : Prop :=
  (∀ a x, ((![v91, v123] : Fin 2 → IVec S16 32) a x).toNat < S128x128.size a)
theorem k0_idx3_inb : ∀ (v91 : IVec S16 32) (v123 : IVec S16 32) (k0_hw3 : k0_chk3 v91 v123), ∀ a x, ((![v91, v123] : Fin 2 → IVec S16 32) a x).toNat < S128x128.size a := fun v91 v123 k0_hw3 => k0_hw3

def k0_chk4 (v91 : IVec S16 32) (v126 : IVec S16 32) : Prop :=
  (∀ a x, ((![v91, v126] : Fin 2 → IVec S16 32) a x).toNat < S128x128.size a)
theorem k0_idx4_inb : ∀ (v91 : IVec S16 32) (v126 : IVec S16 32) (k0_hw4 : k0_chk4 v91 v126), ∀ a x, ((![v91, v126] : Fin 2 → IVec S16 32) a x).toNat < S128x128.size a := fun v91 v126 k0_hw4 => k0_hw4

def k0_chk5 (v91 : IVec S16 32) (v128 : IVec S16 32) : Prop :=
  (∀ a x, ((![v91, v128] : Fin 2 → IVec S16 32) a x).toNat < S128x128.size a)
theorem k0_idx5_inb : ∀ (v91 : IVec S16 32) (v128 : IVec S16 32) (k0_hw5 : k0_chk5 v91 v128), ∀ a x, ((![v91, v128] : Fin 2 → IVec S16 32) a x).toNat < S128x128.size a := fun v91 v128 k0_hw5 => k0_hw5

def k0_chk6 (v91 : IVec S16 32) (v140 : IVec S16 32) : Prop :=
  (∀ a x, ((![v91, v140] : Fin 2 → IVec S16 32) a x).toNat < S128x128.size a)
theorem k0_idx6_inb : ∀ (v91 : IVec S16 32) (v140 : IVec S16 32) (k0_hw6 : k0_chk6 v91 v140), ∀ a x, ((![v91, v140] : Fin 2 → IVec S16 32) a x).toNat < S128x128.size a := fun v91 v140 k0_hw6 => k0_hw6

def k0_chk7 (v91 : IVec S16 32) (v142 : IVec S16 32) : Prop :=
  (∀ a x, ((![v91, v142] : Fin 2 → IVec S16 32) a x).toNat < S128x128.size a)
theorem k0_idx7_inb : ∀ (v91 : IVec S16 32) (v142 : IVec S16 32) (k0_hw7 : k0_chk7 v91 v142), ∀ a x, ((![v91, v142] : Fin 2 → IVec S16 32) a x).toNat < S128x128.size a := fun v91 v142 k0_hw7 => k0_hw7

def k0_chk8 (v91 : IVec S16 32) (v144 : IVec S16 32) : Prop :=
  (∀ a x, ((![v91, v144] : Fin 2 → IVec S16 32) a x).toNat < S128x128.size a)
theorem k0_idx8_inb : ∀ (v91 : IVec S16 32) (v144 : IVec S16 32) (k0_hw8 : k0_chk8 v91 v144), ∀ a x, ((![v91, v144] : Fin 2 → IVec S16 32) a x).toNat < S128x128.size a := fun v91 v144 k0_hw8 => k0_hw8

def k0_chk9 (v91 : IVec S16 32) (v147 : IVec S16 32) : Prop :=
  (∀ a x, ((![v91, v147] : Fin 2 → IVec S16 32) a x).toNat < S128x128.size a)
theorem k0_idx9_inb : ∀ (v91 : IVec S16 32) (v147 : IVec S16 32) (k0_hw9 : k0_chk9 v91 v147), ∀ a x, ((![v91, v147] : Fin 2 → IVec S16 32) a x).toNat < S128x128.size a := fun v91 v147 k0_hw9 => k0_hw9

def k0_chk10 (v91 : IVec S16 32) (v149 : IVec S16 32) : Prop :=
  (∀ a x, ((![v91, v149] : Fin 2 → IVec S16 32) a x).toNat < S128x128.size a)
theorem k0_idx10_inb : ∀ (v91 : IVec S16 32) (v149 : IVec S16 32) (k0_hw10 : k0_chk10 v91 v149), ∀ a x, ((![v91, v149] : Fin 2 → IVec S16 32) a x).toNat < S128x128.size a := fun v91 v149 k0_hw10 => k0_hw10

def k0_chk11 (v91 : IVec S16 32) (v161 : IVec S16 32) : Prop :=
  (∀ a x, ((![v91, v161] : Fin 2 → IVec S16 32) a x).toNat < S128x128.size a)
theorem k0_idx11_inb : ∀ (v91 : IVec S16 32) (v161 : IVec S16 32) (k0_hw11 : k0_chk11 v91 v161), ∀ a x, ((![v91, v161] : Fin 2 → IVec S16 32) a x).toNat < S128x128.size a := fun v91 v161 k0_hw11 => k0_hw11

def k0_chk12 (v91 : IVec S16 32) (v163 : IVec S16 32) : Prop :=
  (∀ a x, ((![v91, v163] : Fin 2 → IVec S16 32) a x).toNat < S128x128.size a)
theorem k0_idx12_inb : ∀ (v91 : IVec S16 32) (v163 : IVec S16 32) (k0_hw12 : k0_chk12 v91 v163), ∀ a x, ((![v91, v163] : Fin 2 → IVec S16 32) a x).toNat < S128x128.size a := fun v91 v163 k0_hw12 => k0_hw12

def k0_chk13 (v91 : IVec S16 32) (v165 : IVec S16 32) : Prop :=
  (∀ a x, ((![v91, v165] : Fin 2 → IVec S16 32) a x).toNat < S128x128.size a)
theorem k0_idx13_inb : ∀ (v91 : IVec S16 32) (v165 : IVec S16 32) (k0_hw13 : k0_chk13 v91 v165), ∀ a x, ((![v91, v165] : Fin 2 → IVec S16 32) a x).toNat < S128x128.size a := fun v91 v165 k0_hw13 => k0_hw13

def k0_chk14 (v91 : IVec S16 32) (v168 : IVec S16 32) : Prop :=
  (∀ a x, ((![v91, v168] : Fin 2 → IVec S16 32) a x).toNat < S128x128.size a)
theorem k0_idx14_inb : ∀ (v91 : IVec S16 32) (v168 : IVec S16 32) (k0_hw14 : k0_chk14 v91 v168), ∀ a x, ((![v91, v168] : Fin 2 → IVec S16 32) a x).toNat < S128x128.size a := fun v91 v168 k0_hw14 => k0_hw14

def k0_chk15 (v91 : IVec S16 32) (v170 : IVec S16 32) : Prop :=
  (∀ a x, ((![v91, v170] : Fin 2 → IVec S16 32) a x).toNat < S128x128.size a)
theorem k0_idx15_inb : ∀ (v91 : IVec S16 32) (v170 : IVec S16 32) (k0_hw15 : k0_chk15 v91 v170), ∀ a x, ((![v91, v170] : Fin 2 → IVec S16 32) a x).toNat < S128x128.size a := fun v91 v170 k0_hw15 => k0_hw15

def k0_chk16 (v91 : IVec S16 32) (v182 : IVec S16 32) : Prop :=
  (∀ a x, ((![v91, v182] : Fin 2 → IVec S16 32) a x).toNat < S128x128.size a)
theorem k0_idx16_inb : ∀ (v91 : IVec S16 32) (v182 : IVec S16 32) (k0_hw16 : k0_chk16 v91 v182), ∀ a x, ((![v91, v182] : Fin 2 → IVec S16 32) a x).toNat < S128x128.size a := fun v91 v182 k0_hw16 => k0_hw16

def k0_chk17 (v91 : IVec S16 32) (v184 : IVec S16 32) : Prop :=
  (∀ a x, ((![v91, v184] : Fin 2 → IVec S16 32) a x).toNat < S128x128.size a)
theorem k0_idx17_inb : ∀ (v91 : IVec S16 32) (v184 : IVec S16 32) (k0_hw17 : k0_chk17 v91 v184), ∀ a x, ((![v91, v184] : Fin 2 → IVec S16 32) a x).toNat < S128x128.size a := fun v91 v184 k0_hw17 => k0_hw17

def k0_chk18 (v91 : IVec S16 32) (v186 : IVec S16 32) : Prop :=
  (∀ a x, ((![v91, v186] : Fin 2 → IVec S16 32) a x).toNat < S128x128.size a)
theorem k0_idx18_inb : ∀ (v91 : IVec S16 32) (v186 : IVec S16 32) (k0_hw18 : k0_chk18 v91 v186), ∀ a x, ((![v91, v186] : Fin 2 → IVec S16 32) a x).toNat < S128x128.size a := fun v91 v186 k0_hw18 => k0_hw18

def k0_chk19 (v91 : IVec S16 32) (v189 : IVec S16 32) : Prop :=
  (∀ a x, ((![v91, v189] : Fin 2 → IVec S16 32) a x).toNat < S128x128.size a)
theorem k0_idx19_inb : ∀ (v91 : IVec S16 32) (v189 : IVec S16 32) (k0_hw19 : k0_chk19 v91 v189), ∀ a x, ((![v91, v189] : Fin 2 → IVec S16 32) a x).toNat < S128x128.size a := fun v91 v189 k0_hw19 => k0_hw19

def k0_chk20 (v91 : IVec S16 32) (v191 : IVec S16 32) : Prop :=
  (∀ a x, ((![v91, v191] : Fin 2 → IVec S16 32) a x).toNat < S128x128.size a)
theorem k0_idx20_inb : ∀ (v91 : IVec S16 32) (v191 : IVec S16 32) (k0_hw20 : k0_chk20 v91 v191), ∀ a x, ((![v91, v191] : Fin 2 → IVec S16 32) a x).toNat < S128x128.size a := fun v91 v191 k0_hw20 => k0_hw20

def k0_chk21 (v91 : IVec S16 32) (v203 : IVec S16 32) : Prop :=
  (∀ a x, ((![v91, v203] : Fin 2 → IVec S16 32) a x).toNat < S128x128.size a)
theorem k0_idx21_inb : ∀ (v91 : IVec S16 32) (v203 : IVec S16 32) (k0_hw21 : k0_chk21 v91 v203), ∀ a x, ((![v91, v203] : Fin 2 → IVec S16 32) a x).toNat < S128x128.size a := fun v91 v203 k0_hw21 => k0_hw21

def k0_chk22 (v91 : IVec S16 32) (v205 : IVec S16 32) : Prop :=
  (∀ a x, ((![v91, v205] : Fin 2 → IVec S16 32) a x).toNat < S128x128.size a)
theorem k0_idx22_inb : ∀ (v91 : IVec S16 32) (v205 : IVec S16 32) (k0_hw22 : k0_chk22 v91 v205), ∀ a x, ((![v91, v205] : Fin 2 → IVec S16 32) a x).toNat < S128x128.size a := fun v91 v205 k0_hw22 => k0_hw22

def k0_chk23 (v91 : IVec S16 32) (v207 : IVec S16 32) : Prop :=
  (∀ a x, ((![v91, v207] : Fin 2 → IVec S16 32) a x).toNat < S128x128.size a)
theorem k0_idx23_inb : ∀ (v91 : IVec S16 32) (v207 : IVec S16 32) (k0_hw23 : k0_chk23 v91 v207), ∀ a x, ((![v91, v207] : Fin 2 → IVec S16 32) a x).toNat < S128x128.size a := fun v91 v207 k0_hw23 => k0_hw23

def k0_chk24 (v91 : IVec S16 32) (v210 : IVec S16 32) : Prop :=
  (∀ a x, ((![v91, v210] : Fin 2 → IVec S16 32) a x).toNat < S128x128.size a)
theorem k0_idx24_inb : ∀ (v91 : IVec S16 32) (v210 : IVec S16 32) (k0_hw24 : k0_chk24 v91 v210), ∀ a x, ((![v91, v210] : Fin 2 → IVec S16 32) a x).toNat < S128x128.size a := fun v91 v210 k0_hw24 => k0_hw24

def k0_chk25 (v91 : IVec S16 32) (v212 : IVec S16 32) : Prop :=
  (∀ a x, ((![v91, v212] : Fin 2 → IVec S16 32) a x).toNat < S128x128.size a)
theorem k0_idx25_inb : ∀ (v91 : IVec S16 32) (v212 : IVec S16 32) (k0_hw25 : k0_chk25 v91 v212), ∀ a x, ((![v91, v212] : Fin 2 → IVec S16 32) a x).toNat < S128x128.size a := fun v91 v212 k0_hw25 => k0_hw25

def k0_chk26 (v91 : IVec S16 32) (v224 : IVec S16 32) : Prop :=
  (∀ a x, ((![v91, v224] : Fin 2 → IVec S16 32) a x).toNat < S128x128.size a)
theorem k0_idx26_inb : ∀ (v91 : IVec S16 32) (v224 : IVec S16 32) (k0_hw26 : k0_chk26 v91 v224), ∀ a x, ((![v91, v224] : Fin 2 → IVec S16 32) a x).toNat < S128x128.size a := fun v91 v224 k0_hw26 => k0_hw26

def k0_chk27 (v91 : IVec S16 32) (v226 : IVec S16 32) : Prop :=
  (∀ a x, ((![v91, v226] : Fin 2 → IVec S16 32) a x).toNat < S128x128.size a)
theorem k0_idx27_inb : ∀ (v91 : IVec S16 32) (v226 : IVec S16 32) (k0_hw27 : k0_chk27 v91 v226), ∀ a x, ((![v91, v226] : Fin 2 → IVec S16 32) a x).toNat < S128x128.size a := fun v91 v226 k0_hw27 => k0_hw27

def k0_chk28 (v91 : IVec S16 32) (v228 : IVec S16 32) : Prop :=
  (∀ a x, ((![v91, v228] : Fin 2 → IVec S16 32) a x).toNat < S128x128.size a)
theorem k0_idx28_inb : ∀ (v91 : IVec S16 32) (v228 : IVec S16 32) (k0_hw28 : k0_chk28 v91 v228), ∀ a x, ((![v91, v228] : Fin 2 → IVec S16 32) a x).toNat < S128x128.size a := fun v91 v228 k0_hw28 => k0_hw28

def k0_chk29 (v91 : IVec S16 32) (v231 : IVec S16 32) : Prop :=
  (∀ a x, ((![v91, v231] : Fin 2 → IVec S16 32) a x).toNat < S128x128.size a)
theorem k0_idx29_inb : ∀ (v91 : IVec S16 32) (v231 : IVec S16 32) (k0_hw29 : k0_chk29 v91 v231), ∀ a x, ((![v91, v231] : Fin 2 → IVec S16 32) a x).toNat < S128x128.size a := fun v91 v231 k0_hw29 => k0_hw29

def k0_chk30 (v91 : IVec S16 32) (v233 : IVec S16 32) : Prop :=
  (∀ a x, ((![v91, v233] : Fin 2 → IVec S16 32) a x).toNat < S128x128.size a)
theorem k0_idx30_inb : ∀ (v91 : IVec S16 32) (v233 : IVec S16 32) (k0_hw30 : k0_chk30 v91 v233), ∀ a x, ((![v91, v233] : Fin 2 → IVec S16 32) a x).toNat < S128x128.size a := fun v91 v233 k0_hw30 => k0_hw30

def k0_chk31 (v91 : IVec S16 32) (v245 : IVec S16 32) : Prop :=
  (∀ a x, ((![v91, v245] : Fin 2 → IVec S16 32) a x).toNat < S128x128.size a)
theorem k0_idx31_inb : ∀ (v91 : IVec S16 32) (v245 : IVec S16 32) (k0_hw31 : k0_chk31 v91 v245), ∀ a x, ((![v91, v245] : Fin 2 → IVec S16 32) a x).toNat < S128x128.size a := fun v91 v245 k0_hw31 => k0_hw31

def k0_chk32 (v91 : IVec S16 32) (v247 : IVec S16 32) : Prop :=
  (∀ a x, ((![v91, v247] : Fin 2 → IVec S16 32) a x).toNat < S128x128.size a)
theorem k0_idx32_inb : ∀ (v91 : IVec S16 32) (v247 : IVec S16 32) (k0_hw32 : k0_chk32 v91 v247), ∀ a x, ((![v91, v247] : Fin 2 → IVec S16 32) a x).toNat < S128x128.size a := fun v91 v247 k0_hw32 => k0_hw32

def k0_chk33 (v91 : IVec S16 32) (v249 : IVec S16 32) : Prop :=
  (∀ a x, ((![v91, v249] : Fin 2 → IVec S16 32) a x).toNat < S128x128.size a)
theorem k0_idx33_inb : ∀ (v91 : IVec S16 32) (v249 : IVec S16 32) (k0_hw33 : k0_chk33 v91 v249), ∀ a x, ((![v91, v249] : Fin 2 → IVec S16 32) a x).toNat < S128x128.size a := fun v91 v249 k0_hw33 => k0_hw33

def k0_chk34 (v91 : IVec S16 32) (v252 : IVec S16 32) : Prop :=
  (∀ a x, ((![v91, v252] : Fin 2 → IVec S16 32) a x).toNat < S128x128.size a)
theorem k0_idx34_inb : ∀ (v91 : IVec S16 32) (v252 : IVec S16 32) (k0_hw34 : k0_chk34 v91 v252), ∀ a x, ((![v91, v252] : Fin 2 → IVec S16 32) a x).toNat < S128x128.size a := fun v91 v252 k0_hw34 => k0_hw34

def k0_chk35 (v91 : IVec S16 32) (v254 : IVec S16 32) : Prop :=
  (∀ a x, ((![v91, v254] : Fin 2 → IVec S16 32) a x).toNat < S128x128.size a)
theorem k0_idx35_inb : ∀ (v91 : IVec S16 32) (v254 : IVec S16 32) (k0_hw35 : k0_chk35 v91 v254), ∀ a x, ((![v91, v254] : Fin 2 → IVec S16 32) a x).toNat < S128x128.size a := fun v91 v254 k0_hw35 => k0_hw35

def k0_chk36 (v91 : IVec S16 32) (v266 : IVec S16 32) : Prop :=
  (∀ a x, ((![v91, v266] : Fin 2 → IVec S16 32) a x).toNat < S128x128.size a)
theorem k0_idx36_inb : ∀ (v91 : IVec S16 32) (v266 : IVec S16 32) (k0_hw36 : k0_chk36 v91 v266), ∀ a x, ((![v91, v266] : Fin 2 → IVec S16 32) a x).toNat < S128x128.size a := fun v91 v266 k0_hw36 => k0_hw36

def k0_chk37 (v91 : IVec S16 32) (v268 : IVec S16 32) : Prop :=
  (∀ a x, ((![v91, v268] : Fin 2 → IVec S16 32) a x).toNat < S128x128.size a)
theorem k0_idx37_inb : ∀ (v91 : IVec S16 32) (v268 : IVec S16 32) (k0_hw37 : k0_chk37 v91 v268), ∀ a x, ((![v91, v268] : Fin 2 → IVec S16 32) a x).toNat < S128x128.size a := fun v91 v268 k0_hw37 => k0_hw37

def k0_chk38 (v91 : IVec S16 32) (v270 : IVec S16 32) : Prop :=
  (∀ a x, ((![v91, v270] : Fin 2 → IVec S16 32) a x).toNat < S128x128.size a)
theorem k0_idx38_inb : ∀ (v91 : IVec S16 32) (v270 : IVec S16 32) (k0_hw38 : k0_chk38 v91 v270), ∀ a x, ((![v91, v270] : Fin 2 → IVec S16 32) a x).toNat < S128x128.size a := fun v91 v270 k0_hw38 => k0_hw38

def k0_chk39 (v91 : IVec S16 32) (v273 : IVec S16 32) : Prop :=
  (∀ a x, ((![v91, v273] : Fin 2 → IVec S16 32) a x).toNat < S128x128.size a)
theorem k0_idx39_inb : ∀ (v91 : IVec S16 32) (v273 : IVec S16 32) (k0_hw39 : k0_chk39 v91 v273), ∀ a x, ((![v91, v273] : Fin 2 → IVec S16 32) a x).toNat < S128x128.size a := fun v91 v273 k0_hw39 => k0_hw39

def k0_chk40 (v91 : IVec S16 32) (v275 : IVec S16 32) : Prop :=
  (∀ a x, ((![v91, v275] : Fin 2 → IVec S16 32) a x).toNat < S128x128.size a)
theorem k0_idx40_inb : ∀ (v91 : IVec S16 32) (v275 : IVec S16 32) (k0_hw40 : k0_chk40 v91 v275), ∀ a x, ((![v91, v275] : Fin 2 → IVec S16 32) a x).toNat < S128x128.size a := fun v91 v275 k0_hw40 => k0_hw40

def k0_chk41 (v91 : IVec S16 32) (v287 : IVec S16 32) : Prop :=
  (∀ a x, ((![v91, v287] : Fin 2 → IVec S16 32) a x).toNat < S128x128.size a)
theorem k0_idx41_inb : ∀ (v91 : IVec S16 32) (v287 : IVec S16 32) (k0_hw41 : k0_chk41 v91 v287), ∀ a x, ((![v91, v287] : Fin 2 → IVec S16 32) a x).toNat < S128x128.size a := fun v91 v287 k0_hw41 => k0_hw41

def k0_chk42 (v91 : IVec S16 32) (v289 : IVec S16 32) : Prop :=
  (∀ a x, ((![v91, v289] : Fin 2 → IVec S16 32) a x).toNat < S128x128.size a)
theorem k0_idx42_inb : ∀ (v91 : IVec S16 32) (v289 : IVec S16 32) (k0_hw42 : k0_chk42 v91 v289), ∀ a x, ((![v91, v289] : Fin 2 → IVec S16 32) a x).toNat < S128x128.size a := fun v91 v289 k0_hw42 => k0_hw42

def k0_chk43 (v91 : IVec S16 32) (v291 : IVec S16 32) : Prop :=
  (∀ a x, ((![v91, v291] : Fin 2 → IVec S16 32) a x).toNat < S128x128.size a)
theorem k0_idx43_inb : ∀ (v91 : IVec S16 32) (v291 : IVec S16 32) (k0_hw43 : k0_chk43 v91 v291), ∀ a x, ((![v91, v291] : Fin 2 → IVec S16 32) a x).toNat < S128x128.size a := fun v91 v291 k0_hw43 => k0_hw43

def k0_chk44 (v91 : IVec S16 32) (v294 : IVec S16 32) : Prop :=
  (∀ a x, ((![v91, v294] : Fin 2 → IVec S16 32) a x).toNat < S128x128.size a)
theorem k0_idx44_inb : ∀ (v91 : IVec S16 32) (v294 : IVec S16 32) (k0_hw44 : k0_chk44 v91 v294), ∀ a x, ((![v91, v294] : Fin 2 → IVec S16 32) a x).toNat < S128x128.size a := fun v91 v294 k0_hw44 => k0_hw44

def k0_chk45 (v91 : IVec S16 32) (v296 : IVec S16 32) : Prop :=
  (∀ a x, ((![v91, v296] : Fin 2 → IVec S16 32) a x).toNat < S128x128.size a)
theorem k0_idx45_inb : ∀ (v91 : IVec S16 32) (v296 : IVec S16 32) (k0_hw45 : k0_chk45 v91 v296), ∀ a x, ((![v91, v296] : Fin 2 → IVec S16 32) a x).toNat < S128x128.size a := fun v91 v296 k0_hw45 => k0_hw45

def k0_chk46 (v91 : IVec S16 32) (v308 : IVec S16 32) : Prop :=
  (∀ a x, ((![v91, v308] : Fin 2 → IVec S16 32) a x).toNat < S128x128.size a)
theorem k0_idx46_inb : ∀ (v91 : IVec S16 32) (v308 : IVec S16 32) (k0_hw46 : k0_chk46 v91 v308), ∀ a x, ((![v91, v308] : Fin 2 → IVec S16 32) a x).toNat < S128x128.size a := fun v91 v308 k0_hw46 => k0_hw46

def k0_chk47 (v91 : IVec S16 32) (v310 : IVec S16 32) : Prop :=
  (∀ a x, ((![v91, v310] : Fin 2 → IVec S16 32) a x).toNat < S128x128.size a)
theorem k0_idx47_inb : ∀ (v91 : IVec S16 32) (v310 : IVec S16 32) (k0_hw47 : k0_chk47 v91 v310), ∀ a x, ((![v91, v310] : Fin 2 → IVec S16 32) a x).toNat < S128x128.size a := fun v91 v310 k0_hw47 => k0_hw47

def k0_chk48 (v91 : IVec S16 32) (v312 : IVec S16 32) : Prop :=
  (∀ a x, ((![v91, v312] : Fin 2 → IVec S16 32) a x).toNat < S128x128.size a)
theorem k0_idx48_inb : ∀ (v91 : IVec S16 32) (v312 : IVec S16 32) (k0_hw48 : k0_chk48 v91 v312), ∀ a x, ((![v91, v312] : Fin 2 → IVec S16 32) a x).toNat < S128x128.size a := fun v91 v312 k0_hw48 => k0_hw48

def k0_chk49 (v91 : IVec S16 32) (v315 : IVec S16 32) : Prop :=
  (∀ a x, ((![v91, v315] : Fin 2 → IVec S16 32) a x).toNat < S128x128.size a)
theorem k0_idx49_inb : ∀ (v91 : IVec S16 32) (v315 : IVec S16 32) (k0_hw49 : k0_chk49 v91 v315), ∀ a x, ((![v91, v315] : Fin 2 → IVec S16 32) a x).toNat < S128x128.size a := fun v91 v315 k0_hw49 => k0_hw49

def k0_chk50 (v91 : IVec S16 32) (v317 : IVec S16 32) : Prop :=
  (∀ a x, ((![v91, v317] : Fin 2 → IVec S16 32) a x).toNat < S128x128.size a)
theorem k0_idx50_inb : ∀ (v91 : IVec S16 32) (v317 : IVec S16 32) (k0_hw50 : k0_chk50 v91 v317), ∀ a x, ((![v91, v317] : Fin 2 → IVec S16 32) a x).toNat < S128x128.size a := fun v91 v317 k0_hw50 => k0_hw50

def k0_chk51 (v91 : IVec S16 32) (v329 : IVec S16 32) : Prop :=
  (∀ a x, ((![v91, v329] : Fin 2 → IVec S16 32) a x).toNat < S128x128.size a)
theorem k0_idx51_inb : ∀ (v91 : IVec S16 32) (v329 : IVec S16 32) (k0_hw51 : k0_chk51 v91 v329), ∀ a x, ((![v91, v329] : Fin 2 → IVec S16 32) a x).toNat < S128x128.size a := fun v91 v329 k0_hw51 => k0_hw51

def k0_chk52 (v91 : IVec S16 32) (v331 : IVec S16 32) : Prop :=
  (∀ a x, ((![v91, v331] : Fin 2 → IVec S16 32) a x).toNat < S128x128.size a)
theorem k0_idx52_inb : ∀ (v91 : IVec S16 32) (v331 : IVec S16 32) (k0_hw52 : k0_chk52 v91 v331), ∀ a x, ((![v91, v331] : Fin 2 → IVec S16 32) a x).toNat < S128x128.size a := fun v91 v331 k0_hw52 => k0_hw52

def k0_chk53 (v91 : IVec S16 32) (v333 : IVec S16 32) : Prop :=
  (∀ a x, ((![v91, v333] : Fin 2 → IVec S16 32) a x).toNat < S128x128.size a)
theorem k0_idx53_inb : ∀ (v91 : IVec S16 32) (v333 : IVec S16 32) (k0_hw53 : k0_chk53 v91 v333), ∀ a x, ((![v91, v333] : Fin 2 → IVec S16 32) a x).toNat < S128x128.size a := fun v91 v333 k0_hw53 => k0_hw53

def k0_chk54 (v91 : IVec S16 32) (v336 : IVec S16 32) : Prop :=
  (∀ a x, ((![v91, v336] : Fin 2 → IVec S16 32) a x).toNat < S128x128.size a)
theorem k0_idx54_inb : ∀ (v91 : IVec S16 32) (v336 : IVec S16 32) (k0_hw54 : k0_chk54 v91 v336), ∀ a x, ((![v91, v336] : Fin 2 → IVec S16 32) a x).toNat < S128x128.size a := fun v91 v336 k0_hw54 => k0_hw54

def k0_chk55 (v91 : IVec S16 32) (v338 : IVec S16 32) : Prop :=
  (∀ a x, ((![v91, v338] : Fin 2 → IVec S16 32) a x).toNat < S128x128.size a)
theorem k0_idx55_inb : ∀ (v91 : IVec S16 32) (v338 : IVec S16 32) (k0_hw55 : k0_chk55 v91 v338), ∀ a x, ((![v91, v338] : Fin 2 → IVec S16 32) a x).toNat < S128x128.size a := fun v91 v338 k0_hw55 => k0_hw55

def k0_chk56 (v91 : IVec S16 32) (v350 : IVec S16 32) : Prop :=
  (∀ a x, ((![v91, v350] : Fin 2 → IVec S16 32) a x).toNat < S128x128.size a)
theorem k0_idx56_inb : ∀ (v91 : IVec S16 32) (v350 : IVec S16 32) (k0_hw56 : k0_chk56 v91 v350), ∀ a x, ((![v91, v350] : Fin 2 → IVec S16 32) a x).toNat < S128x128.size a := fun v91 v350 k0_hw56 => k0_hw56

def k0_chk57 (v91 : IVec S16 32) (v352 : IVec S16 32) : Prop :=
  (∀ a x, ((![v91, v352] : Fin 2 → IVec S16 32) a x).toNat < S128x128.size a)
theorem k0_idx57_inb : ∀ (v91 : IVec S16 32) (v352 : IVec S16 32) (k0_hw57 : k0_chk57 v91 v352), ∀ a x, ((![v91, v352] : Fin 2 → IVec S16 32) a x).toNat < S128x128.size a := fun v91 v352 k0_hw57 => k0_hw57

def k0_chk58 (v91 : IVec S16 32) (v354 : IVec S16 32) : Prop :=
  (∀ a x, ((![v91, v354] : Fin 2 → IVec S16 32) a x).toNat < S128x128.size a)
theorem k0_idx58_inb : ∀ (v91 : IVec S16 32) (v354 : IVec S16 32) (k0_hw58 : k0_chk58 v91 v354), ∀ a x, ((![v91, v354] : Fin 2 → IVec S16 32) a x).toNat < S128x128.size a := fun v91 v354 k0_hw58 => k0_hw58

def k0_chk59 (v91 : IVec S16 32) (v357 : IVec S16 32) : Prop :=
  (∀ a x, ((![v91, v357] : Fin 2 → IVec S16 32) a x).toNat < S128x128.size a)
theorem k0_idx59_inb : ∀ (v91 : IVec S16 32) (v357 : IVec S16 32) (k0_hw59 : k0_chk59 v91 v357), ∀ a x, ((![v91, v357] : Fin 2 → IVec S16 32) a x).toNat < S128x128.size a := fun v91 v357 k0_hw59 => k0_hw59

def k0_chk60 (v91 : IVec S16 32) (v359 : IVec S16 32) : Prop :=
  (∀ a x, ((![v91, v359] : Fin 2 → IVec S16 32) a x).toNat < S128x128.size a)
theorem k0_idx60_inb : ∀ (v91 : IVec S16 32) (v359 : IVec S16 32) (k0_hw60 : k0_chk60 v91 v359), ∀ a x, ((![v91, v359] : Fin 2 → IVec S16 32) a x).toNat < S128x128.size a := fun v91 v359 k0_hw60 => k0_hw60

def k0_chk61 (v91 : IVec S16 32) (v371 : IVec S16 32) : Prop :=
  (∀ a x, ((![v91, v371] : Fin 2 → IVec S16 32) a x).toNat < S128x128.size a)
theorem k0_idx61_inb : ∀ (v91 : IVec S16 32) (v371 : IVec S16 32) (k0_hw61 : k0_chk61 v91 v371), ∀ a x, ((![v91, v371] : Fin 2 → IVec S16 32) a x).toNat < S128x128.size a := fun v91 v371 k0_hw61 => k0_hw61

def k0_chk62 (v91 : IVec S16 32) (v373 : IVec S16 32) : Prop :=
  (∀ a x, ((![v91, v373] : Fin 2 → IVec S16 32) a x).toNat < S128x128.size a)
theorem k0_idx62_inb : ∀ (v91 : IVec S16 32) (v373 : IVec S16 32) (k0_hw62 : k0_chk62 v91 v373), ∀ a x, ((![v91, v373] : Fin 2 → IVec S16 32) a x).toNat < S128x128.size a := fun v91 v373 k0_hw62 => k0_hw62

def k0_chk63 (v91 : IVec S16 32) (v375 : IVec S16 32) : Prop :=
  (∀ a x, ((![v91, v375] : Fin 2 → IVec S16 32) a x).toNat < S128x128.size a)
theorem k0_idx63_inb : ∀ (v91 : IVec S16 32) (v375 : IVec S16 32) (k0_hw63 : k0_chk63 v91 v375), ∀ a x, ((![v91, v375] : Fin 2 → IVec S16 32) a x).toNat < S128x128.size a := fun v91 v375 k0_hw63 => k0_hw63

def k0_chk64 (v91 : IVec S16 32) (v378 : IVec S16 32) : Prop :=
  (∀ a x, ((![v91, v378] : Fin 2 → IVec S16 32) a x).toNat < S128x128.size a)
theorem k0_idx64_inb : ∀ (v91 : IVec S16 32) (v378 : IVec S16 32) (k0_hw64 : k0_chk64 v91 v378), ∀ a x, ((![v91, v378] : Fin 2 → IVec S16 32) a x).toNat < S128x128.size a := fun v91 v378 k0_hw64 => k0_hw64

def k0_chk65 (v91 : IVec S16 32) (v380 : IVec S16 32) : Prop :=
  (∀ a x, ((![v91, v380] : Fin 2 → IVec S16 32) a x).toNat < S128x128.size a)
theorem k0_idx65_inb : ∀ (v91 : IVec S16 32) (v380 : IVec S16 32) (k0_hw65 : k0_chk65 v91 v380), ∀ a x, ((![v91, v380] : Fin 2 → IVec S16 32) a x).toNat < S128x128.size a := fun v91 v380 k0_hw65 => k0_hw65

def k0_chk66 (v91 : IVec S16 32) (v392 : IVec S16 32) : Prop :=
  (∀ a x, ((![v91, v392] : Fin 2 → IVec S16 32) a x).toNat < S128x128.size a)
theorem k0_idx66_inb : ∀ (v91 : IVec S16 32) (v392 : IVec S16 32) (k0_hw66 : k0_chk66 v91 v392), ∀ a x, ((![v91, v392] : Fin 2 → IVec S16 32) a x).toNat < S128x128.size a := fun v91 v392 k0_hw66 => k0_hw66

def k0_chk67 (v91 : IVec S16 32) (v394 : IVec S16 32) : Prop :=
  (∀ a x, ((![v91, v394] : Fin 2 → IVec S16 32) a x).toNat < S128x128.size a)
theorem k0_idx67_inb : ∀ (v91 : IVec S16 32) (v394 : IVec S16 32) (k0_hw67 : k0_chk67 v91 v394), ∀ a x, ((![v91, v394] : Fin 2 → IVec S16 32) a x).toNat < S128x128.size a := fun v91 v394 k0_hw67 => k0_hw67

def k0_chk68 (v91 : IVec S16 32) (v396 : IVec S16 32) : Prop :=
  (∀ a x, ((![v91, v396] : Fin 2 → IVec S16 32) a x).toNat < S128x128.size a)
theorem k0_idx68_inb : ∀ (v91 : IVec S16 32) (v396 : IVec S16 32) (k0_hw68 : k0_chk68 v91 v396), ∀ a x, ((![v91, v396] : Fin 2 → IVec S16 32) a x).toNat < S128x128.size a := fun v91 v396 k0_hw68 => k0_hw68

def k0_chk69 (v91 : IVec S16 32) (v399 : IVec S16 32) : Prop :=
  (∀ a x, ((![v91, v399] : Fin 2 → IVec S16 32) a x).toNat < S128x128.size a)
theorem k0_idx69_inb : ∀ (v91 : IVec S16 32) (v399 : IVec S16 32) (k0_hw69 : k0_chk69 v91 v399), ∀ a x, ((![v91, v399] : Fin 2 → IVec S16 32) a x).toNat < S128x128.size a := fun v91 v399 k0_hw69 => k0_hw69

def k0_chk70 (v91 : IVec S16 32) (v401 : IVec S16 32) : Prop :=
  (∀ a x, ((![v91, v401] : Fin 2 → IVec S16 32) a x).toNat < S128x128.size a)
theorem k0_idx70_inb : ∀ (v91 : IVec S16 32) (v401 : IVec S16 32) (k0_hw70 : k0_chk70 v91 v401), ∀ a x, ((![v91, v401] : Fin 2 → IVec S16 32) a x).toNat < S128x128.size a := fun v91 v401 k0_hw70 => k0_hw70

def k0_chk71 (v91 : IVec S16 32) (v413 : IVec S16 32) : Prop :=
  (∀ a x, ((![v91, v413] : Fin 2 → IVec S16 32) a x).toNat < S128x128.size a)
theorem k0_idx71_inb : ∀ (v91 : IVec S16 32) (v413 : IVec S16 32) (k0_hw71 : k0_chk71 v91 v413), ∀ a x, ((![v91, v413] : Fin 2 → IVec S16 32) a x).toNat < S128x128.size a := fun v91 v413 k0_hw71 => k0_hw71

def k0_chk72 (v91 : IVec S16 32) (v415 : IVec S16 32) : Prop :=
  (∀ a x, ((![v91, v415] : Fin 2 → IVec S16 32) a x).toNat < S128x128.size a)
theorem k0_idx72_inb : ∀ (v91 : IVec S16 32) (v415 : IVec S16 32) (k0_hw72 : k0_chk72 v91 v415), ∀ a x, ((![v91, v415] : Fin 2 → IVec S16 32) a x).toNat < S128x128.size a := fun v91 v415 k0_hw72 => k0_hw72

def k0_chk73 (v91 : IVec S16 32) (v417 : IVec S16 32) : Prop :=
  (∀ a x, ((![v91, v417] : Fin 2 → IVec S16 32) a x).toNat < S128x128.size a)
theorem k0_idx73_inb : ∀ (v91 : IVec S16 32) (v417 : IVec S16 32) (k0_hw73 : k0_chk73 v91 v417), ∀ a x, ((![v91, v417] : Fin 2 → IVec S16 32) a x).toNat < S128x128.size a := fun v91 v417 k0_hw73 => k0_hw73

def k0_chk74 (v91 : IVec S16 32) (v420 : IVec S16 32) : Prop :=
  (∀ a x, ((![v91, v420] : Fin 2 → IVec S16 32) a x).toNat < S128x128.size a)
theorem k0_idx74_inb : ∀ (v91 : IVec S16 32) (v420 : IVec S16 32) (k0_hw74 : k0_chk74 v91 v420), ∀ a x, ((![v91, v420] : Fin 2 → IVec S16 32) a x).toNat < S128x128.size a := fun v91 v420 k0_hw74 => k0_hw74

def k0_chk75 (v91 : IVec S16 32) (v422 : IVec S16 32) : Prop :=
  (∀ a x, ((![v91, v422] : Fin 2 → IVec S16 32) a x).toNat < S128x128.size a)
theorem k0_idx75_inb : ∀ (v91 : IVec S16 32) (v422 : IVec S16 32) (k0_hw75 : k0_chk75 v91 v422), ∀ a x, ((![v91, v422] : Fin 2 → IVec S16 32) a x).toNat < S128x128.size a := fun v91 v422 k0_hw75 => k0_hw75

def k0_chk76 (v91 : IVec S16 32) (v434 : IVec S16 32) : Prop :=
  (∀ a x, ((![v91, v434] : Fin 2 → IVec S16 32) a x).toNat < S128x128.size a)
theorem k0_idx76_inb : ∀ (v91 : IVec S16 32) (v434 : IVec S16 32) (k0_hw76 : k0_chk76 v91 v434), ∀ a x, ((![v91, v434] : Fin 2 → IVec S16 32) a x).toNat < S128x128.size a := fun v91 v434 k0_hw76 => k0_hw76

def k0_chk77 (v91 : IVec S16 32) (v436 : IVec S16 32) : Prop :=
  (∀ a x, ((![v91, v436] : Fin 2 → IVec S16 32) a x).toNat < S128x128.size a)
theorem k0_idx77_inb : ∀ (v91 : IVec S16 32) (v436 : IVec S16 32) (k0_hw77 : k0_chk77 v91 v436), ∀ a x, ((![v91, v436] : Fin 2 → IVec S16 32) a x).toNat < S128x128.size a := fun v91 v436 k0_hw77 => k0_hw77

def k0_chk78 (v91 : IVec S16 32) (v438 : IVec S16 32) : Prop :=
  (∀ a x, ((![v91, v438] : Fin 2 → IVec S16 32) a x).toNat < S128x128.size a)
theorem k0_idx78_inb : ∀ (v91 : IVec S16 32) (v438 : IVec S16 32) (k0_hw78 : k0_chk78 v91 v438), ∀ a x, ((![v91, v438] : Fin 2 → IVec S16 32) a x).toNat < S128x128.size a := fun v91 v438 k0_hw78 => k0_hw78

def k0_chk79 (v91 : IVec S16 32) (v441 : IVec S16 32) : Prop :=
  (∀ a x, ((![v91, v441] : Fin 2 → IVec S16 32) a x).toNat < S128x128.size a)
theorem k0_idx79_inb : ∀ (v91 : IVec S16 32) (v441 : IVec S16 32) (k0_hw79 : k0_chk79 v91 v441), ∀ a x, ((![v91, v441] : Fin 2 → IVec S16 32) a x).toNat < S128x128.size a := fun v91 v441 k0_hw79 => k0_hw79

def k0_chk80 (v91 : IVec S16 32) (v443 : IVec S16 32) : Prop :=
  (∀ a x, ((![v91, v443] : Fin 2 → IVec S16 32) a x).toNat < S128x128.size a)
theorem k0_idx80_inb : ∀ (v91 : IVec S16 32) (v443 : IVec S16 32) (k0_hw80 : k0_chk80 v91 v443), ∀ a x, ((![v91, v443] : Fin 2 → IVec S16 32) a x).toNat < S128x128.size a := fun v91 v443 k0_hw80 => k0_hw80

def k0_chk81 (v91 : IVec S16 32) (v455 : IVec S16 32) : Prop :=
  (∀ a x, ((![v91, v455] : Fin 2 → IVec S16 32) a x).toNat < S128x128.size a)
theorem k0_idx81_inb : ∀ (v91 : IVec S16 32) (v455 : IVec S16 32) (k0_hw81 : k0_chk81 v91 v455), ∀ a x, ((![v91, v455] : Fin 2 → IVec S16 32) a x).toNat < S128x128.size a := fun v91 v455 k0_hw81 => k0_hw81

def k0_chk82 (v91 : IVec S16 32) (v457 : IVec S16 32) : Prop :=
  (∀ a x, ((![v91, v457] : Fin 2 → IVec S16 32) a x).toNat < S128x128.size a)
theorem k0_idx82_inb : ∀ (v91 : IVec S16 32) (v457 : IVec S16 32) (k0_hw82 : k0_chk82 v91 v457), ∀ a x, ((![v91, v457] : Fin 2 → IVec S16 32) a x).toNat < S128x128.size a := fun v91 v457 k0_hw82 => k0_hw82

def k0_chk83 (v91 : IVec S16 32) (v459 : IVec S16 32) : Prop :=
  (∀ a x, ((![v91, v459] : Fin 2 → IVec S16 32) a x).toNat < S128x128.size a)
theorem k0_idx83_inb : ∀ (v91 : IVec S16 32) (v459 : IVec S16 32) (k0_hw83 : k0_chk83 v91 v459), ∀ a x, ((![v91, v459] : Fin 2 → IVec S16 32) a x).toNat < S128x128.size a := fun v91 v459 k0_hw83 => k0_hw83

def k0_chk84 (v91 : IVec S16 32) (v462 : IVec S16 32) : Prop :=
  (∀ a x, ((![v91, v462] : Fin 2 → IVec S16 32) a x).toNat < S128x128.size a)
theorem k0_idx84_inb : ∀ (v91 : IVec S16 32) (v462 : IVec S16 32) (k0_hw84 : k0_chk84 v91 v462), ∀ a x, ((![v91, v462] : Fin 2 → IVec S16 32) a x).toNat < S128x128.size a := fun v91 v462 k0_hw84 => k0_hw84

def k0_chk85 (v91 : IVec S16 32) (v464 : IVec S16 32) : Prop :=
  (∀ a x, ((![v91, v464] : Fin 2 → IVec S16 32) a x).toNat < S128x128.size a)
theorem k0_idx85_inb : ∀ (v91 : IVec S16 32) (v464 : IVec S16 32) (k0_hw85 : k0_chk85 v91 v464), ∀ a x, ((![v91, v464] : Fin 2 → IVec S16 32) a x).toNat < S128x128.size a := fun v91 v464 k0_hw85 => k0_hw85

def k0_chk86 (v91 : IVec S16 32) (v476 : IVec S16 32) : Prop :=
  (∀ a x, ((![v91, v476] : Fin 2 → IVec S16 32) a x).toNat < S128x128.size a)
theorem k0_idx86_inb : ∀ (v91 : IVec S16 32) (v476 : IVec S16 32) (k0_hw86 : k0_chk86 v91 v476), ∀ a x, ((![v91, v476] : Fin 2 → IVec S16 32) a x).toNat < S128x128.size a := fun v91 v476 k0_hw86 => k0_hw86

def k0_chk87 (v91 : IVec S16 32) (v478 : IVec S16 32) : Prop :=
  (∀ a x, ((![v91, v478] : Fin 2 → IVec S16 32) a x).toNat < S128x128.size a)
theorem k0_idx87_inb : ∀ (v91 : IVec S16 32) (v478 : IVec S16 32) (k0_hw87 : k0_chk87 v91 v478), ∀ a x, ((![v91, v478] : Fin 2 → IVec S16 32) a x).toNat < S128x128.size a := fun v91 v478 k0_hw87 => k0_hw87

def k0_chk88 (v91 : IVec S16 32) (v480 : IVec S16 32) : Prop :=
  (∀ a x, ((![v91, v480] : Fin 2 → IVec S16 32) a x).toNat < S128x128.size a)
theorem k0_idx88_inb : ∀ (v91 : IVec S16 32) (v480 : IVec S16 32) (k0_hw88 : k0_chk88 v91 v480), ∀ a x, ((![v91, v480] : Fin 2 → IVec S16 32) a x).toNat < S128x128.size a := fun v91 v480 k0_hw88 => k0_hw88

def k0_chk89 (v91 : IVec S16 32) (v483 : IVec S16 32) : Prop :=
  (∀ a x, ((![v91, v483] : Fin 2 → IVec S16 32) a x).toNat < S128x128.size a)
theorem k0_idx89_inb : ∀ (v91 : IVec S16 32) (v483 : IVec S16 32) (k0_hw89 : k0_chk89 v91 v483), ∀ a x, ((![v91, v483] : Fin 2 → IVec S16 32) a x).toNat < S128x128.size a := fun v91 v483 k0_hw89 => k0_hw89

def k0_chk90 (v91 : IVec S16 32) (v485 : IVec S16 32) : Prop :=
  (∀ a x, ((![v91, v485] : Fin 2 → IVec S16 32) a x).toNat < S128x128.size a)
theorem k0_idx90_inb : ∀ (v91 : IVec S16 32) (v485 : IVec S16 32) (k0_hw90 : k0_chk90 v91 v485), ∀ a x, ((![v91, v485] : Fin 2 → IVec S16 32) a x).toNat < S128x128.size a := fun v91 v485 k0_hw90 => k0_hw90

def k0_chk91 (v91 : IVec S16 32) (v497 : IVec S16 32) : Prop :=
  (∀ a x, ((![v91, v497] : Fin 2 → IVec S16 32) a x).toNat < S128x128.size a)
theorem k0_idx91_inb : ∀ (v91 : IVec S16 32) (v497 : IVec S16 32) (k0_hw91 : k0_chk91 v91 v497), ∀ a x, ((![v91, v497] : Fin 2 → IVec S16 32) a x).toNat < S128x128.size a := fun v91 v497 k0_hw91 => k0_hw91

def k0_chk92 (v91 : IVec S16 32) (v499 : IVec S16 32) : Prop :=
  (∀ a x, ((![v91, v499] : Fin 2 → IVec S16 32) a x).toNat < S128x128.size a)
theorem k0_idx92_inb : ∀ (v91 : IVec S16 32) (v499 : IVec S16 32) (k0_hw92 : k0_chk92 v91 v499), ∀ a x, ((![v91, v499] : Fin 2 → IVec S16 32) a x).toNat < S128x128.size a := fun v91 v499 k0_hw92 => k0_hw92

def k0_chk93 (v91 : IVec S16 32) (v501 : IVec S16 32) : Prop :=
  (∀ a x, ((![v91, v501] : Fin 2 → IVec S16 32) a x).toNat < S128x128.size a)
theorem k0_idx93_inb : ∀ (v91 : IVec S16 32) (v501 : IVec S16 32) (k0_hw93 : k0_chk93 v91 v501), ∀ a x, ((![v91, v501] : Fin 2 → IVec S16 32) a x).toNat < S128x128.size a := fun v91 v501 k0_hw93 => k0_hw93

def k0_chk94 (v91 : IVec S16 32) (v504 : IVec S16 32) : Prop :=
  (∀ a x, ((![v91, v504] : Fin 2 → IVec S16 32) a x).toNat < S128x128.size a)
theorem k0_idx94_inb : ∀ (v91 : IVec S16 32) (v504 : IVec S16 32) (k0_hw94 : k0_chk94 v91 v504), ∀ a x, ((![v91, v504] : Fin 2 → IVec S16 32) a x).toNat < S128x128.size a := fun v91 v504 k0_hw94 => k0_hw94

def k0_chk95 (v91 : IVec S16 32) (v506 : IVec S16 32) : Prop :=
  (∀ a x, ((![v91, v506] : Fin 2 → IVec S16 32) a x).toNat < S128x128.size a)
theorem k0_idx95_inb : ∀ (v91 : IVec S16 32) (v506 : IVec S16 32) (k0_hw95 : k0_chk95 v91 v506), ∀ a x, ((![v91, v506] : Fin 2 → IVec S16 32) a x).toNat < S128x128.size a := fun v91 v506 k0_hw95 => k0_hw95

def k0_chk96 (v91 : IVec S16 32) (v518 : IVec S16 32) : Prop :=
  (∀ a x, ((![v91, v518] : Fin 2 → IVec S16 32) a x).toNat < S128x128.size a)
theorem k0_idx96_inb : ∀ (v91 : IVec S16 32) (v518 : IVec S16 32) (k0_hw96 : k0_chk96 v91 v518), ∀ a x, ((![v91, v518] : Fin 2 → IVec S16 32) a x).toNat < S128x128.size a := fun v91 v518 k0_hw96 => k0_hw96

def k0_chk97 (v91 : IVec S16 32) (v520 : IVec S16 32) : Prop :=
  (∀ a x, ((![v91, v520] : Fin 2 → IVec S16 32) a x).toNat < S128x128.size a)
theorem k0_idx97_inb : ∀ (v91 : IVec S16 32) (v520 : IVec S16 32) (k0_hw97 : k0_chk97 v91 v520), ∀ a x, ((![v91, v520] : Fin 2 → IVec S16 32) a x).toNat < S128x128.size a := fun v91 v520 k0_hw97 => k0_hw97

def k0_chk98 (v91 : IVec S16 32) (v522 : IVec S16 32) : Prop :=
  (∀ a x, ((![v91, v522] : Fin 2 → IVec S16 32) a x).toNat < S128x128.size a)
theorem k0_idx98_inb : ∀ (v91 : IVec S16 32) (v522 : IVec S16 32) (k0_hw98 : k0_chk98 v91 v522), ∀ a x, ((![v91, v522] : Fin 2 → IVec S16 32) a x).toNat < S128x128.size a := fun v91 v522 k0_hw98 => k0_hw98

def k0_chk99 (v91 : IVec S16 32) (v525 : IVec S16 32) : Prop :=
  (∀ a x, ((![v91, v525] : Fin 2 → IVec S16 32) a x).toNat < S128x128.size a)
theorem k0_idx99_inb : ∀ (v91 : IVec S16 32) (v525 : IVec S16 32) (k0_hw99 : k0_chk99 v91 v525), ∀ a x, ((![v91, v525] : Fin 2 → IVec S16 32) a x).toNat < S128x128.size a := fun v91 v525 k0_hw99 => k0_hw99

def k0_chk100 (v91 : IVec S16 32) (v527 : IVec S16 32) : Prop :=
  (∀ a x, ((![v91, v527] : Fin 2 → IVec S16 32) a x).toNat < S128x128.size a)
theorem k0_idx100_inb : ∀ (v91 : IVec S16 32) (v527 : IVec S16 32) (k0_hw100 : k0_chk100 v91 v527), ∀ a x, ((![v91, v527] : Fin 2 → IVec S16 32) a x).toNat < S128x128.size a := fun v91 v527 k0_hw100 => k0_hw100

def k0_chk101 (v91 : IVec S16 32) (v539 : IVec S16 32) : Prop :=
  (∀ a x, ((![v91, v539] : Fin 2 → IVec S16 32) a x).toNat < S128x128.size a)
theorem k0_idx101_inb : ∀ (v91 : IVec S16 32) (v539 : IVec S16 32) (k0_hw101 : k0_chk101 v91 v539), ∀ a x, ((![v91, v539] : Fin 2 → IVec S16 32) a x).toNat < S128x128.size a := fun v91 v539 k0_hw101 => k0_hw101

def k0_chk102 (v91 : IVec S16 32) (v541 : IVec S16 32) : Prop :=
  (∀ a x, ((![v91, v541] : Fin 2 → IVec S16 32) a x).toNat < S128x128.size a)
theorem k0_idx102_inb : ∀ (v91 : IVec S16 32) (v541 : IVec S16 32) (k0_hw102 : k0_chk102 v91 v541), ∀ a x, ((![v91, v541] : Fin 2 → IVec S16 32) a x).toNat < S128x128.size a := fun v91 v541 k0_hw102 => k0_hw102

def k0_chk103 (v91 : IVec S16 32) (v543 : IVec S16 32) : Prop :=
  (∀ a x, ((![v91, v543] : Fin 2 → IVec S16 32) a x).toNat < S128x128.size a)
theorem k0_idx103_inb : ∀ (v91 : IVec S16 32) (v543 : IVec S16 32) (k0_hw103 : k0_chk103 v91 v543), ∀ a x, ((![v91, v543] : Fin 2 → IVec S16 32) a x).toNat < S128x128.size a := fun v91 v543 k0_hw103 => k0_hw103

def k0_chk104 (v91 : IVec S16 32) (v546 : IVec S16 32) : Prop :=
  (∀ a x, ((![v91, v546] : Fin 2 → IVec S16 32) a x).toNat < S128x128.size a)
theorem k0_idx104_inb : ∀ (v91 : IVec S16 32) (v546 : IVec S16 32) (k0_hw104 : k0_chk104 v91 v546), ∀ a x, ((![v91, v546] : Fin 2 → IVec S16 32) a x).toNat < S128x128.size a := fun v91 v546 k0_hw104 => k0_hw104

def k0_chk105 (v91 : IVec S16 32) (v548 : IVec S16 32) : Prop :=
  (∀ a x, ((![v91, v548] : Fin 2 → IVec S16 32) a x).toNat < S128x128.size a)
theorem k0_idx105_inb : ∀ (v91 : IVec S16 32) (v548 : IVec S16 32) (k0_hw105 : k0_chk105 v91 v548), ∀ a x, ((![v91, v548] : Fin 2 → IVec S16 32) a x).toNat < S128x128.size a := fun v91 v548 k0_hw105 => k0_hw105

def k0_chk106 (v91 : IVec S16 32) (v560 : IVec S16 32) : Prop :=
  (∀ a x, ((![v91, v560] : Fin 2 → IVec S16 32) a x).toNat < S128x128.size a)
theorem k0_idx106_inb : ∀ (v91 : IVec S16 32) (v560 : IVec S16 32) (k0_hw106 : k0_chk106 v91 v560), ∀ a x, ((![v91, v560] : Fin 2 → IVec S16 32) a x).toNat < S128x128.size a := fun v91 v560 k0_hw106 => k0_hw106

def k0_chk107 (v91 : IVec S16 32) (v562 : IVec S16 32) : Prop :=
  (∀ a x, ((![v91, v562] : Fin 2 → IVec S16 32) a x).toNat < S128x128.size a)
theorem k0_idx107_inb : ∀ (v91 : IVec S16 32) (v562 : IVec S16 32) (k0_hw107 : k0_chk107 v91 v562), ∀ a x, ((![v91, v562] : Fin 2 → IVec S16 32) a x).toNat < S128x128.size a := fun v91 v562 k0_hw107 => k0_hw107

def k0_chk108 (v91 : IVec S16 32) (v564 : IVec S16 32) : Prop :=
  (∀ a x, ((![v91, v564] : Fin 2 → IVec S16 32) a x).toNat < S128x128.size a)
theorem k0_idx108_inb : ∀ (v91 : IVec S16 32) (v564 : IVec S16 32) (k0_hw108 : k0_chk108 v91 v564), ∀ a x, ((![v91, v564] : Fin 2 → IVec S16 32) a x).toNat < S128x128.size a := fun v91 v564 k0_hw108 => k0_hw108

def k0_chk109 (v91 : IVec S16 32) (v567 : IVec S16 32) : Prop :=
  (∀ a x, ((![v91, v567] : Fin 2 → IVec S16 32) a x).toNat < S128x128.size a)
theorem k0_idx109_inb : ∀ (v91 : IVec S16 32) (v567 : IVec S16 32) (k0_hw109 : k0_chk109 v91 v567), ∀ a x, ((![v91, v567] : Fin 2 → IVec S16 32) a x).toNat < S128x128.size a := fun v91 v567 k0_hw109 => k0_hw109

def k0_chk110 (v91 : IVec S16 32) (v569 : IVec S16 32) : Prop :=
  (∀ a x, ((![v91, v569] : Fin 2 → IVec S16 32) a x).toNat < S128x128.size a)
theorem k0_idx110_inb : ∀ (v91 : IVec S16 32) (v569 : IVec S16 32) (k0_hw110 : k0_chk110 v91 v569), ∀ a x, ((![v91, v569] : Fin 2 → IVec S16 32) a x).toNat < S128x128.size a := fun v91 v569 k0_hw110 => k0_hw110

def k0_chk111 (v91 : IVec S16 32) (v581 : IVec S16 32) : Prop :=
  (∀ a x, ((![v91, v581] : Fin 2 → IVec S16 32) a x).toNat < S128x128.size a)
theorem k0_idx111_inb : ∀ (v91 : IVec S16 32) (v581 : IVec S16 32) (k0_hw111 : k0_chk111 v91 v581), ∀ a x, ((![v91, v581] : Fin 2 → IVec S16 32) a x).toNat < S128x128.size a := fun v91 v581 k0_hw111 => k0_hw111

def k0_chk112 (v91 : IVec S16 32) (v583 : IVec S16 32) : Prop :=
  (∀ a x, ((![v91, v583] : Fin 2 → IVec S16 32) a x).toNat < S128x128.size a)
theorem k0_idx112_inb : ∀ (v91 : IVec S16 32) (v583 : IVec S16 32) (k0_hw112 : k0_chk112 v91 v583), ∀ a x, ((![v91, v583] : Fin 2 → IVec S16 32) a x).toNat < S128x128.size a := fun v91 v583 k0_hw112 => k0_hw112

def k0_chk113 (v91 : IVec S16 32) (v585 : IVec S16 32) : Prop :=
  (∀ a x, ((![v91, v585] : Fin 2 → IVec S16 32) a x).toNat < S128x128.size a)
theorem k0_idx113_inb : ∀ (v91 : IVec S16 32) (v585 : IVec S16 32) (k0_hw113 : k0_chk113 v91 v585), ∀ a x, ((![v91, v585] : Fin 2 → IVec S16 32) a x).toNat < S128x128.size a := fun v91 v585 k0_hw113 => k0_hw113

def k0_chk114 (v91 : IVec S16 32) (v588 : IVec S16 32) : Prop :=
  (∀ a x, ((![v91, v588] : Fin 2 → IVec S16 32) a x).toNat < S128x128.size a)
theorem k0_idx114_inb : ∀ (v91 : IVec S16 32) (v588 : IVec S16 32) (k0_hw114 : k0_chk114 v91 v588), ∀ a x, ((![v91, v588] : Fin 2 → IVec S16 32) a x).toNat < S128x128.size a := fun v91 v588 k0_hw114 => k0_hw114

def k0_chk115 (v91 : IVec S16 32) (v590 : IVec S16 32) : Prop :=
  (∀ a x, ((![v91, v590] : Fin 2 → IVec S16 32) a x).toNat < S128x128.size a)
theorem k0_idx115_inb : ∀ (v91 : IVec S16 32) (v590 : IVec S16 32) (k0_hw115 : k0_chk115 v91 v590), ∀ a x, ((![v91, v590] : Fin 2 → IVec S16 32) a x).toNat < S128x128.size a := fun v91 v590 k0_hw115 => k0_hw115

def k0_chk116 (v91 : IVec S16 32) (v602 : IVec S16 32) : Prop :=
  (∀ a x, ((![v91, v602] : Fin 2 → IVec S16 32) a x).toNat < S128x128.size a)
theorem k0_idx116_inb : ∀ (v91 : IVec S16 32) (v602 : IVec S16 32) (k0_hw116 : k0_chk116 v91 v602), ∀ a x, ((![v91, v602] : Fin 2 → IVec S16 32) a x).toNat < S128x128.size a := fun v91 v602 k0_hw116 => k0_hw116

def k0_chk117 (v91 : IVec S16 32) (v604 : IVec S16 32) : Prop :=
  (∀ a x, ((![v91, v604] : Fin 2 → IVec S16 32) a x).toNat < S128x128.size a)
theorem k0_idx117_inb : ∀ (v91 : IVec S16 32) (v604 : IVec S16 32) (k0_hw117 : k0_chk117 v91 v604), ∀ a x, ((![v91, v604] : Fin 2 → IVec S16 32) a x).toNat < S128x128.size a := fun v91 v604 k0_hw117 => k0_hw117

def k0_chk118 (v91 : IVec S16 32) (v606 : IVec S16 32) : Prop :=
  (∀ a x, ((![v91, v606] : Fin 2 → IVec S16 32) a x).toNat < S128x128.size a)
theorem k0_idx118_inb : ∀ (v91 : IVec S16 32) (v606 : IVec S16 32) (k0_hw118 : k0_chk118 v91 v606), ∀ a x, ((![v91, v606] : Fin 2 → IVec S16 32) a x).toNat < S128x128.size a := fun v91 v606 k0_hw118 => k0_hw118

def k0_chk119 (v91 : IVec S16 32) (v609 : IVec S16 32) : Prop :=
  (∀ a x, ((![v91, v609] : Fin 2 → IVec S16 32) a x).toNat < S128x128.size a)
theorem k0_idx119_inb : ∀ (v91 : IVec S16 32) (v609 : IVec S16 32) (k0_hw119 : k0_chk119 v91 v609), ∀ a x, ((![v91, v609] : Fin 2 → IVec S16 32) a x).toNat < S128x128.size a := fun v91 v609 k0_hw119 => k0_hw119

def k0_chk120 (v91 : IVec S16 32) (v611 : IVec S16 32) : Prop :=
  (∀ a x, ((![v91, v611] : Fin 2 → IVec S16 32) a x).toNat < S128x128.size a)
theorem k0_idx120_inb : ∀ (v91 : IVec S16 32) (v611 : IVec S16 32) (k0_hw120 : k0_chk120 v91 v611), ∀ a x, ((![v91, v611] : Fin 2 → IVec S16 32) a x).toNat < S128x128.size a := fun v91 v611 k0_hw120 => k0_hw120

def k0_chk121 (v91 : IVec S16 32) (v623 : IVec S16 32) : Prop :=
  (∀ a x, ((![v91, v623] : Fin 2 → IVec S16 32) a x).toNat < S128x128.size a)
theorem k0_idx121_inb : ∀ (v91 : IVec S16 32) (v623 : IVec S16 32) (k0_hw121 : k0_chk121 v91 v623), ∀ a x, ((![v91, v623] : Fin 2 → IVec S16 32) a x).toNat < S128x128.size a := fun v91 v623 k0_hw121 => k0_hw121

def k0_chk122 (v91 : IVec S16 32) (v625 : IVec S16 32) : Prop :=
  (∀ a x, ((![v91, v625] : Fin 2 → IVec S16 32) a x).toNat < S128x128.size a)
theorem k0_idx122_inb : ∀ (v91 : IVec S16 32) (v625 : IVec S16 32) (k0_hw122 : k0_chk122 v91 v625), ∀ a x, ((![v91, v625] : Fin 2 → IVec S16 32) a x).toNat < S128x128.size a := fun v91 v625 k0_hw122 => k0_hw122

def k0_chk123 (v91 : IVec S16 32) (v627 : IVec S16 32) : Prop :=
  (∀ a x, ((![v91, v627] : Fin 2 → IVec S16 32) a x).toNat < S128x128.size a)
theorem k0_idx123_inb : ∀ (v91 : IVec S16 32) (v627 : IVec S16 32) (k0_hw123 : k0_chk123 v91 v627), ∀ a x, ((![v91, v627] : Fin 2 → IVec S16 32) a x).toNat < S128x128.size a := fun v91 v627 k0_hw123 => k0_hw123

def k0_chk124 (v91 : IVec S16 32) (v630 : IVec S16 32) : Prop :=
  (∀ a x, ((![v91, v630] : Fin 2 → IVec S16 32) a x).toNat < S128x128.size a)
theorem k0_idx124_inb : ∀ (v91 : IVec S16 32) (v630 : IVec S16 32) (k0_hw124 : k0_chk124 v91 v630), ∀ a x, ((![v91, v630] : Fin 2 → IVec S16 32) a x).toNat < S128x128.size a := fun v91 v630 k0_hw124 => k0_hw124

def k0_chk125 (v91 : IVec S16 32) (v632 : IVec S16 32) : Prop :=
  (∀ a x, ((![v91, v632] : Fin 2 → IVec S16 32) a x).toNat < S128x128.size a)
theorem k0_idx125_inb : ∀ (v91 : IVec S16 32) (v632 : IVec S16 32) (k0_hw125 : k0_chk125 v91 v632), ∀ a x, ((![v91, v632] : Fin 2 → IVec S16 32) a x).toNat < S128x128.size a := fun v91 v632 k0_hw125 => k0_hw125

def k0_chk126 (v91 : IVec S16 32) (v644 : IVec S16 32) : Prop :=
  (∀ a x, ((![v91, v644] : Fin 2 → IVec S16 32) a x).toNat < S128x128.size a)
theorem k0_idx126_inb : ∀ (v91 : IVec S16 32) (v644 : IVec S16 32) (k0_hw126 : k0_chk126 v91 v644), ∀ a x, ((![v91, v644] : Fin 2 → IVec S16 32) a x).toNat < S128x128.size a := fun v91 v644 k0_hw126 => k0_hw126

def k0_chk127 (v91 : IVec S16 32) (v646 : IVec S16 32) : Prop :=
  (∀ a x, ((![v91, v646] : Fin 2 → IVec S16 32) a x).toNat < S128x128.size a)
theorem k0_idx127_inb : ∀ (v91 : IVec S16 32) (v646 : IVec S16 32) (k0_hw127 : k0_chk127 v91 v646), ∀ a x, ((![v91, v646] : Fin 2 → IVec S16 32) a x).toNat < S128x128.size a := fun v91 v646 k0_hw127 => k0_hw127

def k0_chk128 (v91 : IVec S16 32) (v648 : IVec S16 32) : Prop :=
  (∀ a x, ((![v91, v648] : Fin 2 → IVec S16 32) a x).toNat < S128x128.size a)
theorem k0_idx128_inb : ∀ (v91 : IVec S16 32) (v648 : IVec S16 32) (k0_hw128 : k0_chk128 v91 v648), ∀ a x, ((![v91, v648] : Fin 2 → IVec S16 32) a x).toNat < S128x128.size a := fun v91 v648 k0_hw128 => k0_hw128

def k0_chk129 (v91 : IVec S16 32) (v651 : IVec S16 32) : Prop :=
  (∀ a x, ((![v91, v651] : Fin 2 → IVec S16 32) a x).toNat < S128x128.size a)
theorem k0_idx129_inb : ∀ (v91 : IVec S16 32) (v651 : IVec S16 32) (k0_hw129 : k0_chk129 v91 v651), ∀ a x, ((![v91, v651] : Fin 2 → IVec S16 32) a x).toNat < S128x128.size a := fun v91 v651 k0_hw129 => k0_hw129

def k0_chk130 (v91 : IVec S16 32) (v653 : IVec S16 32) : Prop :=
  (∀ a x, ((![v91, v653] : Fin 2 → IVec S16 32) a x).toNat < S128x128.size a)
theorem k0_idx130_inb : ∀ (v91 : IVec S16 32) (v653 : IVec S16 32) (k0_hw130 : k0_chk130 v91 v653), ∀ a x, ((![v91, v653] : Fin 2 → IVec S16 32) a x).toNat < S128x128.size a := fun v91 v653 k0_hw130 => k0_hw130

def k0_chk131 (v91 : IVec S16 32) (v665 : IVec S16 32) : Prop :=
  (∀ a x, ((![v91, v665] : Fin 2 → IVec S16 32) a x).toNat < S128x128.size a)
theorem k0_idx131_inb : ∀ (v91 : IVec S16 32) (v665 : IVec S16 32) (k0_hw131 : k0_chk131 v91 v665), ∀ a x, ((![v91, v665] : Fin 2 → IVec S16 32) a x).toNat < S128x128.size a := fun v91 v665 k0_hw131 => k0_hw131

def k0_chk132 (v91 : IVec S16 32) (v667 : IVec S16 32) : Prop :=
  (∀ a x, ((![v91, v667] : Fin 2 → IVec S16 32) a x).toNat < S128x128.size a)
theorem k0_idx132_inb : ∀ (v91 : IVec S16 32) (v667 : IVec S16 32) (k0_hw132 : k0_chk132 v91 v667), ∀ a x, ((![v91, v667] : Fin 2 → IVec S16 32) a x).toNat < S128x128.size a := fun v91 v667 k0_hw132 => k0_hw132

def k0_chk133 (v91 : IVec S16 32) (v669 : IVec S16 32) : Prop :=
  (∀ a x, ((![v91, v669] : Fin 2 → IVec S16 32) a x).toNat < S128x128.size a)
theorem k0_idx133_inb : ∀ (v91 : IVec S16 32) (v669 : IVec S16 32) (k0_hw133 : k0_chk133 v91 v669), ∀ a x, ((![v91, v669] : Fin 2 → IVec S16 32) a x).toNat < S128x128.size a := fun v91 v669 k0_hw133 => k0_hw133

def k0_chk134 (v91 : IVec S16 32) (v672 : IVec S16 32) : Prop :=
  (∀ a x, ((![v91, v672] : Fin 2 → IVec S16 32) a x).toNat < S128x128.size a)
theorem k0_idx134_inb : ∀ (v91 : IVec S16 32) (v672 : IVec S16 32) (k0_hw134 : k0_chk134 v91 v672), ∀ a x, ((![v91, v672] : Fin 2 → IVec S16 32) a x).toNat < S128x128.size a := fun v91 v672 k0_hw134 => k0_hw134

def k0_chk135 (v91 : IVec S16 32) (v674 : IVec S16 32) : Prop :=
  (∀ a x, ((![v91, v674] : Fin 2 → IVec S16 32) a x).toNat < S128x128.size a)
theorem k0_idx135_inb : ∀ (v91 : IVec S16 32) (v674 : IVec S16 32) (k0_hw135 : k0_chk135 v91 v674), ∀ a x, ((![v91, v674] : Fin 2 → IVec S16 32) a x).toNat < S128x128.size a := fun v91 v674 k0_hw135 => k0_hw135

def k0_chk136 (v91 : IVec S16 32) (v686 : IVec S16 32) : Prop :=
  (∀ a x, ((![v91, v686] : Fin 2 → IVec S16 32) a x).toNat < S128x128.size a)
theorem k0_idx136_inb : ∀ (v91 : IVec S16 32) (v686 : IVec S16 32) (k0_hw136 : k0_chk136 v91 v686), ∀ a x, ((![v91, v686] : Fin 2 → IVec S16 32) a x).toNat < S128x128.size a := fun v91 v686 k0_hw136 => k0_hw136

def k0_chk137 (v91 : IVec S16 32) (v688 : IVec S16 32) : Prop :=
  (∀ a x, ((![v91, v688] : Fin 2 → IVec S16 32) a x).toNat < S128x128.size a)
theorem k0_idx137_inb : ∀ (v91 : IVec S16 32) (v688 : IVec S16 32) (k0_hw137 : k0_chk137 v91 v688), ∀ a x, ((![v91, v688] : Fin 2 → IVec S16 32) a x).toNat < S128x128.size a := fun v91 v688 k0_hw137 => k0_hw137

def k0_chk138 (v91 : IVec S16 32) (v690 : IVec S16 32) : Prop :=
  (∀ a x, ((![v91, v690] : Fin 2 → IVec S16 32) a x).toNat < S128x128.size a)
theorem k0_idx138_inb : ∀ (v91 : IVec S16 32) (v690 : IVec S16 32) (k0_hw138 : k0_chk138 v91 v690), ∀ a x, ((![v91, v690] : Fin 2 → IVec S16 32) a x).toNat < S128x128.size a := fun v91 v690 k0_hw138 => k0_hw138

def k0_chk139 (v91 : IVec S16 32) (v693 : IVec S16 32) : Prop :=
  (∀ a x, ((![v91, v693] : Fin 2 → IVec S16 32) a x).toNat < S128x128.size a)
theorem k0_idx139_inb : ∀ (v91 : IVec S16 32) (v693 : IVec S16 32) (k0_hw139 : k0_chk139 v91 v693), ∀ a x, ((![v91, v693] : Fin 2 → IVec S16 32) a x).toNat < S128x128.size a := fun v91 v693 k0_hw139 => k0_hw139

def k0_chk140 (v91 : IVec S16 32) (v695 : IVec S16 32) : Prop :=
  (∀ a x, ((![v91, v695] : Fin 2 → IVec S16 32) a x).toNat < S128x128.size a)
theorem k0_idx140_inb : ∀ (v91 : IVec S16 32) (v695 : IVec S16 32) (k0_hw140 : k0_chk140 v91 v695), ∀ a x, ((![v91, v695] : Fin 2 → IVec S16 32) a x).toNat < S128x128.size a := fun v91 v695 k0_hw140 => k0_hw140

def k0_chk141 (v91 : IVec S16 32) (v707 : IVec S16 32) : Prop :=
  (∀ a x, ((![v91, v707] : Fin 2 → IVec S16 32) a x).toNat < S128x128.size a)
theorem k0_idx141_inb : ∀ (v91 : IVec S16 32) (v707 : IVec S16 32) (k0_hw141 : k0_chk141 v91 v707), ∀ a x, ((![v91, v707] : Fin 2 → IVec S16 32) a x).toNat < S128x128.size a := fun v91 v707 k0_hw141 => k0_hw141

def k0_chk142 (v91 : IVec S16 32) (v709 : IVec S16 32) : Prop :=
  (∀ a x, ((![v91, v709] : Fin 2 → IVec S16 32) a x).toNat < S128x128.size a)
theorem k0_idx142_inb : ∀ (v91 : IVec S16 32) (v709 : IVec S16 32) (k0_hw142 : k0_chk142 v91 v709), ∀ a x, ((![v91, v709] : Fin 2 → IVec S16 32) a x).toNat < S128x128.size a := fun v91 v709 k0_hw142 => k0_hw142

def k0_chk143 (v91 : IVec S16 32) (v711 : IVec S16 32) : Prop :=
  (∀ a x, ((![v91, v711] : Fin 2 → IVec S16 32) a x).toNat < S128x128.size a)
theorem k0_idx143_inb : ∀ (v91 : IVec S16 32) (v711 : IVec S16 32) (k0_hw143 : k0_chk143 v91 v711), ∀ a x, ((![v91, v711] : Fin 2 → IVec S16 32) a x).toNat < S128x128.size a := fun v91 v711 k0_hw143 => k0_hw143

def k0_chk144 (v91 : IVec S16 32) (v714 : IVec S16 32) : Prop :=
  (∀ a x, ((![v91, v714] : Fin 2 → IVec S16 32) a x).toNat < S128x128.size a)
theorem k0_idx144_inb : ∀ (v91 : IVec S16 32) (v714 : IVec S16 32) (k0_hw144 : k0_chk144 v91 v714), ∀ a x, ((![v91, v714] : Fin 2 → IVec S16 32) a x).toNat < S128x128.size a := fun v91 v714 k0_hw144 => k0_hw144

def k0_chk145 (v91 : IVec S16 32) (v716 : IVec S16 32) : Prop :=
  (∀ a x, ((![v91, v716] : Fin 2 → IVec S16 32) a x).toNat < S128x128.size a)
theorem k0_idx145_inb : ∀ (v91 : IVec S16 32) (v716 : IVec S16 32) (k0_hw145 : k0_chk145 v91 v716), ∀ a x, ((![v91, v716] : Fin 2 → IVec S16 32) a x).toNat < S128x128.size a := fun v91 v716 k0_hw145 => k0_hw145

def k0_chk146 (v91 : IVec S16 32) (v728 : IVec S16 32) : Prop :=
  (∀ a x, ((![v91, v728] : Fin 2 → IVec S16 32) a x).toNat < S128x128.size a)
theorem k0_idx146_inb : ∀ (v91 : IVec S16 32) (v728 : IVec S16 32) (k0_hw146 : k0_chk146 v91 v728), ∀ a x, ((![v91, v728] : Fin 2 → IVec S16 32) a x).toNat < S128x128.size a := fun v91 v728 k0_hw146 => k0_hw146

def k0_chk147 (v91 : IVec S16 32) (v730 : IVec S16 32) : Prop :=
  (∀ a x, ((![v91, v730] : Fin 2 → IVec S16 32) a x).toNat < S128x128.size a)
theorem k0_idx147_inb : ∀ (v91 : IVec S16 32) (v730 : IVec S16 32) (k0_hw147 : k0_chk147 v91 v730), ∀ a x, ((![v91, v730] : Fin 2 → IVec S16 32) a x).toNat < S128x128.size a := fun v91 v730 k0_hw147 => k0_hw147

def k0_chk148 (v91 : IVec S16 32) (v732 : IVec S16 32) : Prop :=
  (∀ a x, ((![v91, v732] : Fin 2 → IVec S16 32) a x).toNat < S128x128.size a)
theorem k0_idx148_inb : ∀ (v91 : IVec S16 32) (v732 : IVec S16 32) (k0_hw148 : k0_chk148 v91 v732), ∀ a x, ((![v91, v732] : Fin 2 → IVec S16 32) a x).toNat < S128x128.size a := fun v91 v732 k0_hw148 => k0_hw148

def k0_chk149 (v91 : IVec S16 32) (v735 : IVec S16 32) : Prop :=
  (∀ a x, ((![v91, v735] : Fin 2 → IVec S16 32) a x).toNat < S128x128.size a)
theorem k0_idx149_inb : ∀ (v91 : IVec S16 32) (v735 : IVec S16 32) (k0_hw149 : k0_chk149 v91 v735), ∀ a x, ((![v91, v735] : Fin 2 → IVec S16 32) a x).toNat < S128x128.size a := fun v91 v735 k0_hw149 => k0_hw149

def k0_chk150 (v91 : IVec S16 32) (v737 : IVec S16 32) : Prop :=
  (∀ a x, ((![v91, v737] : Fin 2 → IVec S16 32) a x).toNat < S128x128.size a)
theorem k0_idx150_inb : ∀ (v91 : IVec S16 32) (v737 : IVec S16 32) (k0_hw150 : k0_chk150 v91 v737), ∀ a x, ((![v91, v737] : Fin 2 → IVec S16 32) a x).toNat < S128x128.size a := fun v91 v737 k0_hw150 => k0_hw150

def k0_chk151 (v91 : IVec S16 32) (v749 : IVec S16 32) : Prop :=
  (∀ a x, ((![v91, v749] : Fin 2 → IVec S16 32) a x).toNat < S128x128.size a)
theorem k0_idx151_inb : ∀ (v91 : IVec S16 32) (v749 : IVec S16 32) (k0_hw151 : k0_chk151 v91 v749), ∀ a x, ((![v91, v749] : Fin 2 → IVec S16 32) a x).toNat < S128x128.size a := fun v91 v749 k0_hw151 => k0_hw151

def k0_chk152 (v91 : IVec S16 32) (v751 : IVec S16 32) : Prop :=
  (∀ a x, ((![v91, v751] : Fin 2 → IVec S16 32) a x).toNat < S128x128.size a)
theorem k0_idx152_inb : ∀ (v91 : IVec S16 32) (v751 : IVec S16 32) (k0_hw152 : k0_chk152 v91 v751), ∀ a x, ((![v91, v751] : Fin 2 → IVec S16 32) a x).toNat < S128x128.size a := fun v91 v751 k0_hw152 => k0_hw152

def k0_chk153 (v91 : IVec S16 32) (v753 : IVec S16 32) : Prop :=
  (∀ a x, ((![v91, v753] : Fin 2 → IVec S16 32) a x).toNat < S128x128.size a)
theorem k0_idx153_inb : ∀ (v91 : IVec S16 32) (v753 : IVec S16 32) (k0_hw153 : k0_chk153 v91 v753), ∀ a x, ((![v91, v753] : Fin 2 → IVec S16 32) a x).toNat < S128x128.size a := fun v91 v753 k0_hw153 => k0_hw153

def k0_chk154 (v91 : IVec S16 32) (v756 : IVec S16 32) : Prop :=
  (∀ a x, ((![v91, v756] : Fin 2 → IVec S16 32) a x).toNat < S128x128.size a)
theorem k0_idx154_inb : ∀ (v91 : IVec S16 32) (v756 : IVec S16 32) (k0_hw154 : k0_chk154 v91 v756), ∀ a x, ((![v91, v756] : Fin 2 → IVec S16 32) a x).toNat < S128x128.size a := fun v91 v756 k0_hw154 => k0_hw154

def k0_chk155 (v91 : IVec S16 32) (v758 : IVec S16 32) : Prop :=
  (∀ a x, ((![v91, v758] : Fin 2 → IVec S16 32) a x).toNat < S128x128.size a)
theorem k0_idx155_inb : ∀ (v91 : IVec S16 32) (v758 : IVec S16 32) (k0_hw155 : k0_chk155 v91 v758), ∀ a x, ((![v91, v758] : Fin 2 → IVec S16 32) a x).toNat < S128x128.size a := fun v91 v758 k0_hw155 => k0_hw155

def k0_chk156 (v91 : IVec S16 32) (v770 : IVec S16 32) : Prop :=
  (∀ a x, ((![v91, v770] : Fin 2 → IVec S16 32) a x).toNat < S128x128.size a)
theorem k0_idx156_inb : ∀ (v91 : IVec S16 32) (v770 : IVec S16 32) (k0_hw156 : k0_chk156 v91 v770), ∀ a x, ((![v91, v770] : Fin 2 → IVec S16 32) a x).toNat < S128x128.size a := fun v91 v770 k0_hw156 => k0_hw156

def k0_chk157 (v91 : IVec S16 32) (v772 : IVec S16 32) : Prop :=
  (∀ a x, ((![v91, v772] : Fin 2 → IVec S16 32) a x).toNat < S128x128.size a)
theorem k0_idx157_inb : ∀ (v91 : IVec S16 32) (v772 : IVec S16 32) (k0_hw157 : k0_chk157 v91 v772), ∀ a x, ((![v91, v772] : Fin 2 → IVec S16 32) a x).toNat < S128x128.size a := fun v91 v772 k0_hw157 => k0_hw157

def k0_chk158 (v91 : IVec S16 32) (v774 : IVec S16 32) : Prop :=
  (∀ a x, ((![v91, v774] : Fin 2 → IVec S16 32) a x).toNat < S128x128.size a)
theorem k0_idx158_inb : ∀ (v91 : IVec S16 32) (v774 : IVec S16 32) (k0_hw158 : k0_chk158 v91 v774), ∀ a x, ((![v91, v774] : Fin 2 → IVec S16 32) a x).toNat < S128x128.size a := fun v91 v774 k0_hw158 => k0_hw158

def k0_chk159 (v91 : IVec S16 32) (v777 : IVec S16 32) : Prop :=
  (∀ a x, ((![v91, v777] : Fin 2 → IVec S16 32) a x).toNat < S128x128.size a)
theorem k0_idx159_inb : ∀ (v91 : IVec S16 32) (v777 : IVec S16 32) (k0_hw159 : k0_chk159 v91 v777), ∀ a x, ((![v91, v777] : Fin 2 → IVec S16 32) a x).toNat < S128x128.size a := fun v91 v777 k0_hw159 => k0_hw159

def k0_chk160 (v91 : IVec S16 32) (v779 : IVec S16 32) : Prop :=
  (∀ a x, ((![v91, v779] : Fin 2 → IVec S16 32) a x).toNat < S128x128.size a)
theorem k0_idx160_inb : ∀ (v91 : IVec S16 32) (v779 : IVec S16 32) (k0_hw160 : k0_chk160 v91 v779), ∀ a x, ((![v91, v779] : Fin 2 → IVec S16 32) a x).toNat < S128x128.size a := fun v91 v779 k0_hw160 => k0_hw160
def k0_off4 (k0_t2 : Fin k0_t2_loop.trips) : Fin 1 → Nat :=
  let c0_i32_140 : BitVec 32 := 0#32
  let c0_i32_33 : BitVec 32 := 0#32
  let c1_i32_34 : BitVec 32 := 1#32
  let arg22 : BitVec 32 := Scf.iv c0_i32_33 c1_i32_34 k0_t2
  let c16_i32_139 : BitVec 32 := 16#32
  let v92 : BitVec 32 := Scalar.muli arg22 c16_i32_139
  let v93 : BitVec 32 := Scalar.addi c0_i32_140 v92
  let v785 : Index := Scalar.indexCast v93
  ![v785.toNat]
@[reducible] def k0_t3_loop : Scf.Loop 32 :=
  let c0_i32_66 : BitVec 32 := 0#32
  let c8_i32_67 : BitVec 32 := 8#32
  let v46 : BitVec 32 := Scalar.addi c0_i32_66 c8_i32_67
  let c1_i32_68 : BitVec 32 := 1#32
  ⟨c0_i32_66, v46, c1_i32_68⟩
def k0_off5 (k0_t3 : Fin k0_t3_loop.trips) : Fin 1 → Nat :=
  let c128_i32_140 : BitVec 32 := 128#32
  let c0_i32_66 : BitVec 32 := 0#32
  let c1_i32_68 : BitVec 32 := 1#32
  let arg22 : BitVec 32 := Scf.iv c0_i32_66 c1_i32_68 k0_t3
  let c16_i32_139 : BitVec 32 := 16#32
  let v92 : BitVec 32 := Scalar.muli arg22 c16_i32_139
  let v93 : BitVec 32 := Scalar.addi c128_i32_140 v92
  let v94 : Index := Scalar.indexCast v93
  ![v94.toNat]

def k0_chk161 (v91 : IVec S16 32) (v119 : IVec S16 32) : Prop :=
  (∀ a x, ((![v91, v119] : Fin 2 → IVec S16 32) a x).toNat < S128x128.size a)
theorem k0_idx161_inb : ∀ (v91 : IVec S16 32) (v119 : IVec S16 32) (k0_hw161 : k0_chk161 v91 v119), ∀ a x, ((![v91, v119] : Fin 2 → IVec S16 32) a x).toNat < S128x128.size a := fun v91 v119 k0_hw161 => k0_hw161

def k0_chk162 (v91 : IVec S16 32) (v121 : IVec S16 32) : Prop :=
  (∀ a x, ((![v91, v121] : Fin 2 → IVec S16 32) a x).toNat < S128x128.size a)
theorem k0_idx162_inb : ∀ (v91 : IVec S16 32) (v121 : IVec S16 32) (k0_hw162 : k0_chk162 v91 v121), ∀ a x, ((![v91, v121] : Fin 2 → IVec S16 32) a x).toNat < S128x128.size a := fun v91 v121 k0_hw162 => k0_hw162

def k0_chk163 (v91 : IVec S16 32) (v123 : IVec S16 32) : Prop :=
  (∀ a x, ((![v91, v123] : Fin 2 → IVec S16 32) a x).toNat < S128x128.size a)
theorem k0_idx163_inb : ∀ (v91 : IVec S16 32) (v123 : IVec S16 32) (k0_hw163 : k0_chk163 v91 v123), ∀ a x, ((![v91, v123] : Fin 2 → IVec S16 32) a x).toNat < S128x128.size a := fun v91 v123 k0_hw163 => k0_hw163

def k0_chk164 (v91 : IVec S16 32) (v126 : IVec S16 32) : Prop :=
  (∀ a x, ((![v91, v126] : Fin 2 → IVec S16 32) a x).toNat < S128x128.size a)
theorem k0_idx164_inb : ∀ (v91 : IVec S16 32) (v126 : IVec S16 32) (k0_hw164 : k0_chk164 v91 v126), ∀ a x, ((![v91, v126] : Fin 2 → IVec S16 32) a x).toNat < S128x128.size a := fun v91 v126 k0_hw164 => k0_hw164

def k0_chk165 (v91 : IVec S16 32) (v128 : IVec S16 32) : Prop :=
  (∀ a x, ((![v91, v128] : Fin 2 → IVec S16 32) a x).toNat < S128x128.size a)
theorem k0_idx165_inb : ∀ (v91 : IVec S16 32) (v128 : IVec S16 32) (k0_hw165 : k0_chk165 v91 v128), ∀ a x, ((![v91, v128] : Fin 2 → IVec S16 32) a x).toNat < S128x128.size a := fun v91 v128 k0_hw165 => k0_hw165

def k0_chk166 (v91 : IVec S16 32) (v140 : IVec S16 32) : Prop :=
  (∀ a x, ((![v91, v140] : Fin 2 → IVec S16 32) a x).toNat < S128x128.size a)
theorem k0_idx166_inb : ∀ (v91 : IVec S16 32) (v140 : IVec S16 32) (k0_hw166 : k0_chk166 v91 v140), ∀ a x, ((![v91, v140] : Fin 2 → IVec S16 32) a x).toNat < S128x128.size a := fun v91 v140 k0_hw166 => k0_hw166

def k0_chk167 (v91 : IVec S16 32) (v142 : IVec S16 32) : Prop :=
  (∀ a x, ((![v91, v142] : Fin 2 → IVec S16 32) a x).toNat < S128x128.size a)
theorem k0_idx167_inb : ∀ (v91 : IVec S16 32) (v142 : IVec S16 32) (k0_hw167 : k0_chk167 v91 v142), ∀ a x, ((![v91, v142] : Fin 2 → IVec S16 32) a x).toNat < S128x128.size a := fun v91 v142 k0_hw167 => k0_hw167

def k0_chk168 (v91 : IVec S16 32) (v144 : IVec S16 32) : Prop :=
  (∀ a x, ((![v91, v144] : Fin 2 → IVec S16 32) a x).toNat < S128x128.size a)
theorem k0_idx168_inb : ∀ (v91 : IVec S16 32) (v144 : IVec S16 32) (k0_hw168 : k0_chk168 v91 v144), ∀ a x, ((![v91, v144] : Fin 2 → IVec S16 32) a x).toNat < S128x128.size a := fun v91 v144 k0_hw168 => k0_hw168

def k0_chk169 (v91 : IVec S16 32) (v147 : IVec S16 32) : Prop :=
  (∀ a x, ((![v91, v147] : Fin 2 → IVec S16 32) a x).toNat < S128x128.size a)
theorem k0_idx169_inb : ∀ (v91 : IVec S16 32) (v147 : IVec S16 32) (k0_hw169 : k0_chk169 v91 v147), ∀ a x, ((![v91, v147] : Fin 2 → IVec S16 32) a x).toNat < S128x128.size a := fun v91 v147 k0_hw169 => k0_hw169

def k0_chk170 (v91 : IVec S16 32) (v149 : IVec S16 32) : Prop :=
  (∀ a x, ((![v91, v149] : Fin 2 → IVec S16 32) a x).toNat < S128x128.size a)
theorem k0_idx170_inb : ∀ (v91 : IVec S16 32) (v149 : IVec S16 32) (k0_hw170 : k0_chk170 v91 v149), ∀ a x, ((![v91, v149] : Fin 2 → IVec S16 32) a x).toNat < S128x128.size a := fun v91 v149 k0_hw170 => k0_hw170

def k0_chk171 (v91 : IVec S16 32) (v161 : IVec S16 32) : Prop :=
  (∀ a x, ((![v91, v161] : Fin 2 → IVec S16 32) a x).toNat < S128x128.size a)
theorem k0_idx171_inb : ∀ (v91 : IVec S16 32) (v161 : IVec S16 32) (k0_hw171 : k0_chk171 v91 v161), ∀ a x, ((![v91, v161] : Fin 2 → IVec S16 32) a x).toNat < S128x128.size a := fun v91 v161 k0_hw171 => k0_hw171

def k0_chk172 (v91 : IVec S16 32) (v163 : IVec S16 32) : Prop :=
  (∀ a x, ((![v91, v163] : Fin 2 → IVec S16 32) a x).toNat < S128x128.size a)
theorem k0_idx172_inb : ∀ (v91 : IVec S16 32) (v163 : IVec S16 32) (k0_hw172 : k0_chk172 v91 v163), ∀ a x, ((![v91, v163] : Fin 2 → IVec S16 32) a x).toNat < S128x128.size a := fun v91 v163 k0_hw172 => k0_hw172

def k0_chk173 (v91 : IVec S16 32) (v165 : IVec S16 32) : Prop :=
  (∀ a x, ((![v91, v165] : Fin 2 → IVec S16 32) a x).toNat < S128x128.size a)
theorem k0_idx173_inb : ∀ (v91 : IVec S16 32) (v165 : IVec S16 32) (k0_hw173 : k0_chk173 v91 v165), ∀ a x, ((![v91, v165] : Fin 2 → IVec S16 32) a x).toNat < S128x128.size a := fun v91 v165 k0_hw173 => k0_hw173

def k0_chk174 (v91 : IVec S16 32) (v168 : IVec S16 32) : Prop :=
  (∀ a x, ((![v91, v168] : Fin 2 → IVec S16 32) a x).toNat < S128x128.size a)
theorem k0_idx174_inb : ∀ (v91 : IVec S16 32) (v168 : IVec S16 32) (k0_hw174 : k0_chk174 v91 v168), ∀ a x, ((![v91, v168] : Fin 2 → IVec S16 32) a x).toNat < S128x128.size a := fun v91 v168 k0_hw174 => k0_hw174

def k0_chk175 (v91 : IVec S16 32) (v170 : IVec S16 32) : Prop :=
  (∀ a x, ((![v91, v170] : Fin 2 → IVec S16 32) a x).toNat < S128x128.size a)
theorem k0_idx175_inb : ∀ (v91 : IVec S16 32) (v170 : IVec S16 32) (k0_hw175 : k0_chk175 v91 v170), ∀ a x, ((![v91, v170] : Fin 2 → IVec S16 32) a x).toNat < S128x128.size a := fun v91 v170 k0_hw175 => k0_hw175

def k0_chk176 (v91 : IVec S16 32) (v182 : IVec S16 32) : Prop :=
  (∀ a x, ((![v91, v182] : Fin 2 → IVec S16 32) a x).toNat < S128x128.size a)
theorem k0_idx176_inb : ∀ (v91 : IVec S16 32) (v182 : IVec S16 32) (k0_hw176 : k0_chk176 v91 v182), ∀ a x, ((![v91, v182] : Fin 2 → IVec S16 32) a x).toNat < S128x128.size a := fun v91 v182 k0_hw176 => k0_hw176

def k0_chk177 (v91 : IVec S16 32) (v184 : IVec S16 32) : Prop :=
  (∀ a x, ((![v91, v184] : Fin 2 → IVec S16 32) a x).toNat < S128x128.size a)
theorem k0_idx177_inb : ∀ (v91 : IVec S16 32) (v184 : IVec S16 32) (k0_hw177 : k0_chk177 v91 v184), ∀ a x, ((![v91, v184] : Fin 2 → IVec S16 32) a x).toNat < S128x128.size a := fun v91 v184 k0_hw177 => k0_hw177

def k0_chk178 (v91 : IVec S16 32) (v186 : IVec S16 32) : Prop :=
  (∀ a x, ((![v91, v186] : Fin 2 → IVec S16 32) a x).toNat < S128x128.size a)
theorem k0_idx178_inb : ∀ (v91 : IVec S16 32) (v186 : IVec S16 32) (k0_hw178 : k0_chk178 v91 v186), ∀ a x, ((![v91, v186] : Fin 2 → IVec S16 32) a x).toNat < S128x128.size a := fun v91 v186 k0_hw178 => k0_hw178

def k0_chk179 (v91 : IVec S16 32) (v189 : IVec S16 32) : Prop :=
  (∀ a x, ((![v91, v189] : Fin 2 → IVec S16 32) a x).toNat < S128x128.size a)
theorem k0_idx179_inb : ∀ (v91 : IVec S16 32) (v189 : IVec S16 32) (k0_hw179 : k0_chk179 v91 v189), ∀ a x, ((![v91, v189] : Fin 2 → IVec S16 32) a x).toNat < S128x128.size a := fun v91 v189 k0_hw179 => k0_hw179

def k0_chk180 (v91 : IVec S16 32) (v191 : IVec S16 32) : Prop :=
  (∀ a x, ((![v91, v191] : Fin 2 → IVec S16 32) a x).toNat < S128x128.size a)
theorem k0_idx180_inb : ∀ (v91 : IVec S16 32) (v191 : IVec S16 32) (k0_hw180 : k0_chk180 v91 v191), ∀ a x, ((![v91, v191] : Fin 2 → IVec S16 32) a x).toNat < S128x128.size a := fun v91 v191 k0_hw180 => k0_hw180

def k0_chk181 (v91 : IVec S16 32) (v203 : IVec S16 32) : Prop :=
  (∀ a x, ((![v91, v203] : Fin 2 → IVec S16 32) a x).toNat < S128x128.size a)
theorem k0_idx181_inb : ∀ (v91 : IVec S16 32) (v203 : IVec S16 32) (k0_hw181 : k0_chk181 v91 v203), ∀ a x, ((![v91, v203] : Fin 2 → IVec S16 32) a x).toNat < S128x128.size a := fun v91 v203 k0_hw181 => k0_hw181

def k0_chk182 (v91 : IVec S16 32) (v205 : IVec S16 32) : Prop :=
  (∀ a x, ((![v91, v205] : Fin 2 → IVec S16 32) a x).toNat < S128x128.size a)
theorem k0_idx182_inb : ∀ (v91 : IVec S16 32) (v205 : IVec S16 32) (k0_hw182 : k0_chk182 v91 v205), ∀ a x, ((![v91, v205] : Fin 2 → IVec S16 32) a x).toNat < S128x128.size a := fun v91 v205 k0_hw182 => k0_hw182

def k0_chk183 (v91 : IVec S16 32) (v207 : IVec S16 32) : Prop :=
  (∀ a x, ((![v91, v207] : Fin 2 → IVec S16 32) a x).toNat < S128x128.size a)
theorem k0_idx183_inb : ∀ (v91 : IVec S16 32) (v207 : IVec S16 32) (k0_hw183 : k0_chk183 v91 v207), ∀ a x, ((![v91, v207] : Fin 2 → IVec S16 32) a x).toNat < S128x128.size a := fun v91 v207 k0_hw183 => k0_hw183

def k0_chk184 (v91 : IVec S16 32) (v210 : IVec S16 32) : Prop :=
  (∀ a x, ((![v91, v210] : Fin 2 → IVec S16 32) a x).toNat < S128x128.size a)
theorem k0_idx184_inb : ∀ (v91 : IVec S16 32) (v210 : IVec S16 32) (k0_hw184 : k0_chk184 v91 v210), ∀ a x, ((![v91, v210] : Fin 2 → IVec S16 32) a x).toNat < S128x128.size a := fun v91 v210 k0_hw184 => k0_hw184

def k0_chk185 (v91 : IVec S16 32) (v212 : IVec S16 32) : Prop :=
  (∀ a x, ((![v91, v212] : Fin 2 → IVec S16 32) a x).toNat < S128x128.size a)
theorem k0_idx185_inb : ∀ (v91 : IVec S16 32) (v212 : IVec S16 32) (k0_hw185 : k0_chk185 v91 v212), ∀ a x, ((![v91, v212] : Fin 2 → IVec S16 32) a x).toNat < S128x128.size a := fun v91 v212 k0_hw185 => k0_hw185

def k0_chk186 (v91 : IVec S16 32) (v224 : IVec S16 32) : Prop :=
  (∀ a x, ((![v91, v224] : Fin 2 → IVec S16 32) a x).toNat < S128x128.size a)
theorem k0_idx186_inb : ∀ (v91 : IVec S16 32) (v224 : IVec S16 32) (k0_hw186 : k0_chk186 v91 v224), ∀ a x, ((![v91, v224] : Fin 2 → IVec S16 32) a x).toNat < S128x128.size a := fun v91 v224 k0_hw186 => k0_hw186

def k0_chk187 (v91 : IVec S16 32) (v226 : IVec S16 32) : Prop :=
  (∀ a x, ((![v91, v226] : Fin 2 → IVec S16 32) a x).toNat < S128x128.size a)
theorem k0_idx187_inb : ∀ (v91 : IVec S16 32) (v226 : IVec S16 32) (k0_hw187 : k0_chk187 v91 v226), ∀ a x, ((![v91, v226] : Fin 2 → IVec S16 32) a x).toNat < S128x128.size a := fun v91 v226 k0_hw187 => k0_hw187

def k0_chk188 (v91 : IVec S16 32) (v228 : IVec S16 32) : Prop :=
  (∀ a x, ((![v91, v228] : Fin 2 → IVec S16 32) a x).toNat < S128x128.size a)
theorem k0_idx188_inb : ∀ (v91 : IVec S16 32) (v228 : IVec S16 32) (k0_hw188 : k0_chk188 v91 v228), ∀ a x, ((![v91, v228] : Fin 2 → IVec S16 32) a x).toNat < S128x128.size a := fun v91 v228 k0_hw188 => k0_hw188

def k0_chk189 (v91 : IVec S16 32) (v231 : IVec S16 32) : Prop :=
  (∀ a x, ((![v91, v231] : Fin 2 → IVec S16 32) a x).toNat < S128x128.size a)
theorem k0_idx189_inb : ∀ (v91 : IVec S16 32) (v231 : IVec S16 32) (k0_hw189 : k0_chk189 v91 v231), ∀ a x, ((![v91, v231] : Fin 2 → IVec S16 32) a x).toNat < S128x128.size a := fun v91 v231 k0_hw189 => k0_hw189

def k0_chk190 (v91 : IVec S16 32) (v233 : IVec S16 32) : Prop :=
  (∀ a x, ((![v91, v233] : Fin 2 → IVec S16 32) a x).toNat < S128x128.size a)
theorem k0_idx190_inb : ∀ (v91 : IVec S16 32) (v233 : IVec S16 32) (k0_hw190 : k0_chk190 v91 v233), ∀ a x, ((![v91, v233] : Fin 2 → IVec S16 32) a x).toNat < S128x128.size a := fun v91 v233 k0_hw190 => k0_hw190

def k0_chk191 (v91 : IVec S16 32) (v245 : IVec S16 32) : Prop :=
  (∀ a x, ((![v91, v245] : Fin 2 → IVec S16 32) a x).toNat < S128x128.size a)
theorem k0_idx191_inb : ∀ (v91 : IVec S16 32) (v245 : IVec S16 32) (k0_hw191 : k0_chk191 v91 v245), ∀ a x, ((![v91, v245] : Fin 2 → IVec S16 32) a x).toNat < S128x128.size a := fun v91 v245 k0_hw191 => k0_hw191

def k0_chk192 (v91 : IVec S16 32) (v247 : IVec S16 32) : Prop :=
  (∀ a x, ((![v91, v247] : Fin 2 → IVec S16 32) a x).toNat < S128x128.size a)
theorem k0_idx192_inb : ∀ (v91 : IVec S16 32) (v247 : IVec S16 32) (k0_hw192 : k0_chk192 v91 v247), ∀ a x, ((![v91, v247] : Fin 2 → IVec S16 32) a x).toNat < S128x128.size a := fun v91 v247 k0_hw192 => k0_hw192

def k0_chk193 (v91 : IVec S16 32) (v249 : IVec S16 32) : Prop :=
  (∀ a x, ((![v91, v249] : Fin 2 → IVec S16 32) a x).toNat < S128x128.size a)
theorem k0_idx193_inb : ∀ (v91 : IVec S16 32) (v249 : IVec S16 32) (k0_hw193 : k0_chk193 v91 v249), ∀ a x, ((![v91, v249] : Fin 2 → IVec S16 32) a x).toNat < S128x128.size a := fun v91 v249 k0_hw193 => k0_hw193

def k0_chk194 (v91 : IVec S16 32) (v252 : IVec S16 32) : Prop :=
  (∀ a x, ((![v91, v252] : Fin 2 → IVec S16 32) a x).toNat < S128x128.size a)
theorem k0_idx194_inb : ∀ (v91 : IVec S16 32) (v252 : IVec S16 32) (k0_hw194 : k0_chk194 v91 v252), ∀ a x, ((![v91, v252] : Fin 2 → IVec S16 32) a x).toNat < S128x128.size a := fun v91 v252 k0_hw194 => k0_hw194

def k0_chk195 (v91 : IVec S16 32) (v254 : IVec S16 32) : Prop :=
  (∀ a x, ((![v91, v254] : Fin 2 → IVec S16 32) a x).toNat < S128x128.size a)
theorem k0_idx195_inb : ∀ (v91 : IVec S16 32) (v254 : IVec S16 32) (k0_hw195 : k0_chk195 v91 v254), ∀ a x, ((![v91, v254] : Fin 2 → IVec S16 32) a x).toNat < S128x128.size a := fun v91 v254 k0_hw195 => k0_hw195

def k0_chk196 (v91 : IVec S16 32) (v266 : IVec S16 32) : Prop :=
  (∀ a x, ((![v91, v266] : Fin 2 → IVec S16 32) a x).toNat < S128x128.size a)
theorem k0_idx196_inb : ∀ (v91 : IVec S16 32) (v266 : IVec S16 32) (k0_hw196 : k0_chk196 v91 v266), ∀ a x, ((![v91, v266] : Fin 2 → IVec S16 32) a x).toNat < S128x128.size a := fun v91 v266 k0_hw196 => k0_hw196

def k0_chk197 (v91 : IVec S16 32) (v268 : IVec S16 32) : Prop :=
  (∀ a x, ((![v91, v268] : Fin 2 → IVec S16 32) a x).toNat < S128x128.size a)
theorem k0_idx197_inb : ∀ (v91 : IVec S16 32) (v268 : IVec S16 32) (k0_hw197 : k0_chk197 v91 v268), ∀ a x, ((![v91, v268] : Fin 2 → IVec S16 32) a x).toNat < S128x128.size a := fun v91 v268 k0_hw197 => k0_hw197

def k0_chk198 (v91 : IVec S16 32) (v270 : IVec S16 32) : Prop :=
  (∀ a x, ((![v91, v270] : Fin 2 → IVec S16 32) a x).toNat < S128x128.size a)
theorem k0_idx198_inb : ∀ (v91 : IVec S16 32) (v270 : IVec S16 32) (k0_hw198 : k0_chk198 v91 v270), ∀ a x, ((![v91, v270] : Fin 2 → IVec S16 32) a x).toNat < S128x128.size a := fun v91 v270 k0_hw198 => k0_hw198

def k0_chk199 (v91 : IVec S16 32) (v273 : IVec S16 32) : Prop :=
  (∀ a x, ((![v91, v273] : Fin 2 → IVec S16 32) a x).toNat < S128x128.size a)
theorem k0_idx199_inb : ∀ (v91 : IVec S16 32) (v273 : IVec S16 32) (k0_hw199 : k0_chk199 v91 v273), ∀ a x, ((![v91, v273] : Fin 2 → IVec S16 32) a x).toNat < S128x128.size a := fun v91 v273 k0_hw199 => k0_hw199

def k0_chk200 (v91 : IVec S16 32) (v275 : IVec S16 32) : Prop :=
  (∀ a x, ((![v91, v275] : Fin 2 → IVec S16 32) a x).toNat < S128x128.size a)
theorem k0_idx200_inb : ∀ (v91 : IVec S16 32) (v275 : IVec S16 32) (k0_hw200 : k0_chk200 v91 v275), ∀ a x, ((![v91, v275] : Fin 2 → IVec S16 32) a x).toNat < S128x128.size a := fun v91 v275 k0_hw200 => k0_hw200

def k0_chk201 (v91 : IVec S16 32) (v287 : IVec S16 32) : Prop :=
  (∀ a x, ((![v91, v287] : Fin 2 → IVec S16 32) a x).toNat < S128x128.size a)
theorem k0_idx201_inb : ∀ (v91 : IVec S16 32) (v287 : IVec S16 32) (k0_hw201 : k0_chk201 v91 v287), ∀ a x, ((![v91, v287] : Fin 2 → IVec S16 32) a x).toNat < S128x128.size a := fun v91 v287 k0_hw201 => k0_hw201

def k0_chk202 (v91 : IVec S16 32) (v289 : IVec S16 32) : Prop :=
  (∀ a x, ((![v91, v289] : Fin 2 → IVec S16 32) a x).toNat < S128x128.size a)
theorem k0_idx202_inb : ∀ (v91 : IVec S16 32) (v289 : IVec S16 32) (k0_hw202 : k0_chk202 v91 v289), ∀ a x, ((![v91, v289] : Fin 2 → IVec S16 32) a x).toNat < S128x128.size a := fun v91 v289 k0_hw202 => k0_hw202

def k0_chk203 (v91 : IVec S16 32) (v291 : IVec S16 32) : Prop :=
  (∀ a x, ((![v91, v291] : Fin 2 → IVec S16 32) a x).toNat < S128x128.size a)
theorem k0_idx203_inb : ∀ (v91 : IVec S16 32) (v291 : IVec S16 32) (k0_hw203 : k0_chk203 v91 v291), ∀ a x, ((![v91, v291] : Fin 2 → IVec S16 32) a x).toNat < S128x128.size a := fun v91 v291 k0_hw203 => k0_hw203

def k0_chk204 (v91 : IVec S16 32) (v294 : IVec S16 32) : Prop :=
  (∀ a x, ((![v91, v294] : Fin 2 → IVec S16 32) a x).toNat < S128x128.size a)
theorem k0_idx204_inb : ∀ (v91 : IVec S16 32) (v294 : IVec S16 32) (k0_hw204 : k0_chk204 v91 v294), ∀ a x, ((![v91, v294] : Fin 2 → IVec S16 32) a x).toNat < S128x128.size a := fun v91 v294 k0_hw204 => k0_hw204

def k0_chk205 (v91 : IVec S16 32) (v296 : IVec S16 32) : Prop :=
  (∀ a x, ((![v91, v296] : Fin 2 → IVec S16 32) a x).toNat < S128x128.size a)
theorem k0_idx205_inb : ∀ (v91 : IVec S16 32) (v296 : IVec S16 32) (k0_hw205 : k0_chk205 v91 v296), ∀ a x, ((![v91, v296] : Fin 2 → IVec S16 32) a x).toNat < S128x128.size a := fun v91 v296 k0_hw205 => k0_hw205

def k0_chk206 (v91 : IVec S16 32) (v308 : IVec S16 32) : Prop :=
  (∀ a x, ((![v91, v308] : Fin 2 → IVec S16 32) a x).toNat < S128x128.size a)
theorem k0_idx206_inb : ∀ (v91 : IVec S16 32) (v308 : IVec S16 32) (k0_hw206 : k0_chk206 v91 v308), ∀ a x, ((![v91, v308] : Fin 2 → IVec S16 32) a x).toNat < S128x128.size a := fun v91 v308 k0_hw206 => k0_hw206

def k0_chk207 (v91 : IVec S16 32) (v310 : IVec S16 32) : Prop :=
  (∀ a x, ((![v91, v310] : Fin 2 → IVec S16 32) a x).toNat < S128x128.size a)
theorem k0_idx207_inb : ∀ (v91 : IVec S16 32) (v310 : IVec S16 32) (k0_hw207 : k0_chk207 v91 v310), ∀ a x, ((![v91, v310] : Fin 2 → IVec S16 32) a x).toNat < S128x128.size a := fun v91 v310 k0_hw207 => k0_hw207

def k0_chk208 (v91 : IVec S16 32) (v312 : IVec S16 32) : Prop :=
  (∀ a x, ((![v91, v312] : Fin 2 → IVec S16 32) a x).toNat < S128x128.size a)
theorem k0_idx208_inb : ∀ (v91 : IVec S16 32) (v312 : IVec S16 32) (k0_hw208 : k0_chk208 v91 v312), ∀ a x, ((![v91, v312] : Fin 2 → IVec S16 32) a x).toNat < S128x128.size a := fun v91 v312 k0_hw208 => k0_hw208

def k0_chk209 (v91 : IVec S16 32) (v315 : IVec S16 32) : Prop :=
  (∀ a x, ((![v91, v315] : Fin 2 → IVec S16 32) a x).toNat < S128x128.size a)
theorem k0_idx209_inb : ∀ (v91 : IVec S16 32) (v315 : IVec S16 32) (k0_hw209 : k0_chk209 v91 v315), ∀ a x, ((![v91, v315] : Fin 2 → IVec S16 32) a x).toNat < S128x128.size a := fun v91 v315 k0_hw209 => k0_hw209

def k0_chk210 (v91 : IVec S16 32) (v317 : IVec S16 32) : Prop :=
  (∀ a x, ((![v91, v317] : Fin 2 → IVec S16 32) a x).toNat < S128x128.size a)
theorem k0_idx210_inb : ∀ (v91 : IVec S16 32) (v317 : IVec S16 32) (k0_hw210 : k0_chk210 v91 v317), ∀ a x, ((![v91, v317] : Fin 2 → IVec S16 32) a x).toNat < S128x128.size a := fun v91 v317 k0_hw210 => k0_hw210

def k0_chk211 (v91 : IVec S16 32) (v329 : IVec S16 32) : Prop :=
  (∀ a x, ((![v91, v329] : Fin 2 → IVec S16 32) a x).toNat < S128x128.size a)
theorem k0_idx211_inb : ∀ (v91 : IVec S16 32) (v329 : IVec S16 32) (k0_hw211 : k0_chk211 v91 v329), ∀ a x, ((![v91, v329] : Fin 2 → IVec S16 32) a x).toNat < S128x128.size a := fun v91 v329 k0_hw211 => k0_hw211

def k0_chk212 (v91 : IVec S16 32) (v331 : IVec S16 32) : Prop :=
  (∀ a x, ((![v91, v331] : Fin 2 → IVec S16 32) a x).toNat < S128x128.size a)
theorem k0_idx212_inb : ∀ (v91 : IVec S16 32) (v331 : IVec S16 32) (k0_hw212 : k0_chk212 v91 v331), ∀ a x, ((![v91, v331] : Fin 2 → IVec S16 32) a x).toNat < S128x128.size a := fun v91 v331 k0_hw212 => k0_hw212

def k0_chk213 (v91 : IVec S16 32) (v333 : IVec S16 32) : Prop :=
  (∀ a x, ((![v91, v333] : Fin 2 → IVec S16 32) a x).toNat < S128x128.size a)
theorem k0_idx213_inb : ∀ (v91 : IVec S16 32) (v333 : IVec S16 32) (k0_hw213 : k0_chk213 v91 v333), ∀ a x, ((![v91, v333] : Fin 2 → IVec S16 32) a x).toNat < S128x128.size a := fun v91 v333 k0_hw213 => k0_hw213

def k0_chk214 (v91 : IVec S16 32) (v336 : IVec S16 32) : Prop :=
  (∀ a x, ((![v91, v336] : Fin 2 → IVec S16 32) a x).toNat < S128x128.size a)
theorem k0_idx214_inb : ∀ (v91 : IVec S16 32) (v336 : IVec S16 32) (k0_hw214 : k0_chk214 v91 v336), ∀ a x, ((![v91, v336] : Fin 2 → IVec S16 32) a x).toNat < S128x128.size a := fun v91 v336 k0_hw214 => k0_hw214

def k0_chk215 (v91 : IVec S16 32) (v338 : IVec S16 32) : Prop :=
  (∀ a x, ((![v91, v338] : Fin 2 → IVec S16 32) a x).toNat < S128x128.size a)
theorem k0_idx215_inb : ∀ (v91 : IVec S16 32) (v338 : IVec S16 32) (k0_hw215 : k0_chk215 v91 v338), ∀ a x, ((![v91, v338] : Fin 2 → IVec S16 32) a x).toNat < S128x128.size a := fun v91 v338 k0_hw215 => k0_hw215

def k0_chk216 (v91 : IVec S16 32) (v350 : IVec S16 32) : Prop :=
  (∀ a x, ((![v91, v350] : Fin 2 → IVec S16 32) a x).toNat < S128x128.size a)
theorem k0_idx216_inb : ∀ (v91 : IVec S16 32) (v350 : IVec S16 32) (k0_hw216 : k0_chk216 v91 v350), ∀ a x, ((![v91, v350] : Fin 2 → IVec S16 32) a x).toNat < S128x128.size a := fun v91 v350 k0_hw216 => k0_hw216

def k0_chk217 (v91 : IVec S16 32) (v352 : IVec S16 32) : Prop :=
  (∀ a x, ((![v91, v352] : Fin 2 → IVec S16 32) a x).toNat < S128x128.size a)
theorem k0_idx217_inb : ∀ (v91 : IVec S16 32) (v352 : IVec S16 32) (k0_hw217 : k0_chk217 v91 v352), ∀ a x, ((![v91, v352] : Fin 2 → IVec S16 32) a x).toNat < S128x128.size a := fun v91 v352 k0_hw217 => k0_hw217

def k0_chk218 (v91 : IVec S16 32) (v354 : IVec S16 32) : Prop :=
  (∀ a x, ((![v91, v354] : Fin 2 → IVec S16 32) a x).toNat < S128x128.size a)
theorem k0_idx218_inb : ∀ (v91 : IVec S16 32) (v354 : IVec S16 32) (k0_hw218 : k0_chk218 v91 v354), ∀ a x, ((![v91, v354] : Fin 2 → IVec S16 32) a x).toNat < S128x128.size a := fun v91 v354 k0_hw218 => k0_hw218

def k0_chk219 (v91 : IVec S16 32) (v357 : IVec S16 32) : Prop :=
  (∀ a x, ((![v91, v357] : Fin 2 → IVec S16 32) a x).toNat < S128x128.size a)
theorem k0_idx219_inb : ∀ (v91 : IVec S16 32) (v357 : IVec S16 32) (k0_hw219 : k0_chk219 v91 v357), ∀ a x, ((![v91, v357] : Fin 2 → IVec S16 32) a x).toNat < S128x128.size a := fun v91 v357 k0_hw219 => k0_hw219

def k0_chk220 (v91 : IVec S16 32) (v359 : IVec S16 32) : Prop :=
  (∀ a x, ((![v91, v359] : Fin 2 → IVec S16 32) a x).toNat < S128x128.size a)
theorem k0_idx220_inb : ∀ (v91 : IVec S16 32) (v359 : IVec S16 32) (k0_hw220 : k0_chk220 v91 v359), ∀ a x, ((![v91, v359] : Fin 2 → IVec S16 32) a x).toNat < S128x128.size a := fun v91 v359 k0_hw220 => k0_hw220

def k0_chk221 (v91 : IVec S16 32) (v371 : IVec S16 32) : Prop :=
  (∀ a x, ((![v91, v371] : Fin 2 → IVec S16 32) a x).toNat < S128x128.size a)
theorem k0_idx221_inb : ∀ (v91 : IVec S16 32) (v371 : IVec S16 32) (k0_hw221 : k0_chk221 v91 v371), ∀ a x, ((![v91, v371] : Fin 2 → IVec S16 32) a x).toNat < S128x128.size a := fun v91 v371 k0_hw221 => k0_hw221

def k0_chk222 (v91 : IVec S16 32) (v373 : IVec S16 32) : Prop :=
  (∀ a x, ((![v91, v373] : Fin 2 → IVec S16 32) a x).toNat < S128x128.size a)
theorem k0_idx222_inb : ∀ (v91 : IVec S16 32) (v373 : IVec S16 32) (k0_hw222 : k0_chk222 v91 v373), ∀ a x, ((![v91, v373] : Fin 2 → IVec S16 32) a x).toNat < S128x128.size a := fun v91 v373 k0_hw222 => k0_hw222

def k0_chk223 (v91 : IVec S16 32) (v375 : IVec S16 32) : Prop :=
  (∀ a x, ((![v91, v375] : Fin 2 → IVec S16 32) a x).toNat < S128x128.size a)
theorem k0_idx223_inb : ∀ (v91 : IVec S16 32) (v375 : IVec S16 32) (k0_hw223 : k0_chk223 v91 v375), ∀ a x, ((![v91, v375] : Fin 2 → IVec S16 32) a x).toNat < S128x128.size a := fun v91 v375 k0_hw223 => k0_hw223

def k0_chk224 (v91 : IVec S16 32) (v378 : IVec S16 32) : Prop :=
  (∀ a x, ((![v91, v378] : Fin 2 → IVec S16 32) a x).toNat < S128x128.size a)
theorem k0_idx224_inb : ∀ (v91 : IVec S16 32) (v378 : IVec S16 32) (k0_hw224 : k0_chk224 v91 v378), ∀ a x, ((![v91, v378] : Fin 2 → IVec S16 32) a x).toNat < S128x128.size a := fun v91 v378 k0_hw224 => k0_hw224

def k0_chk225 (v91 : IVec S16 32) (v380 : IVec S16 32) : Prop :=
  (∀ a x, ((![v91, v380] : Fin 2 → IVec S16 32) a x).toNat < S128x128.size a)
theorem k0_idx225_inb : ∀ (v91 : IVec S16 32) (v380 : IVec S16 32) (k0_hw225 : k0_chk225 v91 v380), ∀ a x, ((![v91, v380] : Fin 2 → IVec S16 32) a x).toNat < S128x128.size a := fun v91 v380 k0_hw225 => k0_hw225

def k0_chk226 (v91 : IVec S16 32) (v392 : IVec S16 32) : Prop :=
  (∀ a x, ((![v91, v392] : Fin 2 → IVec S16 32) a x).toNat < S128x128.size a)
theorem k0_idx226_inb : ∀ (v91 : IVec S16 32) (v392 : IVec S16 32) (k0_hw226 : k0_chk226 v91 v392), ∀ a x, ((![v91, v392] : Fin 2 → IVec S16 32) a x).toNat < S128x128.size a := fun v91 v392 k0_hw226 => k0_hw226

def k0_chk227 (v91 : IVec S16 32) (v394 : IVec S16 32) : Prop :=
  (∀ a x, ((![v91, v394] : Fin 2 → IVec S16 32) a x).toNat < S128x128.size a)
theorem k0_idx227_inb : ∀ (v91 : IVec S16 32) (v394 : IVec S16 32) (k0_hw227 : k0_chk227 v91 v394), ∀ a x, ((![v91, v394] : Fin 2 → IVec S16 32) a x).toNat < S128x128.size a := fun v91 v394 k0_hw227 => k0_hw227

def k0_chk228 (v91 : IVec S16 32) (v396 : IVec S16 32) : Prop :=
  (∀ a x, ((![v91, v396] : Fin 2 → IVec S16 32) a x).toNat < S128x128.size a)
theorem k0_idx228_inb : ∀ (v91 : IVec S16 32) (v396 : IVec S16 32) (k0_hw228 : k0_chk228 v91 v396), ∀ a x, ((![v91, v396] : Fin 2 → IVec S16 32) a x).toNat < S128x128.size a := fun v91 v396 k0_hw228 => k0_hw228

def k0_chk229 (v91 : IVec S16 32) (v399 : IVec S16 32) : Prop :=
  (∀ a x, ((![v91, v399] : Fin 2 → IVec S16 32) a x).toNat < S128x128.size a)
theorem k0_idx229_inb : ∀ (v91 : IVec S16 32) (v399 : IVec S16 32) (k0_hw229 : k0_chk229 v91 v399), ∀ a x, ((![v91, v399] : Fin 2 → IVec S16 32) a x).toNat < S128x128.size a := fun v91 v399 k0_hw229 => k0_hw229

def k0_chk230 (v91 : IVec S16 32) (v401 : IVec S16 32) : Prop :=
  (∀ a x, ((![v91, v401] : Fin 2 → IVec S16 32) a x).toNat < S128x128.size a)
theorem k0_idx230_inb : ∀ (v91 : IVec S16 32) (v401 : IVec S16 32) (k0_hw230 : k0_chk230 v91 v401), ∀ a x, ((![v91, v401] : Fin 2 → IVec S16 32) a x).toNat < S128x128.size a := fun v91 v401 k0_hw230 => k0_hw230

def k0_chk231 (v91 : IVec S16 32) (v413 : IVec S16 32) : Prop :=
  (∀ a x, ((![v91, v413] : Fin 2 → IVec S16 32) a x).toNat < S128x128.size a)
theorem k0_idx231_inb : ∀ (v91 : IVec S16 32) (v413 : IVec S16 32) (k0_hw231 : k0_chk231 v91 v413), ∀ a x, ((![v91, v413] : Fin 2 → IVec S16 32) a x).toNat < S128x128.size a := fun v91 v413 k0_hw231 => k0_hw231

def k0_chk232 (v91 : IVec S16 32) (v415 : IVec S16 32) : Prop :=
  (∀ a x, ((![v91, v415] : Fin 2 → IVec S16 32) a x).toNat < S128x128.size a)
theorem k0_idx232_inb : ∀ (v91 : IVec S16 32) (v415 : IVec S16 32) (k0_hw232 : k0_chk232 v91 v415), ∀ a x, ((![v91, v415] : Fin 2 → IVec S16 32) a x).toNat < S128x128.size a := fun v91 v415 k0_hw232 => k0_hw232

def k0_chk233 (v91 : IVec S16 32) (v417 : IVec S16 32) : Prop :=
  (∀ a x, ((![v91, v417] : Fin 2 → IVec S16 32) a x).toNat < S128x128.size a)
theorem k0_idx233_inb : ∀ (v91 : IVec S16 32) (v417 : IVec S16 32) (k0_hw233 : k0_chk233 v91 v417), ∀ a x, ((![v91, v417] : Fin 2 → IVec S16 32) a x).toNat < S128x128.size a := fun v91 v417 k0_hw233 => k0_hw233

def k0_chk234 (v91 : IVec S16 32) (v420 : IVec S16 32) : Prop :=
  (∀ a x, ((![v91, v420] : Fin 2 → IVec S16 32) a x).toNat < S128x128.size a)
theorem k0_idx234_inb : ∀ (v91 : IVec S16 32) (v420 : IVec S16 32) (k0_hw234 : k0_chk234 v91 v420), ∀ a x, ((![v91, v420] : Fin 2 → IVec S16 32) a x).toNat < S128x128.size a := fun v91 v420 k0_hw234 => k0_hw234

def k0_chk235 (v91 : IVec S16 32) (v422 : IVec S16 32) : Prop :=
  (∀ a x, ((![v91, v422] : Fin 2 → IVec S16 32) a x).toNat < S128x128.size a)
theorem k0_idx235_inb : ∀ (v91 : IVec S16 32) (v422 : IVec S16 32) (k0_hw235 : k0_chk235 v91 v422), ∀ a x, ((![v91, v422] : Fin 2 → IVec S16 32) a x).toNat < S128x128.size a := fun v91 v422 k0_hw235 => k0_hw235

def k0_chk236 (v91 : IVec S16 32) (v434 : IVec S16 32) : Prop :=
  (∀ a x, ((![v91, v434] : Fin 2 → IVec S16 32) a x).toNat < S128x128.size a)
theorem k0_idx236_inb : ∀ (v91 : IVec S16 32) (v434 : IVec S16 32) (k0_hw236 : k0_chk236 v91 v434), ∀ a x, ((![v91, v434] : Fin 2 → IVec S16 32) a x).toNat < S128x128.size a := fun v91 v434 k0_hw236 => k0_hw236

def k0_chk237 (v91 : IVec S16 32) (v436 : IVec S16 32) : Prop :=
  (∀ a x, ((![v91, v436] : Fin 2 → IVec S16 32) a x).toNat < S128x128.size a)
theorem k0_idx237_inb : ∀ (v91 : IVec S16 32) (v436 : IVec S16 32) (k0_hw237 : k0_chk237 v91 v436), ∀ a x, ((![v91, v436] : Fin 2 → IVec S16 32) a x).toNat < S128x128.size a := fun v91 v436 k0_hw237 => k0_hw237

def k0_chk238 (v91 : IVec S16 32) (v438 : IVec S16 32) : Prop :=
  (∀ a x, ((![v91, v438] : Fin 2 → IVec S16 32) a x).toNat < S128x128.size a)
theorem k0_idx238_inb : ∀ (v91 : IVec S16 32) (v438 : IVec S16 32) (k0_hw238 : k0_chk238 v91 v438), ∀ a x, ((![v91, v438] : Fin 2 → IVec S16 32) a x).toNat < S128x128.size a := fun v91 v438 k0_hw238 => k0_hw238

def k0_chk239 (v91 : IVec S16 32) (v441 : IVec S16 32) : Prop :=
  (∀ a x, ((![v91, v441] : Fin 2 → IVec S16 32) a x).toNat < S128x128.size a)
theorem k0_idx239_inb : ∀ (v91 : IVec S16 32) (v441 : IVec S16 32) (k0_hw239 : k0_chk239 v91 v441), ∀ a x, ((![v91, v441] : Fin 2 → IVec S16 32) a x).toNat < S128x128.size a := fun v91 v441 k0_hw239 => k0_hw239

def k0_chk240 (v91 : IVec S16 32) (v443 : IVec S16 32) : Prop :=
  (∀ a x, ((![v91, v443] : Fin 2 → IVec S16 32) a x).toNat < S128x128.size a)
theorem k0_idx240_inb : ∀ (v91 : IVec S16 32) (v443 : IVec S16 32) (k0_hw240 : k0_chk240 v91 v443), ∀ a x, ((![v91, v443] : Fin 2 → IVec S16 32) a x).toNat < S128x128.size a := fun v91 v443 k0_hw240 => k0_hw240

def k0_chk241 (v91 : IVec S16 32) (v455 : IVec S16 32) : Prop :=
  (∀ a x, ((![v91, v455] : Fin 2 → IVec S16 32) a x).toNat < S128x128.size a)
theorem k0_idx241_inb : ∀ (v91 : IVec S16 32) (v455 : IVec S16 32) (k0_hw241 : k0_chk241 v91 v455), ∀ a x, ((![v91, v455] : Fin 2 → IVec S16 32) a x).toNat < S128x128.size a := fun v91 v455 k0_hw241 => k0_hw241

def k0_chk242 (v91 : IVec S16 32) (v457 : IVec S16 32) : Prop :=
  (∀ a x, ((![v91, v457] : Fin 2 → IVec S16 32) a x).toNat < S128x128.size a)
theorem k0_idx242_inb : ∀ (v91 : IVec S16 32) (v457 : IVec S16 32) (k0_hw242 : k0_chk242 v91 v457), ∀ a x, ((![v91, v457] : Fin 2 → IVec S16 32) a x).toNat < S128x128.size a := fun v91 v457 k0_hw242 => k0_hw242

def k0_chk243 (v91 : IVec S16 32) (v459 : IVec S16 32) : Prop :=
  (∀ a x, ((![v91, v459] : Fin 2 → IVec S16 32) a x).toNat < S128x128.size a)
theorem k0_idx243_inb : ∀ (v91 : IVec S16 32) (v459 : IVec S16 32) (k0_hw243 : k0_chk243 v91 v459), ∀ a x, ((![v91, v459] : Fin 2 → IVec S16 32) a x).toNat < S128x128.size a := fun v91 v459 k0_hw243 => k0_hw243

def k0_chk244 (v91 : IVec S16 32) (v462 : IVec S16 32) : Prop :=
  (∀ a x, ((![v91, v462] : Fin 2 → IVec S16 32) a x).toNat < S128x128.size a)
theorem k0_idx244_inb : ∀ (v91 : IVec S16 32) (v462 : IVec S16 32) (k0_hw244 : k0_chk244 v91 v462), ∀ a x, ((![v91, v462] : Fin 2 → IVec S16 32) a x).toNat < S128x128.size a := fun v91 v462 k0_hw244 => k0_hw244

def k0_chk245 (v91 : IVec S16 32) (v464 : IVec S16 32) : Prop :=
  (∀ a x, ((![v91, v464] : Fin 2 → IVec S16 32) a x).toNat < S128x128.size a)
theorem k0_idx245_inb : ∀ (v91 : IVec S16 32) (v464 : IVec S16 32) (k0_hw245 : k0_chk245 v91 v464), ∀ a x, ((![v91, v464] : Fin 2 → IVec S16 32) a x).toNat < S128x128.size a := fun v91 v464 k0_hw245 => k0_hw245

def k0_chk246 (v91 : IVec S16 32) (v476 : IVec S16 32) : Prop :=
  (∀ a x, ((![v91, v476] : Fin 2 → IVec S16 32) a x).toNat < S128x128.size a)
theorem k0_idx246_inb : ∀ (v91 : IVec S16 32) (v476 : IVec S16 32) (k0_hw246 : k0_chk246 v91 v476), ∀ a x, ((![v91, v476] : Fin 2 → IVec S16 32) a x).toNat < S128x128.size a := fun v91 v476 k0_hw246 => k0_hw246

def k0_chk247 (v91 : IVec S16 32) (v478 : IVec S16 32) : Prop :=
  (∀ a x, ((![v91, v478] : Fin 2 → IVec S16 32) a x).toNat < S128x128.size a)
theorem k0_idx247_inb : ∀ (v91 : IVec S16 32) (v478 : IVec S16 32) (k0_hw247 : k0_chk247 v91 v478), ∀ a x, ((![v91, v478] : Fin 2 → IVec S16 32) a x).toNat < S128x128.size a := fun v91 v478 k0_hw247 => k0_hw247

def k0_chk248 (v91 : IVec S16 32) (v480 : IVec S16 32) : Prop :=
  (∀ a x, ((![v91, v480] : Fin 2 → IVec S16 32) a x).toNat < S128x128.size a)
theorem k0_idx248_inb : ∀ (v91 : IVec S16 32) (v480 : IVec S16 32) (k0_hw248 : k0_chk248 v91 v480), ∀ a x, ((![v91, v480] : Fin 2 → IVec S16 32) a x).toNat < S128x128.size a := fun v91 v480 k0_hw248 => k0_hw248

def k0_chk249 (v91 : IVec S16 32) (v483 : IVec S16 32) : Prop :=
  (∀ a x, ((![v91, v483] : Fin 2 → IVec S16 32) a x).toNat < S128x128.size a)
theorem k0_idx249_inb : ∀ (v91 : IVec S16 32) (v483 : IVec S16 32) (k0_hw249 : k0_chk249 v91 v483), ∀ a x, ((![v91, v483] : Fin 2 → IVec S16 32) a x).toNat < S128x128.size a := fun v91 v483 k0_hw249 => k0_hw249

def k0_chk250 (v91 : IVec S16 32) (v485 : IVec S16 32) : Prop :=
  (∀ a x, ((![v91, v485] : Fin 2 → IVec S16 32) a x).toNat < S128x128.size a)
theorem k0_idx250_inb : ∀ (v91 : IVec S16 32) (v485 : IVec S16 32) (k0_hw250 : k0_chk250 v91 v485), ∀ a x, ((![v91, v485] : Fin 2 → IVec S16 32) a x).toNat < S128x128.size a := fun v91 v485 k0_hw250 => k0_hw250

def k0_chk251 (v91 : IVec S16 32) (v497 : IVec S16 32) : Prop :=
  (∀ a x, ((![v91, v497] : Fin 2 → IVec S16 32) a x).toNat < S128x128.size a)
theorem k0_idx251_inb : ∀ (v91 : IVec S16 32) (v497 : IVec S16 32) (k0_hw251 : k0_chk251 v91 v497), ∀ a x, ((![v91, v497] : Fin 2 → IVec S16 32) a x).toNat < S128x128.size a := fun v91 v497 k0_hw251 => k0_hw251

def k0_chk252 (v91 : IVec S16 32) (v499 : IVec S16 32) : Prop :=
  (∀ a x, ((![v91, v499] : Fin 2 → IVec S16 32) a x).toNat < S128x128.size a)
theorem k0_idx252_inb : ∀ (v91 : IVec S16 32) (v499 : IVec S16 32) (k0_hw252 : k0_chk252 v91 v499), ∀ a x, ((![v91, v499] : Fin 2 → IVec S16 32) a x).toNat < S128x128.size a := fun v91 v499 k0_hw252 => k0_hw252

def k0_chk253 (v91 : IVec S16 32) (v501 : IVec S16 32) : Prop :=
  (∀ a x, ((![v91, v501] : Fin 2 → IVec S16 32) a x).toNat < S128x128.size a)
theorem k0_idx253_inb : ∀ (v91 : IVec S16 32) (v501 : IVec S16 32) (k0_hw253 : k0_chk253 v91 v501), ∀ a x, ((![v91, v501] : Fin 2 → IVec S16 32) a x).toNat < S128x128.size a := fun v91 v501 k0_hw253 => k0_hw253

def k0_chk254 (v91 : IVec S16 32) (v504 : IVec S16 32) : Prop :=
  (∀ a x, ((![v91, v504] : Fin 2 → IVec S16 32) a x).toNat < S128x128.size a)
theorem k0_idx254_inb : ∀ (v91 : IVec S16 32) (v504 : IVec S16 32) (k0_hw254 : k0_chk254 v91 v504), ∀ a x, ((![v91, v504] : Fin 2 → IVec S16 32) a x).toNat < S128x128.size a := fun v91 v504 k0_hw254 => k0_hw254

def k0_chk255 (v91 : IVec S16 32) (v506 : IVec S16 32) : Prop :=
  (∀ a x, ((![v91, v506] : Fin 2 → IVec S16 32) a x).toNat < S128x128.size a)
theorem k0_idx255_inb : ∀ (v91 : IVec S16 32) (v506 : IVec S16 32) (k0_hw255 : k0_chk255 v91 v506), ∀ a x, ((![v91, v506] : Fin 2 → IVec S16 32) a x).toNat < S128x128.size a := fun v91 v506 k0_hw255 => k0_hw255

def k0_chk256 (v91 : IVec S16 32) (v518 : IVec S16 32) : Prop :=
  (∀ a x, ((![v91, v518] : Fin 2 → IVec S16 32) a x).toNat < S128x128.size a)
theorem k0_idx256_inb : ∀ (v91 : IVec S16 32) (v518 : IVec S16 32) (k0_hw256 : k0_chk256 v91 v518), ∀ a x, ((![v91, v518] : Fin 2 → IVec S16 32) a x).toNat < S128x128.size a := fun v91 v518 k0_hw256 => k0_hw256

def k0_chk257 (v91 : IVec S16 32) (v520 : IVec S16 32) : Prop :=
  (∀ a x, ((![v91, v520] : Fin 2 → IVec S16 32) a x).toNat < S128x128.size a)
theorem k0_idx257_inb : ∀ (v91 : IVec S16 32) (v520 : IVec S16 32) (k0_hw257 : k0_chk257 v91 v520), ∀ a x, ((![v91, v520] : Fin 2 → IVec S16 32) a x).toNat < S128x128.size a := fun v91 v520 k0_hw257 => k0_hw257

def k0_chk258 (v91 : IVec S16 32) (v522 : IVec S16 32) : Prop :=
  (∀ a x, ((![v91, v522] : Fin 2 → IVec S16 32) a x).toNat < S128x128.size a)
theorem k0_idx258_inb : ∀ (v91 : IVec S16 32) (v522 : IVec S16 32) (k0_hw258 : k0_chk258 v91 v522), ∀ a x, ((![v91, v522] : Fin 2 → IVec S16 32) a x).toNat < S128x128.size a := fun v91 v522 k0_hw258 => k0_hw258

def k0_chk259 (v91 : IVec S16 32) (v525 : IVec S16 32) : Prop :=
  (∀ a x, ((![v91, v525] : Fin 2 → IVec S16 32) a x).toNat < S128x128.size a)
theorem k0_idx259_inb : ∀ (v91 : IVec S16 32) (v525 : IVec S16 32) (k0_hw259 : k0_chk259 v91 v525), ∀ a x, ((![v91, v525] : Fin 2 → IVec S16 32) a x).toNat < S128x128.size a := fun v91 v525 k0_hw259 => k0_hw259

def k0_chk260 (v91 : IVec S16 32) (v527 : IVec S16 32) : Prop :=
  (∀ a x, ((![v91, v527] : Fin 2 → IVec S16 32) a x).toNat < S128x128.size a)
theorem k0_idx260_inb : ∀ (v91 : IVec S16 32) (v527 : IVec S16 32) (k0_hw260 : k0_chk260 v91 v527), ∀ a x, ((![v91, v527] : Fin 2 → IVec S16 32) a x).toNat < S128x128.size a := fun v91 v527 k0_hw260 => k0_hw260

def k0_chk261 (v91 : IVec S16 32) (v539 : IVec S16 32) : Prop :=
  (∀ a x, ((![v91, v539] : Fin 2 → IVec S16 32) a x).toNat < S128x128.size a)
theorem k0_idx261_inb : ∀ (v91 : IVec S16 32) (v539 : IVec S16 32) (k0_hw261 : k0_chk261 v91 v539), ∀ a x, ((![v91, v539] : Fin 2 → IVec S16 32) a x).toNat < S128x128.size a := fun v91 v539 k0_hw261 => k0_hw261

def k0_chk262 (v91 : IVec S16 32) (v541 : IVec S16 32) : Prop :=
  (∀ a x, ((![v91, v541] : Fin 2 → IVec S16 32) a x).toNat < S128x128.size a)
theorem k0_idx262_inb : ∀ (v91 : IVec S16 32) (v541 : IVec S16 32) (k0_hw262 : k0_chk262 v91 v541), ∀ a x, ((![v91, v541] : Fin 2 → IVec S16 32) a x).toNat < S128x128.size a := fun v91 v541 k0_hw262 => k0_hw262

def k0_chk263 (v91 : IVec S16 32) (v543 : IVec S16 32) : Prop :=
  (∀ a x, ((![v91, v543] : Fin 2 → IVec S16 32) a x).toNat < S128x128.size a)
theorem k0_idx263_inb : ∀ (v91 : IVec S16 32) (v543 : IVec S16 32) (k0_hw263 : k0_chk263 v91 v543), ∀ a x, ((![v91, v543] : Fin 2 → IVec S16 32) a x).toNat < S128x128.size a := fun v91 v543 k0_hw263 => k0_hw263

def k0_chk264 (v91 : IVec S16 32) (v546 : IVec S16 32) : Prop :=
  (∀ a x, ((![v91, v546] : Fin 2 → IVec S16 32) a x).toNat < S128x128.size a)
theorem k0_idx264_inb : ∀ (v91 : IVec S16 32) (v546 : IVec S16 32) (k0_hw264 : k0_chk264 v91 v546), ∀ a x, ((![v91, v546] : Fin 2 → IVec S16 32) a x).toNat < S128x128.size a := fun v91 v546 k0_hw264 => k0_hw264

def k0_chk265 (v91 : IVec S16 32) (v548 : IVec S16 32) : Prop :=
  (∀ a x, ((![v91, v548] : Fin 2 → IVec S16 32) a x).toNat < S128x128.size a)
theorem k0_idx265_inb : ∀ (v91 : IVec S16 32) (v548 : IVec S16 32) (k0_hw265 : k0_chk265 v91 v548), ∀ a x, ((![v91, v548] : Fin 2 → IVec S16 32) a x).toNat < S128x128.size a := fun v91 v548 k0_hw265 => k0_hw265

def k0_chk266 (v91 : IVec S16 32) (v560 : IVec S16 32) : Prop :=
  (∀ a x, ((![v91, v560] : Fin 2 → IVec S16 32) a x).toNat < S128x128.size a)
theorem k0_idx266_inb : ∀ (v91 : IVec S16 32) (v560 : IVec S16 32) (k0_hw266 : k0_chk266 v91 v560), ∀ a x, ((![v91, v560] : Fin 2 → IVec S16 32) a x).toNat < S128x128.size a := fun v91 v560 k0_hw266 => k0_hw266

def k0_chk267 (v91 : IVec S16 32) (v562 : IVec S16 32) : Prop :=
  (∀ a x, ((![v91, v562] : Fin 2 → IVec S16 32) a x).toNat < S128x128.size a)
theorem k0_idx267_inb : ∀ (v91 : IVec S16 32) (v562 : IVec S16 32) (k0_hw267 : k0_chk267 v91 v562), ∀ a x, ((![v91, v562] : Fin 2 → IVec S16 32) a x).toNat < S128x128.size a := fun v91 v562 k0_hw267 => k0_hw267

def k0_chk268 (v91 : IVec S16 32) (v564 : IVec S16 32) : Prop :=
  (∀ a x, ((![v91, v564] : Fin 2 → IVec S16 32) a x).toNat < S128x128.size a)
theorem k0_idx268_inb : ∀ (v91 : IVec S16 32) (v564 : IVec S16 32) (k0_hw268 : k0_chk268 v91 v564), ∀ a x, ((![v91, v564] : Fin 2 → IVec S16 32) a x).toNat < S128x128.size a := fun v91 v564 k0_hw268 => k0_hw268

def k0_chk269 (v91 : IVec S16 32) (v567 : IVec S16 32) : Prop :=
  (∀ a x, ((![v91, v567] : Fin 2 → IVec S16 32) a x).toNat < S128x128.size a)
theorem k0_idx269_inb : ∀ (v91 : IVec S16 32) (v567 : IVec S16 32) (k0_hw269 : k0_chk269 v91 v567), ∀ a x, ((![v91, v567] : Fin 2 → IVec S16 32) a x).toNat < S128x128.size a := fun v91 v567 k0_hw269 => k0_hw269

def k0_chk270 (v91 : IVec S16 32) (v569 : IVec S16 32) : Prop :=
  (∀ a x, ((![v91, v569] : Fin 2 → IVec S16 32) a x).toNat < S128x128.size a)
theorem k0_idx270_inb : ∀ (v91 : IVec S16 32) (v569 : IVec S16 32) (k0_hw270 : k0_chk270 v91 v569), ∀ a x, ((![v91, v569] : Fin 2 → IVec S16 32) a x).toNat < S128x128.size a := fun v91 v569 k0_hw270 => k0_hw270

def k0_chk271 (v91 : IVec S16 32) (v581 : IVec S16 32) : Prop :=
  (∀ a x, ((![v91, v581] : Fin 2 → IVec S16 32) a x).toNat < S128x128.size a)
theorem k0_idx271_inb : ∀ (v91 : IVec S16 32) (v581 : IVec S16 32) (k0_hw271 : k0_chk271 v91 v581), ∀ a x, ((![v91, v581] : Fin 2 → IVec S16 32) a x).toNat < S128x128.size a := fun v91 v581 k0_hw271 => k0_hw271

def k0_chk272 (v91 : IVec S16 32) (v583 : IVec S16 32) : Prop :=
  (∀ a x, ((![v91, v583] : Fin 2 → IVec S16 32) a x).toNat < S128x128.size a)
theorem k0_idx272_inb : ∀ (v91 : IVec S16 32) (v583 : IVec S16 32) (k0_hw272 : k0_chk272 v91 v583), ∀ a x, ((![v91, v583] : Fin 2 → IVec S16 32) a x).toNat < S128x128.size a := fun v91 v583 k0_hw272 => k0_hw272

def k0_chk273 (v91 : IVec S16 32) (v585 : IVec S16 32) : Prop :=
  (∀ a x, ((![v91, v585] : Fin 2 → IVec S16 32) a x).toNat < S128x128.size a)
theorem k0_idx273_inb : ∀ (v91 : IVec S16 32) (v585 : IVec S16 32) (k0_hw273 : k0_chk273 v91 v585), ∀ a x, ((![v91, v585] : Fin 2 → IVec S16 32) a x).toNat < S128x128.size a := fun v91 v585 k0_hw273 => k0_hw273

def k0_chk274 (v91 : IVec S16 32) (v588 : IVec S16 32) : Prop :=
  (∀ a x, ((![v91, v588] : Fin 2 → IVec S16 32) a x).toNat < S128x128.size a)
theorem k0_idx274_inb : ∀ (v91 : IVec S16 32) (v588 : IVec S16 32) (k0_hw274 : k0_chk274 v91 v588), ∀ a x, ((![v91, v588] : Fin 2 → IVec S16 32) a x).toNat < S128x128.size a := fun v91 v588 k0_hw274 => k0_hw274

def k0_chk275 (v91 : IVec S16 32) (v590 : IVec S16 32) : Prop :=
  (∀ a x, ((![v91, v590] : Fin 2 → IVec S16 32) a x).toNat < S128x128.size a)
theorem k0_idx275_inb : ∀ (v91 : IVec S16 32) (v590 : IVec S16 32) (k0_hw275 : k0_chk275 v91 v590), ∀ a x, ((![v91, v590] : Fin 2 → IVec S16 32) a x).toNat < S128x128.size a := fun v91 v590 k0_hw275 => k0_hw275

def k0_chk276 (v91 : IVec S16 32) (v602 : IVec S16 32) : Prop :=
  (∀ a x, ((![v91, v602] : Fin 2 → IVec S16 32) a x).toNat < S128x128.size a)
theorem k0_idx276_inb : ∀ (v91 : IVec S16 32) (v602 : IVec S16 32) (k0_hw276 : k0_chk276 v91 v602), ∀ a x, ((![v91, v602] : Fin 2 → IVec S16 32) a x).toNat < S128x128.size a := fun v91 v602 k0_hw276 => k0_hw276

def k0_chk277 (v91 : IVec S16 32) (v604 : IVec S16 32) : Prop :=
  (∀ a x, ((![v91, v604] : Fin 2 → IVec S16 32) a x).toNat < S128x128.size a)
theorem k0_idx277_inb : ∀ (v91 : IVec S16 32) (v604 : IVec S16 32) (k0_hw277 : k0_chk277 v91 v604), ∀ a x, ((![v91, v604] : Fin 2 → IVec S16 32) a x).toNat < S128x128.size a := fun v91 v604 k0_hw277 => k0_hw277

def k0_chk278 (v91 : IVec S16 32) (v606 : IVec S16 32) : Prop :=
  (∀ a x, ((![v91, v606] : Fin 2 → IVec S16 32) a x).toNat < S128x128.size a)
theorem k0_idx278_inb : ∀ (v91 : IVec S16 32) (v606 : IVec S16 32) (k0_hw278 : k0_chk278 v91 v606), ∀ a x, ((![v91, v606] : Fin 2 → IVec S16 32) a x).toNat < S128x128.size a := fun v91 v606 k0_hw278 => k0_hw278

def k0_chk279 (v91 : IVec S16 32) (v609 : IVec S16 32) : Prop :=
  (∀ a x, ((![v91, v609] : Fin 2 → IVec S16 32) a x).toNat < S128x128.size a)
theorem k0_idx279_inb : ∀ (v91 : IVec S16 32) (v609 : IVec S16 32) (k0_hw279 : k0_chk279 v91 v609), ∀ a x, ((![v91, v609] : Fin 2 → IVec S16 32) a x).toNat < S128x128.size a := fun v91 v609 k0_hw279 => k0_hw279

def k0_chk280 (v91 : IVec S16 32) (v611 : IVec S16 32) : Prop :=
  (∀ a x, ((![v91, v611] : Fin 2 → IVec S16 32) a x).toNat < S128x128.size a)
theorem k0_idx280_inb : ∀ (v91 : IVec S16 32) (v611 : IVec S16 32) (k0_hw280 : k0_chk280 v91 v611), ∀ a x, ((![v91, v611] : Fin 2 → IVec S16 32) a x).toNat < S128x128.size a := fun v91 v611 k0_hw280 => k0_hw280

def k0_chk281 (v91 : IVec S16 32) (v623 : IVec S16 32) : Prop :=
  (∀ a x, ((![v91, v623] : Fin 2 → IVec S16 32) a x).toNat < S128x128.size a)
theorem k0_idx281_inb : ∀ (v91 : IVec S16 32) (v623 : IVec S16 32) (k0_hw281 : k0_chk281 v91 v623), ∀ a x, ((![v91, v623] : Fin 2 → IVec S16 32) a x).toNat < S128x128.size a := fun v91 v623 k0_hw281 => k0_hw281

def k0_chk282 (v91 : IVec S16 32) (v625 : IVec S16 32) : Prop :=
  (∀ a x, ((![v91, v625] : Fin 2 → IVec S16 32) a x).toNat < S128x128.size a)
theorem k0_idx282_inb : ∀ (v91 : IVec S16 32) (v625 : IVec S16 32) (k0_hw282 : k0_chk282 v91 v625), ∀ a x, ((![v91, v625] : Fin 2 → IVec S16 32) a x).toNat < S128x128.size a := fun v91 v625 k0_hw282 => k0_hw282

def k0_chk283 (v91 : IVec S16 32) (v627 : IVec S16 32) : Prop :=
  (∀ a x, ((![v91, v627] : Fin 2 → IVec S16 32) a x).toNat < S128x128.size a)
theorem k0_idx283_inb : ∀ (v91 : IVec S16 32) (v627 : IVec S16 32) (k0_hw283 : k0_chk283 v91 v627), ∀ a x, ((![v91, v627] : Fin 2 → IVec S16 32) a x).toNat < S128x128.size a := fun v91 v627 k0_hw283 => k0_hw283

def k0_chk284 (v91 : IVec S16 32) (v630 : IVec S16 32) : Prop :=
  (∀ a x, ((![v91, v630] : Fin 2 → IVec S16 32) a x).toNat < S128x128.size a)
theorem k0_idx284_inb : ∀ (v91 : IVec S16 32) (v630 : IVec S16 32) (k0_hw284 : k0_chk284 v91 v630), ∀ a x, ((![v91, v630] : Fin 2 → IVec S16 32) a x).toNat < S128x128.size a := fun v91 v630 k0_hw284 => k0_hw284

def k0_chk285 (v91 : IVec S16 32) (v632 : IVec S16 32) : Prop :=
  (∀ a x, ((![v91, v632] : Fin 2 → IVec S16 32) a x).toNat < S128x128.size a)
theorem k0_idx285_inb : ∀ (v91 : IVec S16 32) (v632 : IVec S16 32) (k0_hw285 : k0_chk285 v91 v632), ∀ a x, ((![v91, v632] : Fin 2 → IVec S16 32) a x).toNat < S128x128.size a := fun v91 v632 k0_hw285 => k0_hw285

def k0_chk286 (v91 : IVec S16 32) (v644 : IVec S16 32) : Prop :=
  (∀ a x, ((![v91, v644] : Fin 2 → IVec S16 32) a x).toNat < S128x128.size a)
theorem k0_idx286_inb : ∀ (v91 : IVec S16 32) (v644 : IVec S16 32) (k0_hw286 : k0_chk286 v91 v644), ∀ a x, ((![v91, v644] : Fin 2 → IVec S16 32) a x).toNat < S128x128.size a := fun v91 v644 k0_hw286 => k0_hw286

def k0_chk287 (v91 : IVec S16 32) (v646 : IVec S16 32) : Prop :=
  (∀ a x, ((![v91, v646] : Fin 2 → IVec S16 32) a x).toNat < S128x128.size a)
theorem k0_idx287_inb : ∀ (v91 : IVec S16 32) (v646 : IVec S16 32) (k0_hw287 : k0_chk287 v91 v646), ∀ a x, ((![v91, v646] : Fin 2 → IVec S16 32) a x).toNat < S128x128.size a := fun v91 v646 k0_hw287 => k0_hw287

def k0_chk288 (v91 : IVec S16 32) (v648 : IVec S16 32) : Prop :=
  (∀ a x, ((![v91, v648] : Fin 2 → IVec S16 32) a x).toNat < S128x128.size a)
theorem k0_idx288_inb : ∀ (v91 : IVec S16 32) (v648 : IVec S16 32) (k0_hw288 : k0_chk288 v91 v648), ∀ a x, ((![v91, v648] : Fin 2 → IVec S16 32) a x).toNat < S128x128.size a := fun v91 v648 k0_hw288 => k0_hw288

def k0_chk289 (v91 : IVec S16 32) (v651 : IVec S16 32) : Prop :=
  (∀ a x, ((![v91, v651] : Fin 2 → IVec S16 32) a x).toNat < S128x128.size a)
theorem k0_idx289_inb : ∀ (v91 : IVec S16 32) (v651 : IVec S16 32) (k0_hw289 : k0_chk289 v91 v651), ∀ a x, ((![v91, v651] : Fin 2 → IVec S16 32) a x).toNat < S128x128.size a := fun v91 v651 k0_hw289 => k0_hw289

def k0_chk290 (v91 : IVec S16 32) (v653 : IVec S16 32) : Prop :=
  (∀ a x, ((![v91, v653] : Fin 2 → IVec S16 32) a x).toNat < S128x128.size a)
theorem k0_idx290_inb : ∀ (v91 : IVec S16 32) (v653 : IVec S16 32) (k0_hw290 : k0_chk290 v91 v653), ∀ a x, ((![v91, v653] : Fin 2 → IVec S16 32) a x).toNat < S128x128.size a := fun v91 v653 k0_hw290 => k0_hw290

def k0_chk291 (v91 : IVec S16 32) (v665 : IVec S16 32) : Prop :=
  (∀ a x, ((![v91, v665] : Fin 2 → IVec S16 32) a x).toNat < S128x128.size a)
theorem k0_idx291_inb : ∀ (v91 : IVec S16 32) (v665 : IVec S16 32) (k0_hw291 : k0_chk291 v91 v665), ∀ a x, ((![v91, v665] : Fin 2 → IVec S16 32) a x).toNat < S128x128.size a := fun v91 v665 k0_hw291 => k0_hw291

def k0_chk292 (v91 : IVec S16 32) (v667 : IVec S16 32) : Prop :=
  (∀ a x, ((![v91, v667] : Fin 2 → IVec S16 32) a x).toNat < S128x128.size a)
theorem k0_idx292_inb : ∀ (v91 : IVec S16 32) (v667 : IVec S16 32) (k0_hw292 : k0_chk292 v91 v667), ∀ a x, ((![v91, v667] : Fin 2 → IVec S16 32) a x).toNat < S128x128.size a := fun v91 v667 k0_hw292 => k0_hw292

def k0_chk293 (v91 : IVec S16 32) (v669 : IVec S16 32) : Prop :=
  (∀ a x, ((![v91, v669] : Fin 2 → IVec S16 32) a x).toNat < S128x128.size a)
theorem k0_idx293_inb : ∀ (v91 : IVec S16 32) (v669 : IVec S16 32) (k0_hw293 : k0_chk293 v91 v669), ∀ a x, ((![v91, v669] : Fin 2 → IVec S16 32) a x).toNat < S128x128.size a := fun v91 v669 k0_hw293 => k0_hw293

def k0_chk294 (v91 : IVec S16 32) (v672 : IVec S16 32) : Prop :=
  (∀ a x, ((![v91, v672] : Fin 2 → IVec S16 32) a x).toNat < S128x128.size a)
theorem k0_idx294_inb : ∀ (v91 : IVec S16 32) (v672 : IVec S16 32) (k0_hw294 : k0_chk294 v91 v672), ∀ a x, ((![v91, v672] : Fin 2 → IVec S16 32) a x).toNat < S128x128.size a := fun v91 v672 k0_hw294 => k0_hw294

def k0_chk295 (v91 : IVec S16 32) (v674 : IVec S16 32) : Prop :=
  (∀ a x, ((![v91, v674] : Fin 2 → IVec S16 32) a x).toNat < S128x128.size a)
theorem k0_idx295_inb : ∀ (v91 : IVec S16 32) (v674 : IVec S16 32) (k0_hw295 : k0_chk295 v91 v674), ∀ a x, ((![v91, v674] : Fin 2 → IVec S16 32) a x).toNat < S128x128.size a := fun v91 v674 k0_hw295 => k0_hw295

def k0_chk296 (v91 : IVec S16 32) (v686 : IVec S16 32) : Prop :=
  (∀ a x, ((![v91, v686] : Fin 2 → IVec S16 32) a x).toNat < S128x128.size a)
theorem k0_idx296_inb : ∀ (v91 : IVec S16 32) (v686 : IVec S16 32) (k0_hw296 : k0_chk296 v91 v686), ∀ a x, ((![v91, v686] : Fin 2 → IVec S16 32) a x).toNat < S128x128.size a := fun v91 v686 k0_hw296 => k0_hw296

def k0_chk297 (v91 : IVec S16 32) (v688 : IVec S16 32) : Prop :=
  (∀ a x, ((![v91, v688] : Fin 2 → IVec S16 32) a x).toNat < S128x128.size a)
theorem k0_idx297_inb : ∀ (v91 : IVec S16 32) (v688 : IVec S16 32) (k0_hw297 : k0_chk297 v91 v688), ∀ a x, ((![v91, v688] : Fin 2 → IVec S16 32) a x).toNat < S128x128.size a := fun v91 v688 k0_hw297 => k0_hw297

def k0_chk298 (v91 : IVec S16 32) (v690 : IVec S16 32) : Prop :=
  (∀ a x, ((![v91, v690] : Fin 2 → IVec S16 32) a x).toNat < S128x128.size a)
theorem k0_idx298_inb : ∀ (v91 : IVec S16 32) (v690 : IVec S16 32) (k0_hw298 : k0_chk298 v91 v690), ∀ a x, ((![v91, v690] : Fin 2 → IVec S16 32) a x).toNat < S128x128.size a := fun v91 v690 k0_hw298 => k0_hw298

def k0_chk299 (v91 : IVec S16 32) (v693 : IVec S16 32) : Prop :=
  (∀ a x, ((![v91, v693] : Fin 2 → IVec S16 32) a x).toNat < S128x128.size a)
theorem k0_idx299_inb : ∀ (v91 : IVec S16 32) (v693 : IVec S16 32) (k0_hw299 : k0_chk299 v91 v693), ∀ a x, ((![v91, v693] : Fin 2 → IVec S16 32) a x).toNat < S128x128.size a := fun v91 v693 k0_hw299 => k0_hw299

def k0_chk300 (v91 : IVec S16 32) (v695 : IVec S16 32) : Prop :=
  (∀ a x, ((![v91, v695] : Fin 2 → IVec S16 32) a x).toNat < S128x128.size a)
theorem k0_idx300_inb : ∀ (v91 : IVec S16 32) (v695 : IVec S16 32) (k0_hw300 : k0_chk300 v91 v695), ∀ a x, ((![v91, v695] : Fin 2 → IVec S16 32) a x).toNat < S128x128.size a := fun v91 v695 k0_hw300 => k0_hw300

def k0_chk301 (v91 : IVec S16 32) (v707 : IVec S16 32) : Prop :=
  (∀ a x, ((![v91, v707] : Fin 2 → IVec S16 32) a x).toNat < S128x128.size a)
theorem k0_idx301_inb : ∀ (v91 : IVec S16 32) (v707 : IVec S16 32) (k0_hw301 : k0_chk301 v91 v707), ∀ a x, ((![v91, v707] : Fin 2 → IVec S16 32) a x).toNat < S128x128.size a := fun v91 v707 k0_hw301 => k0_hw301

def k0_chk302 (v91 : IVec S16 32) (v709 : IVec S16 32) : Prop :=
  (∀ a x, ((![v91, v709] : Fin 2 → IVec S16 32) a x).toNat < S128x128.size a)
theorem k0_idx302_inb : ∀ (v91 : IVec S16 32) (v709 : IVec S16 32) (k0_hw302 : k0_chk302 v91 v709), ∀ a x, ((![v91, v709] : Fin 2 → IVec S16 32) a x).toNat < S128x128.size a := fun v91 v709 k0_hw302 => k0_hw302

def k0_chk303 (v91 : IVec S16 32) (v711 : IVec S16 32) : Prop :=
  (∀ a x, ((![v91, v711] : Fin 2 → IVec S16 32) a x).toNat < S128x128.size a)
theorem k0_idx303_inb : ∀ (v91 : IVec S16 32) (v711 : IVec S16 32) (k0_hw303 : k0_chk303 v91 v711), ∀ a x, ((![v91, v711] : Fin 2 → IVec S16 32) a x).toNat < S128x128.size a := fun v91 v711 k0_hw303 => k0_hw303

def k0_chk304 (v91 : IVec S16 32) (v714 : IVec S16 32) : Prop :=
  (∀ a x, ((![v91, v714] : Fin 2 → IVec S16 32) a x).toNat < S128x128.size a)
theorem k0_idx304_inb : ∀ (v91 : IVec S16 32) (v714 : IVec S16 32) (k0_hw304 : k0_chk304 v91 v714), ∀ a x, ((![v91, v714] : Fin 2 → IVec S16 32) a x).toNat < S128x128.size a := fun v91 v714 k0_hw304 => k0_hw304

def k0_chk305 (v91 : IVec S16 32) (v716 : IVec S16 32) : Prop :=
  (∀ a x, ((![v91, v716] : Fin 2 → IVec S16 32) a x).toNat < S128x128.size a)
theorem k0_idx305_inb : ∀ (v91 : IVec S16 32) (v716 : IVec S16 32) (k0_hw305 : k0_chk305 v91 v716), ∀ a x, ((![v91, v716] : Fin 2 → IVec S16 32) a x).toNat < S128x128.size a := fun v91 v716 k0_hw305 => k0_hw305

def k0_chk306 (v91 : IVec S16 32) (v728 : IVec S16 32) : Prop :=
  (∀ a x, ((![v91, v728] : Fin 2 → IVec S16 32) a x).toNat < S128x128.size a)
theorem k0_idx306_inb : ∀ (v91 : IVec S16 32) (v728 : IVec S16 32) (k0_hw306 : k0_chk306 v91 v728), ∀ a x, ((![v91, v728] : Fin 2 → IVec S16 32) a x).toNat < S128x128.size a := fun v91 v728 k0_hw306 => k0_hw306

def k0_chk307 (v91 : IVec S16 32) (v730 : IVec S16 32) : Prop :=
  (∀ a x, ((![v91, v730] : Fin 2 → IVec S16 32) a x).toNat < S128x128.size a)
theorem k0_idx307_inb : ∀ (v91 : IVec S16 32) (v730 : IVec S16 32) (k0_hw307 : k0_chk307 v91 v730), ∀ a x, ((![v91, v730] : Fin 2 → IVec S16 32) a x).toNat < S128x128.size a := fun v91 v730 k0_hw307 => k0_hw307

def k0_chk308 (v91 : IVec S16 32) (v732 : IVec S16 32) : Prop :=
  (∀ a x, ((![v91, v732] : Fin 2 → IVec S16 32) a x).toNat < S128x128.size a)
theorem k0_idx308_inb : ∀ (v91 : IVec S16 32) (v732 : IVec S16 32) (k0_hw308 : k0_chk308 v91 v732), ∀ a x, ((![v91, v732] : Fin 2 → IVec S16 32) a x).toNat < S128x128.size a := fun v91 v732 k0_hw308 => k0_hw308

def k0_chk309 (v91 : IVec S16 32) (v735 : IVec S16 32) : Prop :=
  (∀ a x, ((![v91, v735] : Fin 2 → IVec S16 32) a x).toNat < S128x128.size a)
theorem k0_idx309_inb : ∀ (v91 : IVec S16 32) (v735 : IVec S16 32) (k0_hw309 : k0_chk309 v91 v735), ∀ a x, ((![v91, v735] : Fin 2 → IVec S16 32) a x).toNat < S128x128.size a := fun v91 v735 k0_hw309 => k0_hw309

def k0_chk310 (v91 : IVec S16 32) (v737 : IVec S16 32) : Prop :=
  (∀ a x, ((![v91, v737] : Fin 2 → IVec S16 32) a x).toNat < S128x128.size a)
theorem k0_idx310_inb : ∀ (v91 : IVec S16 32) (v737 : IVec S16 32) (k0_hw310 : k0_chk310 v91 v737), ∀ a x, ((![v91, v737] : Fin 2 → IVec S16 32) a x).toNat < S128x128.size a := fun v91 v737 k0_hw310 => k0_hw310

def k0_chk311 (v91 : IVec S16 32) (v749 : IVec S16 32) : Prop :=
  (∀ a x, ((![v91, v749] : Fin 2 → IVec S16 32) a x).toNat < S128x128.size a)
theorem k0_idx311_inb : ∀ (v91 : IVec S16 32) (v749 : IVec S16 32) (k0_hw311 : k0_chk311 v91 v749), ∀ a x, ((![v91, v749] : Fin 2 → IVec S16 32) a x).toNat < S128x128.size a := fun v91 v749 k0_hw311 => k0_hw311

def k0_chk312 (v91 : IVec S16 32) (v751 : IVec S16 32) : Prop :=
  (∀ a x, ((![v91, v751] : Fin 2 → IVec S16 32) a x).toNat < S128x128.size a)
theorem k0_idx312_inb : ∀ (v91 : IVec S16 32) (v751 : IVec S16 32) (k0_hw312 : k0_chk312 v91 v751), ∀ a x, ((![v91, v751] : Fin 2 → IVec S16 32) a x).toNat < S128x128.size a := fun v91 v751 k0_hw312 => k0_hw312

def k0_chk313 (v91 : IVec S16 32) (v753 : IVec S16 32) : Prop :=
  (∀ a x, ((![v91, v753] : Fin 2 → IVec S16 32) a x).toNat < S128x128.size a)
theorem k0_idx313_inb : ∀ (v91 : IVec S16 32) (v753 : IVec S16 32) (k0_hw313 : k0_chk313 v91 v753), ∀ a x, ((![v91, v753] : Fin 2 → IVec S16 32) a x).toNat < S128x128.size a := fun v91 v753 k0_hw313 => k0_hw313

def k0_chk314 (v91 : IVec S16 32) (v756 : IVec S16 32) : Prop :=
  (∀ a x, ((![v91, v756] : Fin 2 → IVec S16 32) a x).toNat < S128x128.size a)
theorem k0_idx314_inb : ∀ (v91 : IVec S16 32) (v756 : IVec S16 32) (k0_hw314 : k0_chk314 v91 v756), ∀ a x, ((![v91, v756] : Fin 2 → IVec S16 32) a x).toNat < S128x128.size a := fun v91 v756 k0_hw314 => k0_hw314

def k0_chk315 (v91 : IVec S16 32) (v758 : IVec S16 32) : Prop :=
  (∀ a x, ((![v91, v758] : Fin 2 → IVec S16 32) a x).toNat < S128x128.size a)
theorem k0_idx315_inb : ∀ (v91 : IVec S16 32) (v758 : IVec S16 32) (k0_hw315 : k0_chk315 v91 v758), ∀ a x, ((![v91, v758] : Fin 2 → IVec S16 32) a x).toNat < S128x128.size a := fun v91 v758 k0_hw315 => k0_hw315

def k0_chk316 (v91 : IVec S16 32) (v770 : IVec S16 32) : Prop :=
  (∀ a x, ((![v91, v770] : Fin 2 → IVec S16 32) a x).toNat < S128x128.size a)
theorem k0_idx316_inb : ∀ (v91 : IVec S16 32) (v770 : IVec S16 32) (k0_hw316 : k0_chk316 v91 v770), ∀ a x, ((![v91, v770] : Fin 2 → IVec S16 32) a x).toNat < S128x128.size a := fun v91 v770 k0_hw316 => k0_hw316

def k0_chk317 (v91 : IVec S16 32) (v772 : IVec S16 32) : Prop :=
  (∀ a x, ((![v91, v772] : Fin 2 → IVec S16 32) a x).toNat < S128x128.size a)
theorem k0_idx317_inb : ∀ (v91 : IVec S16 32) (v772 : IVec S16 32) (k0_hw317 : k0_chk317 v91 v772), ∀ a x, ((![v91, v772] : Fin 2 → IVec S16 32) a x).toNat < S128x128.size a := fun v91 v772 k0_hw317 => k0_hw317

def k0_chk318 (v91 : IVec S16 32) (v774 : IVec S16 32) : Prop :=
  (∀ a x, ((![v91, v774] : Fin 2 → IVec S16 32) a x).toNat < S128x128.size a)
theorem k0_idx318_inb : ∀ (v91 : IVec S16 32) (v774 : IVec S16 32) (k0_hw318 : k0_chk318 v91 v774), ∀ a x, ((![v91, v774] : Fin 2 → IVec S16 32) a x).toNat < S128x128.size a := fun v91 v774 k0_hw318 => k0_hw318

def k0_chk319 (v91 : IVec S16 32) (v777 : IVec S16 32) : Prop :=
  (∀ a x, ((![v91, v777] : Fin 2 → IVec S16 32) a x).toNat < S128x128.size a)
theorem k0_idx319_inb : ∀ (v91 : IVec S16 32) (v777 : IVec S16 32) (k0_hw319 : k0_chk319 v91 v777), ∀ a x, ((![v91, v777] : Fin 2 → IVec S16 32) a x).toNat < S128x128.size a := fun v91 v777 k0_hw319 => k0_hw319

def k0_chk320 (v91 : IVec S16 32) (v779 : IVec S16 32) : Prop :=
  (∀ a x, ((![v91, v779] : Fin 2 → IVec S16 32) a x).toNat < S128x128.size a)
theorem k0_idx320_inb : ∀ (v91 : IVec S16 32) (v779 : IVec S16 32) (k0_hw320 : k0_chk320 v91 v779), ∀ a x, ((![v91, v779] : Fin 2 → IVec S16 32) a x).toNat < S128x128.size a := fun v91 v779 k0_hw320 => k0_hw320
def k0_off6 (k0_t3 : Fin k0_t3_loop.trips) : Fin 1 → Nat :=
  let c128_i32_140 : BitVec 32 := 128#32
  let c0_i32_66 : BitVec 32 := 0#32
  let c1_i32_68 : BitVec 32 := 1#32
  let arg22 : BitVec 32 := Scf.iv c0_i32_66 c1_i32_68 k0_t3
  let c16_i32_139 : BitVec 32 := 16#32
  let v92 : BitVec 32 := Scalar.muli arg22 c16_i32_139
  let v93 : BitVec 32 := Scalar.addi c128_i32_140 v92
  let v785 : Index := Scalar.indexCast v93
  ![v785.toNat]
@[reducible] def k0_t4_loop : Scf.Loop 32 :=
  let c0_i32_100 : BitVec 32 := 0#32
  let c8_i32_101 : BitVec 32 := 8#32
  let v67 : BitVec 32 := Scalar.addi c0_i32_100 c8_i32_101
  let c1_i32_102 : BitVec 32 := 1#32
  ⟨c0_i32_100, v67, c1_i32_102⟩
def k0_off7 (k0_t4 : Fin k0_t4_loop.trips) : Fin 1 → Nat :=
  let c256_i32_140 : BitVec 32 := 256#32
  let c0_i32_100 : BitVec 32 := 0#32
  let c1_i32_102 : BitVec 32 := 1#32
  let arg22 : BitVec 32 := Scf.iv c0_i32_100 c1_i32_102 k0_t4
  let c16_i32_139 : BitVec 32 := 16#32
  let v92 : BitVec 32 := Scalar.muli arg22 c16_i32_139
  let v93 : BitVec 32 := Scalar.addi c256_i32_140 v92
  let v94 : Index := Scalar.indexCast v93
  ![v94.toNat]

def k0_chk321 (v91 : IVec S16 32) (v119 : IVec S16 32) : Prop :=
  (∀ a x, ((![v91, v119] : Fin 2 → IVec S16 32) a x).toNat < S128x128.size a)
theorem k0_idx321_inb : ∀ (v91 : IVec S16 32) (v119 : IVec S16 32) (k0_hw321 : k0_chk321 v91 v119), ∀ a x, ((![v91, v119] : Fin 2 → IVec S16 32) a x).toNat < S128x128.size a := fun v91 v119 k0_hw321 => k0_hw321

def k0_chk322 (v91 : IVec S16 32) (v121 : IVec S16 32) : Prop :=
  (∀ a x, ((![v91, v121] : Fin 2 → IVec S16 32) a x).toNat < S128x128.size a)
theorem k0_idx322_inb : ∀ (v91 : IVec S16 32) (v121 : IVec S16 32) (k0_hw322 : k0_chk322 v91 v121), ∀ a x, ((![v91, v121] : Fin 2 → IVec S16 32) a x).toNat < S128x128.size a := fun v91 v121 k0_hw322 => k0_hw322

def k0_chk323 (v91 : IVec S16 32) (v123 : IVec S16 32) : Prop :=
  (∀ a x, ((![v91, v123] : Fin 2 → IVec S16 32) a x).toNat < S128x128.size a)
theorem k0_idx323_inb : ∀ (v91 : IVec S16 32) (v123 : IVec S16 32) (k0_hw323 : k0_chk323 v91 v123), ∀ a x, ((![v91, v123] : Fin 2 → IVec S16 32) a x).toNat < S128x128.size a := fun v91 v123 k0_hw323 => k0_hw323

def k0_chk324 (v91 : IVec S16 32) (v126 : IVec S16 32) : Prop :=
  (∀ a x, ((![v91, v126] : Fin 2 → IVec S16 32) a x).toNat < S128x128.size a)
theorem k0_idx324_inb : ∀ (v91 : IVec S16 32) (v126 : IVec S16 32) (k0_hw324 : k0_chk324 v91 v126), ∀ a x, ((![v91, v126] : Fin 2 → IVec S16 32) a x).toNat < S128x128.size a := fun v91 v126 k0_hw324 => k0_hw324

def k0_chk325 (v91 : IVec S16 32) (v128 : IVec S16 32) : Prop :=
  (∀ a x, ((![v91, v128] : Fin 2 → IVec S16 32) a x).toNat < S128x128.size a)
theorem k0_idx325_inb : ∀ (v91 : IVec S16 32) (v128 : IVec S16 32) (k0_hw325 : k0_chk325 v91 v128), ∀ a x, ((![v91, v128] : Fin 2 → IVec S16 32) a x).toNat < S128x128.size a := fun v91 v128 k0_hw325 => k0_hw325

def k0_chk326 (v91 : IVec S16 32) (v140 : IVec S16 32) : Prop :=
  (∀ a x, ((![v91, v140] : Fin 2 → IVec S16 32) a x).toNat < S128x128.size a)
theorem k0_idx326_inb : ∀ (v91 : IVec S16 32) (v140 : IVec S16 32) (k0_hw326 : k0_chk326 v91 v140), ∀ a x, ((![v91, v140] : Fin 2 → IVec S16 32) a x).toNat < S128x128.size a := fun v91 v140 k0_hw326 => k0_hw326

def k0_chk327 (v91 : IVec S16 32) (v142 : IVec S16 32) : Prop :=
  (∀ a x, ((![v91, v142] : Fin 2 → IVec S16 32) a x).toNat < S128x128.size a)
theorem k0_idx327_inb : ∀ (v91 : IVec S16 32) (v142 : IVec S16 32) (k0_hw327 : k0_chk327 v91 v142), ∀ a x, ((![v91, v142] : Fin 2 → IVec S16 32) a x).toNat < S128x128.size a := fun v91 v142 k0_hw327 => k0_hw327

def k0_chk328 (v91 : IVec S16 32) (v144 : IVec S16 32) : Prop :=
  (∀ a x, ((![v91, v144] : Fin 2 → IVec S16 32) a x).toNat < S128x128.size a)
theorem k0_idx328_inb : ∀ (v91 : IVec S16 32) (v144 : IVec S16 32) (k0_hw328 : k0_chk328 v91 v144), ∀ a x, ((![v91, v144] : Fin 2 → IVec S16 32) a x).toNat < S128x128.size a := fun v91 v144 k0_hw328 => k0_hw328

def k0_chk329 (v91 : IVec S16 32) (v147 : IVec S16 32) : Prop :=
  (∀ a x, ((![v91, v147] : Fin 2 → IVec S16 32) a x).toNat < S128x128.size a)
theorem k0_idx329_inb : ∀ (v91 : IVec S16 32) (v147 : IVec S16 32) (k0_hw329 : k0_chk329 v91 v147), ∀ a x, ((![v91, v147] : Fin 2 → IVec S16 32) a x).toNat < S128x128.size a := fun v91 v147 k0_hw329 => k0_hw329

def k0_chk330 (v91 : IVec S16 32) (v149 : IVec S16 32) : Prop :=
  (∀ a x, ((![v91, v149] : Fin 2 → IVec S16 32) a x).toNat < S128x128.size a)
theorem k0_idx330_inb : ∀ (v91 : IVec S16 32) (v149 : IVec S16 32) (k0_hw330 : k0_chk330 v91 v149), ∀ a x, ((![v91, v149] : Fin 2 → IVec S16 32) a x).toNat < S128x128.size a := fun v91 v149 k0_hw330 => k0_hw330

def k0_chk331 (v91 : IVec S16 32) (v161 : IVec S16 32) : Prop :=
  (∀ a x, ((![v91, v161] : Fin 2 → IVec S16 32) a x).toNat < S128x128.size a)
theorem k0_idx331_inb : ∀ (v91 : IVec S16 32) (v161 : IVec S16 32) (k0_hw331 : k0_chk331 v91 v161), ∀ a x, ((![v91, v161] : Fin 2 → IVec S16 32) a x).toNat < S128x128.size a := fun v91 v161 k0_hw331 => k0_hw331

def k0_chk332 (v91 : IVec S16 32) (v163 : IVec S16 32) : Prop :=
  (∀ a x, ((![v91, v163] : Fin 2 → IVec S16 32) a x).toNat < S128x128.size a)
theorem k0_idx332_inb : ∀ (v91 : IVec S16 32) (v163 : IVec S16 32) (k0_hw332 : k0_chk332 v91 v163), ∀ a x, ((![v91, v163] : Fin 2 → IVec S16 32) a x).toNat < S128x128.size a := fun v91 v163 k0_hw332 => k0_hw332

def k0_chk333 (v91 : IVec S16 32) (v165 : IVec S16 32) : Prop :=
  (∀ a x, ((![v91, v165] : Fin 2 → IVec S16 32) a x).toNat < S128x128.size a)
theorem k0_idx333_inb : ∀ (v91 : IVec S16 32) (v165 : IVec S16 32) (k0_hw333 : k0_chk333 v91 v165), ∀ a x, ((![v91, v165] : Fin 2 → IVec S16 32) a x).toNat < S128x128.size a := fun v91 v165 k0_hw333 => k0_hw333

def k0_chk334 (v91 : IVec S16 32) (v168 : IVec S16 32) : Prop :=
  (∀ a x, ((![v91, v168] : Fin 2 → IVec S16 32) a x).toNat < S128x128.size a)
theorem k0_idx334_inb : ∀ (v91 : IVec S16 32) (v168 : IVec S16 32) (k0_hw334 : k0_chk334 v91 v168), ∀ a x, ((![v91, v168] : Fin 2 → IVec S16 32) a x).toNat < S128x128.size a := fun v91 v168 k0_hw334 => k0_hw334

def k0_chk335 (v91 : IVec S16 32) (v170 : IVec S16 32) : Prop :=
  (∀ a x, ((![v91, v170] : Fin 2 → IVec S16 32) a x).toNat < S128x128.size a)
theorem k0_idx335_inb : ∀ (v91 : IVec S16 32) (v170 : IVec S16 32) (k0_hw335 : k0_chk335 v91 v170), ∀ a x, ((![v91, v170] : Fin 2 → IVec S16 32) a x).toNat < S128x128.size a := fun v91 v170 k0_hw335 => k0_hw335

def k0_chk336 (v91 : IVec S16 32) (v182 : IVec S16 32) : Prop :=
  (∀ a x, ((![v91, v182] : Fin 2 → IVec S16 32) a x).toNat < S128x128.size a)
theorem k0_idx336_inb : ∀ (v91 : IVec S16 32) (v182 : IVec S16 32) (k0_hw336 : k0_chk336 v91 v182), ∀ a x, ((![v91, v182] : Fin 2 → IVec S16 32) a x).toNat < S128x128.size a := fun v91 v182 k0_hw336 => k0_hw336

def k0_chk337 (v91 : IVec S16 32) (v184 : IVec S16 32) : Prop :=
  (∀ a x, ((![v91, v184] : Fin 2 → IVec S16 32) a x).toNat < S128x128.size a)
theorem k0_idx337_inb : ∀ (v91 : IVec S16 32) (v184 : IVec S16 32) (k0_hw337 : k0_chk337 v91 v184), ∀ a x, ((![v91, v184] : Fin 2 → IVec S16 32) a x).toNat < S128x128.size a := fun v91 v184 k0_hw337 => k0_hw337

def k0_chk338 (v91 : IVec S16 32) (v186 : IVec S16 32) : Prop :=
  (∀ a x, ((![v91, v186] : Fin 2 → IVec S16 32) a x).toNat < S128x128.size a)
theorem k0_idx338_inb : ∀ (v91 : IVec S16 32) (v186 : IVec S16 32) (k0_hw338 : k0_chk338 v91 v186), ∀ a x, ((![v91, v186] : Fin 2 → IVec S16 32) a x).toNat < S128x128.size a := fun v91 v186 k0_hw338 => k0_hw338

def k0_chk339 (v91 : IVec S16 32) (v189 : IVec S16 32) : Prop :=
  (∀ a x, ((![v91, v189] : Fin 2 → IVec S16 32) a x).toNat < S128x128.size a)
theorem k0_idx339_inb : ∀ (v91 : IVec S16 32) (v189 : IVec S16 32) (k0_hw339 : k0_chk339 v91 v189), ∀ a x, ((![v91, v189] : Fin 2 → IVec S16 32) a x).toNat < S128x128.size a := fun v91 v189 k0_hw339 => k0_hw339

def k0_chk340 (v91 : IVec S16 32) (v191 : IVec S16 32) : Prop :=
  (∀ a x, ((![v91, v191] : Fin 2 → IVec S16 32) a x).toNat < S128x128.size a)
theorem k0_idx340_inb : ∀ (v91 : IVec S16 32) (v191 : IVec S16 32) (k0_hw340 : k0_chk340 v91 v191), ∀ a x, ((![v91, v191] : Fin 2 → IVec S16 32) a x).toNat < S128x128.size a := fun v91 v191 k0_hw340 => k0_hw340

def k0_chk341 (v91 : IVec S16 32) (v203 : IVec S16 32) : Prop :=
  (∀ a x, ((![v91, v203] : Fin 2 → IVec S16 32) a x).toNat < S128x128.size a)
theorem k0_idx341_inb : ∀ (v91 : IVec S16 32) (v203 : IVec S16 32) (k0_hw341 : k0_chk341 v91 v203), ∀ a x, ((![v91, v203] : Fin 2 → IVec S16 32) a x).toNat < S128x128.size a := fun v91 v203 k0_hw341 => k0_hw341

def k0_chk342 (v91 : IVec S16 32) (v205 : IVec S16 32) : Prop :=
  (∀ a x, ((![v91, v205] : Fin 2 → IVec S16 32) a x).toNat < S128x128.size a)
theorem k0_idx342_inb : ∀ (v91 : IVec S16 32) (v205 : IVec S16 32) (k0_hw342 : k0_chk342 v91 v205), ∀ a x, ((![v91, v205] : Fin 2 → IVec S16 32) a x).toNat < S128x128.size a := fun v91 v205 k0_hw342 => k0_hw342

def k0_chk343 (v91 : IVec S16 32) (v207 : IVec S16 32) : Prop :=
  (∀ a x, ((![v91, v207] : Fin 2 → IVec S16 32) a x).toNat < S128x128.size a)
theorem k0_idx343_inb : ∀ (v91 : IVec S16 32) (v207 : IVec S16 32) (k0_hw343 : k0_chk343 v91 v207), ∀ a x, ((![v91, v207] : Fin 2 → IVec S16 32) a x).toNat < S128x128.size a := fun v91 v207 k0_hw343 => k0_hw343

def k0_chk344 (v91 : IVec S16 32) (v210 : IVec S16 32) : Prop :=
  (∀ a x, ((![v91, v210] : Fin 2 → IVec S16 32) a x).toNat < S128x128.size a)
theorem k0_idx344_inb : ∀ (v91 : IVec S16 32) (v210 : IVec S16 32) (k0_hw344 : k0_chk344 v91 v210), ∀ a x, ((![v91, v210] : Fin 2 → IVec S16 32) a x).toNat < S128x128.size a := fun v91 v210 k0_hw344 => k0_hw344

def k0_chk345 (v91 : IVec S16 32) (v212 : IVec S16 32) : Prop :=
  (∀ a x, ((![v91, v212] : Fin 2 → IVec S16 32) a x).toNat < S128x128.size a)
theorem k0_idx345_inb : ∀ (v91 : IVec S16 32) (v212 : IVec S16 32) (k0_hw345 : k0_chk345 v91 v212), ∀ a x, ((![v91, v212] : Fin 2 → IVec S16 32) a x).toNat < S128x128.size a := fun v91 v212 k0_hw345 => k0_hw345

def k0_chk346 (v91 : IVec S16 32) (v224 : IVec S16 32) : Prop :=
  (∀ a x, ((![v91, v224] : Fin 2 → IVec S16 32) a x).toNat < S128x128.size a)
theorem k0_idx346_inb : ∀ (v91 : IVec S16 32) (v224 : IVec S16 32) (k0_hw346 : k0_chk346 v91 v224), ∀ a x, ((![v91, v224] : Fin 2 → IVec S16 32) a x).toNat < S128x128.size a := fun v91 v224 k0_hw346 => k0_hw346

def k0_chk347 (v91 : IVec S16 32) (v226 : IVec S16 32) : Prop :=
  (∀ a x, ((![v91, v226] : Fin 2 → IVec S16 32) a x).toNat < S128x128.size a)
theorem k0_idx347_inb : ∀ (v91 : IVec S16 32) (v226 : IVec S16 32) (k0_hw347 : k0_chk347 v91 v226), ∀ a x, ((![v91, v226] : Fin 2 → IVec S16 32) a x).toNat < S128x128.size a := fun v91 v226 k0_hw347 => k0_hw347

def k0_chk348 (v91 : IVec S16 32) (v228 : IVec S16 32) : Prop :=
  (∀ a x, ((![v91, v228] : Fin 2 → IVec S16 32) a x).toNat < S128x128.size a)
theorem k0_idx348_inb : ∀ (v91 : IVec S16 32) (v228 : IVec S16 32) (k0_hw348 : k0_chk348 v91 v228), ∀ a x, ((![v91, v228] : Fin 2 → IVec S16 32) a x).toNat < S128x128.size a := fun v91 v228 k0_hw348 => k0_hw348

def k0_chk349 (v91 : IVec S16 32) (v231 : IVec S16 32) : Prop :=
  (∀ a x, ((![v91, v231] : Fin 2 → IVec S16 32) a x).toNat < S128x128.size a)
theorem k0_idx349_inb : ∀ (v91 : IVec S16 32) (v231 : IVec S16 32) (k0_hw349 : k0_chk349 v91 v231), ∀ a x, ((![v91, v231] : Fin 2 → IVec S16 32) a x).toNat < S128x128.size a := fun v91 v231 k0_hw349 => k0_hw349

def k0_chk350 (v91 : IVec S16 32) (v233 : IVec S16 32) : Prop :=
  (∀ a x, ((![v91, v233] : Fin 2 → IVec S16 32) a x).toNat < S128x128.size a)
theorem k0_idx350_inb : ∀ (v91 : IVec S16 32) (v233 : IVec S16 32) (k0_hw350 : k0_chk350 v91 v233), ∀ a x, ((![v91, v233] : Fin 2 → IVec S16 32) a x).toNat < S128x128.size a := fun v91 v233 k0_hw350 => k0_hw350

def k0_chk351 (v91 : IVec S16 32) (v245 : IVec S16 32) : Prop :=
  (∀ a x, ((![v91, v245] : Fin 2 → IVec S16 32) a x).toNat < S128x128.size a)
theorem k0_idx351_inb : ∀ (v91 : IVec S16 32) (v245 : IVec S16 32) (k0_hw351 : k0_chk351 v91 v245), ∀ a x, ((![v91, v245] : Fin 2 → IVec S16 32) a x).toNat < S128x128.size a := fun v91 v245 k0_hw351 => k0_hw351

def k0_chk352 (v91 : IVec S16 32) (v247 : IVec S16 32) : Prop :=
  (∀ a x, ((![v91, v247] : Fin 2 → IVec S16 32) a x).toNat < S128x128.size a)
theorem k0_idx352_inb : ∀ (v91 : IVec S16 32) (v247 : IVec S16 32) (k0_hw352 : k0_chk352 v91 v247), ∀ a x, ((![v91, v247] : Fin 2 → IVec S16 32) a x).toNat < S128x128.size a := fun v91 v247 k0_hw352 => k0_hw352

def k0_chk353 (v91 : IVec S16 32) (v249 : IVec S16 32) : Prop :=
  (∀ a x, ((![v91, v249] : Fin 2 → IVec S16 32) a x).toNat < S128x128.size a)
theorem k0_idx353_inb : ∀ (v91 : IVec S16 32) (v249 : IVec S16 32) (k0_hw353 : k0_chk353 v91 v249), ∀ a x, ((![v91, v249] : Fin 2 → IVec S16 32) a x).toNat < S128x128.size a := fun v91 v249 k0_hw353 => k0_hw353

def k0_chk354 (v91 : IVec S16 32) (v252 : IVec S16 32) : Prop :=
  (∀ a x, ((![v91, v252] : Fin 2 → IVec S16 32) a x).toNat < S128x128.size a)
theorem k0_idx354_inb : ∀ (v91 : IVec S16 32) (v252 : IVec S16 32) (k0_hw354 : k0_chk354 v91 v252), ∀ a x, ((![v91, v252] : Fin 2 → IVec S16 32) a x).toNat < S128x128.size a := fun v91 v252 k0_hw354 => k0_hw354

def k0_chk355 (v91 : IVec S16 32) (v254 : IVec S16 32) : Prop :=
  (∀ a x, ((![v91, v254] : Fin 2 → IVec S16 32) a x).toNat < S128x128.size a)
theorem k0_idx355_inb : ∀ (v91 : IVec S16 32) (v254 : IVec S16 32) (k0_hw355 : k0_chk355 v91 v254), ∀ a x, ((![v91, v254] : Fin 2 → IVec S16 32) a x).toNat < S128x128.size a := fun v91 v254 k0_hw355 => k0_hw355

def k0_chk356 (v91 : IVec S16 32) (v266 : IVec S16 32) : Prop :=
  (∀ a x, ((![v91, v266] : Fin 2 → IVec S16 32) a x).toNat < S128x128.size a)
theorem k0_idx356_inb : ∀ (v91 : IVec S16 32) (v266 : IVec S16 32) (k0_hw356 : k0_chk356 v91 v266), ∀ a x, ((![v91, v266] : Fin 2 → IVec S16 32) a x).toNat < S128x128.size a := fun v91 v266 k0_hw356 => k0_hw356

def k0_chk357 (v91 : IVec S16 32) (v268 : IVec S16 32) : Prop :=
  (∀ a x, ((![v91, v268] : Fin 2 → IVec S16 32) a x).toNat < S128x128.size a)
theorem k0_idx357_inb : ∀ (v91 : IVec S16 32) (v268 : IVec S16 32) (k0_hw357 : k0_chk357 v91 v268), ∀ a x, ((![v91, v268] : Fin 2 → IVec S16 32) a x).toNat < S128x128.size a := fun v91 v268 k0_hw357 => k0_hw357

def k0_chk358 (v91 : IVec S16 32) (v270 : IVec S16 32) : Prop :=
  (∀ a x, ((![v91, v270] : Fin 2 → IVec S16 32) a x).toNat < S128x128.size a)
theorem k0_idx358_inb : ∀ (v91 : IVec S16 32) (v270 : IVec S16 32) (k0_hw358 : k0_chk358 v91 v270), ∀ a x, ((![v91, v270] : Fin 2 → IVec S16 32) a x).toNat < S128x128.size a := fun v91 v270 k0_hw358 => k0_hw358

def k0_chk359 (v91 : IVec S16 32) (v273 : IVec S16 32) : Prop :=
  (∀ a x, ((![v91, v273] : Fin 2 → IVec S16 32) a x).toNat < S128x128.size a)
theorem k0_idx359_inb : ∀ (v91 : IVec S16 32) (v273 : IVec S16 32) (k0_hw359 : k0_chk359 v91 v273), ∀ a x, ((![v91, v273] : Fin 2 → IVec S16 32) a x).toNat < S128x128.size a := fun v91 v273 k0_hw359 => k0_hw359

def k0_chk360 (v91 : IVec S16 32) (v275 : IVec S16 32) : Prop :=
  (∀ a x, ((![v91, v275] : Fin 2 → IVec S16 32) a x).toNat < S128x128.size a)
theorem k0_idx360_inb : ∀ (v91 : IVec S16 32) (v275 : IVec S16 32) (k0_hw360 : k0_chk360 v91 v275), ∀ a x, ((![v91, v275] : Fin 2 → IVec S16 32) a x).toNat < S128x128.size a := fun v91 v275 k0_hw360 => k0_hw360

def k0_chk361 (v91 : IVec S16 32) (v287 : IVec S16 32) : Prop :=
  (∀ a x, ((![v91, v287] : Fin 2 → IVec S16 32) a x).toNat < S128x128.size a)
theorem k0_idx361_inb : ∀ (v91 : IVec S16 32) (v287 : IVec S16 32) (k0_hw361 : k0_chk361 v91 v287), ∀ a x, ((![v91, v287] : Fin 2 → IVec S16 32) a x).toNat < S128x128.size a := fun v91 v287 k0_hw361 => k0_hw361

def k0_chk362 (v91 : IVec S16 32) (v289 : IVec S16 32) : Prop :=
  (∀ a x, ((![v91, v289] : Fin 2 → IVec S16 32) a x).toNat < S128x128.size a)
theorem k0_idx362_inb : ∀ (v91 : IVec S16 32) (v289 : IVec S16 32) (k0_hw362 : k0_chk362 v91 v289), ∀ a x, ((![v91, v289] : Fin 2 → IVec S16 32) a x).toNat < S128x128.size a := fun v91 v289 k0_hw362 => k0_hw362

def k0_chk363 (v91 : IVec S16 32) (v291 : IVec S16 32) : Prop :=
  (∀ a x, ((![v91, v291] : Fin 2 → IVec S16 32) a x).toNat < S128x128.size a)
theorem k0_idx363_inb : ∀ (v91 : IVec S16 32) (v291 : IVec S16 32) (k0_hw363 : k0_chk363 v91 v291), ∀ a x, ((![v91, v291] : Fin 2 → IVec S16 32) a x).toNat < S128x128.size a := fun v91 v291 k0_hw363 => k0_hw363

def k0_chk364 (v91 : IVec S16 32) (v294 : IVec S16 32) : Prop :=
  (∀ a x, ((![v91, v294] : Fin 2 → IVec S16 32) a x).toNat < S128x128.size a)
theorem k0_idx364_inb : ∀ (v91 : IVec S16 32) (v294 : IVec S16 32) (k0_hw364 : k0_chk364 v91 v294), ∀ a x, ((![v91, v294] : Fin 2 → IVec S16 32) a x).toNat < S128x128.size a := fun v91 v294 k0_hw364 => k0_hw364

def k0_chk365 (v91 : IVec S16 32) (v296 : IVec S16 32) : Prop :=
  (∀ a x, ((![v91, v296] : Fin 2 → IVec S16 32) a x).toNat < S128x128.size a)
theorem k0_idx365_inb : ∀ (v91 : IVec S16 32) (v296 : IVec S16 32) (k0_hw365 : k0_chk365 v91 v296), ∀ a x, ((![v91, v296] : Fin 2 → IVec S16 32) a x).toNat < S128x128.size a := fun v91 v296 k0_hw365 => k0_hw365

def k0_chk366 (v91 : IVec S16 32) (v308 : IVec S16 32) : Prop :=
  (∀ a x, ((![v91, v308] : Fin 2 → IVec S16 32) a x).toNat < S128x128.size a)
theorem k0_idx366_inb : ∀ (v91 : IVec S16 32) (v308 : IVec S16 32) (k0_hw366 : k0_chk366 v91 v308), ∀ a x, ((![v91, v308] : Fin 2 → IVec S16 32) a x).toNat < S128x128.size a := fun v91 v308 k0_hw366 => k0_hw366

def k0_chk367 (v91 : IVec S16 32) (v310 : IVec S16 32) : Prop :=
  (∀ a x, ((![v91, v310] : Fin 2 → IVec S16 32) a x).toNat < S128x128.size a)
theorem k0_idx367_inb : ∀ (v91 : IVec S16 32) (v310 : IVec S16 32) (k0_hw367 : k0_chk367 v91 v310), ∀ a x, ((![v91, v310] : Fin 2 → IVec S16 32) a x).toNat < S128x128.size a := fun v91 v310 k0_hw367 => k0_hw367

def k0_chk368 (v91 : IVec S16 32) (v312 : IVec S16 32) : Prop :=
  (∀ a x, ((![v91, v312] : Fin 2 → IVec S16 32) a x).toNat < S128x128.size a)
theorem k0_idx368_inb : ∀ (v91 : IVec S16 32) (v312 : IVec S16 32) (k0_hw368 : k0_chk368 v91 v312), ∀ a x, ((![v91, v312] : Fin 2 → IVec S16 32) a x).toNat < S128x128.size a := fun v91 v312 k0_hw368 => k0_hw368

def k0_chk369 (v91 : IVec S16 32) (v315 : IVec S16 32) : Prop :=
  (∀ a x, ((![v91, v315] : Fin 2 → IVec S16 32) a x).toNat < S128x128.size a)
theorem k0_idx369_inb : ∀ (v91 : IVec S16 32) (v315 : IVec S16 32) (k0_hw369 : k0_chk369 v91 v315), ∀ a x, ((![v91, v315] : Fin 2 → IVec S16 32) a x).toNat < S128x128.size a := fun v91 v315 k0_hw369 => k0_hw369

def k0_chk370 (v91 : IVec S16 32) (v317 : IVec S16 32) : Prop :=
  (∀ a x, ((![v91, v317] : Fin 2 → IVec S16 32) a x).toNat < S128x128.size a)
theorem k0_idx370_inb : ∀ (v91 : IVec S16 32) (v317 : IVec S16 32) (k0_hw370 : k0_chk370 v91 v317), ∀ a x, ((![v91, v317] : Fin 2 → IVec S16 32) a x).toNat < S128x128.size a := fun v91 v317 k0_hw370 => k0_hw370

def k0_chk371 (v91 : IVec S16 32) (v329 : IVec S16 32) : Prop :=
  (∀ a x, ((![v91, v329] : Fin 2 → IVec S16 32) a x).toNat < S128x128.size a)
theorem k0_idx371_inb : ∀ (v91 : IVec S16 32) (v329 : IVec S16 32) (k0_hw371 : k0_chk371 v91 v329), ∀ a x, ((![v91, v329] : Fin 2 → IVec S16 32) a x).toNat < S128x128.size a := fun v91 v329 k0_hw371 => k0_hw371

def k0_chk372 (v91 : IVec S16 32) (v331 : IVec S16 32) : Prop :=
  (∀ a x, ((![v91, v331] : Fin 2 → IVec S16 32) a x).toNat < S128x128.size a)
theorem k0_idx372_inb : ∀ (v91 : IVec S16 32) (v331 : IVec S16 32) (k0_hw372 : k0_chk372 v91 v331), ∀ a x, ((![v91, v331] : Fin 2 → IVec S16 32) a x).toNat < S128x128.size a := fun v91 v331 k0_hw372 => k0_hw372

def k0_chk373 (v91 : IVec S16 32) (v333 : IVec S16 32) : Prop :=
  (∀ a x, ((![v91, v333] : Fin 2 → IVec S16 32) a x).toNat < S128x128.size a)
theorem k0_idx373_inb : ∀ (v91 : IVec S16 32) (v333 : IVec S16 32) (k0_hw373 : k0_chk373 v91 v333), ∀ a x, ((![v91, v333] : Fin 2 → IVec S16 32) a x).toNat < S128x128.size a := fun v91 v333 k0_hw373 => k0_hw373

def k0_chk374 (v91 : IVec S16 32) (v336 : IVec S16 32) : Prop :=
  (∀ a x, ((![v91, v336] : Fin 2 → IVec S16 32) a x).toNat < S128x128.size a)
theorem k0_idx374_inb : ∀ (v91 : IVec S16 32) (v336 : IVec S16 32) (k0_hw374 : k0_chk374 v91 v336), ∀ a x, ((![v91, v336] : Fin 2 → IVec S16 32) a x).toNat < S128x128.size a := fun v91 v336 k0_hw374 => k0_hw374

def k0_chk375 (v91 : IVec S16 32) (v338 : IVec S16 32) : Prop :=
  (∀ a x, ((![v91, v338] : Fin 2 → IVec S16 32) a x).toNat < S128x128.size a)
theorem k0_idx375_inb : ∀ (v91 : IVec S16 32) (v338 : IVec S16 32) (k0_hw375 : k0_chk375 v91 v338), ∀ a x, ((![v91, v338] : Fin 2 → IVec S16 32) a x).toNat < S128x128.size a := fun v91 v338 k0_hw375 => k0_hw375

def k0_chk376 (v91 : IVec S16 32) (v350 : IVec S16 32) : Prop :=
  (∀ a x, ((![v91, v350] : Fin 2 → IVec S16 32) a x).toNat < S128x128.size a)
theorem k0_idx376_inb : ∀ (v91 : IVec S16 32) (v350 : IVec S16 32) (k0_hw376 : k0_chk376 v91 v350), ∀ a x, ((![v91, v350] : Fin 2 → IVec S16 32) a x).toNat < S128x128.size a := fun v91 v350 k0_hw376 => k0_hw376

def k0_chk377 (v91 : IVec S16 32) (v352 : IVec S16 32) : Prop :=
  (∀ a x, ((![v91, v352] : Fin 2 → IVec S16 32) a x).toNat < S128x128.size a)
theorem k0_idx377_inb : ∀ (v91 : IVec S16 32) (v352 : IVec S16 32) (k0_hw377 : k0_chk377 v91 v352), ∀ a x, ((![v91, v352] : Fin 2 → IVec S16 32) a x).toNat < S128x128.size a := fun v91 v352 k0_hw377 => k0_hw377

def k0_chk378 (v91 : IVec S16 32) (v354 : IVec S16 32) : Prop :=
  (∀ a x, ((![v91, v354] : Fin 2 → IVec S16 32) a x).toNat < S128x128.size a)
theorem k0_idx378_inb : ∀ (v91 : IVec S16 32) (v354 : IVec S16 32) (k0_hw378 : k0_chk378 v91 v354), ∀ a x, ((![v91, v354] : Fin 2 → IVec S16 32) a x).toNat < S128x128.size a := fun v91 v354 k0_hw378 => k0_hw378

def k0_chk379 (v91 : IVec S16 32) (v357 : IVec S16 32) : Prop :=
  (∀ a x, ((![v91, v357] : Fin 2 → IVec S16 32) a x).toNat < S128x128.size a)
theorem k0_idx379_inb : ∀ (v91 : IVec S16 32) (v357 : IVec S16 32) (k0_hw379 : k0_chk379 v91 v357), ∀ a x, ((![v91, v357] : Fin 2 → IVec S16 32) a x).toNat < S128x128.size a := fun v91 v357 k0_hw379 => k0_hw379

def k0_chk380 (v91 : IVec S16 32) (v359 : IVec S16 32) : Prop :=
  (∀ a x, ((![v91, v359] : Fin 2 → IVec S16 32) a x).toNat < S128x128.size a)
theorem k0_idx380_inb : ∀ (v91 : IVec S16 32) (v359 : IVec S16 32) (k0_hw380 : k0_chk380 v91 v359), ∀ a x, ((![v91, v359] : Fin 2 → IVec S16 32) a x).toNat < S128x128.size a := fun v91 v359 k0_hw380 => k0_hw380

def k0_chk381 (v91 : IVec S16 32) (v371 : IVec S16 32) : Prop :=
  (∀ a x, ((![v91, v371] : Fin 2 → IVec S16 32) a x).toNat < S128x128.size a)
theorem k0_idx381_inb : ∀ (v91 : IVec S16 32) (v371 : IVec S16 32) (k0_hw381 : k0_chk381 v91 v371), ∀ a x, ((![v91, v371] : Fin 2 → IVec S16 32) a x).toNat < S128x128.size a := fun v91 v371 k0_hw381 => k0_hw381

def k0_chk382 (v91 : IVec S16 32) (v373 : IVec S16 32) : Prop :=
  (∀ a x, ((![v91, v373] : Fin 2 → IVec S16 32) a x).toNat < S128x128.size a)
theorem k0_idx382_inb : ∀ (v91 : IVec S16 32) (v373 : IVec S16 32) (k0_hw382 : k0_chk382 v91 v373), ∀ a x, ((![v91, v373] : Fin 2 → IVec S16 32) a x).toNat < S128x128.size a := fun v91 v373 k0_hw382 => k0_hw382

def k0_chk383 (v91 : IVec S16 32) (v375 : IVec S16 32) : Prop :=
  (∀ a x, ((![v91, v375] : Fin 2 → IVec S16 32) a x).toNat < S128x128.size a)
theorem k0_idx383_inb : ∀ (v91 : IVec S16 32) (v375 : IVec S16 32) (k0_hw383 : k0_chk383 v91 v375), ∀ a x, ((![v91, v375] : Fin 2 → IVec S16 32) a x).toNat < S128x128.size a := fun v91 v375 k0_hw383 => k0_hw383

def k0_chk384 (v91 : IVec S16 32) (v378 : IVec S16 32) : Prop :=
  (∀ a x, ((![v91, v378] : Fin 2 → IVec S16 32) a x).toNat < S128x128.size a)
theorem k0_idx384_inb : ∀ (v91 : IVec S16 32) (v378 : IVec S16 32) (k0_hw384 : k0_chk384 v91 v378), ∀ a x, ((![v91, v378] : Fin 2 → IVec S16 32) a x).toNat < S128x128.size a := fun v91 v378 k0_hw384 => k0_hw384

def k0_chk385 (v91 : IVec S16 32) (v380 : IVec S16 32) : Prop :=
  (∀ a x, ((![v91, v380] : Fin 2 → IVec S16 32) a x).toNat < S128x128.size a)
theorem k0_idx385_inb : ∀ (v91 : IVec S16 32) (v380 : IVec S16 32) (k0_hw385 : k0_chk385 v91 v380), ∀ a x, ((![v91, v380] : Fin 2 → IVec S16 32) a x).toNat < S128x128.size a := fun v91 v380 k0_hw385 => k0_hw385

def k0_chk386 (v91 : IVec S16 32) (v392 : IVec S16 32) : Prop :=
  (∀ a x, ((![v91, v392] : Fin 2 → IVec S16 32) a x).toNat < S128x128.size a)
theorem k0_idx386_inb : ∀ (v91 : IVec S16 32) (v392 : IVec S16 32) (k0_hw386 : k0_chk386 v91 v392), ∀ a x, ((![v91, v392] : Fin 2 → IVec S16 32) a x).toNat < S128x128.size a := fun v91 v392 k0_hw386 => k0_hw386

def k0_chk387 (v91 : IVec S16 32) (v394 : IVec S16 32) : Prop :=
  (∀ a x, ((![v91, v394] : Fin 2 → IVec S16 32) a x).toNat < S128x128.size a)
theorem k0_idx387_inb : ∀ (v91 : IVec S16 32) (v394 : IVec S16 32) (k0_hw387 : k0_chk387 v91 v394), ∀ a x, ((![v91, v394] : Fin 2 → IVec S16 32) a x).toNat < S128x128.size a := fun v91 v394 k0_hw387 => k0_hw387

def k0_chk388 (v91 : IVec S16 32) (v396 : IVec S16 32) : Prop :=
  (∀ a x, ((![v91, v396] : Fin 2 → IVec S16 32) a x).toNat < S128x128.size a)
theorem k0_idx388_inb : ∀ (v91 : IVec S16 32) (v396 : IVec S16 32) (k0_hw388 : k0_chk388 v91 v396), ∀ a x, ((![v91, v396] : Fin 2 → IVec S16 32) a x).toNat < S128x128.size a := fun v91 v396 k0_hw388 => k0_hw388

def k0_chk389 (v91 : IVec S16 32) (v399 : IVec S16 32) : Prop :=
  (∀ a x, ((![v91, v399] : Fin 2 → IVec S16 32) a x).toNat < S128x128.size a)
theorem k0_idx389_inb : ∀ (v91 : IVec S16 32) (v399 : IVec S16 32) (k0_hw389 : k0_chk389 v91 v399), ∀ a x, ((![v91, v399] : Fin 2 → IVec S16 32) a x).toNat < S128x128.size a := fun v91 v399 k0_hw389 => k0_hw389

def k0_chk390 (v91 : IVec S16 32) (v401 : IVec S16 32) : Prop :=
  (∀ a x, ((![v91, v401] : Fin 2 → IVec S16 32) a x).toNat < S128x128.size a)
theorem k0_idx390_inb : ∀ (v91 : IVec S16 32) (v401 : IVec S16 32) (k0_hw390 : k0_chk390 v91 v401), ∀ a x, ((![v91, v401] : Fin 2 → IVec S16 32) a x).toNat < S128x128.size a := fun v91 v401 k0_hw390 => k0_hw390

def k0_chk391 (v91 : IVec S16 32) (v413 : IVec S16 32) : Prop :=
  (∀ a x, ((![v91, v413] : Fin 2 → IVec S16 32) a x).toNat < S128x128.size a)
theorem k0_idx391_inb : ∀ (v91 : IVec S16 32) (v413 : IVec S16 32) (k0_hw391 : k0_chk391 v91 v413), ∀ a x, ((![v91, v413] : Fin 2 → IVec S16 32) a x).toNat < S128x128.size a := fun v91 v413 k0_hw391 => k0_hw391

def k0_chk392 (v91 : IVec S16 32) (v415 : IVec S16 32) : Prop :=
  (∀ a x, ((![v91, v415] : Fin 2 → IVec S16 32) a x).toNat < S128x128.size a)
theorem k0_idx392_inb : ∀ (v91 : IVec S16 32) (v415 : IVec S16 32) (k0_hw392 : k0_chk392 v91 v415), ∀ a x, ((![v91, v415] : Fin 2 → IVec S16 32) a x).toNat < S128x128.size a := fun v91 v415 k0_hw392 => k0_hw392

def k0_chk393 (v91 : IVec S16 32) (v417 : IVec S16 32) : Prop :=
  (∀ a x, ((![v91, v417] : Fin 2 → IVec S16 32) a x).toNat < S128x128.size a)
theorem k0_idx393_inb : ∀ (v91 : IVec S16 32) (v417 : IVec S16 32) (k0_hw393 : k0_chk393 v91 v417), ∀ a x, ((![v91, v417] : Fin 2 → IVec S16 32) a x).toNat < S128x128.size a := fun v91 v417 k0_hw393 => k0_hw393

def k0_chk394 (v91 : IVec S16 32) (v420 : IVec S16 32) : Prop :=
  (∀ a x, ((![v91, v420] : Fin 2 → IVec S16 32) a x).toNat < S128x128.size a)
theorem k0_idx394_inb : ∀ (v91 : IVec S16 32) (v420 : IVec S16 32) (k0_hw394 : k0_chk394 v91 v420), ∀ a x, ((![v91, v420] : Fin 2 → IVec S16 32) a x).toNat < S128x128.size a := fun v91 v420 k0_hw394 => k0_hw394

def k0_chk395 (v91 : IVec S16 32) (v422 : IVec S16 32) : Prop :=
  (∀ a x, ((![v91, v422] : Fin 2 → IVec S16 32) a x).toNat < S128x128.size a)
theorem k0_idx395_inb : ∀ (v91 : IVec S16 32) (v422 : IVec S16 32) (k0_hw395 : k0_chk395 v91 v422), ∀ a x, ((![v91, v422] : Fin 2 → IVec S16 32) a x).toNat < S128x128.size a := fun v91 v422 k0_hw395 => k0_hw395

def k0_chk396 (v91 : IVec S16 32) (v434 : IVec S16 32) : Prop :=
  (∀ a x, ((![v91, v434] : Fin 2 → IVec S16 32) a x).toNat < S128x128.size a)
theorem k0_idx396_inb : ∀ (v91 : IVec S16 32) (v434 : IVec S16 32) (k0_hw396 : k0_chk396 v91 v434), ∀ a x, ((![v91, v434] : Fin 2 → IVec S16 32) a x).toNat < S128x128.size a := fun v91 v434 k0_hw396 => k0_hw396

def k0_chk397 (v91 : IVec S16 32) (v436 : IVec S16 32) : Prop :=
  (∀ a x, ((![v91, v436] : Fin 2 → IVec S16 32) a x).toNat < S128x128.size a)
theorem k0_idx397_inb : ∀ (v91 : IVec S16 32) (v436 : IVec S16 32) (k0_hw397 : k0_chk397 v91 v436), ∀ a x, ((![v91, v436] : Fin 2 → IVec S16 32) a x).toNat < S128x128.size a := fun v91 v436 k0_hw397 => k0_hw397

def k0_chk398 (v91 : IVec S16 32) (v438 : IVec S16 32) : Prop :=
  (∀ a x, ((![v91, v438] : Fin 2 → IVec S16 32) a x).toNat < S128x128.size a)
theorem k0_idx398_inb : ∀ (v91 : IVec S16 32) (v438 : IVec S16 32) (k0_hw398 : k0_chk398 v91 v438), ∀ a x, ((![v91, v438] : Fin 2 → IVec S16 32) a x).toNat < S128x128.size a := fun v91 v438 k0_hw398 => k0_hw398

def k0_chk399 (v91 : IVec S16 32) (v441 : IVec S16 32) : Prop :=
  (∀ a x, ((![v91, v441] : Fin 2 → IVec S16 32) a x).toNat < S128x128.size a)
theorem k0_idx399_inb : ∀ (v91 : IVec S16 32) (v441 : IVec S16 32) (k0_hw399 : k0_chk399 v91 v441), ∀ a x, ((![v91, v441] : Fin 2 → IVec S16 32) a x).toNat < S128x128.size a := fun v91 v441 k0_hw399 => k0_hw399

def k0_chk400 (v91 : IVec S16 32) (v443 : IVec S16 32) : Prop :=
  (∀ a x, ((![v91, v443] : Fin 2 → IVec S16 32) a x).toNat < S128x128.size a)
theorem k0_idx400_inb : ∀ (v91 : IVec S16 32) (v443 : IVec S16 32) (k0_hw400 : k0_chk400 v91 v443), ∀ a x, ((![v91, v443] : Fin 2 → IVec S16 32) a x).toNat < S128x128.size a := fun v91 v443 k0_hw400 => k0_hw400

def k0_chk401 (v91 : IVec S16 32) (v455 : IVec S16 32) : Prop :=
  (∀ a x, ((![v91, v455] : Fin 2 → IVec S16 32) a x).toNat < S128x128.size a)
theorem k0_idx401_inb : ∀ (v91 : IVec S16 32) (v455 : IVec S16 32) (k0_hw401 : k0_chk401 v91 v455), ∀ a x, ((![v91, v455] : Fin 2 → IVec S16 32) a x).toNat < S128x128.size a := fun v91 v455 k0_hw401 => k0_hw401

def k0_chk402 (v91 : IVec S16 32) (v457 : IVec S16 32) : Prop :=
  (∀ a x, ((![v91, v457] : Fin 2 → IVec S16 32) a x).toNat < S128x128.size a)
theorem k0_idx402_inb : ∀ (v91 : IVec S16 32) (v457 : IVec S16 32) (k0_hw402 : k0_chk402 v91 v457), ∀ a x, ((![v91, v457] : Fin 2 → IVec S16 32) a x).toNat < S128x128.size a := fun v91 v457 k0_hw402 => k0_hw402

def k0_chk403 (v91 : IVec S16 32) (v459 : IVec S16 32) : Prop :=
  (∀ a x, ((![v91, v459] : Fin 2 → IVec S16 32) a x).toNat < S128x128.size a)
theorem k0_idx403_inb : ∀ (v91 : IVec S16 32) (v459 : IVec S16 32) (k0_hw403 : k0_chk403 v91 v459), ∀ a x, ((![v91, v459] : Fin 2 → IVec S16 32) a x).toNat < S128x128.size a := fun v91 v459 k0_hw403 => k0_hw403

def k0_chk404 (v91 : IVec S16 32) (v462 : IVec S16 32) : Prop :=
  (∀ a x, ((![v91, v462] : Fin 2 → IVec S16 32) a x).toNat < S128x128.size a)
theorem k0_idx404_inb : ∀ (v91 : IVec S16 32) (v462 : IVec S16 32) (k0_hw404 : k0_chk404 v91 v462), ∀ a x, ((![v91, v462] : Fin 2 → IVec S16 32) a x).toNat < S128x128.size a := fun v91 v462 k0_hw404 => k0_hw404

def k0_chk405 (v91 : IVec S16 32) (v464 : IVec S16 32) : Prop :=
  (∀ a x, ((![v91, v464] : Fin 2 → IVec S16 32) a x).toNat < S128x128.size a)
theorem k0_idx405_inb : ∀ (v91 : IVec S16 32) (v464 : IVec S16 32) (k0_hw405 : k0_chk405 v91 v464), ∀ a x, ((![v91, v464] : Fin 2 → IVec S16 32) a x).toNat < S128x128.size a := fun v91 v464 k0_hw405 => k0_hw405

def k0_chk406 (v91 : IVec S16 32) (v476 : IVec S16 32) : Prop :=
  (∀ a x, ((![v91, v476] : Fin 2 → IVec S16 32) a x).toNat < S128x128.size a)
theorem k0_idx406_inb : ∀ (v91 : IVec S16 32) (v476 : IVec S16 32) (k0_hw406 : k0_chk406 v91 v476), ∀ a x, ((![v91, v476] : Fin 2 → IVec S16 32) a x).toNat < S128x128.size a := fun v91 v476 k0_hw406 => k0_hw406

def k0_chk407 (v91 : IVec S16 32) (v478 : IVec S16 32) : Prop :=
  (∀ a x, ((![v91, v478] : Fin 2 → IVec S16 32) a x).toNat < S128x128.size a)
theorem k0_idx407_inb : ∀ (v91 : IVec S16 32) (v478 : IVec S16 32) (k0_hw407 : k0_chk407 v91 v478), ∀ a x, ((![v91, v478] : Fin 2 → IVec S16 32) a x).toNat < S128x128.size a := fun v91 v478 k0_hw407 => k0_hw407

def k0_chk408 (v91 : IVec S16 32) (v480 : IVec S16 32) : Prop :=
  (∀ a x, ((![v91, v480] : Fin 2 → IVec S16 32) a x).toNat < S128x128.size a)
theorem k0_idx408_inb : ∀ (v91 : IVec S16 32) (v480 : IVec S16 32) (k0_hw408 : k0_chk408 v91 v480), ∀ a x, ((![v91, v480] : Fin 2 → IVec S16 32) a x).toNat < S128x128.size a := fun v91 v480 k0_hw408 => k0_hw408

def k0_chk409 (v91 : IVec S16 32) (v483 : IVec S16 32) : Prop :=
  (∀ a x, ((![v91, v483] : Fin 2 → IVec S16 32) a x).toNat < S128x128.size a)
theorem k0_idx409_inb : ∀ (v91 : IVec S16 32) (v483 : IVec S16 32) (k0_hw409 : k0_chk409 v91 v483), ∀ a x, ((![v91, v483] : Fin 2 → IVec S16 32) a x).toNat < S128x128.size a := fun v91 v483 k0_hw409 => k0_hw409

def k0_chk410 (v91 : IVec S16 32) (v485 : IVec S16 32) : Prop :=
  (∀ a x, ((![v91, v485] : Fin 2 → IVec S16 32) a x).toNat < S128x128.size a)
theorem k0_idx410_inb : ∀ (v91 : IVec S16 32) (v485 : IVec S16 32) (k0_hw410 : k0_chk410 v91 v485), ∀ a x, ((![v91, v485] : Fin 2 → IVec S16 32) a x).toNat < S128x128.size a := fun v91 v485 k0_hw410 => k0_hw410

def k0_chk411 (v91 : IVec S16 32) (v497 : IVec S16 32) : Prop :=
  (∀ a x, ((![v91, v497] : Fin 2 → IVec S16 32) a x).toNat < S128x128.size a)
theorem k0_idx411_inb : ∀ (v91 : IVec S16 32) (v497 : IVec S16 32) (k0_hw411 : k0_chk411 v91 v497), ∀ a x, ((![v91, v497] : Fin 2 → IVec S16 32) a x).toNat < S128x128.size a := fun v91 v497 k0_hw411 => k0_hw411

def k0_chk412 (v91 : IVec S16 32) (v499 : IVec S16 32) : Prop :=
  (∀ a x, ((![v91, v499] : Fin 2 → IVec S16 32) a x).toNat < S128x128.size a)
theorem k0_idx412_inb : ∀ (v91 : IVec S16 32) (v499 : IVec S16 32) (k0_hw412 : k0_chk412 v91 v499), ∀ a x, ((![v91, v499] : Fin 2 → IVec S16 32) a x).toNat < S128x128.size a := fun v91 v499 k0_hw412 => k0_hw412

def k0_chk413 (v91 : IVec S16 32) (v501 : IVec S16 32) : Prop :=
  (∀ a x, ((![v91, v501] : Fin 2 → IVec S16 32) a x).toNat < S128x128.size a)
theorem k0_idx413_inb : ∀ (v91 : IVec S16 32) (v501 : IVec S16 32) (k0_hw413 : k0_chk413 v91 v501), ∀ a x, ((![v91, v501] : Fin 2 → IVec S16 32) a x).toNat < S128x128.size a := fun v91 v501 k0_hw413 => k0_hw413

def k0_chk414 (v91 : IVec S16 32) (v504 : IVec S16 32) : Prop :=
  (∀ a x, ((![v91, v504] : Fin 2 → IVec S16 32) a x).toNat < S128x128.size a)
theorem k0_idx414_inb : ∀ (v91 : IVec S16 32) (v504 : IVec S16 32) (k0_hw414 : k0_chk414 v91 v504), ∀ a x, ((![v91, v504] : Fin 2 → IVec S16 32) a x).toNat < S128x128.size a := fun v91 v504 k0_hw414 => k0_hw414

def k0_chk415 (v91 : IVec S16 32) (v506 : IVec S16 32) : Prop :=
  (∀ a x, ((![v91, v506] : Fin 2 → IVec S16 32) a x).toNat < S128x128.size a)
theorem k0_idx415_inb : ∀ (v91 : IVec S16 32) (v506 : IVec S16 32) (k0_hw415 : k0_chk415 v91 v506), ∀ a x, ((![v91, v506] : Fin 2 → IVec S16 32) a x).toNat < S128x128.size a := fun v91 v506 k0_hw415 => k0_hw415

def k0_chk416 (v91 : IVec S16 32) (v518 : IVec S16 32) : Prop :=
  (∀ a x, ((![v91, v518] : Fin 2 → IVec S16 32) a x).toNat < S128x128.size a)
theorem k0_idx416_inb : ∀ (v91 : IVec S16 32) (v518 : IVec S16 32) (k0_hw416 : k0_chk416 v91 v518), ∀ a x, ((![v91, v518] : Fin 2 → IVec S16 32) a x).toNat < S128x128.size a := fun v91 v518 k0_hw416 => k0_hw416

def k0_chk417 (v91 : IVec S16 32) (v520 : IVec S16 32) : Prop :=
  (∀ a x, ((![v91, v520] : Fin 2 → IVec S16 32) a x).toNat < S128x128.size a)
theorem k0_idx417_inb : ∀ (v91 : IVec S16 32) (v520 : IVec S16 32) (k0_hw417 : k0_chk417 v91 v520), ∀ a x, ((![v91, v520] : Fin 2 → IVec S16 32) a x).toNat < S128x128.size a := fun v91 v520 k0_hw417 => k0_hw417

def k0_chk418 (v91 : IVec S16 32) (v522 : IVec S16 32) : Prop :=
  (∀ a x, ((![v91, v522] : Fin 2 → IVec S16 32) a x).toNat < S128x128.size a)
theorem k0_idx418_inb : ∀ (v91 : IVec S16 32) (v522 : IVec S16 32) (k0_hw418 : k0_chk418 v91 v522), ∀ a x, ((![v91, v522] : Fin 2 → IVec S16 32) a x).toNat < S128x128.size a := fun v91 v522 k0_hw418 => k0_hw418

def k0_chk419 (v91 : IVec S16 32) (v525 : IVec S16 32) : Prop :=
  (∀ a x, ((![v91, v525] : Fin 2 → IVec S16 32) a x).toNat < S128x128.size a)
theorem k0_idx419_inb : ∀ (v91 : IVec S16 32) (v525 : IVec S16 32) (k0_hw419 : k0_chk419 v91 v525), ∀ a x, ((![v91, v525] : Fin 2 → IVec S16 32) a x).toNat < S128x128.size a := fun v91 v525 k0_hw419 => k0_hw419

def k0_chk420 (v91 : IVec S16 32) (v527 : IVec S16 32) : Prop :=
  (∀ a x, ((![v91, v527] : Fin 2 → IVec S16 32) a x).toNat < S128x128.size a)
theorem k0_idx420_inb : ∀ (v91 : IVec S16 32) (v527 : IVec S16 32) (k0_hw420 : k0_chk420 v91 v527), ∀ a x, ((![v91, v527] : Fin 2 → IVec S16 32) a x).toNat < S128x128.size a := fun v91 v527 k0_hw420 => k0_hw420

def k0_chk421 (v91 : IVec S16 32) (v539 : IVec S16 32) : Prop :=
  (∀ a x, ((![v91, v539] : Fin 2 → IVec S16 32) a x).toNat < S128x128.size a)
theorem k0_idx421_inb : ∀ (v91 : IVec S16 32) (v539 : IVec S16 32) (k0_hw421 : k0_chk421 v91 v539), ∀ a x, ((![v91, v539] : Fin 2 → IVec S16 32) a x).toNat < S128x128.size a := fun v91 v539 k0_hw421 => k0_hw421

def k0_chk422 (v91 : IVec S16 32) (v541 : IVec S16 32) : Prop :=
  (∀ a x, ((![v91, v541] : Fin 2 → IVec S16 32) a x).toNat < S128x128.size a)
theorem k0_idx422_inb : ∀ (v91 : IVec S16 32) (v541 : IVec S16 32) (k0_hw422 : k0_chk422 v91 v541), ∀ a x, ((![v91, v541] : Fin 2 → IVec S16 32) a x).toNat < S128x128.size a := fun v91 v541 k0_hw422 => k0_hw422

def k0_chk423 (v91 : IVec S16 32) (v543 : IVec S16 32) : Prop :=
  (∀ a x, ((![v91, v543] : Fin 2 → IVec S16 32) a x).toNat < S128x128.size a)
theorem k0_idx423_inb : ∀ (v91 : IVec S16 32) (v543 : IVec S16 32) (k0_hw423 : k0_chk423 v91 v543), ∀ a x, ((![v91, v543] : Fin 2 → IVec S16 32) a x).toNat < S128x128.size a := fun v91 v543 k0_hw423 => k0_hw423

def k0_chk424 (v91 : IVec S16 32) (v546 : IVec S16 32) : Prop :=
  (∀ a x, ((![v91, v546] : Fin 2 → IVec S16 32) a x).toNat < S128x128.size a)
theorem k0_idx424_inb : ∀ (v91 : IVec S16 32) (v546 : IVec S16 32) (k0_hw424 : k0_chk424 v91 v546), ∀ a x, ((![v91, v546] : Fin 2 → IVec S16 32) a x).toNat < S128x128.size a := fun v91 v546 k0_hw424 => k0_hw424

def k0_chk425 (v91 : IVec S16 32) (v548 : IVec S16 32) : Prop :=
  (∀ a x, ((![v91, v548] : Fin 2 → IVec S16 32) a x).toNat < S128x128.size a)
theorem k0_idx425_inb : ∀ (v91 : IVec S16 32) (v548 : IVec S16 32) (k0_hw425 : k0_chk425 v91 v548), ∀ a x, ((![v91, v548] : Fin 2 → IVec S16 32) a x).toNat < S128x128.size a := fun v91 v548 k0_hw425 => k0_hw425

def k0_chk426 (v91 : IVec S16 32) (v560 : IVec S16 32) : Prop :=
  (∀ a x, ((![v91, v560] : Fin 2 → IVec S16 32) a x).toNat < S128x128.size a)
theorem k0_idx426_inb : ∀ (v91 : IVec S16 32) (v560 : IVec S16 32) (k0_hw426 : k0_chk426 v91 v560), ∀ a x, ((![v91, v560] : Fin 2 → IVec S16 32) a x).toNat < S128x128.size a := fun v91 v560 k0_hw426 => k0_hw426

def k0_chk427 (v91 : IVec S16 32) (v562 : IVec S16 32) : Prop :=
  (∀ a x, ((![v91, v562] : Fin 2 → IVec S16 32) a x).toNat < S128x128.size a)
theorem k0_idx427_inb : ∀ (v91 : IVec S16 32) (v562 : IVec S16 32) (k0_hw427 : k0_chk427 v91 v562), ∀ a x, ((![v91, v562] : Fin 2 → IVec S16 32) a x).toNat < S128x128.size a := fun v91 v562 k0_hw427 => k0_hw427

def k0_chk428 (v91 : IVec S16 32) (v564 : IVec S16 32) : Prop :=
  (∀ a x, ((![v91, v564] : Fin 2 → IVec S16 32) a x).toNat < S128x128.size a)
theorem k0_idx428_inb : ∀ (v91 : IVec S16 32) (v564 : IVec S16 32) (k0_hw428 : k0_chk428 v91 v564), ∀ a x, ((![v91, v564] : Fin 2 → IVec S16 32) a x).toNat < S128x128.size a := fun v91 v564 k0_hw428 => k0_hw428

def k0_chk429 (v91 : IVec S16 32) (v567 : IVec S16 32) : Prop :=
  (∀ a x, ((![v91, v567] : Fin 2 → IVec S16 32) a x).toNat < S128x128.size a)
theorem k0_idx429_inb : ∀ (v91 : IVec S16 32) (v567 : IVec S16 32) (k0_hw429 : k0_chk429 v91 v567), ∀ a x, ((![v91, v567] : Fin 2 → IVec S16 32) a x).toNat < S128x128.size a := fun v91 v567 k0_hw429 => k0_hw429

def k0_chk430 (v91 : IVec S16 32) (v569 : IVec S16 32) : Prop :=
  (∀ a x, ((![v91, v569] : Fin 2 → IVec S16 32) a x).toNat < S128x128.size a)
theorem k0_idx430_inb : ∀ (v91 : IVec S16 32) (v569 : IVec S16 32) (k0_hw430 : k0_chk430 v91 v569), ∀ a x, ((![v91, v569] : Fin 2 → IVec S16 32) a x).toNat < S128x128.size a := fun v91 v569 k0_hw430 => k0_hw430

def k0_chk431 (v91 : IVec S16 32) (v581 : IVec S16 32) : Prop :=
  (∀ a x, ((![v91, v581] : Fin 2 → IVec S16 32) a x).toNat < S128x128.size a)
theorem k0_idx431_inb : ∀ (v91 : IVec S16 32) (v581 : IVec S16 32) (k0_hw431 : k0_chk431 v91 v581), ∀ a x, ((![v91, v581] : Fin 2 → IVec S16 32) a x).toNat < S128x128.size a := fun v91 v581 k0_hw431 => k0_hw431

def k0_chk432 (v91 : IVec S16 32) (v583 : IVec S16 32) : Prop :=
  (∀ a x, ((![v91, v583] : Fin 2 → IVec S16 32) a x).toNat < S128x128.size a)
theorem k0_idx432_inb : ∀ (v91 : IVec S16 32) (v583 : IVec S16 32) (k0_hw432 : k0_chk432 v91 v583), ∀ a x, ((![v91, v583] : Fin 2 → IVec S16 32) a x).toNat < S128x128.size a := fun v91 v583 k0_hw432 => k0_hw432

def k0_chk433 (v91 : IVec S16 32) (v585 : IVec S16 32) : Prop :=
  (∀ a x, ((![v91, v585] : Fin 2 → IVec S16 32) a x).toNat < S128x128.size a)
theorem k0_idx433_inb : ∀ (v91 : IVec S16 32) (v585 : IVec S16 32) (k0_hw433 : k0_chk433 v91 v585), ∀ a x, ((![v91, v585] : Fin 2 → IVec S16 32) a x).toNat < S128x128.size a := fun v91 v585 k0_hw433 => k0_hw433

def k0_chk434 (v91 : IVec S16 32) (v588 : IVec S16 32) : Prop :=
  (∀ a x, ((![v91, v588] : Fin 2 → IVec S16 32) a x).toNat < S128x128.size a)
theorem k0_idx434_inb : ∀ (v91 : IVec S16 32) (v588 : IVec S16 32) (k0_hw434 : k0_chk434 v91 v588), ∀ a x, ((![v91, v588] : Fin 2 → IVec S16 32) a x).toNat < S128x128.size a := fun v91 v588 k0_hw434 => k0_hw434

def k0_chk435 (v91 : IVec S16 32) (v590 : IVec S16 32) : Prop :=
  (∀ a x, ((![v91, v590] : Fin 2 → IVec S16 32) a x).toNat < S128x128.size a)
theorem k0_idx435_inb : ∀ (v91 : IVec S16 32) (v590 : IVec S16 32) (k0_hw435 : k0_chk435 v91 v590), ∀ a x, ((![v91, v590] : Fin 2 → IVec S16 32) a x).toNat < S128x128.size a := fun v91 v590 k0_hw435 => k0_hw435

def k0_chk436 (v91 : IVec S16 32) (v602 : IVec S16 32) : Prop :=
  (∀ a x, ((![v91, v602] : Fin 2 → IVec S16 32) a x).toNat < S128x128.size a)
theorem k0_idx436_inb : ∀ (v91 : IVec S16 32) (v602 : IVec S16 32) (k0_hw436 : k0_chk436 v91 v602), ∀ a x, ((![v91, v602] : Fin 2 → IVec S16 32) a x).toNat < S128x128.size a := fun v91 v602 k0_hw436 => k0_hw436

def k0_chk437 (v91 : IVec S16 32) (v604 : IVec S16 32) : Prop :=
  (∀ a x, ((![v91, v604] : Fin 2 → IVec S16 32) a x).toNat < S128x128.size a)
theorem k0_idx437_inb : ∀ (v91 : IVec S16 32) (v604 : IVec S16 32) (k0_hw437 : k0_chk437 v91 v604), ∀ a x, ((![v91, v604] : Fin 2 → IVec S16 32) a x).toNat < S128x128.size a := fun v91 v604 k0_hw437 => k0_hw437

def k0_chk438 (v91 : IVec S16 32) (v606 : IVec S16 32) : Prop :=
  (∀ a x, ((![v91, v606] : Fin 2 → IVec S16 32) a x).toNat < S128x128.size a)
theorem k0_idx438_inb : ∀ (v91 : IVec S16 32) (v606 : IVec S16 32) (k0_hw438 : k0_chk438 v91 v606), ∀ a x, ((![v91, v606] : Fin 2 → IVec S16 32) a x).toNat < S128x128.size a := fun v91 v606 k0_hw438 => k0_hw438

def k0_chk439 (v91 : IVec S16 32) (v609 : IVec S16 32) : Prop :=
  (∀ a x, ((![v91, v609] : Fin 2 → IVec S16 32) a x).toNat < S128x128.size a)
theorem k0_idx439_inb : ∀ (v91 : IVec S16 32) (v609 : IVec S16 32) (k0_hw439 : k0_chk439 v91 v609), ∀ a x, ((![v91, v609] : Fin 2 → IVec S16 32) a x).toNat < S128x128.size a := fun v91 v609 k0_hw439 => k0_hw439

def k0_chk440 (v91 : IVec S16 32) (v611 : IVec S16 32) : Prop :=
  (∀ a x, ((![v91, v611] : Fin 2 → IVec S16 32) a x).toNat < S128x128.size a)
theorem k0_idx440_inb : ∀ (v91 : IVec S16 32) (v611 : IVec S16 32) (k0_hw440 : k0_chk440 v91 v611), ∀ a x, ((![v91, v611] : Fin 2 → IVec S16 32) a x).toNat < S128x128.size a := fun v91 v611 k0_hw440 => k0_hw440

def k0_chk441 (v91 : IVec S16 32) (v623 : IVec S16 32) : Prop :=
  (∀ a x, ((![v91, v623] : Fin 2 → IVec S16 32) a x).toNat < S128x128.size a)
theorem k0_idx441_inb : ∀ (v91 : IVec S16 32) (v623 : IVec S16 32) (k0_hw441 : k0_chk441 v91 v623), ∀ a x, ((![v91, v623] : Fin 2 → IVec S16 32) a x).toNat < S128x128.size a := fun v91 v623 k0_hw441 => k0_hw441

def k0_chk442 (v91 : IVec S16 32) (v625 : IVec S16 32) : Prop :=
  (∀ a x, ((![v91, v625] : Fin 2 → IVec S16 32) a x).toNat < S128x128.size a)
theorem k0_idx442_inb : ∀ (v91 : IVec S16 32) (v625 : IVec S16 32) (k0_hw442 : k0_chk442 v91 v625), ∀ a x, ((![v91, v625] : Fin 2 → IVec S16 32) a x).toNat < S128x128.size a := fun v91 v625 k0_hw442 => k0_hw442

def k0_chk443 (v91 : IVec S16 32) (v627 : IVec S16 32) : Prop :=
  (∀ a x, ((![v91, v627] : Fin 2 → IVec S16 32) a x).toNat < S128x128.size a)
theorem k0_idx443_inb : ∀ (v91 : IVec S16 32) (v627 : IVec S16 32) (k0_hw443 : k0_chk443 v91 v627), ∀ a x, ((![v91, v627] : Fin 2 → IVec S16 32) a x).toNat < S128x128.size a := fun v91 v627 k0_hw443 => k0_hw443

def k0_chk444 (v91 : IVec S16 32) (v630 : IVec S16 32) : Prop :=
  (∀ a x, ((![v91, v630] : Fin 2 → IVec S16 32) a x).toNat < S128x128.size a)
theorem k0_idx444_inb : ∀ (v91 : IVec S16 32) (v630 : IVec S16 32) (k0_hw444 : k0_chk444 v91 v630), ∀ a x, ((![v91, v630] : Fin 2 → IVec S16 32) a x).toNat < S128x128.size a := fun v91 v630 k0_hw444 => k0_hw444

def k0_chk445 (v91 : IVec S16 32) (v632 : IVec S16 32) : Prop :=
  (∀ a x, ((![v91, v632] : Fin 2 → IVec S16 32) a x).toNat < S128x128.size a)
theorem k0_idx445_inb : ∀ (v91 : IVec S16 32) (v632 : IVec S16 32) (k0_hw445 : k0_chk445 v91 v632), ∀ a x, ((![v91, v632] : Fin 2 → IVec S16 32) a x).toNat < S128x128.size a := fun v91 v632 k0_hw445 => k0_hw445

def k0_chk446 (v91 : IVec S16 32) (v644 : IVec S16 32) : Prop :=
  (∀ a x, ((![v91, v644] : Fin 2 → IVec S16 32) a x).toNat < S128x128.size a)
theorem k0_idx446_inb : ∀ (v91 : IVec S16 32) (v644 : IVec S16 32) (k0_hw446 : k0_chk446 v91 v644), ∀ a x, ((![v91, v644] : Fin 2 → IVec S16 32) a x).toNat < S128x128.size a := fun v91 v644 k0_hw446 => k0_hw446

def k0_chk447 (v91 : IVec S16 32) (v646 : IVec S16 32) : Prop :=
  (∀ a x, ((![v91, v646] : Fin 2 → IVec S16 32) a x).toNat < S128x128.size a)
theorem k0_idx447_inb : ∀ (v91 : IVec S16 32) (v646 : IVec S16 32) (k0_hw447 : k0_chk447 v91 v646), ∀ a x, ((![v91, v646] : Fin 2 → IVec S16 32) a x).toNat < S128x128.size a := fun v91 v646 k0_hw447 => k0_hw447

def k0_chk448 (v91 : IVec S16 32) (v648 : IVec S16 32) : Prop :=
  (∀ a x, ((![v91, v648] : Fin 2 → IVec S16 32) a x).toNat < S128x128.size a)
theorem k0_idx448_inb : ∀ (v91 : IVec S16 32) (v648 : IVec S16 32) (k0_hw448 : k0_chk448 v91 v648), ∀ a x, ((![v91, v648] : Fin 2 → IVec S16 32) a x).toNat < S128x128.size a := fun v91 v648 k0_hw448 => k0_hw448

def k0_chk449 (v91 : IVec S16 32) (v651 : IVec S16 32) : Prop :=
  (∀ a x, ((![v91, v651] : Fin 2 → IVec S16 32) a x).toNat < S128x128.size a)
theorem k0_idx449_inb : ∀ (v91 : IVec S16 32) (v651 : IVec S16 32) (k0_hw449 : k0_chk449 v91 v651), ∀ a x, ((![v91, v651] : Fin 2 → IVec S16 32) a x).toNat < S128x128.size a := fun v91 v651 k0_hw449 => k0_hw449

def k0_chk450 (v91 : IVec S16 32) (v653 : IVec S16 32) : Prop :=
  (∀ a x, ((![v91, v653] : Fin 2 → IVec S16 32) a x).toNat < S128x128.size a)
theorem k0_idx450_inb : ∀ (v91 : IVec S16 32) (v653 : IVec S16 32) (k0_hw450 : k0_chk450 v91 v653), ∀ a x, ((![v91, v653] : Fin 2 → IVec S16 32) a x).toNat < S128x128.size a := fun v91 v653 k0_hw450 => k0_hw450

def k0_chk451 (v91 : IVec S16 32) (v665 : IVec S16 32) : Prop :=
  (∀ a x, ((![v91, v665] : Fin 2 → IVec S16 32) a x).toNat < S128x128.size a)
theorem k0_idx451_inb : ∀ (v91 : IVec S16 32) (v665 : IVec S16 32) (k0_hw451 : k0_chk451 v91 v665), ∀ a x, ((![v91, v665] : Fin 2 → IVec S16 32) a x).toNat < S128x128.size a := fun v91 v665 k0_hw451 => k0_hw451

def k0_chk452 (v91 : IVec S16 32) (v667 : IVec S16 32) : Prop :=
  (∀ a x, ((![v91, v667] : Fin 2 → IVec S16 32) a x).toNat < S128x128.size a)
theorem k0_idx452_inb : ∀ (v91 : IVec S16 32) (v667 : IVec S16 32) (k0_hw452 : k0_chk452 v91 v667), ∀ a x, ((![v91, v667] : Fin 2 → IVec S16 32) a x).toNat < S128x128.size a := fun v91 v667 k0_hw452 => k0_hw452

def k0_chk453 (v91 : IVec S16 32) (v669 : IVec S16 32) : Prop :=
  (∀ a x, ((![v91, v669] : Fin 2 → IVec S16 32) a x).toNat < S128x128.size a)
theorem k0_idx453_inb : ∀ (v91 : IVec S16 32) (v669 : IVec S16 32) (k0_hw453 : k0_chk453 v91 v669), ∀ a x, ((![v91, v669] : Fin 2 → IVec S16 32) a x).toNat < S128x128.size a := fun v91 v669 k0_hw453 => k0_hw453

def k0_chk454 (v91 : IVec S16 32) (v672 : IVec S16 32) : Prop :=
  (∀ a x, ((![v91, v672] : Fin 2 → IVec S16 32) a x).toNat < S128x128.size a)
theorem k0_idx454_inb : ∀ (v91 : IVec S16 32) (v672 : IVec S16 32) (k0_hw454 : k0_chk454 v91 v672), ∀ a x, ((![v91, v672] : Fin 2 → IVec S16 32) a x).toNat < S128x128.size a := fun v91 v672 k0_hw454 => k0_hw454

def k0_chk455 (v91 : IVec S16 32) (v674 : IVec S16 32) : Prop :=
  (∀ a x, ((![v91, v674] : Fin 2 → IVec S16 32) a x).toNat < S128x128.size a)
theorem k0_idx455_inb : ∀ (v91 : IVec S16 32) (v674 : IVec S16 32) (k0_hw455 : k0_chk455 v91 v674), ∀ a x, ((![v91, v674] : Fin 2 → IVec S16 32) a x).toNat < S128x128.size a := fun v91 v674 k0_hw455 => k0_hw455

def k0_chk456 (v91 : IVec S16 32) (v686 : IVec S16 32) : Prop :=
  (∀ a x, ((![v91, v686] : Fin 2 → IVec S16 32) a x).toNat < S128x128.size a)
theorem k0_idx456_inb : ∀ (v91 : IVec S16 32) (v686 : IVec S16 32) (k0_hw456 : k0_chk456 v91 v686), ∀ a x, ((![v91, v686] : Fin 2 → IVec S16 32) a x).toNat < S128x128.size a := fun v91 v686 k0_hw456 => k0_hw456

def k0_chk457 (v91 : IVec S16 32) (v688 : IVec S16 32) : Prop :=
  (∀ a x, ((![v91, v688] : Fin 2 → IVec S16 32) a x).toNat < S128x128.size a)
theorem k0_idx457_inb : ∀ (v91 : IVec S16 32) (v688 : IVec S16 32) (k0_hw457 : k0_chk457 v91 v688), ∀ a x, ((![v91, v688] : Fin 2 → IVec S16 32) a x).toNat < S128x128.size a := fun v91 v688 k0_hw457 => k0_hw457

def k0_chk458 (v91 : IVec S16 32) (v690 : IVec S16 32) : Prop :=
  (∀ a x, ((![v91, v690] : Fin 2 → IVec S16 32) a x).toNat < S128x128.size a)
theorem k0_idx458_inb : ∀ (v91 : IVec S16 32) (v690 : IVec S16 32) (k0_hw458 : k0_chk458 v91 v690), ∀ a x, ((![v91, v690] : Fin 2 → IVec S16 32) a x).toNat < S128x128.size a := fun v91 v690 k0_hw458 => k0_hw458

def k0_chk459 (v91 : IVec S16 32) (v693 : IVec S16 32) : Prop :=
  (∀ a x, ((![v91, v693] : Fin 2 → IVec S16 32) a x).toNat < S128x128.size a)
theorem k0_idx459_inb : ∀ (v91 : IVec S16 32) (v693 : IVec S16 32) (k0_hw459 : k0_chk459 v91 v693), ∀ a x, ((![v91, v693] : Fin 2 → IVec S16 32) a x).toNat < S128x128.size a := fun v91 v693 k0_hw459 => k0_hw459

def k0_chk460 (v91 : IVec S16 32) (v695 : IVec S16 32) : Prop :=
  (∀ a x, ((![v91, v695] : Fin 2 → IVec S16 32) a x).toNat < S128x128.size a)
theorem k0_idx460_inb : ∀ (v91 : IVec S16 32) (v695 : IVec S16 32) (k0_hw460 : k0_chk460 v91 v695), ∀ a x, ((![v91, v695] : Fin 2 → IVec S16 32) a x).toNat < S128x128.size a := fun v91 v695 k0_hw460 => k0_hw460

def k0_chk461 (v91 : IVec S16 32) (v707 : IVec S16 32) : Prop :=
  (∀ a x, ((![v91, v707] : Fin 2 → IVec S16 32) a x).toNat < S128x128.size a)
theorem k0_idx461_inb : ∀ (v91 : IVec S16 32) (v707 : IVec S16 32) (k0_hw461 : k0_chk461 v91 v707), ∀ a x, ((![v91, v707] : Fin 2 → IVec S16 32) a x).toNat < S128x128.size a := fun v91 v707 k0_hw461 => k0_hw461

def k0_chk462 (v91 : IVec S16 32) (v709 : IVec S16 32) : Prop :=
  (∀ a x, ((![v91, v709] : Fin 2 → IVec S16 32) a x).toNat < S128x128.size a)
theorem k0_idx462_inb : ∀ (v91 : IVec S16 32) (v709 : IVec S16 32) (k0_hw462 : k0_chk462 v91 v709), ∀ a x, ((![v91, v709] : Fin 2 → IVec S16 32) a x).toNat < S128x128.size a := fun v91 v709 k0_hw462 => k0_hw462

def k0_chk463 (v91 : IVec S16 32) (v711 : IVec S16 32) : Prop :=
  (∀ a x, ((![v91, v711] : Fin 2 → IVec S16 32) a x).toNat < S128x128.size a)
theorem k0_idx463_inb : ∀ (v91 : IVec S16 32) (v711 : IVec S16 32) (k0_hw463 : k0_chk463 v91 v711), ∀ a x, ((![v91, v711] : Fin 2 → IVec S16 32) a x).toNat < S128x128.size a := fun v91 v711 k0_hw463 => k0_hw463

def k0_chk464 (v91 : IVec S16 32) (v714 : IVec S16 32) : Prop :=
  (∀ a x, ((![v91, v714] : Fin 2 → IVec S16 32) a x).toNat < S128x128.size a)
theorem k0_idx464_inb : ∀ (v91 : IVec S16 32) (v714 : IVec S16 32) (k0_hw464 : k0_chk464 v91 v714), ∀ a x, ((![v91, v714] : Fin 2 → IVec S16 32) a x).toNat < S128x128.size a := fun v91 v714 k0_hw464 => k0_hw464

def k0_chk465 (v91 : IVec S16 32) (v716 : IVec S16 32) : Prop :=
  (∀ a x, ((![v91, v716] : Fin 2 → IVec S16 32) a x).toNat < S128x128.size a)
theorem k0_idx465_inb : ∀ (v91 : IVec S16 32) (v716 : IVec S16 32) (k0_hw465 : k0_chk465 v91 v716), ∀ a x, ((![v91, v716] : Fin 2 → IVec S16 32) a x).toNat < S128x128.size a := fun v91 v716 k0_hw465 => k0_hw465

def k0_chk466 (v91 : IVec S16 32) (v728 : IVec S16 32) : Prop :=
  (∀ a x, ((![v91, v728] : Fin 2 → IVec S16 32) a x).toNat < S128x128.size a)
theorem k0_idx466_inb : ∀ (v91 : IVec S16 32) (v728 : IVec S16 32) (k0_hw466 : k0_chk466 v91 v728), ∀ a x, ((![v91, v728] : Fin 2 → IVec S16 32) a x).toNat < S128x128.size a := fun v91 v728 k0_hw466 => k0_hw466

def k0_chk467 (v91 : IVec S16 32) (v730 : IVec S16 32) : Prop :=
  (∀ a x, ((![v91, v730] : Fin 2 → IVec S16 32) a x).toNat < S128x128.size a)
theorem k0_idx467_inb : ∀ (v91 : IVec S16 32) (v730 : IVec S16 32) (k0_hw467 : k0_chk467 v91 v730), ∀ a x, ((![v91, v730] : Fin 2 → IVec S16 32) a x).toNat < S128x128.size a := fun v91 v730 k0_hw467 => k0_hw467

def k0_chk468 (v91 : IVec S16 32) (v732 : IVec S16 32) : Prop :=
  (∀ a x, ((![v91, v732] : Fin 2 → IVec S16 32) a x).toNat < S128x128.size a)
theorem k0_idx468_inb : ∀ (v91 : IVec S16 32) (v732 : IVec S16 32) (k0_hw468 : k0_chk468 v91 v732), ∀ a x, ((![v91, v732] : Fin 2 → IVec S16 32) a x).toNat < S128x128.size a := fun v91 v732 k0_hw468 => k0_hw468

def k0_chk469 (v91 : IVec S16 32) (v735 : IVec S16 32) : Prop :=
  (∀ a x, ((![v91, v735] : Fin 2 → IVec S16 32) a x).toNat < S128x128.size a)
theorem k0_idx469_inb : ∀ (v91 : IVec S16 32) (v735 : IVec S16 32) (k0_hw469 : k0_chk469 v91 v735), ∀ a x, ((![v91, v735] : Fin 2 → IVec S16 32) a x).toNat < S128x128.size a := fun v91 v735 k0_hw469 => k0_hw469

def k0_chk470 (v91 : IVec S16 32) (v737 : IVec S16 32) : Prop :=
  (∀ a x, ((![v91, v737] : Fin 2 → IVec S16 32) a x).toNat < S128x128.size a)
theorem k0_idx470_inb : ∀ (v91 : IVec S16 32) (v737 : IVec S16 32) (k0_hw470 : k0_chk470 v91 v737), ∀ a x, ((![v91, v737] : Fin 2 → IVec S16 32) a x).toNat < S128x128.size a := fun v91 v737 k0_hw470 => k0_hw470

def k0_chk471 (v91 : IVec S16 32) (v749 : IVec S16 32) : Prop :=
  (∀ a x, ((![v91, v749] : Fin 2 → IVec S16 32) a x).toNat < S128x128.size a)
theorem k0_idx471_inb : ∀ (v91 : IVec S16 32) (v749 : IVec S16 32) (k0_hw471 : k0_chk471 v91 v749), ∀ a x, ((![v91, v749] : Fin 2 → IVec S16 32) a x).toNat < S128x128.size a := fun v91 v749 k0_hw471 => k0_hw471

def k0_chk472 (v91 : IVec S16 32) (v751 : IVec S16 32) : Prop :=
  (∀ a x, ((![v91, v751] : Fin 2 → IVec S16 32) a x).toNat < S128x128.size a)
theorem k0_idx472_inb : ∀ (v91 : IVec S16 32) (v751 : IVec S16 32) (k0_hw472 : k0_chk472 v91 v751), ∀ a x, ((![v91, v751] : Fin 2 → IVec S16 32) a x).toNat < S128x128.size a := fun v91 v751 k0_hw472 => k0_hw472

def k0_chk473 (v91 : IVec S16 32) (v753 : IVec S16 32) : Prop :=
  (∀ a x, ((![v91, v753] : Fin 2 → IVec S16 32) a x).toNat < S128x128.size a)
theorem k0_idx473_inb : ∀ (v91 : IVec S16 32) (v753 : IVec S16 32) (k0_hw473 : k0_chk473 v91 v753), ∀ a x, ((![v91, v753] : Fin 2 → IVec S16 32) a x).toNat < S128x128.size a := fun v91 v753 k0_hw473 => k0_hw473

def k0_chk474 (v91 : IVec S16 32) (v756 : IVec S16 32) : Prop :=
  (∀ a x, ((![v91, v756] : Fin 2 → IVec S16 32) a x).toNat < S128x128.size a)
theorem k0_idx474_inb : ∀ (v91 : IVec S16 32) (v756 : IVec S16 32) (k0_hw474 : k0_chk474 v91 v756), ∀ a x, ((![v91, v756] : Fin 2 → IVec S16 32) a x).toNat < S128x128.size a := fun v91 v756 k0_hw474 => k0_hw474

def k0_chk475 (v91 : IVec S16 32) (v758 : IVec S16 32) : Prop :=
  (∀ a x, ((![v91, v758] : Fin 2 → IVec S16 32) a x).toNat < S128x128.size a)
theorem k0_idx475_inb : ∀ (v91 : IVec S16 32) (v758 : IVec S16 32) (k0_hw475 : k0_chk475 v91 v758), ∀ a x, ((![v91, v758] : Fin 2 → IVec S16 32) a x).toNat < S128x128.size a := fun v91 v758 k0_hw475 => k0_hw475

def k0_chk476 (v91 : IVec S16 32) (v770 : IVec S16 32) : Prop :=
  (∀ a x, ((![v91, v770] : Fin 2 → IVec S16 32) a x).toNat < S128x128.size a)
theorem k0_idx476_inb : ∀ (v91 : IVec S16 32) (v770 : IVec S16 32) (k0_hw476 : k0_chk476 v91 v770), ∀ a x, ((![v91, v770] : Fin 2 → IVec S16 32) a x).toNat < S128x128.size a := fun v91 v770 k0_hw476 => k0_hw476

def k0_chk477 (v91 : IVec S16 32) (v772 : IVec S16 32) : Prop :=
  (∀ a x, ((![v91, v772] : Fin 2 → IVec S16 32) a x).toNat < S128x128.size a)
theorem k0_idx477_inb : ∀ (v91 : IVec S16 32) (v772 : IVec S16 32) (k0_hw477 : k0_chk477 v91 v772), ∀ a x, ((![v91, v772] : Fin 2 → IVec S16 32) a x).toNat < S128x128.size a := fun v91 v772 k0_hw477 => k0_hw477

def k0_chk478 (v91 : IVec S16 32) (v774 : IVec S16 32) : Prop :=
  (∀ a x, ((![v91, v774] : Fin 2 → IVec S16 32) a x).toNat < S128x128.size a)
theorem k0_idx478_inb : ∀ (v91 : IVec S16 32) (v774 : IVec S16 32) (k0_hw478 : k0_chk478 v91 v774), ∀ a x, ((![v91, v774] : Fin 2 → IVec S16 32) a x).toNat < S128x128.size a := fun v91 v774 k0_hw478 => k0_hw478

def k0_chk479 (v91 : IVec S16 32) (v777 : IVec S16 32) : Prop :=
  (∀ a x, ((![v91, v777] : Fin 2 → IVec S16 32) a x).toNat < S128x128.size a)
theorem k0_idx479_inb : ∀ (v91 : IVec S16 32) (v777 : IVec S16 32) (k0_hw479 : k0_chk479 v91 v777), ∀ a x, ((![v91, v777] : Fin 2 → IVec S16 32) a x).toNat < S128x128.size a := fun v91 v777 k0_hw479 => k0_hw479

def k0_chk480 (v91 : IVec S16 32) (v779 : IVec S16 32) : Prop :=
  (∀ a x, ((![v91, v779] : Fin 2 → IVec S16 32) a x).toNat < S128x128.size a)
theorem k0_idx480_inb : ∀ (v91 : IVec S16 32) (v779 : IVec S16 32) (k0_hw480 : k0_chk480 v91 v779), ∀ a x, ((![v91, v779] : Fin 2 → IVec S16 32) a x).toNat < S128x128.size a := fun v91 v779 k0_hw480 => k0_hw480
def k0_off8 (k0_t4 : Fin k0_t4_loop.trips) : Fin 1 → Nat :=
  let c256_i32_140 : BitVec 32 := 256#32
  let c0_i32_100 : BitVec 32 := 0#32
  let c1_i32_102 : BitVec 32 := 1#32
  let arg22 : BitVec 32 := Scf.iv c0_i32_100 c1_i32_102 k0_t4
  let c16_i32_139 : BitVec 32 := 16#32
  let v92 : BitVec 32 := Scalar.muli arg22 c16_i32_139
  let v93 : BitVec 32 := Scalar.addi c256_i32_140 v92
  let v785 : Index := Scalar.indexCast v93
  ![v785.toNat]
@[reducible] def k0_t5_loop : Scf.Loop 32 :=
  let c0_i32_134 : BitVec 32 := 0#32
  let c8_i32_135 : BitVec 32 := 8#32
  let v88 : BitVec 32 := Scalar.addi c0_i32_134 c8_i32_135
  let c1_i32_136 : BitVec 32 := 1#32
  ⟨c0_i32_134, v88, c1_i32_136⟩
def k0_off9 (k0_t5 : Fin k0_t5_loop.trips) : Fin 1 → Nat :=
  let c384_i32_140 : BitVec 32 := 384#32
  let c0_i32_134 : BitVec 32 := 0#32
  let c1_i32_136 : BitVec 32 := 1#32
  let arg22 : BitVec 32 := Scf.iv c0_i32_134 c1_i32_136 k0_t5
  let c16_i32_139 : BitVec 32 := 16#32
  let v92 : BitVec 32 := Scalar.muli arg22 c16_i32_139
  let v93 : BitVec 32 := Scalar.addi c384_i32_140 v92
  let v94 : Index := Scalar.indexCast v93
  ![v94.toNat]

def k0_chk481 (v91 : IVec S16 32) (v119 : IVec S16 32) : Prop :=
  (∀ a x, ((![v91, v119] : Fin 2 → IVec S16 32) a x).toNat < S128x128.size a)
theorem k0_idx481_inb : ∀ (v91 : IVec S16 32) (v119 : IVec S16 32) (k0_hw481 : k0_chk481 v91 v119), ∀ a x, ((![v91, v119] : Fin 2 → IVec S16 32) a x).toNat < S128x128.size a := fun v91 v119 k0_hw481 => k0_hw481

def k0_chk482 (v91 : IVec S16 32) (v121 : IVec S16 32) : Prop :=
  (∀ a x, ((![v91, v121] : Fin 2 → IVec S16 32) a x).toNat < S128x128.size a)
theorem k0_idx482_inb : ∀ (v91 : IVec S16 32) (v121 : IVec S16 32) (k0_hw482 : k0_chk482 v91 v121), ∀ a x, ((![v91, v121] : Fin 2 → IVec S16 32) a x).toNat < S128x128.size a := fun v91 v121 k0_hw482 => k0_hw482

def k0_chk483 (v91 : IVec S16 32) (v123 : IVec S16 32) : Prop :=
  (∀ a x, ((![v91, v123] : Fin 2 → IVec S16 32) a x).toNat < S128x128.size a)
theorem k0_idx483_inb : ∀ (v91 : IVec S16 32) (v123 : IVec S16 32) (k0_hw483 : k0_chk483 v91 v123), ∀ a x, ((![v91, v123] : Fin 2 → IVec S16 32) a x).toNat < S128x128.size a := fun v91 v123 k0_hw483 => k0_hw483

def k0_chk484 (v91 : IVec S16 32) (v126 : IVec S16 32) : Prop :=
  (∀ a x, ((![v91, v126] : Fin 2 → IVec S16 32) a x).toNat < S128x128.size a)
theorem k0_idx484_inb : ∀ (v91 : IVec S16 32) (v126 : IVec S16 32) (k0_hw484 : k0_chk484 v91 v126), ∀ a x, ((![v91, v126] : Fin 2 → IVec S16 32) a x).toNat < S128x128.size a := fun v91 v126 k0_hw484 => k0_hw484

def k0_chk485 (v91 : IVec S16 32) (v128 : IVec S16 32) : Prop :=
  (∀ a x, ((![v91, v128] : Fin 2 → IVec S16 32) a x).toNat < S128x128.size a)
theorem k0_idx485_inb : ∀ (v91 : IVec S16 32) (v128 : IVec S16 32) (k0_hw485 : k0_chk485 v91 v128), ∀ a x, ((![v91, v128] : Fin 2 → IVec S16 32) a x).toNat < S128x128.size a := fun v91 v128 k0_hw485 => k0_hw485

def k0_chk486 (v91 : IVec S16 32) (v140 : IVec S16 32) : Prop :=
  (∀ a x, ((![v91, v140] : Fin 2 → IVec S16 32) a x).toNat < S128x128.size a)
theorem k0_idx486_inb : ∀ (v91 : IVec S16 32) (v140 : IVec S16 32) (k0_hw486 : k0_chk486 v91 v140), ∀ a x, ((![v91, v140] : Fin 2 → IVec S16 32) a x).toNat < S128x128.size a := fun v91 v140 k0_hw486 => k0_hw486

def k0_chk487 (v91 : IVec S16 32) (v142 : IVec S16 32) : Prop :=
  (∀ a x, ((![v91, v142] : Fin 2 → IVec S16 32) a x).toNat < S128x128.size a)
theorem k0_idx487_inb : ∀ (v91 : IVec S16 32) (v142 : IVec S16 32) (k0_hw487 : k0_chk487 v91 v142), ∀ a x, ((![v91, v142] : Fin 2 → IVec S16 32) a x).toNat < S128x128.size a := fun v91 v142 k0_hw487 => k0_hw487

def k0_chk488 (v91 : IVec S16 32) (v144 : IVec S16 32) : Prop :=
  (∀ a x, ((![v91, v144] : Fin 2 → IVec S16 32) a x).toNat < S128x128.size a)
theorem k0_idx488_inb : ∀ (v91 : IVec S16 32) (v144 : IVec S16 32) (k0_hw488 : k0_chk488 v91 v144), ∀ a x, ((![v91, v144] : Fin 2 → IVec S16 32) a x).toNat < S128x128.size a := fun v91 v144 k0_hw488 => k0_hw488

def k0_chk489 (v91 : IVec S16 32) (v147 : IVec S16 32) : Prop :=
  (∀ a x, ((![v91, v147] : Fin 2 → IVec S16 32) a x).toNat < S128x128.size a)
theorem k0_idx489_inb : ∀ (v91 : IVec S16 32) (v147 : IVec S16 32) (k0_hw489 : k0_chk489 v91 v147), ∀ a x, ((![v91, v147] : Fin 2 → IVec S16 32) a x).toNat < S128x128.size a := fun v91 v147 k0_hw489 => k0_hw489

def k0_chk490 (v91 : IVec S16 32) (v149 : IVec S16 32) : Prop :=
  (∀ a x, ((![v91, v149] : Fin 2 → IVec S16 32) a x).toNat < S128x128.size a)
theorem k0_idx490_inb : ∀ (v91 : IVec S16 32) (v149 : IVec S16 32) (k0_hw490 : k0_chk490 v91 v149), ∀ a x, ((![v91, v149] : Fin 2 → IVec S16 32) a x).toNat < S128x128.size a := fun v91 v149 k0_hw490 => k0_hw490

def k0_chk491 (v91 : IVec S16 32) (v161 : IVec S16 32) : Prop :=
  (∀ a x, ((![v91, v161] : Fin 2 → IVec S16 32) a x).toNat < S128x128.size a)
theorem k0_idx491_inb : ∀ (v91 : IVec S16 32) (v161 : IVec S16 32) (k0_hw491 : k0_chk491 v91 v161), ∀ a x, ((![v91, v161] : Fin 2 → IVec S16 32) a x).toNat < S128x128.size a := fun v91 v161 k0_hw491 => k0_hw491

def k0_chk492 (v91 : IVec S16 32) (v163 : IVec S16 32) : Prop :=
  (∀ a x, ((![v91, v163] : Fin 2 → IVec S16 32) a x).toNat < S128x128.size a)
theorem k0_idx492_inb : ∀ (v91 : IVec S16 32) (v163 : IVec S16 32) (k0_hw492 : k0_chk492 v91 v163), ∀ a x, ((![v91, v163] : Fin 2 → IVec S16 32) a x).toNat < S128x128.size a := fun v91 v163 k0_hw492 => k0_hw492

def k0_chk493 (v91 : IVec S16 32) (v165 : IVec S16 32) : Prop :=
  (∀ a x, ((![v91, v165] : Fin 2 → IVec S16 32) a x).toNat < S128x128.size a)
theorem k0_idx493_inb : ∀ (v91 : IVec S16 32) (v165 : IVec S16 32) (k0_hw493 : k0_chk493 v91 v165), ∀ a x, ((![v91, v165] : Fin 2 → IVec S16 32) a x).toNat < S128x128.size a := fun v91 v165 k0_hw493 => k0_hw493

def k0_chk494 (v91 : IVec S16 32) (v168 : IVec S16 32) : Prop :=
  (∀ a x, ((![v91, v168] : Fin 2 → IVec S16 32) a x).toNat < S128x128.size a)
theorem k0_idx494_inb : ∀ (v91 : IVec S16 32) (v168 : IVec S16 32) (k0_hw494 : k0_chk494 v91 v168), ∀ a x, ((![v91, v168] : Fin 2 → IVec S16 32) a x).toNat < S128x128.size a := fun v91 v168 k0_hw494 => k0_hw494

def k0_chk495 (v91 : IVec S16 32) (v170 : IVec S16 32) : Prop :=
  (∀ a x, ((![v91, v170] : Fin 2 → IVec S16 32) a x).toNat < S128x128.size a)
theorem k0_idx495_inb : ∀ (v91 : IVec S16 32) (v170 : IVec S16 32) (k0_hw495 : k0_chk495 v91 v170), ∀ a x, ((![v91, v170] : Fin 2 → IVec S16 32) a x).toNat < S128x128.size a := fun v91 v170 k0_hw495 => k0_hw495

def k0_chk496 (v91 : IVec S16 32) (v182 : IVec S16 32) : Prop :=
  (∀ a x, ((![v91, v182] : Fin 2 → IVec S16 32) a x).toNat < S128x128.size a)
theorem k0_idx496_inb : ∀ (v91 : IVec S16 32) (v182 : IVec S16 32) (k0_hw496 : k0_chk496 v91 v182), ∀ a x, ((![v91, v182] : Fin 2 → IVec S16 32) a x).toNat < S128x128.size a := fun v91 v182 k0_hw496 => k0_hw496

def k0_chk497 (v91 : IVec S16 32) (v184 : IVec S16 32) : Prop :=
  (∀ a x, ((![v91, v184] : Fin 2 → IVec S16 32) a x).toNat < S128x128.size a)
theorem k0_idx497_inb : ∀ (v91 : IVec S16 32) (v184 : IVec S16 32) (k0_hw497 : k0_chk497 v91 v184), ∀ a x, ((![v91, v184] : Fin 2 → IVec S16 32) a x).toNat < S128x128.size a := fun v91 v184 k0_hw497 => k0_hw497

def k0_chk498 (v91 : IVec S16 32) (v186 : IVec S16 32) : Prop :=
  (∀ a x, ((![v91, v186] : Fin 2 → IVec S16 32) a x).toNat < S128x128.size a)
theorem k0_idx498_inb : ∀ (v91 : IVec S16 32) (v186 : IVec S16 32) (k0_hw498 : k0_chk498 v91 v186), ∀ a x, ((![v91, v186] : Fin 2 → IVec S16 32) a x).toNat < S128x128.size a := fun v91 v186 k0_hw498 => k0_hw498

def k0_chk499 (v91 : IVec S16 32) (v189 : IVec S16 32) : Prop :=
  (∀ a x, ((![v91, v189] : Fin 2 → IVec S16 32) a x).toNat < S128x128.size a)
theorem k0_idx499_inb : ∀ (v91 : IVec S16 32) (v189 : IVec S16 32) (k0_hw499 : k0_chk499 v91 v189), ∀ a x, ((![v91, v189] : Fin 2 → IVec S16 32) a x).toNat < S128x128.size a := fun v91 v189 k0_hw499 => k0_hw499

def k0_chk500 (v91 : IVec S16 32) (v191 : IVec S16 32) : Prop :=
  (∀ a x, ((![v91, v191] : Fin 2 → IVec S16 32) a x).toNat < S128x128.size a)
theorem k0_idx500_inb : ∀ (v91 : IVec S16 32) (v191 : IVec S16 32) (k0_hw500 : k0_chk500 v91 v191), ∀ a x, ((![v91, v191] : Fin 2 → IVec S16 32) a x).toNat < S128x128.size a := fun v91 v191 k0_hw500 => k0_hw500

def k0_chk501 (v91 : IVec S16 32) (v203 : IVec S16 32) : Prop :=
  (∀ a x, ((![v91, v203] : Fin 2 → IVec S16 32) a x).toNat < S128x128.size a)
theorem k0_idx501_inb : ∀ (v91 : IVec S16 32) (v203 : IVec S16 32) (k0_hw501 : k0_chk501 v91 v203), ∀ a x, ((![v91, v203] : Fin 2 → IVec S16 32) a x).toNat < S128x128.size a := fun v91 v203 k0_hw501 => k0_hw501

def k0_chk502 (v91 : IVec S16 32) (v205 : IVec S16 32) : Prop :=
  (∀ a x, ((![v91, v205] : Fin 2 → IVec S16 32) a x).toNat < S128x128.size a)
theorem k0_idx502_inb : ∀ (v91 : IVec S16 32) (v205 : IVec S16 32) (k0_hw502 : k0_chk502 v91 v205), ∀ a x, ((![v91, v205] : Fin 2 → IVec S16 32) a x).toNat < S128x128.size a := fun v91 v205 k0_hw502 => k0_hw502

def k0_chk503 (v91 : IVec S16 32) (v207 : IVec S16 32) : Prop :=
  (∀ a x, ((![v91, v207] : Fin 2 → IVec S16 32) a x).toNat < S128x128.size a)
theorem k0_idx503_inb : ∀ (v91 : IVec S16 32) (v207 : IVec S16 32) (k0_hw503 : k0_chk503 v91 v207), ∀ a x, ((![v91, v207] : Fin 2 → IVec S16 32) a x).toNat < S128x128.size a := fun v91 v207 k0_hw503 => k0_hw503

def k0_chk504 (v91 : IVec S16 32) (v210 : IVec S16 32) : Prop :=
  (∀ a x, ((![v91, v210] : Fin 2 → IVec S16 32) a x).toNat < S128x128.size a)
theorem k0_idx504_inb : ∀ (v91 : IVec S16 32) (v210 : IVec S16 32) (k0_hw504 : k0_chk504 v91 v210), ∀ a x, ((![v91, v210] : Fin 2 → IVec S16 32) a x).toNat < S128x128.size a := fun v91 v210 k0_hw504 => k0_hw504

def k0_chk505 (v91 : IVec S16 32) (v212 : IVec S16 32) : Prop :=
  (∀ a x, ((![v91, v212] : Fin 2 → IVec S16 32) a x).toNat < S128x128.size a)
theorem k0_idx505_inb : ∀ (v91 : IVec S16 32) (v212 : IVec S16 32) (k0_hw505 : k0_chk505 v91 v212), ∀ a x, ((![v91, v212] : Fin 2 → IVec S16 32) a x).toNat < S128x128.size a := fun v91 v212 k0_hw505 => k0_hw505

def k0_chk506 (v91 : IVec S16 32) (v224 : IVec S16 32) : Prop :=
  (∀ a x, ((![v91, v224] : Fin 2 → IVec S16 32) a x).toNat < S128x128.size a)
theorem k0_idx506_inb : ∀ (v91 : IVec S16 32) (v224 : IVec S16 32) (k0_hw506 : k0_chk506 v91 v224), ∀ a x, ((![v91, v224] : Fin 2 → IVec S16 32) a x).toNat < S128x128.size a := fun v91 v224 k0_hw506 => k0_hw506

def k0_chk507 (v91 : IVec S16 32) (v226 : IVec S16 32) : Prop :=
  (∀ a x, ((![v91, v226] : Fin 2 → IVec S16 32) a x).toNat < S128x128.size a)
theorem k0_idx507_inb : ∀ (v91 : IVec S16 32) (v226 : IVec S16 32) (k0_hw507 : k0_chk507 v91 v226), ∀ a x, ((![v91, v226] : Fin 2 → IVec S16 32) a x).toNat < S128x128.size a := fun v91 v226 k0_hw507 => k0_hw507

def k0_chk508 (v91 : IVec S16 32) (v228 : IVec S16 32) : Prop :=
  (∀ a x, ((![v91, v228] : Fin 2 → IVec S16 32) a x).toNat < S128x128.size a)
theorem k0_idx508_inb : ∀ (v91 : IVec S16 32) (v228 : IVec S16 32) (k0_hw508 : k0_chk508 v91 v228), ∀ a x, ((![v91, v228] : Fin 2 → IVec S16 32) a x).toNat < S128x128.size a := fun v91 v228 k0_hw508 => k0_hw508

def k0_chk509 (v91 : IVec S16 32) (v231 : IVec S16 32) : Prop :=
  (∀ a x, ((![v91, v231] : Fin 2 → IVec S16 32) a x).toNat < S128x128.size a)
theorem k0_idx509_inb : ∀ (v91 : IVec S16 32) (v231 : IVec S16 32) (k0_hw509 : k0_chk509 v91 v231), ∀ a x, ((![v91, v231] : Fin 2 → IVec S16 32) a x).toNat < S128x128.size a := fun v91 v231 k0_hw509 => k0_hw509

def k0_chk510 (v91 : IVec S16 32) (v233 : IVec S16 32) : Prop :=
  (∀ a x, ((![v91, v233] : Fin 2 → IVec S16 32) a x).toNat < S128x128.size a)
theorem k0_idx510_inb : ∀ (v91 : IVec S16 32) (v233 : IVec S16 32) (k0_hw510 : k0_chk510 v91 v233), ∀ a x, ((![v91, v233] : Fin 2 → IVec S16 32) a x).toNat < S128x128.size a := fun v91 v233 k0_hw510 => k0_hw510

def k0_chk511 (v91 : IVec S16 32) (v245 : IVec S16 32) : Prop :=
  (∀ a x, ((![v91, v245] : Fin 2 → IVec S16 32) a x).toNat < S128x128.size a)
theorem k0_idx511_inb : ∀ (v91 : IVec S16 32) (v245 : IVec S16 32) (k0_hw511 : k0_chk511 v91 v245), ∀ a x, ((![v91, v245] : Fin 2 → IVec S16 32) a x).toNat < S128x128.size a := fun v91 v245 k0_hw511 => k0_hw511

def k0_chk512 (v91 : IVec S16 32) (v247 : IVec S16 32) : Prop :=
  (∀ a x, ((![v91, v247] : Fin 2 → IVec S16 32) a x).toNat < S128x128.size a)
theorem k0_idx512_inb : ∀ (v91 : IVec S16 32) (v247 : IVec S16 32) (k0_hw512 : k0_chk512 v91 v247), ∀ a x, ((![v91, v247] : Fin 2 → IVec S16 32) a x).toNat < S128x128.size a := fun v91 v247 k0_hw512 => k0_hw512

def k0_chk513 (v91 : IVec S16 32) (v249 : IVec S16 32) : Prop :=
  (∀ a x, ((![v91, v249] : Fin 2 → IVec S16 32) a x).toNat < S128x128.size a)
theorem k0_idx513_inb : ∀ (v91 : IVec S16 32) (v249 : IVec S16 32) (k0_hw513 : k0_chk513 v91 v249), ∀ a x, ((![v91, v249] : Fin 2 → IVec S16 32) a x).toNat < S128x128.size a := fun v91 v249 k0_hw513 => k0_hw513

def k0_chk514 (v91 : IVec S16 32) (v252 : IVec S16 32) : Prop :=
  (∀ a x, ((![v91, v252] : Fin 2 → IVec S16 32) a x).toNat < S128x128.size a)
theorem k0_idx514_inb : ∀ (v91 : IVec S16 32) (v252 : IVec S16 32) (k0_hw514 : k0_chk514 v91 v252), ∀ a x, ((![v91, v252] : Fin 2 → IVec S16 32) a x).toNat < S128x128.size a := fun v91 v252 k0_hw514 => k0_hw514

def k0_chk515 (v91 : IVec S16 32) (v254 : IVec S16 32) : Prop :=
  (∀ a x, ((![v91, v254] : Fin 2 → IVec S16 32) a x).toNat < S128x128.size a)
theorem k0_idx515_inb : ∀ (v91 : IVec S16 32) (v254 : IVec S16 32) (k0_hw515 : k0_chk515 v91 v254), ∀ a x, ((![v91, v254] : Fin 2 → IVec S16 32) a x).toNat < S128x128.size a := fun v91 v254 k0_hw515 => k0_hw515

def k0_chk516 (v91 : IVec S16 32) (v266 : IVec S16 32) : Prop :=
  (∀ a x, ((![v91, v266] : Fin 2 → IVec S16 32) a x).toNat < S128x128.size a)
theorem k0_idx516_inb : ∀ (v91 : IVec S16 32) (v266 : IVec S16 32) (k0_hw516 : k0_chk516 v91 v266), ∀ a x, ((![v91, v266] : Fin 2 → IVec S16 32) a x).toNat < S128x128.size a := fun v91 v266 k0_hw516 => k0_hw516

def k0_chk517 (v91 : IVec S16 32) (v268 : IVec S16 32) : Prop :=
  (∀ a x, ((![v91, v268] : Fin 2 → IVec S16 32) a x).toNat < S128x128.size a)
theorem k0_idx517_inb : ∀ (v91 : IVec S16 32) (v268 : IVec S16 32) (k0_hw517 : k0_chk517 v91 v268), ∀ a x, ((![v91, v268] : Fin 2 → IVec S16 32) a x).toNat < S128x128.size a := fun v91 v268 k0_hw517 => k0_hw517

def k0_chk518 (v91 : IVec S16 32) (v270 : IVec S16 32) : Prop :=
  (∀ a x, ((![v91, v270] : Fin 2 → IVec S16 32) a x).toNat < S128x128.size a)
theorem k0_idx518_inb : ∀ (v91 : IVec S16 32) (v270 : IVec S16 32) (k0_hw518 : k0_chk518 v91 v270), ∀ a x, ((![v91, v270] : Fin 2 → IVec S16 32) a x).toNat < S128x128.size a := fun v91 v270 k0_hw518 => k0_hw518

def k0_chk519 (v91 : IVec S16 32) (v273 : IVec S16 32) : Prop :=
  (∀ a x, ((![v91, v273] : Fin 2 → IVec S16 32) a x).toNat < S128x128.size a)
theorem k0_idx519_inb : ∀ (v91 : IVec S16 32) (v273 : IVec S16 32) (k0_hw519 : k0_chk519 v91 v273), ∀ a x, ((![v91, v273] : Fin 2 → IVec S16 32) a x).toNat < S128x128.size a := fun v91 v273 k0_hw519 => k0_hw519

def k0_chk520 (v91 : IVec S16 32) (v275 : IVec S16 32) : Prop :=
  (∀ a x, ((![v91, v275] : Fin 2 → IVec S16 32) a x).toNat < S128x128.size a)
theorem k0_idx520_inb : ∀ (v91 : IVec S16 32) (v275 : IVec S16 32) (k0_hw520 : k0_chk520 v91 v275), ∀ a x, ((![v91, v275] : Fin 2 → IVec S16 32) a x).toNat < S128x128.size a := fun v91 v275 k0_hw520 => k0_hw520

def k0_chk521 (v91 : IVec S16 32) (v287 : IVec S16 32) : Prop :=
  (∀ a x, ((![v91, v287] : Fin 2 → IVec S16 32) a x).toNat < S128x128.size a)
theorem k0_idx521_inb : ∀ (v91 : IVec S16 32) (v287 : IVec S16 32) (k0_hw521 : k0_chk521 v91 v287), ∀ a x, ((![v91, v287] : Fin 2 → IVec S16 32) a x).toNat < S128x128.size a := fun v91 v287 k0_hw521 => k0_hw521

def k0_chk522 (v91 : IVec S16 32) (v289 : IVec S16 32) : Prop :=
  (∀ a x, ((![v91, v289] : Fin 2 → IVec S16 32) a x).toNat < S128x128.size a)
theorem k0_idx522_inb : ∀ (v91 : IVec S16 32) (v289 : IVec S16 32) (k0_hw522 : k0_chk522 v91 v289), ∀ a x, ((![v91, v289] : Fin 2 → IVec S16 32) a x).toNat < S128x128.size a := fun v91 v289 k0_hw522 => k0_hw522

def k0_chk523 (v91 : IVec S16 32) (v291 : IVec S16 32) : Prop :=
  (∀ a x, ((![v91, v291] : Fin 2 → IVec S16 32) a x).toNat < S128x128.size a)
theorem k0_idx523_inb : ∀ (v91 : IVec S16 32) (v291 : IVec S16 32) (k0_hw523 : k0_chk523 v91 v291), ∀ a x, ((![v91, v291] : Fin 2 → IVec S16 32) a x).toNat < S128x128.size a := fun v91 v291 k0_hw523 => k0_hw523

def k0_chk524 (v91 : IVec S16 32) (v294 : IVec S16 32) : Prop :=
  (∀ a x, ((![v91, v294] : Fin 2 → IVec S16 32) a x).toNat < S128x128.size a)
theorem k0_idx524_inb : ∀ (v91 : IVec S16 32) (v294 : IVec S16 32) (k0_hw524 : k0_chk524 v91 v294), ∀ a x, ((![v91, v294] : Fin 2 → IVec S16 32) a x).toNat < S128x128.size a := fun v91 v294 k0_hw524 => k0_hw524

def k0_chk525 (v91 : IVec S16 32) (v296 : IVec S16 32) : Prop :=
  (∀ a x, ((![v91, v296] : Fin 2 → IVec S16 32) a x).toNat < S128x128.size a)
theorem k0_idx525_inb : ∀ (v91 : IVec S16 32) (v296 : IVec S16 32) (k0_hw525 : k0_chk525 v91 v296), ∀ a x, ((![v91, v296] : Fin 2 → IVec S16 32) a x).toNat < S128x128.size a := fun v91 v296 k0_hw525 => k0_hw525

def k0_chk526 (v91 : IVec S16 32) (v308 : IVec S16 32) : Prop :=
  (∀ a x, ((![v91, v308] : Fin 2 → IVec S16 32) a x).toNat < S128x128.size a)
theorem k0_idx526_inb : ∀ (v91 : IVec S16 32) (v308 : IVec S16 32) (k0_hw526 : k0_chk526 v91 v308), ∀ a x, ((![v91, v308] : Fin 2 → IVec S16 32) a x).toNat < S128x128.size a := fun v91 v308 k0_hw526 => k0_hw526

def k0_chk527 (v91 : IVec S16 32) (v310 : IVec S16 32) : Prop :=
  (∀ a x, ((![v91, v310] : Fin 2 → IVec S16 32) a x).toNat < S128x128.size a)
theorem k0_idx527_inb : ∀ (v91 : IVec S16 32) (v310 : IVec S16 32) (k0_hw527 : k0_chk527 v91 v310), ∀ a x, ((![v91, v310] : Fin 2 → IVec S16 32) a x).toNat < S128x128.size a := fun v91 v310 k0_hw527 => k0_hw527

def k0_chk528 (v91 : IVec S16 32) (v312 : IVec S16 32) : Prop :=
  (∀ a x, ((![v91, v312] : Fin 2 → IVec S16 32) a x).toNat < S128x128.size a)
theorem k0_idx528_inb : ∀ (v91 : IVec S16 32) (v312 : IVec S16 32) (k0_hw528 : k0_chk528 v91 v312), ∀ a x, ((![v91, v312] : Fin 2 → IVec S16 32) a x).toNat < S128x128.size a := fun v91 v312 k0_hw528 => k0_hw528

def k0_chk529 (v91 : IVec S16 32) (v315 : IVec S16 32) : Prop :=
  (∀ a x, ((![v91, v315] : Fin 2 → IVec S16 32) a x).toNat < S128x128.size a)
theorem k0_idx529_inb : ∀ (v91 : IVec S16 32) (v315 : IVec S16 32) (k0_hw529 : k0_chk529 v91 v315), ∀ a x, ((![v91, v315] : Fin 2 → IVec S16 32) a x).toNat < S128x128.size a := fun v91 v315 k0_hw529 => k0_hw529

def k0_chk530 (v91 : IVec S16 32) (v317 : IVec S16 32) : Prop :=
  (∀ a x, ((![v91, v317] : Fin 2 → IVec S16 32) a x).toNat < S128x128.size a)
theorem k0_idx530_inb : ∀ (v91 : IVec S16 32) (v317 : IVec S16 32) (k0_hw530 : k0_chk530 v91 v317), ∀ a x, ((![v91, v317] : Fin 2 → IVec S16 32) a x).toNat < S128x128.size a := fun v91 v317 k0_hw530 => k0_hw530

def k0_chk531 (v91 : IVec S16 32) (v329 : IVec S16 32) : Prop :=
  (∀ a x, ((![v91, v329] : Fin 2 → IVec S16 32) a x).toNat < S128x128.size a)
theorem k0_idx531_inb : ∀ (v91 : IVec S16 32) (v329 : IVec S16 32) (k0_hw531 : k0_chk531 v91 v329), ∀ a x, ((![v91, v329] : Fin 2 → IVec S16 32) a x).toNat < S128x128.size a := fun v91 v329 k0_hw531 => k0_hw531

def k0_chk532 (v91 : IVec S16 32) (v331 : IVec S16 32) : Prop :=
  (∀ a x, ((![v91, v331] : Fin 2 → IVec S16 32) a x).toNat < S128x128.size a)
theorem k0_idx532_inb : ∀ (v91 : IVec S16 32) (v331 : IVec S16 32) (k0_hw532 : k0_chk532 v91 v331), ∀ a x, ((![v91, v331] : Fin 2 → IVec S16 32) a x).toNat < S128x128.size a := fun v91 v331 k0_hw532 => k0_hw532

def k0_chk533 (v91 : IVec S16 32) (v333 : IVec S16 32) : Prop :=
  (∀ a x, ((![v91, v333] : Fin 2 → IVec S16 32) a x).toNat < S128x128.size a)
theorem k0_idx533_inb : ∀ (v91 : IVec S16 32) (v333 : IVec S16 32) (k0_hw533 : k0_chk533 v91 v333), ∀ a x, ((![v91, v333] : Fin 2 → IVec S16 32) a x).toNat < S128x128.size a := fun v91 v333 k0_hw533 => k0_hw533

def k0_chk534 (v91 : IVec S16 32) (v336 : IVec S16 32) : Prop :=
  (∀ a x, ((![v91, v336] : Fin 2 → IVec S16 32) a x).toNat < S128x128.size a)
theorem k0_idx534_inb : ∀ (v91 : IVec S16 32) (v336 : IVec S16 32) (k0_hw534 : k0_chk534 v91 v336), ∀ a x, ((![v91, v336] : Fin 2 → IVec S16 32) a x).toNat < S128x128.size a := fun v91 v336 k0_hw534 => k0_hw534

def k0_chk535 (v91 : IVec S16 32) (v338 : IVec S16 32) : Prop :=
  (∀ a x, ((![v91, v338] : Fin 2 → IVec S16 32) a x).toNat < S128x128.size a)
theorem k0_idx535_inb : ∀ (v91 : IVec S16 32) (v338 : IVec S16 32) (k0_hw535 : k0_chk535 v91 v338), ∀ a x, ((![v91, v338] : Fin 2 → IVec S16 32) a x).toNat < S128x128.size a := fun v91 v338 k0_hw535 => k0_hw535

def k0_chk536 (v91 : IVec S16 32) (v350 : IVec S16 32) : Prop :=
  (∀ a x, ((![v91, v350] : Fin 2 → IVec S16 32) a x).toNat < S128x128.size a)
theorem k0_idx536_inb : ∀ (v91 : IVec S16 32) (v350 : IVec S16 32) (k0_hw536 : k0_chk536 v91 v350), ∀ a x, ((![v91, v350] : Fin 2 → IVec S16 32) a x).toNat < S128x128.size a := fun v91 v350 k0_hw536 => k0_hw536

def k0_chk537 (v91 : IVec S16 32) (v352 : IVec S16 32) : Prop :=
  (∀ a x, ((![v91, v352] : Fin 2 → IVec S16 32) a x).toNat < S128x128.size a)
theorem k0_idx537_inb : ∀ (v91 : IVec S16 32) (v352 : IVec S16 32) (k0_hw537 : k0_chk537 v91 v352), ∀ a x, ((![v91, v352] : Fin 2 → IVec S16 32) a x).toNat < S128x128.size a := fun v91 v352 k0_hw537 => k0_hw537

def k0_chk538 (v91 : IVec S16 32) (v354 : IVec S16 32) : Prop :=
  (∀ a x, ((![v91, v354] : Fin 2 → IVec S16 32) a x).toNat < S128x128.size a)
theorem k0_idx538_inb : ∀ (v91 : IVec S16 32) (v354 : IVec S16 32) (k0_hw538 : k0_chk538 v91 v354), ∀ a x, ((![v91, v354] : Fin 2 → IVec S16 32) a x).toNat < S128x128.size a := fun v91 v354 k0_hw538 => k0_hw538

def k0_chk539 (v91 : IVec S16 32) (v357 : IVec S16 32) : Prop :=
  (∀ a x, ((![v91, v357] : Fin 2 → IVec S16 32) a x).toNat < S128x128.size a)
theorem k0_idx539_inb : ∀ (v91 : IVec S16 32) (v357 : IVec S16 32) (k0_hw539 : k0_chk539 v91 v357), ∀ a x, ((![v91, v357] : Fin 2 → IVec S16 32) a x).toNat < S128x128.size a := fun v91 v357 k0_hw539 => k0_hw539

def k0_chk540 (v91 : IVec S16 32) (v359 : IVec S16 32) : Prop :=
  (∀ a x, ((![v91, v359] : Fin 2 → IVec S16 32) a x).toNat < S128x128.size a)
theorem k0_idx540_inb : ∀ (v91 : IVec S16 32) (v359 : IVec S16 32) (k0_hw540 : k0_chk540 v91 v359), ∀ a x, ((![v91, v359] : Fin 2 → IVec S16 32) a x).toNat < S128x128.size a := fun v91 v359 k0_hw540 => k0_hw540

def k0_chk541 (v91 : IVec S16 32) (v371 : IVec S16 32) : Prop :=
  (∀ a x, ((![v91, v371] : Fin 2 → IVec S16 32) a x).toNat < S128x128.size a)
theorem k0_idx541_inb : ∀ (v91 : IVec S16 32) (v371 : IVec S16 32) (k0_hw541 : k0_chk541 v91 v371), ∀ a x, ((![v91, v371] : Fin 2 → IVec S16 32) a x).toNat < S128x128.size a := fun v91 v371 k0_hw541 => k0_hw541

def k0_chk542 (v91 : IVec S16 32) (v373 : IVec S16 32) : Prop :=
  (∀ a x, ((![v91, v373] : Fin 2 → IVec S16 32) a x).toNat < S128x128.size a)
theorem k0_idx542_inb : ∀ (v91 : IVec S16 32) (v373 : IVec S16 32) (k0_hw542 : k0_chk542 v91 v373), ∀ a x, ((![v91, v373] : Fin 2 → IVec S16 32) a x).toNat < S128x128.size a := fun v91 v373 k0_hw542 => k0_hw542

def k0_chk543 (v91 : IVec S16 32) (v375 : IVec S16 32) : Prop :=
  (∀ a x, ((![v91, v375] : Fin 2 → IVec S16 32) a x).toNat < S128x128.size a)
theorem k0_idx543_inb : ∀ (v91 : IVec S16 32) (v375 : IVec S16 32) (k0_hw543 : k0_chk543 v91 v375), ∀ a x, ((![v91, v375] : Fin 2 → IVec S16 32) a x).toNat < S128x128.size a := fun v91 v375 k0_hw543 => k0_hw543

def k0_chk544 (v91 : IVec S16 32) (v378 : IVec S16 32) : Prop :=
  (∀ a x, ((![v91, v378] : Fin 2 → IVec S16 32) a x).toNat < S128x128.size a)
theorem k0_idx544_inb : ∀ (v91 : IVec S16 32) (v378 : IVec S16 32) (k0_hw544 : k0_chk544 v91 v378), ∀ a x, ((![v91, v378] : Fin 2 → IVec S16 32) a x).toNat < S128x128.size a := fun v91 v378 k0_hw544 => k0_hw544

def k0_chk545 (v91 : IVec S16 32) (v380 : IVec S16 32) : Prop :=
  (∀ a x, ((![v91, v380] : Fin 2 → IVec S16 32) a x).toNat < S128x128.size a)
theorem k0_idx545_inb : ∀ (v91 : IVec S16 32) (v380 : IVec S16 32) (k0_hw545 : k0_chk545 v91 v380), ∀ a x, ((![v91, v380] : Fin 2 → IVec S16 32) a x).toNat < S128x128.size a := fun v91 v380 k0_hw545 => k0_hw545

def k0_chk546 (v91 : IVec S16 32) (v392 : IVec S16 32) : Prop :=
  (∀ a x, ((![v91, v392] : Fin 2 → IVec S16 32) a x).toNat < S128x128.size a)
theorem k0_idx546_inb : ∀ (v91 : IVec S16 32) (v392 : IVec S16 32) (k0_hw546 : k0_chk546 v91 v392), ∀ a x, ((![v91, v392] : Fin 2 → IVec S16 32) a x).toNat < S128x128.size a := fun v91 v392 k0_hw546 => k0_hw546

def k0_chk547 (v91 : IVec S16 32) (v394 : IVec S16 32) : Prop :=
  (∀ a x, ((![v91, v394] : Fin 2 → IVec S16 32) a x).toNat < S128x128.size a)
theorem k0_idx547_inb : ∀ (v91 : IVec S16 32) (v394 : IVec S16 32) (k0_hw547 : k0_chk547 v91 v394), ∀ a x, ((![v91, v394] : Fin 2 → IVec S16 32) a x).toNat < S128x128.size a := fun v91 v394 k0_hw547 => k0_hw547

def k0_chk548 (v91 : IVec S16 32) (v396 : IVec S16 32) : Prop :=
  (∀ a x, ((![v91, v396] : Fin 2 → IVec S16 32) a x).toNat < S128x128.size a)
theorem k0_idx548_inb : ∀ (v91 : IVec S16 32) (v396 : IVec S16 32) (k0_hw548 : k0_chk548 v91 v396), ∀ a x, ((![v91, v396] : Fin 2 → IVec S16 32) a x).toNat < S128x128.size a := fun v91 v396 k0_hw548 => k0_hw548

def k0_chk549 (v91 : IVec S16 32) (v399 : IVec S16 32) : Prop :=
  (∀ a x, ((![v91, v399] : Fin 2 → IVec S16 32) a x).toNat < S128x128.size a)
theorem k0_idx549_inb : ∀ (v91 : IVec S16 32) (v399 : IVec S16 32) (k0_hw549 : k0_chk549 v91 v399), ∀ a x, ((![v91, v399] : Fin 2 → IVec S16 32) a x).toNat < S128x128.size a := fun v91 v399 k0_hw549 => k0_hw549

def k0_chk550 (v91 : IVec S16 32) (v401 : IVec S16 32) : Prop :=
  (∀ a x, ((![v91, v401] : Fin 2 → IVec S16 32) a x).toNat < S128x128.size a)
theorem k0_idx550_inb : ∀ (v91 : IVec S16 32) (v401 : IVec S16 32) (k0_hw550 : k0_chk550 v91 v401), ∀ a x, ((![v91, v401] : Fin 2 → IVec S16 32) a x).toNat < S128x128.size a := fun v91 v401 k0_hw550 => k0_hw550

def k0_chk551 (v91 : IVec S16 32) (v413 : IVec S16 32) : Prop :=
  (∀ a x, ((![v91, v413] : Fin 2 → IVec S16 32) a x).toNat < S128x128.size a)
theorem k0_idx551_inb : ∀ (v91 : IVec S16 32) (v413 : IVec S16 32) (k0_hw551 : k0_chk551 v91 v413), ∀ a x, ((![v91, v413] : Fin 2 → IVec S16 32) a x).toNat < S128x128.size a := fun v91 v413 k0_hw551 => k0_hw551

def k0_chk552 (v91 : IVec S16 32) (v415 : IVec S16 32) : Prop :=
  (∀ a x, ((![v91, v415] : Fin 2 → IVec S16 32) a x).toNat < S128x128.size a)
theorem k0_idx552_inb : ∀ (v91 : IVec S16 32) (v415 : IVec S16 32) (k0_hw552 : k0_chk552 v91 v415), ∀ a x, ((![v91, v415] : Fin 2 → IVec S16 32) a x).toNat < S128x128.size a := fun v91 v415 k0_hw552 => k0_hw552

def k0_chk553 (v91 : IVec S16 32) (v417 : IVec S16 32) : Prop :=
  (∀ a x, ((![v91, v417] : Fin 2 → IVec S16 32) a x).toNat < S128x128.size a)
theorem k0_idx553_inb : ∀ (v91 : IVec S16 32) (v417 : IVec S16 32) (k0_hw553 : k0_chk553 v91 v417), ∀ a x, ((![v91, v417] : Fin 2 → IVec S16 32) a x).toNat < S128x128.size a := fun v91 v417 k0_hw553 => k0_hw553

def k0_chk554 (v91 : IVec S16 32) (v420 : IVec S16 32) : Prop :=
  (∀ a x, ((![v91, v420] : Fin 2 → IVec S16 32) a x).toNat < S128x128.size a)
theorem k0_idx554_inb : ∀ (v91 : IVec S16 32) (v420 : IVec S16 32) (k0_hw554 : k0_chk554 v91 v420), ∀ a x, ((![v91, v420] : Fin 2 → IVec S16 32) a x).toNat < S128x128.size a := fun v91 v420 k0_hw554 => k0_hw554

def k0_chk555 (v91 : IVec S16 32) (v422 : IVec S16 32) : Prop :=
  (∀ a x, ((![v91, v422] : Fin 2 → IVec S16 32) a x).toNat < S128x128.size a)
theorem k0_idx555_inb : ∀ (v91 : IVec S16 32) (v422 : IVec S16 32) (k0_hw555 : k0_chk555 v91 v422), ∀ a x, ((![v91, v422] : Fin 2 → IVec S16 32) a x).toNat < S128x128.size a := fun v91 v422 k0_hw555 => k0_hw555

def k0_chk556 (v91 : IVec S16 32) (v434 : IVec S16 32) : Prop :=
  (∀ a x, ((![v91, v434] : Fin 2 → IVec S16 32) a x).toNat < S128x128.size a)
theorem k0_idx556_inb : ∀ (v91 : IVec S16 32) (v434 : IVec S16 32) (k0_hw556 : k0_chk556 v91 v434), ∀ a x, ((![v91, v434] : Fin 2 → IVec S16 32) a x).toNat < S128x128.size a := fun v91 v434 k0_hw556 => k0_hw556

def k0_chk557 (v91 : IVec S16 32) (v436 : IVec S16 32) : Prop :=
  (∀ a x, ((![v91, v436] : Fin 2 → IVec S16 32) a x).toNat < S128x128.size a)
theorem k0_idx557_inb : ∀ (v91 : IVec S16 32) (v436 : IVec S16 32) (k0_hw557 : k0_chk557 v91 v436), ∀ a x, ((![v91, v436] : Fin 2 → IVec S16 32) a x).toNat < S128x128.size a := fun v91 v436 k0_hw557 => k0_hw557

def k0_chk558 (v91 : IVec S16 32) (v438 : IVec S16 32) : Prop :=
  (∀ a x, ((![v91, v438] : Fin 2 → IVec S16 32) a x).toNat < S128x128.size a)
theorem k0_idx558_inb : ∀ (v91 : IVec S16 32) (v438 : IVec S16 32) (k0_hw558 : k0_chk558 v91 v438), ∀ a x, ((![v91, v438] : Fin 2 → IVec S16 32) a x).toNat < S128x128.size a := fun v91 v438 k0_hw558 => k0_hw558

def k0_chk559 (v91 : IVec S16 32) (v441 : IVec S16 32) : Prop :=
  (∀ a x, ((![v91, v441] : Fin 2 → IVec S16 32) a x).toNat < S128x128.size a)
theorem k0_idx559_inb : ∀ (v91 : IVec S16 32) (v441 : IVec S16 32) (k0_hw559 : k0_chk559 v91 v441), ∀ a x, ((![v91, v441] : Fin 2 → IVec S16 32) a x).toNat < S128x128.size a := fun v91 v441 k0_hw559 => k0_hw559

def k0_chk560 (v91 : IVec S16 32) (v443 : IVec S16 32) : Prop :=
  (∀ a x, ((![v91, v443] : Fin 2 → IVec S16 32) a x).toNat < S128x128.size a)
theorem k0_idx560_inb : ∀ (v91 : IVec S16 32) (v443 : IVec S16 32) (k0_hw560 : k0_chk560 v91 v443), ∀ a x, ((![v91, v443] : Fin 2 → IVec S16 32) a x).toNat < S128x128.size a := fun v91 v443 k0_hw560 => k0_hw560

def k0_chk561 (v91 : IVec S16 32) (v455 : IVec S16 32) : Prop :=
  (∀ a x, ((![v91, v455] : Fin 2 → IVec S16 32) a x).toNat < S128x128.size a)
theorem k0_idx561_inb : ∀ (v91 : IVec S16 32) (v455 : IVec S16 32) (k0_hw561 : k0_chk561 v91 v455), ∀ a x, ((![v91, v455] : Fin 2 → IVec S16 32) a x).toNat < S128x128.size a := fun v91 v455 k0_hw561 => k0_hw561

def k0_chk562 (v91 : IVec S16 32) (v457 : IVec S16 32) : Prop :=
  (∀ a x, ((![v91, v457] : Fin 2 → IVec S16 32) a x).toNat < S128x128.size a)
theorem k0_idx562_inb : ∀ (v91 : IVec S16 32) (v457 : IVec S16 32) (k0_hw562 : k0_chk562 v91 v457), ∀ a x, ((![v91, v457] : Fin 2 → IVec S16 32) a x).toNat < S128x128.size a := fun v91 v457 k0_hw562 => k0_hw562

def k0_chk563 (v91 : IVec S16 32) (v459 : IVec S16 32) : Prop :=
  (∀ a x, ((![v91, v459] : Fin 2 → IVec S16 32) a x).toNat < S128x128.size a)
theorem k0_idx563_inb : ∀ (v91 : IVec S16 32) (v459 : IVec S16 32) (k0_hw563 : k0_chk563 v91 v459), ∀ a x, ((![v91, v459] : Fin 2 → IVec S16 32) a x).toNat < S128x128.size a := fun v91 v459 k0_hw563 => k0_hw563

def k0_chk564 (v91 : IVec S16 32) (v462 : IVec S16 32) : Prop :=
  (∀ a x, ((![v91, v462] : Fin 2 → IVec S16 32) a x).toNat < S128x128.size a)
theorem k0_idx564_inb : ∀ (v91 : IVec S16 32) (v462 : IVec S16 32) (k0_hw564 : k0_chk564 v91 v462), ∀ a x, ((![v91, v462] : Fin 2 → IVec S16 32) a x).toNat < S128x128.size a := fun v91 v462 k0_hw564 => k0_hw564

def k0_chk565 (v91 : IVec S16 32) (v464 : IVec S16 32) : Prop :=
  (∀ a x, ((![v91, v464] : Fin 2 → IVec S16 32) a x).toNat < S128x128.size a)
theorem k0_idx565_inb : ∀ (v91 : IVec S16 32) (v464 : IVec S16 32) (k0_hw565 : k0_chk565 v91 v464), ∀ a x, ((![v91, v464] : Fin 2 → IVec S16 32) a x).toNat < S128x128.size a := fun v91 v464 k0_hw565 => k0_hw565

def k0_chk566 (v91 : IVec S16 32) (v476 : IVec S16 32) : Prop :=
  (∀ a x, ((![v91, v476] : Fin 2 → IVec S16 32) a x).toNat < S128x128.size a)
theorem k0_idx566_inb : ∀ (v91 : IVec S16 32) (v476 : IVec S16 32) (k0_hw566 : k0_chk566 v91 v476), ∀ a x, ((![v91, v476] : Fin 2 → IVec S16 32) a x).toNat < S128x128.size a := fun v91 v476 k0_hw566 => k0_hw566

def k0_chk567 (v91 : IVec S16 32) (v478 : IVec S16 32) : Prop :=
  (∀ a x, ((![v91, v478] : Fin 2 → IVec S16 32) a x).toNat < S128x128.size a)
theorem k0_idx567_inb : ∀ (v91 : IVec S16 32) (v478 : IVec S16 32) (k0_hw567 : k0_chk567 v91 v478), ∀ a x, ((![v91, v478] : Fin 2 → IVec S16 32) a x).toNat < S128x128.size a := fun v91 v478 k0_hw567 => k0_hw567

def k0_chk568 (v91 : IVec S16 32) (v480 : IVec S16 32) : Prop :=
  (∀ a x, ((![v91, v480] : Fin 2 → IVec S16 32) a x).toNat < S128x128.size a)
theorem k0_idx568_inb : ∀ (v91 : IVec S16 32) (v480 : IVec S16 32) (k0_hw568 : k0_chk568 v91 v480), ∀ a x, ((![v91, v480] : Fin 2 → IVec S16 32) a x).toNat < S128x128.size a := fun v91 v480 k0_hw568 => k0_hw568

def k0_chk569 (v91 : IVec S16 32) (v483 : IVec S16 32) : Prop :=
  (∀ a x, ((![v91, v483] : Fin 2 → IVec S16 32) a x).toNat < S128x128.size a)
theorem k0_idx569_inb : ∀ (v91 : IVec S16 32) (v483 : IVec S16 32) (k0_hw569 : k0_chk569 v91 v483), ∀ a x, ((![v91, v483] : Fin 2 → IVec S16 32) a x).toNat < S128x128.size a := fun v91 v483 k0_hw569 => k0_hw569

def k0_chk570 (v91 : IVec S16 32) (v485 : IVec S16 32) : Prop :=
  (∀ a x, ((![v91, v485] : Fin 2 → IVec S16 32) a x).toNat < S128x128.size a)
theorem k0_idx570_inb : ∀ (v91 : IVec S16 32) (v485 : IVec S16 32) (k0_hw570 : k0_chk570 v91 v485), ∀ a x, ((![v91, v485] : Fin 2 → IVec S16 32) a x).toNat < S128x128.size a := fun v91 v485 k0_hw570 => k0_hw570

def k0_chk571 (v91 : IVec S16 32) (v497 : IVec S16 32) : Prop :=
  (∀ a x, ((![v91, v497] : Fin 2 → IVec S16 32) a x).toNat < S128x128.size a)
theorem k0_idx571_inb : ∀ (v91 : IVec S16 32) (v497 : IVec S16 32) (k0_hw571 : k0_chk571 v91 v497), ∀ a x, ((![v91, v497] : Fin 2 → IVec S16 32) a x).toNat < S128x128.size a := fun v91 v497 k0_hw571 => k0_hw571

def k0_chk572 (v91 : IVec S16 32) (v499 : IVec S16 32) : Prop :=
  (∀ a x, ((![v91, v499] : Fin 2 → IVec S16 32) a x).toNat < S128x128.size a)
theorem k0_idx572_inb : ∀ (v91 : IVec S16 32) (v499 : IVec S16 32) (k0_hw572 : k0_chk572 v91 v499), ∀ a x, ((![v91, v499] : Fin 2 → IVec S16 32) a x).toNat < S128x128.size a := fun v91 v499 k0_hw572 => k0_hw572

def k0_chk573 (v91 : IVec S16 32) (v501 : IVec S16 32) : Prop :=
  (∀ a x, ((![v91, v501] : Fin 2 → IVec S16 32) a x).toNat < S128x128.size a)
theorem k0_idx573_inb : ∀ (v91 : IVec S16 32) (v501 : IVec S16 32) (k0_hw573 : k0_chk573 v91 v501), ∀ a x, ((![v91, v501] : Fin 2 → IVec S16 32) a x).toNat < S128x128.size a := fun v91 v501 k0_hw573 => k0_hw573

def k0_chk574 (v91 : IVec S16 32) (v504 : IVec S16 32) : Prop :=
  (∀ a x, ((![v91, v504] : Fin 2 → IVec S16 32) a x).toNat < S128x128.size a)
theorem k0_idx574_inb : ∀ (v91 : IVec S16 32) (v504 : IVec S16 32) (k0_hw574 : k0_chk574 v91 v504), ∀ a x, ((![v91, v504] : Fin 2 → IVec S16 32) a x).toNat < S128x128.size a := fun v91 v504 k0_hw574 => k0_hw574

def k0_chk575 (v91 : IVec S16 32) (v506 : IVec S16 32) : Prop :=
  (∀ a x, ((![v91, v506] : Fin 2 → IVec S16 32) a x).toNat < S128x128.size a)
theorem k0_idx575_inb : ∀ (v91 : IVec S16 32) (v506 : IVec S16 32) (k0_hw575 : k0_chk575 v91 v506), ∀ a x, ((![v91, v506] : Fin 2 → IVec S16 32) a x).toNat < S128x128.size a := fun v91 v506 k0_hw575 => k0_hw575

def k0_chk576 (v91 : IVec S16 32) (v518 : IVec S16 32) : Prop :=
  (∀ a x, ((![v91, v518] : Fin 2 → IVec S16 32) a x).toNat < S128x128.size a)
theorem k0_idx576_inb : ∀ (v91 : IVec S16 32) (v518 : IVec S16 32) (k0_hw576 : k0_chk576 v91 v518), ∀ a x, ((![v91, v518] : Fin 2 → IVec S16 32) a x).toNat < S128x128.size a := fun v91 v518 k0_hw576 => k0_hw576

def k0_chk577 (v91 : IVec S16 32) (v520 : IVec S16 32) : Prop :=
  (∀ a x, ((![v91, v520] : Fin 2 → IVec S16 32) a x).toNat < S128x128.size a)
theorem k0_idx577_inb : ∀ (v91 : IVec S16 32) (v520 : IVec S16 32) (k0_hw577 : k0_chk577 v91 v520), ∀ a x, ((![v91, v520] : Fin 2 → IVec S16 32) a x).toNat < S128x128.size a := fun v91 v520 k0_hw577 => k0_hw577

def k0_chk578 (v91 : IVec S16 32) (v522 : IVec S16 32) : Prop :=
  (∀ a x, ((![v91, v522] : Fin 2 → IVec S16 32) a x).toNat < S128x128.size a)
theorem k0_idx578_inb : ∀ (v91 : IVec S16 32) (v522 : IVec S16 32) (k0_hw578 : k0_chk578 v91 v522), ∀ a x, ((![v91, v522] : Fin 2 → IVec S16 32) a x).toNat < S128x128.size a := fun v91 v522 k0_hw578 => k0_hw578

def k0_chk579 (v91 : IVec S16 32) (v525 : IVec S16 32) : Prop :=
  (∀ a x, ((![v91, v525] : Fin 2 → IVec S16 32) a x).toNat < S128x128.size a)
theorem k0_idx579_inb : ∀ (v91 : IVec S16 32) (v525 : IVec S16 32) (k0_hw579 : k0_chk579 v91 v525), ∀ a x, ((![v91, v525] : Fin 2 → IVec S16 32) a x).toNat < S128x128.size a := fun v91 v525 k0_hw579 => k0_hw579

def k0_chk580 (v91 : IVec S16 32) (v527 : IVec S16 32) : Prop :=
  (∀ a x, ((![v91, v527] : Fin 2 → IVec S16 32) a x).toNat < S128x128.size a)
theorem k0_idx580_inb : ∀ (v91 : IVec S16 32) (v527 : IVec S16 32) (k0_hw580 : k0_chk580 v91 v527), ∀ a x, ((![v91, v527] : Fin 2 → IVec S16 32) a x).toNat < S128x128.size a := fun v91 v527 k0_hw580 => k0_hw580

def k0_chk581 (v91 : IVec S16 32) (v539 : IVec S16 32) : Prop :=
  (∀ a x, ((![v91, v539] : Fin 2 → IVec S16 32) a x).toNat < S128x128.size a)
theorem k0_idx581_inb : ∀ (v91 : IVec S16 32) (v539 : IVec S16 32) (k0_hw581 : k0_chk581 v91 v539), ∀ a x, ((![v91, v539] : Fin 2 → IVec S16 32) a x).toNat < S128x128.size a := fun v91 v539 k0_hw581 => k0_hw581

def k0_chk582 (v91 : IVec S16 32) (v541 : IVec S16 32) : Prop :=
  (∀ a x, ((![v91, v541] : Fin 2 → IVec S16 32) a x).toNat < S128x128.size a)
theorem k0_idx582_inb : ∀ (v91 : IVec S16 32) (v541 : IVec S16 32) (k0_hw582 : k0_chk582 v91 v541), ∀ a x, ((![v91, v541] : Fin 2 → IVec S16 32) a x).toNat < S128x128.size a := fun v91 v541 k0_hw582 => k0_hw582

def k0_chk583 (v91 : IVec S16 32) (v543 : IVec S16 32) : Prop :=
  (∀ a x, ((![v91, v543] : Fin 2 → IVec S16 32) a x).toNat < S128x128.size a)
theorem k0_idx583_inb : ∀ (v91 : IVec S16 32) (v543 : IVec S16 32) (k0_hw583 : k0_chk583 v91 v543), ∀ a x, ((![v91, v543] : Fin 2 → IVec S16 32) a x).toNat < S128x128.size a := fun v91 v543 k0_hw583 => k0_hw583

def k0_chk584 (v91 : IVec S16 32) (v546 : IVec S16 32) : Prop :=
  (∀ a x, ((![v91, v546] : Fin 2 → IVec S16 32) a x).toNat < S128x128.size a)
theorem k0_idx584_inb : ∀ (v91 : IVec S16 32) (v546 : IVec S16 32) (k0_hw584 : k0_chk584 v91 v546), ∀ a x, ((![v91, v546] : Fin 2 → IVec S16 32) a x).toNat < S128x128.size a := fun v91 v546 k0_hw584 => k0_hw584

def k0_chk585 (v91 : IVec S16 32) (v548 : IVec S16 32) : Prop :=
  (∀ a x, ((![v91, v548] : Fin 2 → IVec S16 32) a x).toNat < S128x128.size a)
theorem k0_idx585_inb : ∀ (v91 : IVec S16 32) (v548 : IVec S16 32) (k0_hw585 : k0_chk585 v91 v548), ∀ a x, ((![v91, v548] : Fin 2 → IVec S16 32) a x).toNat < S128x128.size a := fun v91 v548 k0_hw585 => k0_hw585

def k0_chk586 (v91 : IVec S16 32) (v560 : IVec S16 32) : Prop :=
  (∀ a x, ((![v91, v560] : Fin 2 → IVec S16 32) a x).toNat < S128x128.size a)
theorem k0_idx586_inb : ∀ (v91 : IVec S16 32) (v560 : IVec S16 32) (k0_hw586 : k0_chk586 v91 v560), ∀ a x, ((![v91, v560] : Fin 2 → IVec S16 32) a x).toNat < S128x128.size a := fun v91 v560 k0_hw586 => k0_hw586

def k0_chk587 (v91 : IVec S16 32) (v562 : IVec S16 32) : Prop :=
  (∀ a x, ((![v91, v562] : Fin 2 → IVec S16 32) a x).toNat < S128x128.size a)
theorem k0_idx587_inb : ∀ (v91 : IVec S16 32) (v562 : IVec S16 32) (k0_hw587 : k0_chk587 v91 v562), ∀ a x, ((![v91, v562] : Fin 2 → IVec S16 32) a x).toNat < S128x128.size a := fun v91 v562 k0_hw587 => k0_hw587

def k0_chk588 (v91 : IVec S16 32) (v564 : IVec S16 32) : Prop :=
  (∀ a x, ((![v91, v564] : Fin 2 → IVec S16 32) a x).toNat < S128x128.size a)
theorem k0_idx588_inb : ∀ (v91 : IVec S16 32) (v564 : IVec S16 32) (k0_hw588 : k0_chk588 v91 v564), ∀ a x, ((![v91, v564] : Fin 2 → IVec S16 32) a x).toNat < S128x128.size a := fun v91 v564 k0_hw588 => k0_hw588

def k0_chk589 (v91 : IVec S16 32) (v567 : IVec S16 32) : Prop :=
  (∀ a x, ((![v91, v567] : Fin 2 → IVec S16 32) a x).toNat < S128x128.size a)
theorem k0_idx589_inb : ∀ (v91 : IVec S16 32) (v567 : IVec S16 32) (k0_hw589 : k0_chk589 v91 v567), ∀ a x, ((![v91, v567] : Fin 2 → IVec S16 32) a x).toNat < S128x128.size a := fun v91 v567 k0_hw589 => k0_hw589

def k0_chk590 (v91 : IVec S16 32) (v569 : IVec S16 32) : Prop :=
  (∀ a x, ((![v91, v569] : Fin 2 → IVec S16 32) a x).toNat < S128x128.size a)
theorem k0_idx590_inb : ∀ (v91 : IVec S16 32) (v569 : IVec S16 32) (k0_hw590 : k0_chk590 v91 v569), ∀ a x, ((![v91, v569] : Fin 2 → IVec S16 32) a x).toNat < S128x128.size a := fun v91 v569 k0_hw590 => k0_hw590

def k0_chk591 (v91 : IVec S16 32) (v581 : IVec S16 32) : Prop :=
  (∀ a x, ((![v91, v581] : Fin 2 → IVec S16 32) a x).toNat < S128x128.size a)
theorem k0_idx591_inb : ∀ (v91 : IVec S16 32) (v581 : IVec S16 32) (k0_hw591 : k0_chk591 v91 v581), ∀ a x, ((![v91, v581] : Fin 2 → IVec S16 32) a x).toNat < S128x128.size a := fun v91 v581 k0_hw591 => k0_hw591

def k0_chk592 (v91 : IVec S16 32) (v583 : IVec S16 32) : Prop :=
  (∀ a x, ((![v91, v583] : Fin 2 → IVec S16 32) a x).toNat < S128x128.size a)
theorem k0_idx592_inb : ∀ (v91 : IVec S16 32) (v583 : IVec S16 32) (k0_hw592 : k0_chk592 v91 v583), ∀ a x, ((![v91, v583] : Fin 2 → IVec S16 32) a x).toNat < S128x128.size a := fun v91 v583 k0_hw592 => k0_hw592

def k0_chk593 (v91 : IVec S16 32) (v585 : IVec S16 32) : Prop :=
  (∀ a x, ((![v91, v585] : Fin 2 → IVec S16 32) a x).toNat < S128x128.size a)
theorem k0_idx593_inb : ∀ (v91 : IVec S16 32) (v585 : IVec S16 32) (k0_hw593 : k0_chk593 v91 v585), ∀ a x, ((![v91, v585] : Fin 2 → IVec S16 32) a x).toNat < S128x128.size a := fun v91 v585 k0_hw593 => k0_hw593

def k0_chk594 (v91 : IVec S16 32) (v588 : IVec S16 32) : Prop :=
  (∀ a x, ((![v91, v588] : Fin 2 → IVec S16 32) a x).toNat < S128x128.size a)
theorem k0_idx594_inb : ∀ (v91 : IVec S16 32) (v588 : IVec S16 32) (k0_hw594 : k0_chk594 v91 v588), ∀ a x, ((![v91, v588] : Fin 2 → IVec S16 32) a x).toNat < S128x128.size a := fun v91 v588 k0_hw594 => k0_hw594

def k0_chk595 (v91 : IVec S16 32) (v590 : IVec S16 32) : Prop :=
  (∀ a x, ((![v91, v590] : Fin 2 → IVec S16 32) a x).toNat < S128x128.size a)
theorem k0_idx595_inb : ∀ (v91 : IVec S16 32) (v590 : IVec S16 32) (k0_hw595 : k0_chk595 v91 v590), ∀ a x, ((![v91, v590] : Fin 2 → IVec S16 32) a x).toNat < S128x128.size a := fun v91 v590 k0_hw595 => k0_hw595

def k0_chk596 (v91 : IVec S16 32) (v602 : IVec S16 32) : Prop :=
  (∀ a x, ((![v91, v602] : Fin 2 → IVec S16 32) a x).toNat < S128x128.size a)
theorem k0_idx596_inb : ∀ (v91 : IVec S16 32) (v602 : IVec S16 32) (k0_hw596 : k0_chk596 v91 v602), ∀ a x, ((![v91, v602] : Fin 2 → IVec S16 32) a x).toNat < S128x128.size a := fun v91 v602 k0_hw596 => k0_hw596

def k0_chk597 (v91 : IVec S16 32) (v604 : IVec S16 32) : Prop :=
  (∀ a x, ((![v91, v604] : Fin 2 → IVec S16 32) a x).toNat < S128x128.size a)
theorem k0_idx597_inb : ∀ (v91 : IVec S16 32) (v604 : IVec S16 32) (k0_hw597 : k0_chk597 v91 v604), ∀ a x, ((![v91, v604] : Fin 2 → IVec S16 32) a x).toNat < S128x128.size a := fun v91 v604 k0_hw597 => k0_hw597

def k0_chk598 (v91 : IVec S16 32) (v606 : IVec S16 32) : Prop :=
  (∀ a x, ((![v91, v606] : Fin 2 → IVec S16 32) a x).toNat < S128x128.size a)
theorem k0_idx598_inb : ∀ (v91 : IVec S16 32) (v606 : IVec S16 32) (k0_hw598 : k0_chk598 v91 v606), ∀ a x, ((![v91, v606] : Fin 2 → IVec S16 32) a x).toNat < S128x128.size a := fun v91 v606 k0_hw598 => k0_hw598

def k0_chk599 (v91 : IVec S16 32) (v609 : IVec S16 32) : Prop :=
  (∀ a x, ((![v91, v609] : Fin 2 → IVec S16 32) a x).toNat < S128x128.size a)
theorem k0_idx599_inb : ∀ (v91 : IVec S16 32) (v609 : IVec S16 32) (k0_hw599 : k0_chk599 v91 v609), ∀ a x, ((![v91, v609] : Fin 2 → IVec S16 32) a x).toNat < S128x128.size a := fun v91 v609 k0_hw599 => k0_hw599

def k0_chk600 (v91 : IVec S16 32) (v611 : IVec S16 32) : Prop :=
  (∀ a x, ((![v91, v611] : Fin 2 → IVec S16 32) a x).toNat < S128x128.size a)
theorem k0_idx600_inb : ∀ (v91 : IVec S16 32) (v611 : IVec S16 32) (k0_hw600 : k0_chk600 v91 v611), ∀ a x, ((![v91, v611] : Fin 2 → IVec S16 32) a x).toNat < S128x128.size a := fun v91 v611 k0_hw600 => k0_hw600

def k0_chk601 (v91 : IVec S16 32) (v623 : IVec S16 32) : Prop :=
  (∀ a x, ((![v91, v623] : Fin 2 → IVec S16 32) a x).toNat < S128x128.size a)
theorem k0_idx601_inb : ∀ (v91 : IVec S16 32) (v623 : IVec S16 32) (k0_hw601 : k0_chk601 v91 v623), ∀ a x, ((![v91, v623] : Fin 2 → IVec S16 32) a x).toNat < S128x128.size a := fun v91 v623 k0_hw601 => k0_hw601

def k0_chk602 (v91 : IVec S16 32) (v625 : IVec S16 32) : Prop :=
  (∀ a x, ((![v91, v625] : Fin 2 → IVec S16 32) a x).toNat < S128x128.size a)
theorem k0_idx602_inb : ∀ (v91 : IVec S16 32) (v625 : IVec S16 32) (k0_hw602 : k0_chk602 v91 v625), ∀ a x, ((![v91, v625] : Fin 2 → IVec S16 32) a x).toNat < S128x128.size a := fun v91 v625 k0_hw602 => k0_hw602

def k0_chk603 (v91 : IVec S16 32) (v627 : IVec S16 32) : Prop :=
  (∀ a x, ((![v91, v627] : Fin 2 → IVec S16 32) a x).toNat < S128x128.size a)
theorem k0_idx603_inb : ∀ (v91 : IVec S16 32) (v627 : IVec S16 32) (k0_hw603 : k0_chk603 v91 v627), ∀ a x, ((![v91, v627] : Fin 2 → IVec S16 32) a x).toNat < S128x128.size a := fun v91 v627 k0_hw603 => k0_hw603

def k0_chk604 (v91 : IVec S16 32) (v630 : IVec S16 32) : Prop :=
  (∀ a x, ((![v91, v630] : Fin 2 → IVec S16 32) a x).toNat < S128x128.size a)
theorem k0_idx604_inb : ∀ (v91 : IVec S16 32) (v630 : IVec S16 32) (k0_hw604 : k0_chk604 v91 v630), ∀ a x, ((![v91, v630] : Fin 2 → IVec S16 32) a x).toNat < S128x128.size a := fun v91 v630 k0_hw604 => k0_hw604

def k0_chk605 (v91 : IVec S16 32) (v632 : IVec S16 32) : Prop :=
  (∀ a x, ((![v91, v632] : Fin 2 → IVec S16 32) a x).toNat < S128x128.size a)
theorem k0_idx605_inb : ∀ (v91 : IVec S16 32) (v632 : IVec S16 32) (k0_hw605 : k0_chk605 v91 v632), ∀ a x, ((![v91, v632] : Fin 2 → IVec S16 32) a x).toNat < S128x128.size a := fun v91 v632 k0_hw605 => k0_hw605

def k0_chk606 (v91 : IVec S16 32) (v644 : IVec S16 32) : Prop :=
  (∀ a x, ((![v91, v644] : Fin 2 → IVec S16 32) a x).toNat < S128x128.size a)
theorem k0_idx606_inb : ∀ (v91 : IVec S16 32) (v644 : IVec S16 32) (k0_hw606 : k0_chk606 v91 v644), ∀ a x, ((![v91, v644] : Fin 2 → IVec S16 32) a x).toNat < S128x128.size a := fun v91 v644 k0_hw606 => k0_hw606

def k0_chk607 (v91 : IVec S16 32) (v646 : IVec S16 32) : Prop :=
  (∀ a x, ((![v91, v646] : Fin 2 → IVec S16 32) a x).toNat < S128x128.size a)
theorem k0_idx607_inb : ∀ (v91 : IVec S16 32) (v646 : IVec S16 32) (k0_hw607 : k0_chk607 v91 v646), ∀ a x, ((![v91, v646] : Fin 2 → IVec S16 32) a x).toNat < S128x128.size a := fun v91 v646 k0_hw607 => k0_hw607

def k0_chk608 (v91 : IVec S16 32) (v648 : IVec S16 32) : Prop :=
  (∀ a x, ((![v91, v648] : Fin 2 → IVec S16 32) a x).toNat < S128x128.size a)
theorem k0_idx608_inb : ∀ (v91 : IVec S16 32) (v648 : IVec S16 32) (k0_hw608 : k0_chk608 v91 v648), ∀ a x, ((![v91, v648] : Fin 2 → IVec S16 32) a x).toNat < S128x128.size a := fun v91 v648 k0_hw608 => k0_hw608

def k0_chk609 (v91 : IVec S16 32) (v651 : IVec S16 32) : Prop :=
  (∀ a x, ((![v91, v651] : Fin 2 → IVec S16 32) a x).toNat < S128x128.size a)
theorem k0_idx609_inb : ∀ (v91 : IVec S16 32) (v651 : IVec S16 32) (k0_hw609 : k0_chk609 v91 v651), ∀ a x, ((![v91, v651] : Fin 2 → IVec S16 32) a x).toNat < S128x128.size a := fun v91 v651 k0_hw609 => k0_hw609

def k0_chk610 (v91 : IVec S16 32) (v653 : IVec S16 32) : Prop :=
  (∀ a x, ((![v91, v653] : Fin 2 → IVec S16 32) a x).toNat < S128x128.size a)
theorem k0_idx610_inb : ∀ (v91 : IVec S16 32) (v653 : IVec S16 32) (k0_hw610 : k0_chk610 v91 v653), ∀ a x, ((![v91, v653] : Fin 2 → IVec S16 32) a x).toNat < S128x128.size a := fun v91 v653 k0_hw610 => k0_hw610

def k0_chk611 (v91 : IVec S16 32) (v665 : IVec S16 32) : Prop :=
  (∀ a x, ((![v91, v665] : Fin 2 → IVec S16 32) a x).toNat < S128x128.size a)
theorem k0_idx611_inb : ∀ (v91 : IVec S16 32) (v665 : IVec S16 32) (k0_hw611 : k0_chk611 v91 v665), ∀ a x, ((![v91, v665] : Fin 2 → IVec S16 32) a x).toNat < S128x128.size a := fun v91 v665 k0_hw611 => k0_hw611

def k0_chk612 (v91 : IVec S16 32) (v667 : IVec S16 32) : Prop :=
  (∀ a x, ((![v91, v667] : Fin 2 → IVec S16 32) a x).toNat < S128x128.size a)
theorem k0_idx612_inb : ∀ (v91 : IVec S16 32) (v667 : IVec S16 32) (k0_hw612 : k0_chk612 v91 v667), ∀ a x, ((![v91, v667] : Fin 2 → IVec S16 32) a x).toNat < S128x128.size a := fun v91 v667 k0_hw612 => k0_hw612

def k0_chk613 (v91 : IVec S16 32) (v669 : IVec S16 32) : Prop :=
  (∀ a x, ((![v91, v669] : Fin 2 → IVec S16 32) a x).toNat < S128x128.size a)
theorem k0_idx613_inb : ∀ (v91 : IVec S16 32) (v669 : IVec S16 32) (k0_hw613 : k0_chk613 v91 v669), ∀ a x, ((![v91, v669] : Fin 2 → IVec S16 32) a x).toNat < S128x128.size a := fun v91 v669 k0_hw613 => k0_hw613

def k0_chk614 (v91 : IVec S16 32) (v672 : IVec S16 32) : Prop :=
  (∀ a x, ((![v91, v672] : Fin 2 → IVec S16 32) a x).toNat < S128x128.size a)
theorem k0_idx614_inb : ∀ (v91 : IVec S16 32) (v672 : IVec S16 32) (k0_hw614 : k0_chk614 v91 v672), ∀ a x, ((![v91, v672] : Fin 2 → IVec S16 32) a x).toNat < S128x128.size a := fun v91 v672 k0_hw614 => k0_hw614

def k0_chk615 (v91 : IVec S16 32) (v674 : IVec S16 32) : Prop :=
  (∀ a x, ((![v91, v674] : Fin 2 → IVec S16 32) a x).toNat < S128x128.size a)
theorem k0_idx615_inb : ∀ (v91 : IVec S16 32) (v674 : IVec S16 32) (k0_hw615 : k0_chk615 v91 v674), ∀ a x, ((![v91, v674] : Fin 2 → IVec S16 32) a x).toNat < S128x128.size a := fun v91 v674 k0_hw615 => k0_hw615

def k0_chk616 (v91 : IVec S16 32) (v686 : IVec S16 32) : Prop :=
  (∀ a x, ((![v91, v686] : Fin 2 → IVec S16 32) a x).toNat < S128x128.size a)
theorem k0_idx616_inb : ∀ (v91 : IVec S16 32) (v686 : IVec S16 32) (k0_hw616 : k0_chk616 v91 v686), ∀ a x, ((![v91, v686] : Fin 2 → IVec S16 32) a x).toNat < S128x128.size a := fun v91 v686 k0_hw616 => k0_hw616

def k0_chk617 (v91 : IVec S16 32) (v688 : IVec S16 32) : Prop :=
  (∀ a x, ((![v91, v688] : Fin 2 → IVec S16 32) a x).toNat < S128x128.size a)
theorem k0_idx617_inb : ∀ (v91 : IVec S16 32) (v688 : IVec S16 32) (k0_hw617 : k0_chk617 v91 v688), ∀ a x, ((![v91, v688] : Fin 2 → IVec S16 32) a x).toNat < S128x128.size a := fun v91 v688 k0_hw617 => k0_hw617

def k0_chk618 (v91 : IVec S16 32) (v690 : IVec S16 32) : Prop :=
  (∀ a x, ((![v91, v690] : Fin 2 → IVec S16 32) a x).toNat < S128x128.size a)
theorem k0_idx618_inb : ∀ (v91 : IVec S16 32) (v690 : IVec S16 32) (k0_hw618 : k0_chk618 v91 v690), ∀ a x, ((![v91, v690] : Fin 2 → IVec S16 32) a x).toNat < S128x128.size a := fun v91 v690 k0_hw618 => k0_hw618

def k0_chk619 (v91 : IVec S16 32) (v693 : IVec S16 32) : Prop :=
  (∀ a x, ((![v91, v693] : Fin 2 → IVec S16 32) a x).toNat < S128x128.size a)
theorem k0_idx619_inb : ∀ (v91 : IVec S16 32) (v693 : IVec S16 32) (k0_hw619 : k0_chk619 v91 v693), ∀ a x, ((![v91, v693] : Fin 2 → IVec S16 32) a x).toNat < S128x128.size a := fun v91 v693 k0_hw619 => k0_hw619

def k0_chk620 (v91 : IVec S16 32) (v695 : IVec S16 32) : Prop :=
  (∀ a x, ((![v91, v695] : Fin 2 → IVec S16 32) a x).toNat < S128x128.size a)
theorem k0_idx620_inb : ∀ (v91 : IVec S16 32) (v695 : IVec S16 32) (k0_hw620 : k0_chk620 v91 v695), ∀ a x, ((![v91, v695] : Fin 2 → IVec S16 32) a x).toNat < S128x128.size a := fun v91 v695 k0_hw620 => k0_hw620

def k0_chk621 (v91 : IVec S16 32) (v707 : IVec S16 32) : Prop :=
  (∀ a x, ((![v91, v707] : Fin 2 → IVec S16 32) a x).toNat < S128x128.size a)
theorem k0_idx621_inb : ∀ (v91 : IVec S16 32) (v707 : IVec S16 32) (k0_hw621 : k0_chk621 v91 v707), ∀ a x, ((![v91, v707] : Fin 2 → IVec S16 32) a x).toNat < S128x128.size a := fun v91 v707 k0_hw621 => k0_hw621

def k0_chk622 (v91 : IVec S16 32) (v709 : IVec S16 32) : Prop :=
  (∀ a x, ((![v91, v709] : Fin 2 → IVec S16 32) a x).toNat < S128x128.size a)
theorem k0_idx622_inb : ∀ (v91 : IVec S16 32) (v709 : IVec S16 32) (k0_hw622 : k0_chk622 v91 v709), ∀ a x, ((![v91, v709] : Fin 2 → IVec S16 32) a x).toNat < S128x128.size a := fun v91 v709 k0_hw622 => k0_hw622

def k0_chk623 (v91 : IVec S16 32) (v711 : IVec S16 32) : Prop :=
  (∀ a x, ((![v91, v711] : Fin 2 → IVec S16 32) a x).toNat < S128x128.size a)
theorem k0_idx623_inb : ∀ (v91 : IVec S16 32) (v711 : IVec S16 32) (k0_hw623 : k0_chk623 v91 v711), ∀ a x, ((![v91, v711] : Fin 2 → IVec S16 32) a x).toNat < S128x128.size a := fun v91 v711 k0_hw623 => k0_hw623

def k0_chk624 (v91 : IVec S16 32) (v714 : IVec S16 32) : Prop :=
  (∀ a x, ((![v91, v714] : Fin 2 → IVec S16 32) a x).toNat < S128x128.size a)
theorem k0_idx624_inb : ∀ (v91 : IVec S16 32) (v714 : IVec S16 32) (k0_hw624 : k0_chk624 v91 v714), ∀ a x, ((![v91, v714] : Fin 2 → IVec S16 32) a x).toNat < S128x128.size a := fun v91 v714 k0_hw624 => k0_hw624

def k0_chk625 (v91 : IVec S16 32) (v716 : IVec S16 32) : Prop :=
  (∀ a x, ((![v91, v716] : Fin 2 → IVec S16 32) a x).toNat < S128x128.size a)
theorem k0_idx625_inb : ∀ (v91 : IVec S16 32) (v716 : IVec S16 32) (k0_hw625 : k0_chk625 v91 v716), ∀ a x, ((![v91, v716] : Fin 2 → IVec S16 32) a x).toNat < S128x128.size a := fun v91 v716 k0_hw625 => k0_hw625

def k0_chk626 (v91 : IVec S16 32) (v728 : IVec S16 32) : Prop :=
  (∀ a x, ((![v91, v728] : Fin 2 → IVec S16 32) a x).toNat < S128x128.size a)
theorem k0_idx626_inb : ∀ (v91 : IVec S16 32) (v728 : IVec S16 32) (k0_hw626 : k0_chk626 v91 v728), ∀ a x, ((![v91, v728] : Fin 2 → IVec S16 32) a x).toNat < S128x128.size a := fun v91 v728 k0_hw626 => k0_hw626

def k0_chk627 (v91 : IVec S16 32) (v730 : IVec S16 32) : Prop :=
  (∀ a x, ((![v91, v730] : Fin 2 → IVec S16 32) a x).toNat < S128x128.size a)
theorem k0_idx627_inb : ∀ (v91 : IVec S16 32) (v730 : IVec S16 32) (k0_hw627 : k0_chk627 v91 v730), ∀ a x, ((![v91, v730] : Fin 2 → IVec S16 32) a x).toNat < S128x128.size a := fun v91 v730 k0_hw627 => k0_hw627

def k0_chk628 (v91 : IVec S16 32) (v732 : IVec S16 32) : Prop :=
  (∀ a x, ((![v91, v732] : Fin 2 → IVec S16 32) a x).toNat < S128x128.size a)
theorem k0_idx628_inb : ∀ (v91 : IVec S16 32) (v732 : IVec S16 32) (k0_hw628 : k0_chk628 v91 v732), ∀ a x, ((![v91, v732] : Fin 2 → IVec S16 32) a x).toNat < S128x128.size a := fun v91 v732 k0_hw628 => k0_hw628

def k0_chk629 (v91 : IVec S16 32) (v735 : IVec S16 32) : Prop :=
  (∀ a x, ((![v91, v735] : Fin 2 → IVec S16 32) a x).toNat < S128x128.size a)
theorem k0_idx629_inb : ∀ (v91 : IVec S16 32) (v735 : IVec S16 32) (k0_hw629 : k0_chk629 v91 v735), ∀ a x, ((![v91, v735] : Fin 2 → IVec S16 32) a x).toNat < S128x128.size a := fun v91 v735 k0_hw629 => k0_hw629

def k0_chk630 (v91 : IVec S16 32) (v737 : IVec S16 32) : Prop :=
  (∀ a x, ((![v91, v737] : Fin 2 → IVec S16 32) a x).toNat < S128x128.size a)
theorem k0_idx630_inb : ∀ (v91 : IVec S16 32) (v737 : IVec S16 32) (k0_hw630 : k0_chk630 v91 v737), ∀ a x, ((![v91, v737] : Fin 2 → IVec S16 32) a x).toNat < S128x128.size a := fun v91 v737 k0_hw630 => k0_hw630

def k0_chk631 (v91 : IVec S16 32) (v749 : IVec S16 32) : Prop :=
  (∀ a x, ((![v91, v749] : Fin 2 → IVec S16 32) a x).toNat < S128x128.size a)
theorem k0_idx631_inb : ∀ (v91 : IVec S16 32) (v749 : IVec S16 32) (k0_hw631 : k0_chk631 v91 v749), ∀ a x, ((![v91, v749] : Fin 2 → IVec S16 32) a x).toNat < S128x128.size a := fun v91 v749 k0_hw631 => k0_hw631

def k0_chk632 (v91 : IVec S16 32) (v751 : IVec S16 32) : Prop :=
  (∀ a x, ((![v91, v751] : Fin 2 → IVec S16 32) a x).toNat < S128x128.size a)
theorem k0_idx632_inb : ∀ (v91 : IVec S16 32) (v751 : IVec S16 32) (k0_hw632 : k0_chk632 v91 v751), ∀ a x, ((![v91, v751] : Fin 2 → IVec S16 32) a x).toNat < S128x128.size a := fun v91 v751 k0_hw632 => k0_hw632

def k0_chk633 (v91 : IVec S16 32) (v753 : IVec S16 32) : Prop :=
  (∀ a x, ((![v91, v753] : Fin 2 → IVec S16 32) a x).toNat < S128x128.size a)
theorem k0_idx633_inb : ∀ (v91 : IVec S16 32) (v753 : IVec S16 32) (k0_hw633 : k0_chk633 v91 v753), ∀ a x, ((![v91, v753] : Fin 2 → IVec S16 32) a x).toNat < S128x128.size a := fun v91 v753 k0_hw633 => k0_hw633

def k0_chk634 (v91 : IVec S16 32) (v756 : IVec S16 32) : Prop :=
  (∀ a x, ((![v91, v756] : Fin 2 → IVec S16 32) a x).toNat < S128x128.size a)
theorem k0_idx634_inb : ∀ (v91 : IVec S16 32) (v756 : IVec S16 32) (k0_hw634 : k0_chk634 v91 v756), ∀ a x, ((![v91, v756] : Fin 2 → IVec S16 32) a x).toNat < S128x128.size a := fun v91 v756 k0_hw634 => k0_hw634

def k0_chk635 (v91 : IVec S16 32) (v758 : IVec S16 32) : Prop :=
  (∀ a x, ((![v91, v758] : Fin 2 → IVec S16 32) a x).toNat < S128x128.size a)
theorem k0_idx635_inb : ∀ (v91 : IVec S16 32) (v758 : IVec S16 32) (k0_hw635 : k0_chk635 v91 v758), ∀ a x, ((![v91, v758] : Fin 2 → IVec S16 32) a x).toNat < S128x128.size a := fun v91 v758 k0_hw635 => k0_hw635

def k0_chk636 (v91 : IVec S16 32) (v770 : IVec S16 32) : Prop :=
  (∀ a x, ((![v91, v770] : Fin 2 → IVec S16 32) a x).toNat < S128x128.size a)
theorem k0_idx636_inb : ∀ (v91 : IVec S16 32) (v770 : IVec S16 32) (k0_hw636 : k0_chk636 v91 v770), ∀ a x, ((![v91, v770] : Fin 2 → IVec S16 32) a x).toNat < S128x128.size a := fun v91 v770 k0_hw636 => k0_hw636

def k0_chk637 (v91 : IVec S16 32) (v772 : IVec S16 32) : Prop :=
  (∀ a x, ((![v91, v772] : Fin 2 → IVec S16 32) a x).toNat < S128x128.size a)
theorem k0_idx637_inb : ∀ (v91 : IVec S16 32) (v772 : IVec S16 32) (k0_hw637 : k0_chk637 v91 v772), ∀ a x, ((![v91, v772] : Fin 2 → IVec S16 32) a x).toNat < S128x128.size a := fun v91 v772 k0_hw637 => k0_hw637

def k0_chk638 (v91 : IVec S16 32) (v774 : IVec S16 32) : Prop :=
  (∀ a x, ((![v91, v774] : Fin 2 → IVec S16 32) a x).toNat < S128x128.size a)
theorem k0_idx638_inb : ∀ (v91 : IVec S16 32) (v774 : IVec S16 32) (k0_hw638 : k0_chk638 v91 v774), ∀ a x, ((![v91, v774] : Fin 2 → IVec S16 32) a x).toNat < S128x128.size a := fun v91 v774 k0_hw638 => k0_hw638

def k0_chk639 (v91 : IVec S16 32) (v777 : IVec S16 32) : Prop :=
  (∀ a x, ((![v91, v777] : Fin 2 → IVec S16 32) a x).toNat < S128x128.size a)
theorem k0_idx639_inb : ∀ (v91 : IVec S16 32) (v777 : IVec S16 32) (k0_hw639 : k0_chk639 v91 v777), ∀ a x, ((![v91, v777] : Fin 2 → IVec S16 32) a x).toNat < S128x128.size a := fun v91 v777 k0_hw639 => k0_hw639

def k0_chk640 (v91 : IVec S16 32) (v779 : IVec S16 32) : Prop :=
  (∀ a x, ((![v91, v779] : Fin 2 → IVec S16 32) a x).toNat < S128x128.size a)
theorem k0_idx640_inb : ∀ (v91 : IVec S16 32) (v779 : IVec S16 32) (k0_hw640 : k0_chk640 v91 v779), ∀ a x, ((![v91, v779] : Fin 2 → IVec S16 32) a x).toNat < S128x128.size a := fun v91 v779 k0_hw640 => k0_hw640
def k0_off10 (k0_t5 : Fin k0_t5_loop.trips) : Fin 1 → Nat :=
  let c384_i32_140 : BitVec 32 := 384#32
  let c0_i32_134 : BitVec 32 := 0#32
  let c1_i32_136 : BitVec 32 := 1#32
  let arg22 : BitVec 32 := Scf.iv c0_i32_134 c1_i32_136 k0_t5
  let c16_i32_139 : BitVec 32 := 16#32
  let v92 : BitVec 32 := Scalar.muli arg22 c16_i32_139
  let v93 : BitVec 32 := Scalar.addi c384_i32_140 v92
  let v785 : Index := Scalar.indexCast v93
  ![v785.toNat]
abbrev grid1 : Pipeline.Grid := .none

abbrev stage1_0 : Fin 1 → Memref sig .tc .vmem S128x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .smem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x3 : Shape := ⟨2, ![16384, 3]⟩
abbrev S_ : Shape := ⟨0, ![]⟩
abbrev S1000000x32 : Shape := ⟨2, ![1000000, 32]⟩
abbrev S200x32x32 : Shape := ⟨3, ![200, 32, 32]⟩
abbrev S200x32 : Shape := ⟨2, ![200, 32]⟩
abbrev S16384x1 : Shape := ⟨2, ![16384, 1]⟩
abbrev S16384 : Shape := ⟨1, ![16384]⟩
abbrev S1 : Shape := ⟨1, ![1]⟩
abbrev S1x1 : Shape := ⟨2, ![1, 1]⟩
abbrev S16384x32 : Shape := ⟨2, ![16384, 32]⟩

abbrev nBuf : Space → Nat
  | .hbm => 148
  | .vmem => 0
  | .smem => 0
  | _ => 0

abbrev hbmTy0_0 (i : Nat) : BufTy := match i % 128 with
  | 0 => ⟨S16384x3, .i32⟩
  | 1 => ⟨S_, .i32⟩
  | 2 => ⟨S1000000x32, .f32⟩
  | 3 => ⟨S1000000x32, .f32⟩
  | 4 => ⟨S1000000x32, .f32⟩
  | 5 => ⟨S200x32x32, .f32⟩
  | 6 => ⟨S200x32, .f32⟩
  | 7 => ⟨S16384x1, .i32⟩
  | 8 => ⟨S16384, .i32⟩
  | 9 => ⟨S16384x1, .i32⟩
  | 10 => ⟨S16384, .i32⟩
  | 11 => ⟨S16384x1, .i32⟩
  | 12 => ⟨S16384, .i32⟩
  | 13 => ⟨S_, .i32⟩
  | 14 => ⟨S16384, .i32⟩
  | 15 => ⟨S16384, .i1⟩
  | 16 => ⟨S_, .i32⟩
  | 17 => ⟨S16384, .i32⟩
  | 18 => ⟨S16384, .i32⟩
  | 19 => ⟨S16384, .i32⟩
  | 20 => ⟨S16384x1, .i32⟩
  | 21 => ⟨S1, .i32⟩
  | 22 => ⟨S_, .i32⟩
  | 23 => ⟨S16384x1, .i32⟩
  | 24 => ⟨S16384x1, .i1⟩
  | 25 => ⟨S1x1, .i32⟩
  | 26 => ⟨S16384x1, .i32⟩
  | 27 => ⟨S16384x1, .i1⟩
  | 28 => ⟨S16384x1, .i1⟩
  | 29 => ⟨S_, .i1⟩
  | 30 => ⟨S16384, .i1⟩
  | 31 => ⟨S16384x32, .f32⟩
  | 32 => ⟨S16384x32, .i1⟩
  | 33 => ⟨S_, .f32⟩
  | 34 => ⟨S16384x32, .f32⟩
  | 35 => ⟨S16384x32, .f32⟩
  | 36 => ⟨S_, .i32⟩
  | 37 => ⟨S16384, .i32⟩
  | 38 => ⟨S16384, .i1⟩
  | 39 => ⟨S_, .i32⟩
  | 40 => ⟨S16384, .i32⟩
  | 41 => ⟨S16384, .i32⟩
  | 42 => ⟨S16384, .i32⟩
  | 43 => ⟨S16384x1, .i32⟩
  | 44 => ⟨S1, .i32⟩
  | 45 => ⟨S_, .i32⟩
  | 46 => ⟨S16384x1, .i32⟩
  | 47 => ⟨S16384x1, .i1⟩
  | 48 => ⟨S1x1, .i32⟩
  | 49 => ⟨S16384x1, .i32⟩
  | 50 => ⟨S16384x1, .i1⟩
  | 51 => ⟨S16384x1, .i1⟩
  | 52 => ⟨S_, .i1⟩
  | 53 => ⟨S16384, .i1⟩
  | 54 => ⟨S16384x32, .f32⟩
  | 55 => ⟨S16384x32, .i1⟩
  | 56 => ⟨S_, .f32⟩
  | 57 => ⟨S16384x32, .f32⟩
  | 58 => ⟨S16384x32, .f32⟩
  | 59 => ⟨S_, .i32⟩
  | 60 => ⟨S16384, .i32⟩
  | 61 => ⟨S16384, .i1⟩
  | 62 => ⟨S_, .i32⟩
  | 63 => ⟨S16384, .i32⟩
  | 64 => ⟨S16384, .i32⟩
  | 65 => ⟨S16384, .i32⟩
  | 66 => ⟨S16384x1, .i32⟩
  | 67 => ⟨S1, .i32⟩
  | 68 => ⟨S_, .i32⟩
  | 69 => ⟨S16384x1, .i32⟩
  | 70 => ⟨S16384x1, .i1⟩
  | 71 => ⟨S1x1, .i32⟩
  | 72 => ⟨S16384x1, .i32⟩
  | 73 => ⟨S16384x1, .i1⟩
  | 74 => ⟨S16384x1, .i1⟩
  | 75 => ⟨S_, .i1⟩
  | 76 => ⟨S16384, .i1⟩
  | 77 => ⟨S16384x32, .f32⟩
  | 78 => ⟨S16384x32, .i1⟩
  | 79 => ⟨S_, .f32⟩
  | 80 => ⟨S16384x32, .f32⟩
  | 81 => ⟨S16384x32, .f32⟩
  | 82 => ⟨S16384x32, .f32⟩
  | 83 => ⟨S_, .i32⟩
  | 84 => ⟨S16384, .i32⟩
  | 85 => ⟨S16384, .i1⟩
  | 86 => ⟨S_, .i32⟩
  | 87 => ⟨S16384, .i32⟩
  | 88 => ⟨S16384, .i32⟩
  | 89 => ⟨S16384, .i32⟩
  | 90 => ⟨S16384x1, .i32⟩
  | 91 => ⟨S1, .i32⟩
  | 92 => ⟨S_, .i32⟩
  | 93 => ⟨S16384x1, .i32⟩
  | 94 => ⟨S16384x1, .i1⟩
  | 95 => ⟨S1x1, .i32⟩
  | 96 => ⟨S16384x1, .i32⟩
  | 97 => ⟨S16384x1, .i1⟩
  | 98 => ⟨S16384x1, .i1⟩
  | 99 => ⟨S_, .i1⟩
  | 100 => ⟨S16384, .i1⟩
  | 101 => ⟨S16384x32, .f32⟩
  | 102 => ⟨S16384x32, .i1⟩
  | 103 => ⟨S_, .f32⟩
  | 104 => ⟨S16384x32, .f32⟩
  | 105 => ⟨S16384x32, .f32⟩
  | 106 => ⟨S_, .i32⟩
  | 107 => ⟨S16384, .i32⟩
  | 108 => ⟨S16384, .i1⟩
  | 109 => ⟨S_, .i32⟩
  | 110 => ⟨S16384, .i32⟩
  | 111 => ⟨S16384, .i32⟩
  | 112 => ⟨S16384, .i32⟩
  | 113 => ⟨S16384x1, .i32⟩
  | 114 => ⟨S1, .i32⟩
  | 115 => ⟨S_, .i32⟩
  | 116 => ⟨S16384x1, .i32⟩
  | 117 => ⟨S16384x1, .i1⟩
  | 118 => ⟨S1x1, .i32⟩
  | 119 => ⟨S16384x1, .i32⟩
  | 120 => ⟨S16384x1, .i1⟩
  | 121 => ⟨S16384x1, .i1⟩
  | 122 => ⟨S_, .i1⟩
  | 123 => ⟨S16384, .i1⟩
  | 124 => ⟨S16384x32, .f32⟩
  | 125 => ⟨S16384x32, .i1⟩
  | 126 => ⟨S_, .f32⟩
  | 127 => ⟨S16384x32, .f32⟩
  | _ => ⟨S16384x3, .i32⟩

abbrev hbmTy0_1 (i : Nat) : BufTy := match i % 128 with
  | 0 => ⟨S16384x32, .f32⟩
  | 1 => ⟨S16384x32, .f32⟩
  | 2 => ⟨S16384x32, .f32⟩
  | 3 => ⟨S_, .f32⟩
  | 4 => ⟨S16384, .f32⟩
  | 5 => ⟨S16384x32, .f32⟩
  | 6 => ⟨S_, .f32⟩
  | 7 => ⟨S16384, .f32⟩
  | 8 => ⟨S16384, .f32⟩
  | 9 => ⟨S16384, .f32⟩
  | 10 => ⟨S16384, .f32⟩
  | 11 => ⟨S_, .f32⟩
  | 12 => ⟨S16384, .f32⟩
  | 13 => ⟨S16384, .f32⟩
  | 14 => ⟨S_, .f32⟩
  | 15 => ⟨S16384, .f32⟩
  | 16 => ⟨S16384, .f32⟩
  | 17 => ⟨S16384, .f32⟩
  | 18 => ⟨S_, .f32⟩
  | 19 => ⟨S_, .f32⟩
  | _ => ⟨S16384x3, .i32⟩

abbrev hbmTy (i : Nat) : BufTy := match i / 128 with
  | 0 => hbmTy0_0 i
  | 1 => hbmTy0_1 i
  | _ => ⟨S16384x3, .i32⟩

abbrev bufTy : (tb : Table) → Fin (tcTables nBuf tb) → BufTy
  | .hbm, ⟨i, _⟩ => hbmTy i
  | _, _ => ⟨S16384x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v6 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v7 : Ref sig .tc := ⟨.hbm, 58, rfl⟩
abbrev main_call2_c : Ref sig .tc := ⟨.hbm, 59, rfl⟩
abbrev main_call2_v0 : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_c_1 : Ref sig .tc := ⟨.hbm, 67, rfl⟩
abbrev main_call2_c_2 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_3 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_call2_cst : Ref sig .tc := ⟨.hbm, 79, rfl⟩
abbrev main_call2_v15 : Ref sig .tc := ⟨.hbm, 80, rfl⟩
abbrev main_v8 : Ref sig .tc := ⟨.hbm, 81, rfl⟩
abbrev main_v9 : Ref sig .tc := ⟨.hbm, 82, rfl⟩
abbrev main_call3_c : Ref sig .tc := ⟨.hbm, 83, rfl⟩
abbrev main_call3_v0 : Ref sig .tc := ⟨.hbm, 84, rfl⟩
abbrev main_call3_v1 : Ref sig .tc := ⟨.hbm, 85, rfl⟩
abbrev main_call3_c_0 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_call3_v5 : Ref sig .tc := ⟨.hbm, 90, rfl⟩
abbrev main_call3_c_1 : Ref sig .tc := ⟨.hbm, 91, rfl⟩
abbrev main_call3_c_2 : Ref sig .tc := ⟨.hbm, 92, rfl⟩
abbrev main_call3_v6 : Ref sig .tc := ⟨.hbm, 93, rfl⟩
abbrev main_call3_v7 : Ref sig .tc := ⟨.hbm, 94, rfl⟩
abbrev main_call3_v8 : Ref sig .tc := ⟨.hbm, 95, rfl⟩
abbrev main_call3_v9 : Ref sig .tc := ⟨.hbm, 96, rfl⟩
abbrev main_call3_v10 : Ref sig .tc := ⟨.hbm, 97, rfl⟩
abbrev main_call3_v11 : Ref sig .tc := ⟨.hbm, 98, rfl⟩
abbrev main_call3_c_3 : Ref sig .tc := ⟨.hbm, 99, rfl⟩
abbrev main_call3_v12 : Ref sig .tc := ⟨.hbm, 100, rfl⟩
abbrev main_call3_v13 : Ref sig .tc := ⟨.hbm, 101, rfl⟩
abbrev main_call3_v14 : Ref sig .tc := ⟨.hbm, 102, rfl⟩
abbrev main_call3_cst : Ref sig .tc := ⟨.hbm, 103, rfl⟩
abbrev main_call3_v15 : Ref sig .tc := ⟨.hbm, 104, rfl⟩
abbrev main_v10 : Ref sig .tc := ⟨.hbm, 105, rfl⟩
abbrev main_call4_c : Ref sig .tc := ⟨.hbm, 106, rfl⟩
abbrev main_call4_v0 : Ref sig .tc := ⟨.hbm, 107, rfl⟩
abbrev main_call4_v1 : Ref sig .tc := ⟨.hbm, 108, rfl⟩
abbrev main_call4_c_0 : Ref sig .tc := ⟨.hbm, 109, rfl⟩
abbrev main_call4_v2 : Ref sig .tc := ⟨.hbm, 110, rfl⟩
abbrev main_call4_v3 : Ref sig .tc := ⟨.hbm, 111, rfl⟩
abbrev main_call4_v4 : Ref sig .tc := ⟨.hbm, 112, rfl⟩
abbrev main_call4_v5 : Ref sig .tc := ⟨.hbm, 113, rfl⟩
abbrev main_call4_c_1 : Ref sig .tc := ⟨.hbm, 114, rfl⟩
abbrev main_call4_c_2 : Ref sig .tc := ⟨.hbm, 115, rfl⟩
abbrev main_call4_v6 : Ref sig .tc := ⟨.hbm, 116, rfl⟩
abbrev main_call4_v7 : Ref sig .tc := ⟨.hbm, 117, rfl⟩
abbrev main_call4_v8 : Ref sig .tc := ⟨.hbm, 118, rfl⟩
abbrev main_call4_v9 : Ref sig .tc := ⟨.hbm, 119, rfl⟩
abbrev main_call4_v10 : Ref sig .tc := ⟨.hbm, 120, rfl⟩
abbrev main_call4_v11 : Ref sig .tc := ⟨.hbm, 121, rfl⟩
abbrev main_call4_c_3 : Ref sig .tc := ⟨.hbm, 122, rfl⟩
abbrev main_call4_v12 : Ref sig .tc := ⟨.hbm, 123, rfl⟩
abbrev main_call4_v13 : Ref sig .tc := ⟨.hbm, 124, rfl⟩
abbrev main_call4_v14 : Ref sig .tc := ⟨.hbm, 125, rfl⟩
abbrev main_call4_cst : Ref sig .tc := ⟨.hbm, 126, rfl⟩
abbrev main_call4_v15 : Ref sig .tc := ⟨.hbm, 127, rfl⟩
abbrev main_v11 : Ref sig .tc := ⟨.hbm, 128, rfl⟩
abbrev main_v12 : Ref sig .tc := ⟨.hbm, 129, rfl⟩
abbrev main_v13 : Ref sig .tc := ⟨.hbm, 130, rfl⟩
abbrev main_cst : Ref sig .tc := ⟨.hbm, 131, rfl⟩
abbrev main_v14 : Ref sig .tc := ⟨.hbm, 132, rfl⟩
abbrev main_v15 : Ref sig .tc := ⟨.hbm, 133, rfl⟩
abbrev main_cst_0 : Ref sig .tc := ⟨.hbm, 134, rfl⟩
abbrev main_v16 : Ref sig .tc := ⟨.hbm, 135, rfl⟩
abbrev main_v17 : Ref sig .tc := ⟨.hbm, 136, rfl⟩
abbrev main_v18 : Ref sig .tc := ⟨.hbm, 137, rfl⟩
abbrev main_v19 : Ref sig .tc := ⟨.hbm, 138, rfl⟩
abbrev main_cst_1 : Ref sig .tc := ⟨.hbm, 139, rfl⟩
abbrev main_v20 : Ref sig .tc := ⟨.hbm, 140, rfl⟩
abbrev main_v21 : Ref sig .tc := ⟨.hbm, 141, rfl⟩
abbrev main_cst_2 : Ref sig .tc := ⟨.hbm, 142, rfl⟩
abbrev main_v22 : Ref sig .tc := ⟨.hbm, 143, rfl⟩
abbrev main_v23 : Ref sig .tc := ⟨.hbm, 144, rfl⟩
abbrev main_v24 : Ref sig .tc := ⟨.hbm, 145, rfl⟩
abbrev main_cst_3 : Ref sig .tc := ⟨.hbm, 146, rfl⟩
abbrev main_v25 : Ref sig .tc := ⟨.hbm, 147, rfl⟩

abbrev nD : Nat := 1
abbrev τ : Topo := Topo.v7x

variable {F : FTy → Type} [FloatOps F]
-- ==== Proof.Body.lean ====
/-
  The tile kernel's body, restated. The printed body is cut by statement count into windows that end in the middle of
  a group of copies, and its dot-product loops are unrolled over the 32 embedding dimensions, once per chunk of 128
  rows. Here it is stated by its structure: three copies in, a loop that turns each id into the number of the 128-wide
  row holding it, then per chunk five row gathers, their five waits and a loop of dot products over sixteen rows at a
  time, and a copy out. `body_eq` says the printed body is this program.
-/
module

public import proofs.«01_k».proof.Defs
public import proofs.«01_k».proof.Proof.Gen.KernelIdeal
public import Idealize.ShloMosaic.Lib.SparseCore.Ops

@[expose] public section

set_option maxRecDepth 16384

noncomputable section

namespace Cert.Proof.Body

open Cert.KernelIdeal Cert.KernelIdeal.Gen
open Idealize.ShloMosaic
open Idealize.SL Idealize.SL.Sem

variable {F : FTy → Type} [FloatOps F]

/-! ## The memory the tile works on -/

/-- The three columns of ids. -/
abbrev uidM : Memref sig .scVector .hbm S16384 .i32 := Memref.whole main_v4_scv
abbrev pidM : Memref sig .scVector .hbm S16384 .i32 := Memref.whole main_v6_scv
abbrev nidM : Memref sig .scVector .hbm S16384 .i32 := Memref.whole main_v8_scv
/-- The three tables, four embeddings to a row. -/
abbrev userM : Memref sig .scVector .hbm S250000x128 .f32 := Memref.whole main_v0_scv
abbrev itemM : Memref sig .scVector .hbm S250000x128 .f32 := Memref.whole main_v1_scv
abbrev entM : Memref sig .scVector .hbm S250000x128 .f32 := Memref.whole main_v2_scv
/-- The scores. -/
abbrev outM : Memref sig .scVector .hbm S16384 .f32 := Memref.whole main_v9_scv
/-- The tile's 512 ids of each column, and the numbers of the 128-wide rows that hold them. -/
abbrev ui : Memref sig .scVector .vmem S512 .i32 := Memref.whole cc0_scratch0
abbrev pi : Memref sig .scVector .vmem S512 .i32 := Memref.whole cc0_scratch1
abbrev ni : Memref sig .scVector .vmem S512 .i32 := Memref.whole cc0_scratch2
abbrev ub : Memref sig .scVector .vmem S512 .i32 := Memref.whole cc0_scratch3
abbrev pb : Memref sig .scVector .vmem S512 .i32 := Memref.whole cc0_scratch4
abbrev nb : Memref sig .scVector .vmem S512 .i32 := Memref.whole cc0_scratch5
/-- A chunk's gathered rows. -/
abbrev ur : Memref sig .scVector .vmem S128x128 .f32 := Memref.whole cc0_scratch6
abbrev pir : Memref sig .scVector .vmem S128x128 .f32 := Memref.whole cc0_scratch7
abbrev per : Memref sig .scVector .vmem S128x128 .f32 := Memref.whole cc0_scratch8
abbrev nir : Memref sig .scVector .vmem S128x128 .f32 := Memref.whole cc0_scratch9
abbrev ner : Memref sig .scVector .vmem S128x128 .f32 := Memref.whole cc0_scratch10
/-- The tile's 512 scores. -/
abbrev sc20 : Memref sig .scVector .vmem S512 .f32 := Memref.whole cc0_scratch11

/-- The processor a tile's body runs on. -/
abbrev procOf (i : grid0.Coords) : Proc τ := .scVector ((i 0).castLE hcore0) ((i 1).castLE hsub0)

variable (i : grid0.Coords)

local notation "PT" => Prog (TpuEff nD τ sig (Elt F) Λ₀ (procOf i))

/-! ## The dot products -/

/-- A checked gather from one buffer of rows, at a row and a column per lane. -/
def pick (m : Memref sig .scVector .vmem S128x128 .f32) (row col : IVec S16 32) : PT (Vec F S16 .f32) := do
  have h : k0_chk1 row col := (← Prog.lift (TpuEff.assume (k0_chk1 row col) (k0_chk1.dec row col))).down
  SparseCore.vectorLoadIdx (p := procOf i) m ![row, col] (k0_idx1_inb row col h) (View.loads_vmem h_S128x128)

/-- The dimension each lane works on: the lane's number rotated by `s` within sixteen, in the half that starts at `h`. -/
def dimAt (lane : IVec S16 32) (s h : BitVec 32) : IVec S16 32 :=
  addi (andi (addi lane (broadcast S16 s)) (broadcast S16 15#32)) (broadcast S16 h)

/-- One dimension's term of sixteen dot products, added to what they have so far. -/
def term (lane row cu cp cn : IVec S16 32) (s h : BitVec 32) (acc : FVec F S16 .f32) : PT (FVec F S16 .f32) := do
  let a ← pick i ur row (addi cu (dimAt lane s h))
  let b ← pick i pir row (addi cp (dimAt lane s h))
  let c ← pick i per row (addi cp (dimAt lane s h))
  let d ← pick i nir row (addi cn (dimAt lane s h))
  let e ← pick i ner row (addi cn (dimAt lane s h))
  pure (addf acc (mulf a (subf (addf b c) (addf d e))))

/-- The terms of a list of dimensions, in order. -/
def terms (lane row cu cp cn : IVec S16 32) : List (BitVec 32 × BitVec 32) → FVec F S16 .f32 → PT (FVec F S16 .f32)
  | [], acc => pure acc
  | sh :: l, acc => do
    let acc ← term i lane row cu cp cn sh.1 sh.2 acc
    terms lane row cu cp cn l acc

/-- The rotations and halves, in the kernel's order. -/
def dims : List (BitVec 32 × BitVec 32) :=
  [(0#32, 0#32), (0#32, 16#32), (1#32, 0#32), (1#32, 16#32), (2#32, 0#32), (2#32, 16#32), (3#32, 0#32), (3#32, 16#32),
   (4#32, 0#32), (4#32, 16#32), (5#32, 0#32), (5#32, 16#32), (6#32, 0#32), (6#32, 16#32), (7#32, 0#32), (7#32, 16#32),
   (8#32, 0#32), (8#32, 16#32), (9#32, 0#32), (9#32, 16#32), (10#32, 0#32), (10#32, 16#32), (11#32, 0#32), (11#32, 16#32),
   (12#32, 0#32), (12#32, 16#32), (13#32, 0#32), (13#32, 16#32), (14#32, 0#32), (14#32, 16#32), (15#32, 0#32), (15#32, 16#32)]

/-- The column an id's embedding starts at in its 128-wide row. -/
def colOf (v : Vec F S16 .i32) : IVec S16 32 := muli (andi v (broadcast S16 3#32)) (broadcast S16 32#32)

/-- The lanes' numbers. -/
abbrev lanes : IVec S16 32 := iota .scVector S16 32 [0] iota_S16_d0_w32_scVector

/-- Where the `t`-th sixteen rows of chunk `b` stand in the tile's 512. -/
def dotOff (b : Fin 4) (t : Fin k0_t2_loop.trips) : Fin 1 → Nat :=
  ![(Scalar.indexCast (Scalar.addi (BitVec.ofNat 32 (128 * b.val)) (Scalar.muli (Scf.iv 0#32 1#32 t) 16#32)) : Index).toNat]

theorem dotOff_inb (b : Fin 4) (t : Fin k0_t2_loop.trips) (a : Fin 1) : dotOff b t a + S16.size a ≤ S512.size a :=
  match b with
  | 0 => k0_off3_inb t a
  | 1 => k0_off5_inb t a
  | 2 => k0_off7_inb t a
  | 3 => k0_off9_inb t a

/-- The dot products of sixteen rows of chunk `b`. -/
def dot (b : Fin 4) (t : Fin k0_t2_loop.trips) : PT PUnit := do
  let x : Vec F S16 .i32 ← Prog.lift (.load ui (Rect.unit (s := S512) (dotOff b t) S16.size (dotOff_inb b t)).toLoadRect (View.loadsAt_vmem h_S16))
  let y : Vec F S16 .i32 ← Prog.lift (.load pi (Rect.unit (s := S512) (dotOff b t) S16.size (dotOff_inb b t)).toLoadRect (View.loadsAt_vmem h_S16))
  let z : Vec F S16 .i32 ← Prog.lift (.load ni (Rect.unit (s := S512) (dotOff b t) S16.size (dotOff_inb b t)).toLoadRect (View.loadsAt_vmem h_S16))
  let acc ← terms i lanes (addi (broadcast S16 (Scalar.muli (Scf.iv 0#32 1#32 t) 16#32)) lanes) (colOf (F := F) x) (colOf (F := F) y) (colOf (F := F) z) dims
    (broadcast S16 (Scalar.ofBits .f32 0x00000000#32))
  let _v : Vec F S16 .f32 ← Prog.lift (.load sc20 (Rect.unit (s := S512) (dotOff b t) S16.size (dotOff_inb b t)).toLoadRect (View.loadsAt_vmem h_S16))
  Prog.lift (.store sc20 (Rect.unit (s := S512) (dotOff b t) S16.size (dotOff_inb b t)) acc Finset.univ (View.stores_vmem_bits_univ h_S16 rfl) (.inl rfl))

/-- The dot products of chunk `b`. -/
def dots (b : Fin 4) : PT PUnit := Scf.Loop.for k0_t2_loop k0_t2_ok ⟨⟩ fun t _ => dot i b t

/-! ## The copies -/

/-- The tile's 512 ids of each column, copied in. -/
def copyIn : PT PUnit := do
  Prog.lift (.enqueueDma (uidM.slice (Rect.unit (s := S16384) (k0_off1 i) S512.size (k0_off1_inb i)) (fun _ => rfl)) (.here ui) (.dma cc0_scoped0.sem)
    (View.wordExact_bits rfl) (Memref.isWhole_whole cc0_scratch0).wordExact ⟨Or.inl rfl, trivial⟩)
  Prog.lift (.waitDma2 cc0_scoped0.sem (uidM.slice (Rect.unit (s := S16384) (k0_off1 i) S512.size (k0_off1_inb i)) (fun _ => rfl)) ui
    (View.wordExact_bits rfl) (Memref.isWhole_whole cc0_scratch0).wordExact)
  Prog.lift (.enqueueDma (pidM.slice (Rect.unit (s := S16384) (k0_off1 i) S512.size (k0_off1_inb i)) (fun _ => rfl)) (.here pi) (.dma cc0_scoped1.sem)
    (View.wordExact_bits rfl) (Memref.isWhole_whole cc0_scratch1).wordExact ⟨Or.inl rfl, trivial⟩)
  Prog.lift (.waitDma2 cc0_scoped1.sem (pidM.slice (Rect.unit (s := S16384) (k0_off1 i) S512.size (k0_off1_inb i)) (fun _ => rfl)) pi
    (View.wordExact_bits rfl) (Memref.isWhole_whole cc0_scratch1).wordExact)
  Prog.lift (.enqueueDma (nidM.slice (Rect.unit (s := S16384) (k0_off1 i) S512.size (k0_off1_inb i)) (fun _ => rfl)) (.here ni) (.dma cc0_scoped2.sem)
    (View.wordExact_bits rfl) (Memref.isWhole_whole cc0_scratch2).wordExact ⟨Or.inl rfl, trivial⟩)
  Prog.lift (.waitDma2 cc0_scoped2.sem (nidM.slice (Rect.unit (s := S16384) (k0_off1 i) S512.size (k0_off1_inb i)) (fun _ => rfl)) ni
    (View.wordExact_bits rfl) (Memref.isWhole_whole cc0_scratch2).wordExact)

/-- Sixteen ids, each divided by four. -/
def shift (src dst : Memref sig .scVector .vmem S512 .i32) (t : Fin k0_t1_loop.trips) : PT PUnit := do
  let x : Vec F S16 .i32 ← Prog.lift (.load src (Rect.unit (s := S512) (k0_off2 t) S16.size (k0_off2_inb t)).toLoadRect (View.loadsAt_vmem h_S16))
  let _y : Vec F S16 .i32 ← Prog.lift (.load dst (Rect.unit (s := S512) (k0_off2 t) S16.size (k0_off2_inb t)).toLoadRect (View.loadsAt_vmem h_S16))
  Prog.lift (.store dst (Rect.unit (s := S512) (k0_off2 t) S16.size (k0_off2_inb t)) (shrui x (broadcast S16 2#32)) Finset.univ
    (View.stores_vmem_bits_univ h_S16 rfl) (.inl rfl))

/-- The row numbers of every id. -/
def shifts : PT PUnit := Scf.Loop.for k0_t1_loop k0_t1_ok ⟨⟩ fun t _ => do
  shift i ui ub t
  shift i pi pb t
  shift i ni nb t

theorem chunk_inb (b : Fin 4) (a : Fin 1) : (![128 * b.val] : Fin 1 → Nat) a + S128.size a ≤ S512.size a :=
  match b with
  | 0 => inb_S512_S128_0 a
  | 1 => inb_S512_S128_128 a
  | 2 => inb_S512_S128_256 a
  | 3 => inb_S512_S128_384 a

/-- Chunk `b` of a list of row numbers. -/
abbrev listAt (l : Memref sig .scVector .vmem S512 .i32) (b : Fin 4) : Memref sig .scVector .vmem S128 .i32 :=
  l.slice (Rect.unit (s := S512) ![128 * b.val] S128.size (chunk_inb b)) (fun _ => rfl)

/-- A table as the kernel names it in a gather: the slice that is all of it. -/
abbrev allOf (m : Memref sig .scVector .hbm S250000x128 .f32) : Memref sig .scVector .hbm S250000x128 .f32 :=
  m.slice (Rect.unit (s := S250000x128) ![0, 0] S250000x128.size inb_S250000x128_S250000x128_0_0) (fun _ => rfl)

/-- The start of one gather: the rows chunk `b` of a list names, from a table into a buffer. -/
def fetch (b : Fin 4) (tbl : Memref sig .scVector .hbm S250000x128 .f32) (l : Memref sig .scVector .vmem S512 .i32)
    (dst : Memref sig .scVector .vmem S128x128 .f32) : PT PUnit :=
  SparseCore.enqueueIndirectGather (p := procOf i) rfl (allOf tbl) dst gathers_S250000x128_S128x128 (listAt l b) rfl cc0_scratch12.sem
    (View.wordExact_bits rfl) rfl (Or.inl rfl)

/-- A wait for one gather's worth of data. -/
def await (tbl : Memref sig .scVector .hbm S250000x128 .f32) (dst : Memref sig .scVector .vmem S128x128 .f32) (hd : dst.IsWhole) : PT PUnit :=
  SparseCore.waitIndirectGather (p := procOf i) cc0_scratch12.sem (allOf tbl) dst (View.wordExact_bits rfl) hd.wordExact

/-- The five waits of a chunk. -/
def awaits : PT PUnit := do
  await i userM ur (Memref.isWhole_whole _)
  await i itemM pir (Memref.isWhole_whole _)
  await i entM per (Memref.isWhole_whole _)
  await i itemM nir (Memref.isWhole_whole _)
  await i entM ner (Memref.isWhole_whole _)

/-- Chunk `b`: five gathers on one semaphore, their five waits, and the dot products. -/
def chunk (b : Fin 4) : PT PUnit := do
  fetch i b userM ub ur
  fetch i b itemM pb pir
  fetch i b entM pb per
  fetch i b itemM nb nir
  fetch i b entM nb ner
  awaits i
  dots i b

/-- The tile's 512 scores, copied out. -/
def copyOut : PT PUnit := do
  Prog.lift (.enqueueDma sc20 (.here (outM.slice (Rect.unit (s := S16384) (k0_off1 i) S512.size (k0_off1_inb i)) (fun _ => rfl))) (.dma cc0_scoped3.sem)
    (Memref.isWhole_whole cc0_scratch11).wordExact (View.wordExact_bits rfl) ⟨Or.inl rfl, trivial⟩)
  Prog.lift (.waitDma2 cc0_scoped3.sem sc20 (outM.slice (Rect.unit (s := S16384) (k0_off1 i) S512.size (k0_off1_inb i)) (fun _ => rfl))
    (Memref.isWhole_whole cc0_scratch11).wordExact (View.wordExact_bits rfl))

/-- A tile's work. -/
def tile : PT PUnit := do
  copyIn i
  shifts i
  chunk i 0
  chunk i 1
  chunk i 2
  chunk i 3
  copyOut i

/-! ## The printed body is the restated one -/

/-- The first window: the copies in, the row numbers, four of the first chunk's gathers. -/
theorem part65_eq : k0_part65 (F := F) i (Memref.whole main_v4_scv) (Memref.isWhole_whole _) (Memref.whole main_v6_scv) (Memref.isWhole_whole _) (Memref.whole main_v8_scv) (Memref.isWhole_whole _) (Memref.whole main_v0_scv) (Memref.isWhole_whole _)
      (Memref.whole main_v1_scv) (Memref.isWhole_whole _) (Memref.whole main_v2_scv) (Memref.isWhole_whole _) (Memref.whole main_v9_scv) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _)
      (Memref.whole cc0_scratch5) (Memref.isWhole_whole _) (Memref.whole cc0_scratch6) (Memref.isWhole_whole _) (Memref.whole cc0_scratch7) (Memref.isWhole_whole _) (Memref.whole cc0_scratch8) (Memref.isWhole_whole _)
      (Memref.whole cc0_scratch9) (Memref.isWhole_whole _) (Memref.whole cc0_scratch10) (Memref.isWhole_whole _) (Memref.whole cc0_scratch11) (Memref.isWhole_whole _) cc0_scratch12
      cc0_scoped0 cc0_scoped1 cc0_scoped2 cc0_scoped3
    = (do copyIn i; shifts i; fetch i 0 userM ub ur; fetch i 0 itemM pb pir; fetch i 0 entM pb per; fetch i 0 itemM nb nir; pure lanes) := rfl

/-- The second: the rest of the first chunk, and three gathers of the second. -/
theorem part66_eq : k0_part66 (F := F) i (Memref.whole main_v4_scv) (Memref.isWhole_whole _) (Memref.whole main_v6_scv) (Memref.isWhole_whole _) (Memref.whole main_v8_scv) (Memref.isWhole_whole _) (Memref.whole main_v0_scv) (Memref.isWhole_whole _)
      (Memref.whole main_v1_scv) (Memref.isWhole_whole _) (Memref.whole main_v2_scv) (Memref.isWhole_whole _) (Memref.whole main_v9_scv) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _)
      (Memref.whole cc0_scratch5) (Memref.isWhole_whole _) (Memref.whole cc0_scratch6) (Memref.isWhole_whole _) (Memref.whole cc0_scratch7) (Memref.isWhole_whole _) (Memref.whole cc0_scratch8) (Memref.isWhole_whole _)
      (Memref.whole cc0_scratch9) (Memref.isWhole_whole _) (Memref.whole cc0_scratch10) (Memref.isWhole_whole _) (Memref.whole cc0_scratch11) (Memref.isWhole_whole _) cc0_scratch12
      cc0_scoped0 cc0_scoped1 cc0_scoped2 cc0_scoped3 lanes
    = (do fetch i 0 entM nb ner; awaits i; dots i 0; fetch i 1 userM ub ur; fetch i 1 itemM pb pir; fetch i 1 entM pb per) := rfl

/-- The third: the rest of the second chunk, and four gathers of the third. -/
theorem part67_eq : k0_part67 (F := F) i (Memref.whole main_v4_scv) (Memref.isWhole_whole _) (Memref.whole main_v6_scv) (Memref.isWhole_whole _) (Memref.whole main_v8_scv) (Memref.isWhole_whole _) (Memref.whole main_v0_scv) (Memref.isWhole_whole _)
      (Memref.whole main_v1_scv) (Memref.isWhole_whole _) (Memref.whole main_v2_scv) (Memref.isWhole_whole _) (Memref.whole main_v9_scv) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _)
      (Memref.whole cc0_scratch5) (Memref.isWhole_whole _) (Memref.whole cc0_scratch6) (Memref.isWhole_whole _) (Memref.whole cc0_scratch7) (Memref.isWhole_whole _) (Memref.whole cc0_scratch8) (Memref.isWhole_whole _)
      (Memref.whole cc0_scratch9) (Memref.isWhole_whole _) (Memref.whole cc0_scratch10) (Memref.isWhole_whole _) (Memref.whole cc0_scratch11) (Memref.isWhole_whole _) cc0_scratch12
      cc0_scoped0 cc0_scoped1 cc0_scoped2 cc0_scoped3 lanes
    = (do fetch i 1 itemM nb nir; fetch i 1 entM nb ner; awaits i; dots i 1;
          fetch i 2 userM ub ur; fetch i 2 itemM pb pir) := rfl

/-- The fourth: the rest of the third chunk, and one gather of the last. -/
theorem part68_eq : k0_part68 (F := F) i (Memref.whole main_v4_scv) (Memref.isWhole_whole _) (Memref.whole main_v6_scv) (Memref.isWhole_whole _) (Memref.whole main_v8_scv) (Memref.isWhole_whole _) (Memref.whole main_v0_scv) (Memref.isWhole_whole _)
      (Memref.whole main_v1_scv) (Memref.isWhole_whole _) (Memref.whole main_v2_scv) (Memref.isWhole_whole _) (Memref.whole main_v9_scv) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _)
      (Memref.whole cc0_scratch5) (Memref.isWhole_whole _) (Memref.whole cc0_scratch6) (Memref.isWhole_whole _) (Memref.whole cc0_scratch7) (Memref.isWhole_whole _) (Memref.whole cc0_scratch8) (Memref.isWhole_whole _)
      (Memref.whole cc0_scratch9) (Memref.isWhole_whole _) (Memref.whole cc0_scratch10) (Memref.isWhole_whole _) (Memref.whole cc0_scratch11) (Memref.isWhole_whole _) cc0_scratch12
      cc0_scoped0 cc0_scoped1 cc0_scoped2 cc0_scoped3 lanes
    = (do fetch i 2 entM pb per; fetch i 2 itemM nb nir; fetch i 2 entM nb ner; awaits i; dots i 2; fetch i 3 userM ub ur) := rfl

/-- The fifth: the rest of the last chunk. -/
theorem part69_eq : k0_part69 (F := F) i (Memref.whole main_v4_scv) (Memref.isWhole_whole _) (Memref.whole main_v6_scv) (Memref.isWhole_whole _) (Memref.whole main_v8_scv) (Memref.isWhole_whole _) (Memref.whole main_v0_scv) (Memref.isWhole_whole _)
      (Memref.whole main_v1_scv) (Memref.isWhole_whole _) (Memref.whole main_v2_scv) (Memref.isWhole_whole _) (Memref.whole main_v9_scv) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _)
      (Memref.whole cc0_scratch5) (Memref.isWhole_whole _) (Memref.whole cc0_scratch6) (Memref.isWhole_whole _) (Memref.whole cc0_scratch7) (Memref.isWhole_whole _) (Memref.whole cc0_scratch8) (Memref.isWhole_whole _)
      (Memref.whole cc0_scratch9) (Memref.isWhole_whole _) (Memref.whole cc0_scratch10) (Memref.isWhole_whole _) (Memref.whole cc0_scratch11) (Memref.isWhole_whole _) cc0_scratch12
      cc0_scoped0 cc0_scoped1 cc0_scoped2 cc0_scoped3 lanes
    = (do fetch i 3 itemM pb pir; fetch i 3 entM pb per; fetch i 3 itemM nb nir; fetch i 3 entM nb ner; awaits i; dots i 3; pure ⟨⟩) := rfl

/-- The printed body is a tile's work as restated. -/
theorem body_eq : cc0__sc_body (F := F) i (Memref.whole main_v4_scv) (Memref.isWhole_whole _) (Memref.whole main_v6_scv) (Memref.isWhole_whole _) (Memref.whole main_v8_scv) (Memref.isWhole_whole _) (Memref.whole main_v0_scv) (Memref.isWhole_whole _)
      (Memref.whole main_v1_scv) (Memref.isWhole_whole _) (Memref.whole main_v2_scv) (Memref.isWhole_whole _) (Memref.whole main_v9_scv) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _)
      (Memref.whole cc0_scratch5) (Memref.isWhole_whole _) (Memref.whole cc0_scratch6) (Memref.isWhole_whole _) (Memref.whole cc0_scratch7) (Memref.isWhole_whole _) (Memref.whole cc0_scratch8) (Memref.isWhole_whole _)
      (Memref.whole cc0_scratch9) (Memref.isWhole_whole _) (Memref.whole cc0_scratch10) (Memref.isWhole_whole _) (Memref.whole cc0_scratch11) (Memref.isWhole_whole _) cc0_scratch12
      cc0_scoped0 cc0_scoped1 cc0_scoped2 cc0_scoped3 = tile i := by
  unfold cc0__sc_body
  rw [part65_eq]
  simp only [bind_assoc, pure_bind]
  rw [part66_eq, part67_eq, part68_eq, part69_eq]
  simp only [tile, chunk, bind_assoc, pure_bind]
  rfl

end Cert.Proof.Body
-- ==== Proof.Setup.lean ====
/-
  The program as the launch theorem sees it, the resource algebra of its proof, and the values the run leaves: what a
  gathered row holds, and the score of one example — a sum over the 32 dimensions of the user's entry times the difference
  of the positive and the negative item's entries — in the order and at the operations of the kernel.
-/
module

public import proofs.«01_k».proof.Proof.Body
public import Idealize.ShloMosaic.Lib.SparseCore.Quiescent
public import Idealize.ShloMosaic.Lib.SparseCore.Stream
public import Idealize.ShloMosaic.Lib.Pipeline.Kit
public import Idealize.ShloMosaic.Lib.Batch
public import Idealize.ShloMosaic.Lib.StableHlo.Run
public import Idealize.ShloMosaic.Lib.Tactic
public import Idealize.ShloMosaic.Lib.ValueIdxCore

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's, the transfers' counters -/

abbrev UH : Type := URounds (GSem nD τ sig) ℕ
/-- The pipeline's rounds, of the TensorCore's call. -/
abbrev UP : Type := UR sig nD τ
abbrev UU : Type := UH × (UP × Counters)

abbrev 𝕄 (F : FTy → Type) := MT nD τ sig (HIx 1) (Elt F) ℕ UU ℕ
abbrev EH : Emb UH (𝕄 F) := embL
/-- The pipeline's rounds among the resources. -/
def EP : Emb UP (𝕄 F) := (Emb.inl : Emb UP (UP × Counters)).trans embR
instance : (EP : Emb UP (𝕄 F)).LandsIn (upEmb : UEmb _ (𝕄 F)) := by unfold EP embR; infer_instance
/-- The transfers' counters among the resources. -/
abbrev EC : UEmb Counters (𝕄 F) := countersEmb

/-! ## The tile's thread -/

open Cert.Proof.Body

/-- The thread of device `d` a tile's body runs on. -/
abbrev thr (d : Dev nD) (i : grid0.Coords) : Thread nD τ := V d ((i 0).castLE hcore0) ((i 1).castLE hsub0)

/-! ## The values -/

/-- Row `r`, column `c` of a 128×128 buffer, both taken modulo 128. -/
def rowsAt (f : S128x128.Idx → F .f32) (r c : ℕ) : F .f32 :=
  f (ValueIdx.ix2 (⟨r % 128, Nat.mod_lt _ (by decide)⟩ : Fin 128) (⟨c % 128, Nat.mod_lt _ (by decide)⟩ : Fin 128))

/-- Row `r`, column `c` of a 250000×128 table, taken modulo the sizes. -/
def tabAt (f : S250000x128.Idx → F .f32) (r c : ℕ) : F .f32 :=
  f (ValueIdx.ix2 (⟨r % 250000, Nat.mod_lt _ (by decide)⟩ : Fin 250000) (⟨c % 128, Nat.mod_lt _ (by decide)⟩ : Fin 128))

/-- The dimension lane `l` works on in the step with rotation and half `sh`. -/
def dimOf (l : ℕ) (sh : BitVec 32 × BitVec 32) : BitVec 32 :=
  IntOp.addi (IntOp.andi (IntOp.addi (BitVec.ofNat 32 l) sh.1) 15#32) sh.2

/-- The column of a 128-wide row at which the embedding of id `v` starts. -/
def colWord (v : BitVec 32) : BitVec 32 := IntOp.muli (IntOp.andi v 3#32) 32#32

/-- The column of dimension `sh` of id `v`'s embedding, for lane `l`. -/
def colNat (v : BitVec 32) (l : ℕ) (sh : BitVec 32 × BitVec 32) : ℕ := (IntOp.addi (colWord v) (dimOf l sh)).toNat

variable [FloatOps F]

/-- One step of a dot product: the user's entry times the difference of the two items' summed entries, added on. -/
def stepOf (a b c d e : BitVec 32 × BitVec 32 → F .f32) (acc : F .f32) (sh : BitVec 32 × BitVec 32) : F .f32 :=
  FloatOps.addf acc (FloatOps.mulf (a sh) (FloatOps.subf (FloatOps.addf (b sh) (c sh)) (FloatOps.addf (d sh) (e sh))))

/-- A dot product over the kernel's list of dimensions, from zero. -/
def sumOf (a b c d e : BitVec 32 × BitVec 32 → F .f32) : F .f32 :=
  dims.foldl (stepOf a b c d e) (Scalar.ofBits .f32 0x00000000#32)

/-- The dot product of row `r` of five buffers of rows, whose ids are `u`, `p`, `n`, in lane `l`. -/
def rowScore (fu fpi fpe fni fne : S128x128.Idx → F .f32) (u p n : BitVec 32) (r l : ℕ) : F .f32 :=
  sumOf (fun sh => rowsAt fu r (colNat u l sh)) (fun sh => rowsAt fpi r (colNat p l sh)) (fun sh => rowsAt fpe r (colNat p l sh))
    (fun sh => rowsAt fni r (colNat n l sh)) (fun sh => rowsAt fne r (colNat n l sh))

/-- The row of a 128-wide table that holds id `v`'s embedding. -/
def rowNat (v : BitVec 32) : ℕ := (IntOp.shrui .vector v 2#32).toNat

/-- The score of ids `u`, `p`, `n` over the three tables, in lane `l`. -/
def score (tu ti te : S250000x128.Idx → F .f32) (u p n : BitVec 32) (l : ℕ) : F .f32 :=
  sumOf (fun sh => tabAt tu (rowNat u) (colNat u l sh)) (fun sh => tabAt ti (rowNat p) (colNat p l sh)) (fun sh => tabAt te (rowNat p) (colNat p l sh))
    (fun sh => tabAt ti (rowNat n) (colNat n l sh)) (fun sh => tabAt te (rowNat n) (colNat n l sh))

/-- Every lane's column is one of the row's 128. -/
theorem colNat_lt (v : BitVec 32) (l : ℕ) {sh : BitVec 32 × BitVec 32} (h : sh ∈ dims) : colNat v l sh < 128 := by
  have h2 : sh.2 = 0#32 ∨ sh.2 = 16#32 := by
    have := (by decide : ∀ sh ∈ dims, sh.2 = 0#32 ∨ sh.2 = 16#32); exact this sh h
  have : ∀ x y z : BitVec 32, (z = 0#32 ∨ z = 16#32) → (((x &&& 3#32) * 32#32) + ((y &&& 15#32) + z)).toNat < 128 := by
    intro x y z hz
    have hx : (x &&& 3#32).toNat ≤ 3 := by rw [BitVec.toNat_and]; exact Nat.and_le_right
    have hy : (y &&& 15#32).toNat ≤ 15 := by rw [BitVec.toNat_and]; exact Nat.and_le_right
    have hz' : z.toNat ≤ 16 := by rcases hz with rfl | rfl <;> decide
    rw [BitVec.toNat_add, BitVec.toNat_mul, BitVec.toNat_add]
    have e : (32#32 : BitVec 32).toNat = 32 := rfl
    rw [e]; omega
  exact this v _ _ h2

end Cert.Proof
-- ==== Proof.Dot.lean ====
/-
  The dot products of a chunk: holding the tile's ids, the five buffers of gathered rows and its scores, a chunk's eight
  groups of sixteen leave every score of the chunk at the dot product of its row, and the other scores as they were.
-/
module

public import proofs.«01_k».proof.Proof.Setup
public import Idealize.ShloMosaic.Lib.Pipeline.Value

@[expose] public section

set_option maxRecDepth 16384

noncomputable section

namespace Cert.Proof

open Cert.KernelIdeal Cert.KernelIdeal.Gen Cert.Proof.Body
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]
variable (d : Dev nD) (i : grid0.Coords)

/-! ## Sixteen elements of a list of 512 -/

/-- Element `n` of a list of 512, modulo 512. -/
def el {α : Type} (f : S512.Idx → α) (n : ℕ) : α := f (ValueIdx.ix1 (⟨n % 512, Nat.mod_lt _ (by decide)⟩ : Fin 512))

/-- A list with `m` elements from `n` on replaced by those of another. -/
def put {α : Type} (f : S512.Idx → α) (n m : ℕ) (g : ℕ → α) : S512.Idx → α :=
  fun r => if n ≤ (r 0).val ∧ (r 0).val < n + m then g (r 0).val else f r

theorem put_put {α : Type} (f : S512.Idx → α) (n m k : ℕ) (g : ℕ → α) : put (put f n m g) (n + m) k g = put f n (m + k) g := by
  funext r; unfold put
  by_cases h1 : n ≤ (r 0).val ∧ (r 0).val < n + m
  · rw [if_neg (by omega), if_pos h1, if_pos (by omega)]
  · by_cases h2 : n + m ≤ (r 0).val ∧ (r 0).val < n + m + k
    · rw [if_pos h2, if_pos (by omega)]
    · rw [if_neg h2, if_neg h1, if_neg (by omega)]

theorem put_zero {α : Type} (f : S512.Idx → α) (n : ℕ) (g : ℕ → α) : put f n 0 g = f := by
  funext r; unfold put; rw [if_neg (by omega)]

/-- A load of sixteen elements from `off` on reads them. -/
theorem read16 {α : Type} (f : S512.Idx → α) (off : Fin 1 → Nat) (inb : ∀ a, off a + S16.size a ≤ S512.size a) (x : S16.Idx) :
    f ((Rect.unit (s := S512) off S16.size inb).emb x) = el f (off 0 + (x 0).val) := by
  unfold el; congr 1; funext a
  have ha : a = 0 := Subsingleton.elim _ _
  subst ha
  have hx : (x 0).val < 16 := (x 0).isLt
  have h : off 0 + 16 ≤ 512 := inb 0
  apply Fin.ext
  show off 0 + 1 * (x 0).val = (off 0 + (x 0).val) % 512
  omega

/-- A store of sixteen elements from `off` on replaces them. -/
theorem write16 {α : Type} (f : S512.Idx → α) (off : Fin 1 → Nat) (inb : ∀ a, off a + S16.size a ≤ S512.size a) (w : S16.Idx → α) (g : ℕ → α)
    (hw : ∀ x : S16.Idx, w x = g (off 0 + (x 0).val)) : updateSlice f w off ⟨rfl, inb⟩ = put f (off 0) 16 g := by
  funext r; unfold updateSlice put
  split
  · next h =>
    have h0 : off 0 ≤ (r 0).val ∧ (r 0).val < off 0 + 16 := h 0
    rw [if_pos h0, hw]
    congr 1
    show off 0 + ((r 0).val - off 0) = _
    omega
  · next h =>
    rw [if_neg]
    intro h0; apply h; intro a
    have ha : a = 0 := Subsingleton.elim _ _
    subst ha; exact h0

/-! ## The gathers from the buffers of rows -/

/-- One checked gather reads each lane's row and column. -/
theorem wp_pick {m : Memref sig .scVector .vmem S128x128 .f32} {row col : IVec S16 32} {β : Type} {Q : β → sProp (𝕄 F)}
    {k : Vec F S16 .f32 → Prog (TpuEff nD τ sig (Elt F) Λ₀ (procOf i)) β}
    {f : Buf (Elt F) ((m.access (.whole S128x128)).loc (thr d i))} (g : S128x128.Idx → F .f32)
    (hg : (m.access (.whole S128x128)).read (Elt F) f = g)
    (hr : ∀ x, (row x).toNat < 128) (hc : ∀ x, (col x).toNat < 128) :
    ((m.access (.whole S128x128)).loc (thr d i) ↦{fullShare} f)
      ⊢ iprop((((m.access (.whole S128x128)).loc (thr d i) ↦{fullShare} f) -∗ wp frame (wpE (defs₀ (F := F)) 𝒱₀ (thr d i) none) Set.univ (k (fun x => rowsAt g (row x).toNat (col x).toNat)) Q)
        -∗ wp frame (wpE (defs₀ (F := F)) 𝒱₀ (thr d i) none) Set.univ (pick i m row col >>= k) Q) := by
  have hk : k0_chk1 row col := fun a x => match a with
    | 0 => hr x
    | 1 => hc x
  unfold pick
  simp only [bind_assoc]
  rw [show (Prog.lift (TpuEff.assume (k0_chk1 row col) (k0_chk1.dec row col)) >>= fun h => SparseCore.vectorLoadIdx (p := procOf i) m ![row, col] (k0_idx1_inb row col h.down) (View.loads_vmem h_S128x128) >>= k
      : Prog (TpuEff nD τ sig (Elt F) Λ₀ (procOf i)) β)
    = .op (.assume (k0_chk1 row col) (k0_chk1.dec row col)) (fun h => SparseCore.vectorLoadIdx (p := procOf i) m ![row, col] (k0_idx1_inb row col h.down) (View.loads_vmem h_S128x128) >>= k) from rfl]
  rw [wp_assume_of (c := thr d i) _ _ _ hk]
  have e : loadIdx ((m.access (.whole S128x128)).read (Elt F) f) ![row, col] (k0_idx1_inb row col hk)
      = fun x => rowsAt g (row x).toNat (col x).toNat := by
    rw [hg]; funext x
    unfold loadIdx rowsAt
    congr 1; funext a
    match a with
    | 0 => exact Fin.ext (Nat.mod_eq_of_lt (hr x)).symm
    | 1 => exact Fin.ext (Nat.mod_eq_of_lt (hc x)).symm
  rw [← e]
  exact SparseCore.wp_vectorLoadIdx (c := thr d i) 𝒱₀ none Set.univ (base := m) (S := Finset.univ) (q := fullShare) (Finset.subset_univ _)

/-- The five buffers of gathered rows, at given contents. -/
def rowsHeld (fu fpi fpe fni fne : S128x128.Idx → F .f32) : sProp (𝕄 F) :=
  iprop(((thr d i).loc cc0_scratch6 ↦{fullShare} fu) ∗ ((thr d i).loc cc0_scratch7 ↦{fullShare} fpi) ∗ ((thr d i).loc cc0_scratch8 ↦{fullShare} fpe)
    ∗ ((thr d i).loc cc0_scratch9 ↦{fullShare} fni) ∗ ((thr d i).loc cc0_scratch10 ↦{fullShare} fne))

variable {fu fpi fpe fni fne : S128x128.Idx → F .f32}

/-- What a lane has after a list of dimensions. -/
def laneSum (fu fpi fpe fni fne : S128x128.Idx → F .f32) (lane row cu cp cn : IVec S16 32) (l : List (BitVec 32 × BitVec 32)) (acc : FVec F S16 .f32) : FVec F S16 .f32 :=
  fun x => l.foldl (stepOf
    (fun sh => rowsAt fu (row x).toNat (addi cu (dimAt lane sh.1 sh.2) x).toNat)
    (fun sh => rowsAt fpi (row x).toNat (addi cp (dimAt lane sh.1 sh.2) x).toNat)
    (fun sh => rowsAt fpe (row x).toNat (addi cp (dimAt lane sh.1 sh.2) x).toNat)
    (fun sh => rowsAt fni (row x).toNat (addi cn (dimAt lane sh.1 sh.2) x).toNat)
    (fun sh => rowsAt fne (row x).toNat (addi cn (dimAt lane sh.1 sh.2) x).toNat)) (acc x)

/-- One dimension's five gathers and its arithmetic. -/
theorem wp_term {lane row cu cp cn : IVec S16 32} {s h : BitVec 32} {acc : FVec F S16 .f32} {β : Type} {Q : β → sProp (𝕄 F)}
    {k : FVec F S16 .f32 → Prog (TpuEff nD τ sig (Elt F) Λ₀ (procOf i)) β}
    (hr : ∀ x, (row x).toNat < 128) (hu : ∀ x, (addi cu (dimAt lane s h) x).toNat < 128) (hp : ∀ x, (addi cp (dimAt lane s h) x).toNat < 128)
    (hn : ∀ x, (addi cn (dimAt lane s h) x).toNat < 128) :
    rowsHeld d i fu fpi fpe fni fne
      ⊢ iprop((rowsHeld d i fu fpi fpe fni fne -∗ wp frame (wpE (defs₀ (F := F)) 𝒱₀ (thr d i) none) Set.univ (k (laneSum fu fpi fpe fni fne lane row cu cp cn [(s, h)] acc)) Q)
        -∗ wp frame (wpE (defs₀ (F := F)) 𝒱₀ (thr d i) none) Set.univ (term i lane row cu cp cn s h acc >>= k) Q) := by
  unfold rowsHeld term
  simp only [bind_assoc, pure_bind]
  iintro ⟨H0, H1, H2, H3, H4⟩ Hk
  iapply (wp_pick d i (m := ur) (f := fu) fu (Memref.read_access_whole _ cc0_scratch6 _) hr hu) $$ H0
  iintro H0
  iapply (wp_pick d i (m := pir) (f := fpi) fpi (Memref.read_access_whole _ cc0_scratch7 _) hr hp) $$ H1
  iintro H1
  iapply (wp_pick d i (m := per) (f := fpe) fpe (Memref.read_access_whole _ cc0_scratch8 _) hr hp) $$ H2
  iintro H2
  iapply (wp_pick d i (m := nir) (f := fni) fni (Memref.read_access_whole _ cc0_scratch9 _) hr hn) $$ H3
  iintro H3
  iapply (wp_pick d i (m := ner) (f := fne) fne (Memref.read_access_whole _ cc0_scratch10 _) hr hn) $$ H4
  iintro H4
  iapply Hk
  isplitl [H0]; · iexact H0
  isplitl [H1]; · iexact H1
  isplitl [H2]; · iexact H2
  isplitl [H3]; · iexact H3
  iexact H4

/-- A list of dimensions, in order. -/
theorem wp_terms {lane row cu cp cn : IVec S16 32} {β : Type} {Q : β → sProp (𝕄 F)}
    {k : FVec F S16 .f32 → Prog (TpuEff nD τ sig (Elt F) Λ₀ (procOf i)) β}
    (hr : ∀ x, (row x).toNat < 128) :
    ∀ (l : List (BitVec 32 × BitVec 32)) (_ : ∀ sh ∈ l, ∀ x, (addi cu (dimAt lane sh.1 sh.2) x).toNat < 128)
      (_ : ∀ sh ∈ l, ∀ x, (addi cp (dimAt lane sh.1 sh.2) x).toNat < 128) (_ : ∀ sh ∈ l, ∀ x, (addi cn (dimAt lane sh.1 sh.2) x).toNat < 128)
      (acc : FVec F S16 .f32),
    rowsHeld d i fu fpi fpe fni fne
      ⊢ iprop((rowsHeld d i fu fpi fpe fni fne -∗ wp frame (wpE (defs₀ (F := F)) 𝒱₀ (thr d i) none) Set.univ (k (laneSum fu fpi fpe fni fne lane row cu cp cn l acc)) Q)
        -∗ wp frame (wpE (defs₀ (F := F)) 𝒱₀ (thr d i) none) Set.univ (terms i lane row cu cp cn l acc >>= k) Q)
  | [], _, _, _, acc => by
    unfold terms
    rw [pure_bind]
    iintro H Hk
    iapply Hk; iexact H
  | sh :: l, hu, hp, hn, acc => by
    unfold terms
    rw [bind_assoc]
    iintro H Hk
    iapply (wp_term d i hr (hu sh (List.mem_cons_self ..)) (hp sh (List.mem_cons_self ..)) (hn sh (List.mem_cons_self ..))) $$ H
    iintro H
    iapply (wp_terms hr l (fun s hs => hu s (List.mem_cons_of_mem _ hs)) (fun s hs => hp s (List.mem_cons_of_mem _ hs))
      (fun s hs => hn s (List.mem_cons_of_mem _ hs)) _) $$ H
    iexact Hk

/-! ## Sixteen rows -/

theorem trips2 : k0_t2_loop.trips = 8 := by decide

theorem dotOff_eq : ∀ (b : Fin 4) (t : Fin k0_t2_loop.trips), dotOff b t 0 = 128 * b.val + 16 * t.val := by decide

theorem lanes_apply (x : S16.Idx) : lanes x = BitVec.ofNat 32 (x 0).val := by
  show BitVec.ofNat 32 (0 * 16 + (x 0).val) = _
  rw [Nat.zero_mul, Nat.zero_add]

/-- The rows of the `t`-th sixteen, one per lane. -/
abbrev rowVec (t : Fin k0_t2_loop.trips) : IVec S16 32 := addi (broadcast S16 (Scalar.muli (Scf.iv 0#32 1#32 t) 16#32)) lanes

theorem rowVec_toNat (t : Fin k0_t2_loop.trips) (x : S16.Idx) : (rowVec t x).toNat = 16 * t.val + (x 0).val := by
  have h : ∀ (t : Fin k0_t2_loop.trips) (l : Fin 16), (IntOp.addi (Scalar.muli (Scf.iv 0#32 1#32 t) 16#32) (BitVec.ofNat 32 l.val)).toNat = 16 * t.val + l.val := by
    decide
  have hl := lanes_apply x
  show (IntOp.addi (Scalar.muli (Scf.iv 0#32 1#32 t) 16#32) (lanes x)).toNat = _
  rw [hl]; exact h t (x 0)

theorem colVec_eq (v : Vec F S16 .i32) (sh : BitVec 32 × BitVec 32) (x : S16.Idx) :
    (addi (colOf (F := F) v) (dimAt lanes sh.1 sh.2) x).toNat = colNat (v x) (x 0).val sh := by
  have hl := lanes_apply x
  show (IntOp.addi (IntOp.muli (IntOp.andi (v x) 3#32) 32#32) (IntOp.addi (IntOp.andi (IntOp.addi (lanes x) sh.1) 15#32) sh.2)).toNat = _
  rw [hl]; rfl

/-- The tile's ids, at given contents. -/
def idsHeld (gu gp gn : S512.Idx → BitVec 32) : sProp (𝕄 F) :=
  iprop(((thr d i).loc cc0_scratch0 ↦{fullShare} gu) ∗ ((thr d i).loc cc0_scratch1 ↦{fullShare} gp) ∗ ((thr d i).loc cc0_scratch2 ↦{fullShare} gn))

/-- The score of row `n` of the tile's 512, from the gathered rows. -/
def scoreFn (fu fpi fpe fni fne : S128x128.Idx → F .f32) (gu gp gn : S512.Idx → BitVec 32) (n : ℕ) : F .f32 :=
  rowScore fu fpi fpe fni fne (el gu n) (el gp n) (el gn n) n (n % 16)

theorem laneSum_eq (b : Fin 4) (t : Fin k0_t2_loop.trips) (gu gp gn : S512.Idx → BitVec 32) (vu vp vn : Vec F S16 .i32)
    (hu : ∀ x, vu x = el gu (dotOff b t 0 + (x 0).val)) (hp : ∀ x, vp x = el gp (dotOff b t 0 + (x 0).val)) (hn : ∀ x, vn x = el gn (dotOff b t 0 + (x 0).val))
    (x : S16.Idx) :
    laneSum fu fpi fpe fni fne lanes (rowVec t) (colOf (F := F) vu) (colOf (F := F) vp) (colOf (F := F) vn) dims (broadcast S16 (Scalar.ofBits .f32 0x00000000#32)) x
      = scoreFn fu fpi fpe fni fne gu gp gn (dotOff b t 0 + (x 0).val) := by
  have hx : (x 0).val < 16 := (x 0).isLt
  have hm : ∀ (f : S128x128.Idx → F .f32) (c : ℕ), rowsAt f (16 * t.val + (x 0).val) c = rowsAt f (dotOff b t 0 + (x 0).val) c := by
    intro f c; unfold rowsAt; congr 2; apply Fin.ext
    show (16 * t.val + (x 0).val) % 128 = (dotOff b t 0 + (x 0).val) % 128
    rw [dotOff_eq]; omega
  have hlane : (dotOff b t 0 + (x 0).val) % 16 = (x 0).val := by rw [dotOff_eq]; omega
  unfold laneSum scoreFn rowScore sumOf
  simp only [rowVec_toNat, colVec_eq, hm, hlane, hu, hp, hn]
  rfl

/-- Sixteen dot products, stored. -/
theorem wp_dot (b : Fin 4) (t : Fin k0_t2_loop.trips) (gu gp gn : S512.Idx → BitVec 32) (f : S512.Idx → F .f32) :
    iprop(idsHeld (F := F) d i gu gp gn ∗ rowsHeld d i fu fpi fpe fni fne ∗ ((thr d i).loc cc0_scratch11 ↦{fullShare} f))
      ⊢ wp frame (wpE (defs₀ (F := F)) 𝒱₀ (thr d i) none) Set.univ (dot i b t)
          fun _ => iprop(idsHeld (F := F) d i gu gp gn ∗ rowsHeld d i fu fpi fpe fni fne
            ∗ ((thr d i).loc cc0_scratch11 ↦{fullShare} put f (128 * b.val + 16 * t.val) 16 (scoreFn fu fpi fpe fni fne gu gp gn))) := by
  have hr : ∀ x, (rowVec t x).toNat < 128 := fun x => by
    rw [rowVec_toNat]
    have h1 : (x 0).val < 16 := (x 0).isLt
    have h2 : t.val < 8 := trips2 ▸ t.isLt
    omega
  have hc : ∀ v : Vec F S16 .i32, ∀ sh ∈ dims, ∀ x, (addi (colOf (F := F) v) (dimAt lanes sh.1 sh.2) x).toNat < 128 :=
    fun v sh hs x => by rw [colVec_eq]; exact colNat_lt _ _ hs
  unfold idsHeld dot
  iintro ⟨⟨Hu, Hp, Hn⟩, Hrows, Hs⟩
  iapply (wp_load_rect (c := thr d i) 𝒱₀ none Set.univ (m := ui) (r := Rect.unit (s := S512) (dotOff b t) S16.size (dotOff_inb b t)) (S := Finset.univ) (q := fullShare) (f := gu) (Finset.subset_univ _)) $$ Hu
  iintro Hu
  iapply (wp_load_rect (c := thr d i) 𝒱₀ none Set.univ (m := pi) (r := Rect.unit (s := S512) (dotOff b t) S16.size (dotOff_inb b t)) (S := Finset.univ) (q := fullShare) (f := gp) (Finset.subset_univ _)) $$ Hp
  iintro Hp
  iapply (wp_load_rect (c := thr d i) 𝒱₀ none Set.univ (m := ni) (r := Rect.unit (s := S512) (dotOff b t) S16.size (dotOff_inb b t)) (S := Finset.univ) (q := fullShare) (f := gn) (Finset.subset_univ _)) $$ Hn
  iintro Hn
  iapply (wp_terms d i hr dims (hc _) (hc _) (hc _) _) $$ Hrows
  iintro Hrows
  iapply (wp_load_rect (c := thr d i) 𝒱₀ none Set.univ (m := sc20) (r := Rect.unit (s := S512) (dotOff b t) S16.size (dotOff_inb b t)) (S := Finset.univ) (q := fullShare) (f := f) (Finset.subset_univ _)) $$ Hs
  iintro Hs
  iapply (wp_store (c := thr d i) 𝒱₀ none Set.univ (m := sc20) (r := Rect.unit (s := S512) (dotOff b t) S16.size (dotOff_inb b t)) (S := Finset.univ) (f := f) (Finset.subset_univ _)) $$ Hs
  iintro Hs
  rw [wp_ret]
  imodintro
  isplitl [Hu Hp Hn]
  · isplitl [Hu]; · iexact Hu
    isplitl [Hp]; · iexact Hp
    iexact Hn
  isplitl [Hrows]; · iexact Hrows
  rw [← dotOff_eq b t, ← write16 f (dotOff b t) (dotOff_inb b t) _ _
    (laneSum_eq b t gu gp gn _ _ _ (fun x => read16 gu (dotOff b t) (dotOff_inb b t) x) (fun x => read16 gp (dotOff b t) (dotOff_inb b t) x)
      (fun x => read16 gn (dotOff b t) (dotOff_inb b t) x)),
    ← View.write_whole_slice_unit (Val := Elt F) cc0_scratch11 (dotOff b t) S16.size (dotOff_inb b t)]
  iexact Hs

/-- The 128 dot products of chunk `b`, stored. -/
theorem wp_dots (b : Fin 4) (gu gp gn : S512.Idx → BitVec 32) (f : S512.Idx → F .f32) {β : Type} {Q : β → sProp (𝕄 F)}
    {k : PUnit → Prog (TpuEff nD τ sig (Elt F) Λ₀ (procOf i)) β} :
    iprop(idsHeld (F := F) d i gu gp gn ∗ rowsHeld d i fu fpi fpe fni fne ∗ ((thr d i).loc cc0_scratch11 ↦{fullShare} f))
      ⊢ iprop((idsHeld (F := F) d i gu gp gn -∗ rowsHeld d i fu fpi fpe fni fne
            -∗ ((thr d i).loc cc0_scratch11 ↦{fullShare} put f (128 * b.val) 128 (scoreFn fu fpi fpe fni fne gu gp gn))
            -∗ wp frame (wpE (defs₀ (F := F)) 𝒱₀ (thr d i) none) Set.univ (k ⟨⟩) Q)
          -∗ wp frame (wpE (defs₀ (F := F)) 𝒱₀ (thr d i) none) Set.univ (dots i b >>= k) Q) := by
  iintro H Hk
  iapply (Scf.wp_for_bind frame (wpE (defs₀ (F := F)) 𝒱₀ (thr d i) none) Set.univ _ _ _ k0_t2_ok ⟨⟩ (fun t _ => dot i b t)
    (fun t _ => iprop(idsHeld (F := F) d i gu gp gn ∗ rowsHeld d i fu fpi fpe fni fne
      ∗ ((thr d i).loc cc0_scratch11 ↦{fullShare} put f (128 * b.val) (16 * t) (scoreFn fu fpi fpe fni fne gu gp gn))))
    (fun t _ => by
      refine (wp_dot d i b t gu gp gn _).trans (wp_mono frame _ _ fun _ => ?_)
      rw [put_put, Nat.mul_succ])) $$ [H]
  · rw [Nat.mul_zero, put_zero]; iexact H
  iintro %_ ⟨Hi, Hr, Hs⟩
  iapply Hk $$ Hi Hr
  rw [show 16 * Scf.trips k0_t2_loop.lb k0_t2_loop.ub k0_t2_loop.st = 128 from congrArg (16 * ·) trips2]
  iexact Hs

end Cert.Proof
-- ==== Proof.Gather.lean ====
/-
  An indirect gather as one part of a batch: several gathers complete on one DMA semaphore, so no gather is known to have
  landed before every wait of all of them is through. Each ROW of each gather is one transfer of a batch
  (Lib/Batch.lean): its delivery is the row written, the list's entry it read and its piece of the table. Issuing a gather
  spends the rows' issue rights; once the batch is collected, the rows of each gather join to its buffer written with what
  the list names.
-/
module

public import Idealize.ShloMosaic.Lib.SparseCore.Stream
public import Idealize.ShloMosaic.Lib.Batch

@[expose] public section

set_option maxRecDepth 16384

noncomputable section

namespace Cert.Proof.Gather

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

variable (src : Memref sig c.2.kind sp s₀ e) (dst : Memref sig c.2.kind .vmem s e) (hg : s₀.Gathers a s)
variable (offs : Memref sig c.2.kind .vmem si .i32) (hn : si.numel = s.size hg.axis')
variable (q qo : PosShare TreeShare) (fs : Buf (Elt F) (src.view.loc c)) (fd : Buf (Elt F) (dst.view.loc c)) (fo : Buf (Elt F) (offs.view.loc c))
variable (ho : 0 < s.size hg.axis') (r : Fin (s.size hg.axis') → Fin (s₀.size hg.axis))

/-- The list's entry that row `j` is fetched by. -/
def entryAt (j : Fin (s.size hg.axis')) : si.Idx := si.rowMajor.symm (finCongr hn.symm j)

/-- What row `j`'s transfer leaves in the row. -/
def rowVal (j : Fin (s.size hg.axis')) : (s.rowShape hg.axis').Idx → Elt F e := fun x => src.view.read (Elt F) fs (hg.rowIdx (r j) x)

/-- What row `j`'s transfer delivers: the row written, the entry of the list it read, its piece of the table's share. -/
def gotRow (j : Fin (s.size hg.axis')) : sProp 𝕄 :=
  iprop(((dst.view.loc c ↦[(dst.view.slice (s.rowRect hg.axis' j)).set]{fullShare}
        ((dst.view.slice (s.rowRect hg.axis' j)).write (Elt F) fd (rowVal c src hg fs r j) Finset.univ))
      ∗ (offs.view.loc c ↦[{offs.view.emb (entryAt hg hn j)}]{qo} fo))
    ∗ (src.view.loc c ↦[src.view.set]{pieceOf q _ ho j} fs))

instance gotRow_storable (j : Fin (s.size hg.axis')) : Storable (upEmb : UEmb _ 𝕄) (gotRow c src dst hg offs hn q qo fs fd fo ho r j) := by
  unfold gotRow; infer_instance

/-- Every row delivered: the destination written with the gather, the table's share and the list's back. -/
theorem gotRows_join :
    bigSep Finset.univ (gotRow (Ix := Ix) (Name := Name) (U := U) (Lvl := Lvl) c src dst hg offs hn q qo fs fd fo ho r)
      ⊢ iprop((dst.view.loc c ↦[dst.view.set]{fullShare} (dst.view.write (Elt F) fd (gatherPayload hg (src.view.read (Elt F) fs) r) Finset.univ))
          ∗ (src.view.loc c ↦[src.view.set]{q} fs) ∗ (offs.view.loc c ↦[offs.view.set]{qo} fo)) := by
  have hen : Function.Bijective (entryAt hg hn) := si.rowMajor.symm.bijective.comp (finCongr hn.symm).bijective
  have hval : ∀ j i, rowVal c src hg fs r j i = gatherPayload hg (src.view.read (Elt F) fs) r ((s.rowRect hg.axis' j).emb i) := fun j i => by
    unfold gatherPayload rowVal; rw [Shape.Gathers.idx_rowRect_emb]
  rw [pointsTo_piecesOf src.view.set fs ho q, pointsTo_entries c offs.view _ hen qo fo]
  refine (Transfers.bigSep_sep_out _ _ _).trans ((sep_mono_left ((Transfers.bigSep_sep_out _ _ _).trans
    (sep_mono_left (pointsTo_rows_write c dst.view hg.axis' fd (rowVal c src hg fs r) _ hval)))).trans ?_)
  iintro ⟨⟨H1, H2⟩, H3⟩
  isplitl [H1]; · iexact H1
  isplitl [H3] <;> iassumption

/-- A gather issued into a batch of `n` transfers of `N` units each, its rows the batch's transfers `pos j`: from the
    batch's invariant, the rows' issue rights, a share of the table, the destination outright and a share of the list,
    whose words are all in range, the tile continues with the credit of the gather's rows. -/
theorem wp_gatherInto [Infinite Name] [EC.LandsIn (upEmb : UEmb _ 𝕄)] {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α} {n N : ℕ} {D : Fin n → sProp 𝕄} {γ : Fin n → ℕ} {γ₀ : ℕ} {κ : Name}
    (pos : Fin (s.size hg.axis') → Fin n) (ι : Ix) (M : ℕ)
    (hM : ∑ j, (dst.slice (s.rowRect hg.axis' j) (s.stride_rowRect hg.axis' j)).view.dmaCredit = M)
    (hN : ∀ j, (dst.slice (s.rowRect hg.axis' j) (s.stride_rowRect hg.axis' j)).view.dmaCredit = N)
    (hin : ∀ x, (offs.view.read (Elt F) fo x).toNat < s₀.size hg.axis)
    (hD : ∀ j, gotRow c src dst hg offs hn q qo fs fd fo ho (rows (offs.view.read (Elt F) fo) hn hin) j ⊢ D (pos j)) :
    iprop(inv κ (Transfers.batchBody EC (c, .dma sem) N D γ γ₀)
        ∗ (src.view.loc c ↦[src.view.set]{q} fs) ∗ (dst.view.loc c ↦[dst.view.set]{fullShare} fd) ∗ (offs.view.loc c ↦[offs.view.set]{qo} fo)
        ∗ bigSep Finset.univ fun j => count EC (γ (pos j)) 0)
      ⊢ iprop((cred (tallyAt (c, .dma sem) ι M) -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let St : Stream nD τ sig (Elt F) :=
    Stream.issued c offs.view hn sem (fun j w => (rowOf (s₀.size hg.axis) w).map (gatherRow c src dst hg sem hsrc he hsp hr j)) 0
  let rr : Fin (s.size hg.axis') → Fin (s₀.size hg.axis) := rows (offs.view.read (Elt F) fo) hn hin
  let rd : Fin (s.size hg.axis') → RowDma τ sig (Elt F) c.2 sem := fun j => gatherRow c src dst hg sem hsrc he hsp hr j (rr j)
  have hagree : St.RowsAgree := by
    intro j x x' ρ ρ' h h'
    obtain ⟨_, _, rfl⟩ := Option.map_eq_some_iff.mp h
    obtain ⟨_, _, rfl⟩ := Option.map_eq_some_iff.mp h'
    rfl
  have hrd : ∀ j, St.row j (St.word fo j) = some (rd j) := fun j => by
    change (rowOf (s₀.size hg.axis) (offs.view.read (Elt F) fo (St.entry j))).map _ = _
    rw [rowOf_of_lt (hin _)]; rfl
  have hen : Function.Bijective (entryAt hg hn) := si.rowMajor.symm.bijective.comp (finCongr hn.symm).bijective
  have hone : ∀ j, iprop(inv κ (Transfers.batchBody EC (c, .dma sem) N D γ γ₀)
        ∗ (((dst.view.loc c ↦[(dst.view.slice (s.rowRect hg.axis' j)).set]{fullShare} fd) ∗ (offs.view.loc c ↦[{offs.view.emb (entryAt hg hn j)}]{qo} fo))
            ∗ (src.view.loc c ↦[src.view.set]{pieceOf q _ ho j} fs)) ∗ count EC (γ (pos j)) 0)
      ⊢ iprop(St.heldEntry qo fo j ∗ (St.heldEntry qo fo j -∗ rowRes c (rd j))) := fun j => by
    have hstep : ∀ A, A = N → iprop(inv κ (Transfers.batchBody EC (c, SemLoc.dma sem) N D γ γ₀) ∗ count EC (γ (pos j)) 0)
        ⊢ creditUpdate (c, SemLoc.dma sem) A 0 (gotRow c src dst hg offs hn q qo fs fd fo ho rr j) := fun A h => by
      rw [h]
      exact Transfers.batch_creditUpdate EC (g := (c, SemLoc.dma sem)) (N := N) (D := D) (γ := γ) (γ₀ := γ₀) (ι := κ) (pos j) (hD j)
    iintro ⟨#Hinv, ⟨⟨Hrow, Hent⟩, Hsrc⟩, Hc⟩
    isplitl [Hent]; · iexact Hent
    iintro Hent
    unfold rowRes
    iexists pieceOf q _ ho j, fs, iprop((dst.view.loc c ↦[(dst.view.slice (s.rowRect hg.axis' j)).set]{fullShare} ((dst.view.slice (s.rowRect hg.axis' j)).write (Elt F) fd (rowVal c src hg fs rr j) Finset.univ)) ∗ St.heldEntry qo fo j)
    isplitl [Hsrc]; · iexact Hsrc
    isplitl [Hrow Hent]
    · iapply writeUpdate_frame
      isplitl [Hrow]
      · iapply (pointsTo_writeUpdate c (v := dst.view.slice (s.rowRect hg.axis' j)) subset_rfl) $$ Hrow
      · iexact Hent
    · iapply (hstep _ (hN j))
      isplitr; · iexact Hinv
      iexact Hc
  rw [pointsTo_rows c dst.view hg.axis' fullShare fd, pointsTo_entries c offs.view _ hen qo fo, pointsTo_piecesOf src.view.set fs ho q]
  iintro ⟨#Hinv, Hsrc, Hdst, Hoffs, Hc⟩ Hk
  iapply (wp_enqueueIndirectDma 𝒱 c bd Set.univ (qo := qo) (fo := fo) (rd := rd) ι M hagree hrd hM) $$ [Hdst Hoffs Hsrc Hc]
  · unfold Stream.res
    ihave H1 := Transfers.bigSep_sep_in _ _ _ $$ [Hdst Hoffs]; · isplitl [Hdst] <;> iassumption
    ihave H2 := Transfers.bigSep_sep_in _ _ _ $$ [H1 Hsrc]; · isplitl [H1] <;> iassumption
    ihave H3 := Transfers.bigSep_sep_in _ _ _ $$ [H2 Hc]; · isplitl [H2] <;> iassumption
    iapply (Transfers.bigSep_mono_pers Finset.univ _ _ _ fun j _ => hone j)
    isplitr; · iexact Hinv
    iexact H3
  · iexact Hk

end Cert.Proof.Gather
-- ==== Proof.Fetch.lean ====
/-
  The five gathers of a chunk as one batch of 640 rows on the gathers' semaphore: the batch opened, a gather issued into
  it, a wait for one gather's worth, the batch closed, and the rows of one gather joined to its buffer.
-/
module

public import proofs.«01_k».proof.Proof.Dot
public import proofs.«01_k».proof.Proof.Gather

@[expose] public section

set_option maxRecDepth 16384

noncomputable section

namespace Cert.Proof

open Cert.KernelIdeal Cert.KernelIdeal.Gen Cert.Proof.Body
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
variable (d : Dev nD) (i : grid0.Coords)

/-- The gathers' semaphore. -/
abbrev gsem : DmaSem sig := cc0_scratch12.sem
/-- Its cell on a tile. -/
abbrev gcell : GSem nD τ sig := (thr d i, .dma gsem)

/-! ## The batch -/

/-- Row `j` of gather `k` among the batch's 640 transfers. -/
def pos (k : Fin 5) (j : Fin 128) : Fin 640 := finProdFinEquiv (k, j)

/-- The batch's deliveries from those of the five gathers. -/
def deliveries (G : Fin 5 → Fin 128 → sProp (𝕄 F)) (t : Fin 640) : sProp (𝕄 F) := G ((finProdFinEquiv (m := 5) (n := 128)).symm t).1 ((finProdFinEquiv (m := 5) (n := 128)).symm t).2

theorem deliveries_pos (G : Fin 5 → Fin 128 → sProp (𝕄 F)) (k : Fin 5) (j : Fin 128) : deliveries G (pos k j) = G k j := by
  unfold deliveries pos; rw [Equiv.symm_apply_apply]

instance (G : Fin 5 → Fin 128 → sProp (𝕄 F)) [∀ k j, Storable (upEmb : UEmb _ (𝕄 F)) (G k j)] (t : Fin 640) :
    Storable (upEmb : UEmb _ (𝕄 F)) (deliveries G t) := by unfold deliveries; infer_instance

/-- A family over five is its five members. -/
theorem bigSep_five (Φ : Fin 5 → sProp (𝕄 F)) : bigSep Finset.univ Φ = iprop(Φ 0 ∗ Φ 1 ∗ Φ 2 ∗ Φ 3 ∗ Φ 4) := by
  rw [Idealize.ShloMosaic.bigSep_univ_succ, Idealize.ShloMosaic.bigSep_univ_succ, Idealize.ShloMosaic.bigSep_univ_succ, Idealize.ShloMosaic.bigSep_univ_succ, BI.bigSep_univ_of_subsingleton (0 : Fin 1)]
  rfl

/-- A family over the 640 transfers is the five gathers' families. -/
theorem bigSep_batch (Φ : Fin 640 → sProp (𝕄 F)) :
    bigSep Finset.univ Φ = iprop((bigSep Finset.univ fun j => Φ (pos 0 j)) ∗ (bigSep Finset.univ fun j => Φ (pos 1 j)) ∗ (bigSep Finset.univ fun j => Φ (pos 2 j))
      ∗ (bigSep Finset.univ fun j => Φ (pos 3 j)) ∗ (bigSep Finset.univ fun j => Φ (pos 4 j))) := by
  rw [← bigSep_five (fun k => bigSep Finset.univ fun j => Φ (pos k j)), BI.bigSep_univ_equiv (finProdFinEquiv (m := 5) (n := 128)) Φ, BI.bigSep_univ_prod]
  rfl

/-- The rows' units: each row of a gather credits as many. -/
abbrev rowUnits : ℕ := 4096

/-- The batch once every gather is issued and nothing is waited for. -/
theorem batch_issued (G : Fin 5 → Fin 128 → sProp (𝕄 F)) (γ : Fin 640 → ℕ) (γ₀ κ : ℕ) :
    iprop(inv κ (Transfers.batchBody EC (gcell d i) rowUnits (deliveries G) γ γ₀) ∗ count EC γ₀ 0
        ∗ cred (tallyAt (gcell d i) (default : HIx 1) (128 * rowUnits)) ∗ cred (tallyAt (gcell d i) (default : HIx 1) (128 * rowUnits))
        ∗ cred (tallyAt (gcell d i) (default : HIx 1) (128 * rowUnits)) ∗ cred (tallyAt (gcell d i) (default : HIx 1) (128 * rowUnits))
        ∗ cred (tallyAt (gcell d i) (default : HIx 1) (128 * rowUnits)))
      ⊢ (Transfers.Batch EC (thr d i) (.dma gsem) (default : HIx 1) rowUnits (deliveries G) 640 0 : sProp (𝕄 F)) := by
  have hp : Transfers.pending (n := 640) 640 = ∅ := by
    ext t; simp only [Transfers.pending, Finset.mem_filter, Finset.mem_univ, true_and, Finset.notMem_empty, iff_false, not_le]; exact t.isLt
  unfold Transfers.Batch
  iintro ⟨Hi, H0, H1, H2, H3, H4, H5⟩
  iexists γ, γ₀, κ
  isplitl [Hi]; · iexact Hi
  isplitr
  · rw [hp, BI.bigSep_empty]; iempintro
  isplitl [H0]; · iexact H0
  rw [show 640 * rowUnits - 0 = 128 * rowUnits + (128 * rowUnits + (128 * rowUnits + (128 * rowUnits + 128 * rowUnits))) from rfl,
    ← tallyAt_add, ← tallyAt_add, ← tallyAt_add, ← tallyAt_add, SparseCore.Cfg.cred_add_eq, SparseCore.Cfg.cred_add_eq, SparseCore.Cfg.cred_add_eq,
    SparseCore.Cfg.cred_add_eq]
  isplitl [H1]; · iexact H1
  isplitl [H2]; · iexact H2
  isplitl [H3]; · iexact H3
  isplitl [H4] <;> iassumption

/-! ## One gather -/

/-- The words of chunk `b` of a list are rows of a table. -/
abbrev InRange (l : Memref sig .scVector .vmem S512 .i32) (b : Fin 4) (fo : Buf (Elt F) ((listAt l b).view.loc (thr d i))) : Prop :=
  ∀ x, ((listAt l b).view.read (Elt F) fo x).toNat < S250000x128.size gathers_S250000x128_S128x128.axis

/-- What row `j` of a gather of chunk `b` delivers. -/
def got (b : Fin 4) (tbl : Memref sig .scVector .hbm S250000x128 .f32) (l : Memref sig .scVector .vmem S512 .i32)
    (dst : Memref sig .scVector .vmem S128x128 .f32) (q qo : PosShare TreeShare) (fs : Buf (Elt F) ((allOf tbl).view.loc (thr d i)))
    (fd : Buf (Elt F) (dst.view.loc (thr d i))) (fo : Buf (Elt F) ((listAt l b).view.loc (thr d i))) (hin : InRange d i l b fo) (j : Fin 128) : sProp (𝕄 F) :=
  Gather.gotRow (thr d i) (allOf tbl) dst gathers_S250000x128_S128x128 (listAt l b) rfl q qo fs fd fo (by decide)
    (SparseCore.rows ((listAt l b).view.read (Elt F) fo) rfl hin) j

instance (b : Fin 4) (tbl : Memref sig .scVector .hbm S250000x128 .f32) (l : Memref sig .scVector .vmem S512 .i32)
    (dst : Memref sig .scVector .vmem S128x128 .f32) (q qo : PosShare TreeShare) (fs : Buf (Elt F) ((allOf tbl).view.loc (thr d i)))
    (fd : Buf (Elt F) (dst.view.loc (thr d i))) (fo : Buf (Elt F) ((listAt l b).view.loc (thr d i))) (hin : InRange d i l b fo) (j : Fin 128) :
    Storable (upEmb : UEmb _ (𝕄 F)) (got d i b tbl l dst q qo fs fd fo hin j) :=
  Gather.gotRow_storable (thr d i) (allOf tbl) dst gathers_S250000x128_S128x128 (listAt l b) rfl q qo fs fd fo (by decide) _ j

/-- What a gather's buffer holds once its rows have landed. -/
abbrev landed (b : Fin 4) (tbl : Memref sig .scVector .hbm S250000x128 .f32) (l : Memref sig .scVector .vmem S512 .i32)
    (fs : Buf (Elt F) ((allOf tbl).view.loc (thr d i))) (fo : Buf (Elt F) ((listAt l b).view.loc (thr d i))) (hin : InRange d i l b fo) : S128x128.Idx → Elt F .f32 :=
  SparseCore.gatherPayload gathers_S250000x128_S128x128 ((allOf tbl).view.read (Elt F) fs) (SparseCore.rows ((listAt l b).view.read (Elt F) fo) rfl hin)

/-- The rows of a gather, joined. -/
theorem got_join (b : Fin 4) (tbl : Memref sig .scVector .hbm S250000x128 .f32) (l : Memref sig .scVector .vmem S512 .i32)
    (dst : Memref sig .scVector .vmem S128x128 .f32) (q qo : PosShare TreeShare) (fs : Buf (Elt F) ((allOf tbl).view.loc (thr d i)))
    (fd : Buf (Elt F) (dst.view.loc (thr d i))) (fo : Buf (Elt F) ((listAt l b).view.loc (thr d i))) (hin : InRange d i l b fo) :
    bigSep Finset.univ (got d i b tbl l dst q qo fs fd fo hin)
      ⊢ (iprop((dst.view.loc (thr d i) ↦[dst.view.set]{fullShare} (dst.view.write (Elt F) fd (landed d i b tbl l fs fo hin) Finset.univ))
          ∗ ((allOf tbl).view.loc (thr d i) ↦[(allOf tbl).view.set]{q} fs)
          ∗ ((listAt l b).view.loc (thr d i) ↦[(listAt l b).view.set]{qo} fo)) : sProp (𝕄 F)) :=
  Gather.gotRows_join (thr d i) (allOf tbl) dst gathers_S250000x128_S128x128 (listAt l b) rfl q qo fs fd fo (by decide)
    (SparseCore.rows ((listAt l b).view.read (Elt F) fo) rfl hin)

/-- Every row of a gather credits the same units. -/
theorem rowCredit (dst : Memref sig .scVector .vmem S128x128 .f32) (j : Fin (S128x128.size gathers_S250000x128_S128x128.axis')) :
    (dst.slice (S128x128.rowRect gathers_S250000x128_S128x128.axis' j) (S128x128.stride_rowRect gathers_S250000x128_S128x128.axis' j)).view.dmaCredit = rowUnits := by
  change (S128x128.rowShape gathers_S250000x128_S128x128.axis').numel * 32 = 4096
  decide

/-- Gather `n` of a chunk, issued into the batch. -/
theorem wp_fetch (b : Fin 4) (tbl : Memref sig .scVector .hbm S250000x128 .f32) (l : Memref sig .scVector .vmem S512 .i32)
    (dst : Memref sig .scVector .vmem S128x128 .f32) (q qo : PosShare TreeShare) (fs : Buf (Elt F) ((allOf tbl).view.loc (thr d i)))
    (fd : Buf (Elt F) (dst.view.loc (thr d i))) (fo : Buf (Elt F) ((listAt l b).view.loc (thr d i))) (hin : InRange d i l b fo)
    (G : Fin 5 → Fin 128 → sProp (𝕄 F)) (n : Fin 5) (hG : ∀ j, got d i b tbl l dst q qo fs fd fo hin j ⊢ G n j) (γ : Fin 640 → ℕ) (γ₀ κ : ℕ)
    {β : Type} {Q : β → sProp (𝕄 F)} {k : PUnit → Prog (TpuEff nD τ sig (Elt F) Λ₀ (procOf i)) β} :
    iprop(inv κ (Transfers.batchBody EC (gcell d i) rowUnits (deliveries G) γ γ₀)
        ∗ ((allOf tbl).view.loc (thr d i) ↦[(allOf tbl).view.set]{q} fs) ∗ (dst.view.loc (thr d i) ↦[dst.view.set]{fullShare} fd)
        ∗ ((listAt l b).view.loc (thr d i) ↦[(listAt l b).view.set]{qo} fo)
        ∗ bigSep Finset.univ fun j => count EC (γ (pos n j)) 0)
      ⊢ iprop((cred (tallyAt (gcell d i) (default : HIx 1) (128 * rowUnits)) -∗ wp frame (wpE (defs₀ (F := F)) 𝒱₀ (thr d i) none) Set.univ (k ⟨⟩) Q)
          -∗ wp frame (wpE (defs₀ (F := F)) 𝒱₀ (thr d i) none) Set.univ (fetch i b tbl l dst >>= k) Q) :=
  Gather.wp_gatherInto EC 𝒱₀ (thr d i) none (allOf tbl) dst gathers_S250000x128_S128x128 (listAt l b) rfl q qo fs fd fo (by decide)
    (pos n) (default : HIx 1) (128 * rowUnits) (SparseCore.sum_rowCredit_eq _ (rowCredit dst) rfl) (rowCredit dst) hin (fun j => (hG j).trans (Entails.of_eq (deliveries_pos G n j).symm))

end Cert.Proof
-- ==== Proof.Chunk.lean ====
/-
  A chunk: five gathers, their waits and 128 dot products. From the tables' shares, the tile's ids and their row numbers,
  it leaves the chunk's scores at the dot products of the ids' embeddings.
-/
module

public import proofs.«01_k».proof.Proof.Fetch

@[expose] public section

set_option maxRecDepth 16384

noncomputable section

namespace Cert.Proof

open Cert.KernelIdeal Cert.KernelIdeal.Gen Cert.Proof.Body
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
variable (d : Dev nD) (i : grid0.Coords)

/-! ## What a gather leaves, by row and column -/

/-- The rows the list names, in the order of the list. -/
theorem rows_val (idx : S128.Idx → Elt F .i32) (h : ∀ x, (idx x).toNat < 250000) (j : Fin 128) :
    (SparseCore.rows (F := F) (o := 128) idx rfl h j).val = (idx (ValueIdx.ix1 j)).toNat := by
  unfold SparseCore.rows
  show (idx (S128.rowMajor.symm (j.cast rfl))).toNat = _
  congr 2
  rw [Equiv.symm_apply_eq]
  apply Fin.ext
  exact (Shape.rowMajor_val_one (d := ![128]) (ValueIdx.ix1 j)).symm

theorem rowsAt_landed {b : Fin 4} {tbl : Memref sig .scVector .hbm S250000x128 .f32} {l : Memref sig .scVector .vmem S512 .i32}
    {fs : Buf (Elt F) ((allOf tbl).view.loc (thr d i))} {fo : Buf (Elt F) ((listAt l b).view.loc (thr d i))} {hin : InRange d i l b fo}
    {g : S250000x128.Idx → F .f32} (hg : (allOf tbl).view.read (Elt F) fs = g) {w : S512.Idx → BitVec 32}
    (hw : ∀ x : S128.Idx, (listAt l b).view.read (Elt F) fo x = el w (128 * b.val + (x 0).val)) {n c : ℕ}
    (hn : 128 * b.val ≤ n ∧ n < 128 * b.val + 128) :
    rowsAt (landed d i b tbl l fs fo hin) n c = tabAt g (el w n).toNat c := by
  subst hg
  have hnb : 128 * b.val + n % 128 = n := by omega
  have hrow : (SparseCore.rows (F := F) (o := 128) ((listAt l b).view.read (Elt F) fo) rfl hin ⟨n % 128, Nat.mod_lt _ (by decide)⟩).val = (el w n).toNat := by
    refine (rows_val _ hin _).trans ?_
    rw [hw]; show (el w (128 * b.val + n % 128)).toNat = _; rw [hnb]
  have hlt : (el w n).toNat < 250000 := hrow ▸ Fin.isLt _
  unfold rowsAt tabAt landed SparseCore.gatherPayload
  congr 1
  funext a
  apply Fin.ext
  match a with
  | 0 =>
    refine (congrArg Fin.val (Shape.Gathers.idx_axis gathers_S250000x128_S128x128 _ _)).trans (hrow.trans ?_)
    exact (Nat.mod_eq_of_lt hlt).symm
  | 1 =>
    exact Shape.Gathers.idx_of_ne gathers_S250000x128_S128x128 _ _ (1 : Fin 2) (by decide)

theorem read_allOf_user (f : S250000x128.Idx → F .f32) : (allOf userM).view.read (Elt F) f = f :=
  Memref.read_access_unit_zero (Elt F) main_v0_scv (by funext a; match a with | 0 => rfl | 1 => rfl) inb_S250000x128_S250000x128_0_0 f
theorem read_allOf_item (f : S250000x128.Idx → F .f32) : (allOf itemM).view.read (Elt F) f = f :=
  Memref.read_access_unit_zero (Elt F) main_v1_scv (by funext a; match a with | 0 => rfl | 1 => rfl) inb_S250000x128_S250000x128_0_0 f
theorem read_allOf_ent (f : S250000x128.Idx → F .f32) : (allOf entM).view.read (Elt F) f = f :=
  Memref.read_access_unit_zero (Elt F) main_v2_scv (by funext a; match a with | 0 => rfl | 1 => rfl) inb_S250000x128_S250000x128_0_0 f

/-- The slice of all of a table is all of it. -/
theorem set_allOf (m : Memref sig .scVector .hbm S250000x128 .f32) (hm : m.view.set = Finset.univ) : (allOf m).view.set = Finset.univ := by
  refine (View.set_slice m.view (Rect.unit (s := S250000x128) ![0, 0] S250000x128.size inb_S250000x128_S250000x128_0_0)).trans ?_
  rw [← hm, View.set]
  refine congrArg (fun t => Finset.map m.view.emb t) (Finset.eq_univ_of_forall fun x => ?_)
  rw [← Rect.map_emb_univ, Finset.mem_map]
  refine ⟨x, Finset.mem_univ _, ?_⟩
  funext a; apply Fin.ext
  match a with
  | 0 => show 0 + 1 * (x 0).val = (x 0).val; omega
  | 1 => show 0 + 1 * (x 1).val = (x 1).val; omega

theorem read128 {α : Type} (f : S512.Idx → α) (b : Fin 4) (x : S128.Idx) :
    f ((Rect.unit (s := S512) ![128 * b.val] S128.size (chunk_inb b)).emb x) = el f (128 * b.val + (x 0).val) := by
  unfold el; congr 1; funext a
  have ha : a = 0 := Subsingleton.elim _ _
  subst ha
  have hx : (x 0).val < 128 := (x 0).isLt
  have h : 128 * b.val + 128 ≤ 512 := chunk_inb b 0
  apply Fin.ext
  show 128 * b.val + 1 * (x 0).val = (128 * b.val + (x 0).val) % 512
  omega

/-- The chunk's scores from the gathered rows are the scores from the tables. -/
theorem scoreFn_landed {b : Fin 4} {tu ti te : S250000x128.Idx → F .f32} {gu gp gn bu bp bn : S512.Idx → BitVec 32}
    {fu fpi fpe fni fne : S128x128.Idx → F .f32}
    (hu : ∀ n c, 128 * b.val ≤ n ∧ n < 128 * b.val + 128 → rowsAt fu n c = tabAt tu (el bu n).toNat c)
    (hpi : ∀ n c, 128 * b.val ≤ n ∧ n < 128 * b.val + 128 → rowsAt fpi n c = tabAt ti (el bp n).toNat c)
    (hpe : ∀ n c, 128 * b.val ≤ n ∧ n < 128 * b.val + 128 → rowsAt fpe n c = tabAt te (el bp n).toNat c)
    (hni : ∀ n c, 128 * b.val ≤ n ∧ n < 128 * b.val + 128 → rowsAt fni n c = tabAt ti (el bn n).toNat c)
    (hne : ∀ n c, 128 * b.val ≤ n ∧ n < 128 * b.val + 128 → rowsAt fne n c = tabAt te (el bn n).toNat c)
    (sbu : ∀ n, (el bu n).toNat = rowNat (el gu n)) (sbp : ∀ n, (el bp n).toNat = rowNat (el gp n)) (sbn : ∀ n, (el bn n).toNat = rowNat (el gn n))
    (f : S512.Idx → F .f32) :
    put f (128 * b.val) 128 (scoreFn fu fpi fpe fni fne gu gp gn)
      = put f (128 * b.val) 128 (fun n => score tu ti te (el gu n) (el gp n) (el gn n) (n % 16)) := by
  funext r; unfold put
  split
  · next h =>
    unfold scoreFn rowScore score
    simp only [hu _ _ h, hpi _ _ h, hpe _ _ h, hni _ _ h, hne _ _ h, sbu, sbp, sbn]
  · rfl

/-! ## The chunk -/

/-- A share of each table, at given contents. -/
def tabsHeld (q : PosShare TreeShare) (tu ti te : S250000x128.Idx → F .f32) : sProp (𝕄 F) :=
  iprop(((thr d i).loc main_v0_scv ↦{q} tu) ∗ ((thr d i).loc main_v1_scv ↦{q} ti) ∗ ((thr d i).loc main_v2_scv ↦{q} te))

/-- The row numbers, at given contents. -/
def listsHeld (bu bp bn : S512.Idx → BitVec 32) : sProp (𝕄 F) :=
  iprop(((thr d i).loc cc0_scratch3 ↦{fullShare} bu) ∗ ((thr d i).loc cc0_scratch4 ↦{fullShare} bp) ∗ ((thr d i).loc cc0_scratch5 ↦{fullShare} bn))

/-- Elements held at a share are held at its two halves at once. -/
theorem halves {ℓ : Loc nD τ sig} (I : Finset (Idx ℓ)) (q : PosShare TreeShare) (f : Buf (Elt F) ℓ) :
    (ℓ ↦[I]{q} f : sProp (𝕄 F)) = iprop((ℓ ↦[I]{q.left} f) ∗ (ℓ ↦[I]{q.right} f)) :=
  Entails.antisymm (pointsTo_share (PosShare.mem_left_op_right q)).1 (pointsTo_share (PosShare.mem_left_op_right q)).2

/-- A buffer held whole is held at some of its elements and at the others. -/
theorem within {ℓ : Loc nD τ sig} (I : Finset (Idx ℓ)) (q : PosShare TreeShare) (f : Buf (Elt F) ℓ) :
    (ℓ ↦{q} f : sProp (𝕄 F)) = iprop((ℓ ↦[I]{q} f) ∗ (ℓ ↦[Finset.univ \ I]{q} f)) :=
  Entails.antisymm (pointsTo_split_subset (Finset.subset_univ I)).1 (pointsTo_split_subset (Finset.subset_univ I)).2

/-- One wait for a gather's worth, of a batch all of whose gathers are issued. -/
theorem wp_await (tbl : Memref sig .scVector .hbm S250000x128 .f32) (dst : Memref sig .scVector .vmem S128x128 .f32) (hd : dst.IsWhole)
    (G : Fin 5 → Fin 128 → sProp (𝕄 F)) (u : ℕ) (hu : u + 128 * rowUnits ≤ rowUnits * 640) {O : CellTallies nD τ sig (HIx 1)} {W : Waits sig (HIx 1)}
    {β : Type} {Q : β → sProp (𝕄 F)} {k : PUnit → Prog (TpuEff nD τ sig (Elt F) Λ₀ (procOf i)) β} :
    iprop(Transfers.Batch EC (thr d i) (.dma gsem) (default : HIx 1) rowUnits (deliveries G) 640 u ∗ owes (thr d i) O W
        ∗ Transfers.MayWaits (thr d i) (default : HIx 1) O)
      ⊢ iprop((iprop(Transfers.Batch EC (thr d i) (.dma gsem) (default : HIx 1) rowUnits (deliveries G) 640 (u + 128 * rowUnits)
            ∗ owes (thr d i) O (insert (SemLoc.dma gsem, (default : HIx 1)) W)) -∗ wp frame (wpE (defs₀ (F := F)) 𝒱₀ (thr d i) none) Set.univ (k ⟨⟩) Q)
          -∗ wp frame (wpE (defs₀ (F := F)) 𝒱₀ (thr d i) none) Set.univ (await i tbl dst hd >>= k) Q) := by
  iintro ⟨HB, HO, Hmw⟩
  iapply (Transfers.wp_waitBatchMulO EC 𝒱₀ (thr d i) none (default : HIx 1) 128 (rfl : dst.view.dmaCredit = 128 * rowUnits) hu)
  isplitl [HB]; · iexact HB
  isplitl [HO]; · iexact HO
  iapply (Transfers.MayWaits.elim (SemLoc.dma gsem)) $$ Hmw

/-- A gather issued into the batch, its table and its buffer held whole. -/
theorem wp_fetchW (b : Fin 4) (tbl : Memref sig .scVector .hbm S250000x128 .f32) (l : Memref sig .scVector .vmem S512 .i32)
    (dst : Memref sig .scVector .vmem S128x128 .f32) (htbl : tbl.view.set = Finset.univ) (hdst : dst.view.set = Finset.univ)
    (q qo : PosShare TreeShare) (fs : Buf (Elt F) ((allOf tbl).view.loc (thr d i)))
    (fd : Buf (Elt F) (dst.view.loc (thr d i))) (fo : Buf (Elt F) ((listAt l b).view.loc (thr d i))) (hin : InRange d i l b fo)
    (G : Fin 5 → Fin 128 → sProp (𝕄 F)) (n : Fin 5) (hG : ∀ j, got d i b tbl l dst q qo fs fd fo hin j ⊢ G n j) (γ : Fin 640 → ℕ) (γ₀ κ : ℕ)
    {β : Type} {Q : β → sProp (𝕄 F)} {k : PUnit → Prog (TpuEff nD τ sig (Elt F) Λ₀ (procOf i)) β} :
    iprop(inv κ (Transfers.batchBody EC (gcell d i) rowUnits (deliveries G) γ γ₀)
        ∗ ((allOf tbl).view.loc (thr d i) ↦{q} fs) ∗ (dst.view.loc (thr d i) ↦{fullShare} fd)
        ∗ ((listAt l b).view.loc (thr d i) ↦[(listAt l b).view.set]{qo} fo)
        ∗ bigSep Finset.univ fun j => count EC (γ (pos n j)) 0)
      ⊢ iprop((cred (tallyAt (gcell d i) (default : HIx 1) (128 * rowUnits)) -∗ wp frame (wpE (defs₀ (F := F)) 𝒱₀ (thr d i) none) Set.univ (k ⟨⟩) Q)
          -∗ wp frame (wpE (defs₀ (F := F)) 𝒱₀ (thr d i) none) Set.univ (fetch i b tbl l dst >>= k) Q) := by
  have h := wp_fetch d i b tbl l dst q qo fs fd fo hin G n hG γ γ₀ κ (k := k) (Q := Q)
  rw [set_allOf tbl htbl, hdst] at h
  exact h

/-- The rows of a gather, joined, its table and its buffer whole. -/
theorem got_joinW (b : Fin 4) (tbl : Memref sig .scVector .hbm S250000x128 .f32) (l : Memref sig .scVector .vmem S512 .i32)
    (dst : Memref sig .scVector .vmem S128x128 .f32) (htbl : tbl.view.set = Finset.univ) (hdst : dst.view.set = Finset.univ)
    (q qo : PosShare TreeShare) (fs : Buf (Elt F) ((allOf tbl).view.loc (thr d i)))
    (fd : Buf (Elt F) (dst.view.loc (thr d i))) (fo : Buf (Elt F) ((listAt l b).view.loc (thr d i))) (hin : InRange d i l b fo)
    (w : Buf (Elt F) (dst.view.loc (thr d i))) (hw : dst.view.write (Elt F) fd (landed d i b tbl l fs fo hin) Finset.univ = w) :
    bigSep Finset.univ (got d i b tbl l dst q qo fs fd fo hin)
      ⊢ (iprop((dst.view.loc (thr d i) ↦{fullShare} w)
          ∗ ((allOf tbl).view.loc (thr d i) ↦{q} fs)
          ∗ ((listAt l b).view.loc (thr d i) ↦[(listAt l b).view.set]{qo} fo)) : sProp (𝕄 F)) := by
  have h := got_join d i b tbl l dst q qo fs fd fo hin
  rw [set_allOf tbl htbl, hdst, hw] at h
  exact h

/-- The ids' row numbers are rows of the tables. -/
theorem inRange_of (l : Memref sig .scVector .vmem S512 .i32) (b : Fin 4) (fo : Buf (Elt F) ((listAt l b).view.loc (thr d i))) (w : S512.Idx → BitVec 32)
    (hw : ∀ x : S128.Idx, (listAt l b).view.read (Elt F) fo x = el w (128 * b.val + (x 0).val)) (hr : ∀ n, (el w n).toNat < 250000) :
    InRange d i l b fo := fun x => by
  rw [hw]; exact hr _

set_option maxHeartbeats 1000000 in
/-- Chunk `b`: its 128 scores are left in place, everything else as it was. -/
theorem wp_chunk (b : Fin 4) (q : PosShare TreeShare) (tu ti te : S250000x128.Idx → F .f32) (gu gp gn bu bp bn : S512.Idx → BitVec 32)
    (sbu : ∀ n, (el bu n).toNat = rowNat (el gu n)) (sbp : ∀ n, (el bp n).toNat = rowNat (el gp n)) (sbn : ∀ n, (el bn n).toNat = rowNat (el gn n))
    (ru : ∀ n, (el bu n).toNat < 250000) (rp : ∀ n, (el bp n).toNat < 250000) (rn : ∀ n, (el bn n).toNat < 250000)
    (f : S512.Idx → F .f32) {O : CellTallies nD τ sig (HIx 1)} {W : Waits sig (HIx 1)}
    {β : Type} {Q : β → sProp (𝕄 F)} {k : PUnit → Prog (TpuEff nD τ sig (Elt F) Λ₀ (procOf i)) β} :
    iprop(tabsHeld d i q tu ti te ∗ listsHeld (F := F) d i bu bp bn ∗ idsHeld (F := F) d i gu gp gn
        ∗ (∃ fu fpi fpe fni fne, rowsHeld (F := F) d i fu fpi fpe fni fne) ∗ ((thr d i).loc cc0_scratch11 ↦{fullShare} f)
        ∗ semVal (gcell d i) 0 ∗ owes (thr d i) O W ∗ Transfers.MayWaits (thr d i) (default : HIx 1) O)
      ⊢ iprop((tabsHeld d i q tu ti te -∗ listsHeld (F := F) d i bu bp bn -∗ idsHeld (F := F) d i gu gp gn
            -∗ (∃ fu fpi fpe fni fne, rowsHeld (F := F) d i fu fpi fpe fni fne)
            -∗ ((thr d i).loc cc0_scratch11 ↦{fullShare} put f (128 * b.val) 128 (fun n => score tu ti te (el gu n) (el gp n) (el gn n) (n % 16)))
            -∗ semVal (gcell d i) 0 -∗ owes (thr d i) O (insert (SemLoc.dma gsem, (default : HIx 1)) W)
            -∗ wp frame (wpE (defs₀ (F := F)) 𝒱₀ (thr d i) none) Set.univ (k ⟨⟩) Q)
          -∗ wp frame (wpE (defs₀ (F := F)) 𝒱₀ (thr d i) none) Set.univ (chunk i b >>= k) Q) := by
  have wU : ∀ x : S128.Idx, (listAt ub b).view.read (Elt F) bu x = el bu (128 * b.val + (x 0).val) := read128 bu b
  have wP : ∀ x : S128.Idx, (listAt pb b).view.read (Elt F) bp x = el bp (128 * b.val + (x 0).val) := read128 bp b
  have wN : ∀ x : S128.Idx, (listAt nb b).view.read (Elt F) bn x = el bn (128 * b.val + (x 0).val) := read128 bn b
  have iU := inRange_of d i ub b bu bu wU ru
  have iP := inRange_of d i pb b bp bp wP rp
  have iN := inRange_of d i nb b bn bn wN rn
  unfold tabsHeld listsHeld chunk awaits
  simp only [bind_assoc]
  iintro ⟨⟨Htu, Hti, Hte⟩, ⟨Hbu, Hbp, Hbn⟩, Hids, ⟨%f0, %f1, %f2, %f3, %f4, Hrows⟩, Hs, Hsem, HO, #Hmw⟩ Hk
  let G : Fin 5 → Fin 128 → sProp (𝕄 F) := fun n => match n with
    | 0 => got d i b userM ub ur q fullShare tu f0 bu iU
    | 1 => got d i b itemM pb pir q.left fullShare.left ti f1 bp iP
    | 2 => got d i b entM pb per q.left fullShare.right te f2 bp iP
    | 3 => got d i b itemM nb nir q.right fullShare.left ti f3 bn iN
    | 4 => got d i b entM nb ner q.right fullShare.right te f4 bn iN
  haveI : ∀ n j, Storable (upEmb : UEmb _ (𝕄 F)) (G n j) := fun n j => match n with
    | 0 => inferInstanceAs (Storable _ (got d i b userM ub ur q fullShare tu f0 bu iU j))
    | 1 => inferInstanceAs (Storable _ (got d i b itemM pb pir q.left fullShare.left ti f1 bp iP j))
    | 2 => inferInstanceAs (Storable _ (got d i b entM pb per q.left fullShare.right te f2 bp iP j))
    | 3 => inferInstanceAs (Storable _ (got d i b itemM nb nir q.right fullShare.left ti f3 bn iN j))
    | 4 => inferInstanceAs (Storable _ (got d i b entM nb ner q.right fullShare.right te f4 bn iN j))
  imod (Transfers.batch_alloc EC rowUnits (deliveries G) (g := gcell d i) (E := Set.univ)) $$ Hsem with ⟨%γ, %γ₀, %κ, #Hinv, H0, Hc⟩
  ihave Hc := (Entails.of_eq (bigSep_batch fun t => count EC (γ t) 0)) $$ Hc
  icases Hc with ⟨Hc0, Hc1, Hc2, Hc3, Hc4⟩
  -- the shares of the gathers
  ihave Hti := (Entails.of_eq (halves (F := F) Finset.univ q ti)) $$ Hti
  icases Hti with ⟨Hti1, Hti2⟩
  ihave Hte := (Entails.of_eq (halves (F := F) Finset.univ q te)) $$ Hte
  icases Hte with ⟨Hte1, Hte2⟩
  ihave Hbu := (Entails.of_eq (within (F := F) (listAt ub b).view.set fullShare bu)) $$ Hbu
  icases Hbu with ⟨Hbu, Hbu'⟩
  ihave Hbp := (Entails.of_eq (within (F := F) (listAt pb b).view.set fullShare bp)) $$ Hbp
  icases Hbp with ⟨Hbp, Hbp'⟩
  ihave Hbp := (Entails.of_eq (halves (F := F) (listAt pb b).view.set fullShare bp)) $$ Hbp
  icases Hbp with ⟨Hbp1, Hbp2⟩
  ihave Hbn := (Entails.of_eq (within (F := F) (listAt nb b).view.set fullShare bn)) $$ Hbn
  icases Hbn with ⟨Hbn, Hbn'⟩
  ihave Hbn := (Entails.of_eq (halves (F := F) (listAt nb b).view.set fullShare bn)) $$ Hbn
  icases Hbn with ⟨Hbn1, Hbn2⟩
  unfold rowsHeld
  icases Hrows with ⟨Hr0, Hr1, Hr2, Hr3, Hr4⟩
  -- the five gathers
  iapply (wp_fetchW d i b userM ub ur (View.set_whole _) (View.set_whole _) q fullShare tu f0 bu iU G 0 (fun _ => .rfl) γ γ₀ κ) $$ [Htu Hr0 Hbu Hc0]
  · isplitr; · iexact Hinv
    isplitl [Htu]; · iexact Htu
    isplitl [Hr0]; · iexact Hr0
    isplitl [Hbu]; · iexact Hbu
    iexact Hc0
  iintro Hq0
  iapply (wp_fetchW d i b itemM pb pir (View.set_whole _) (View.set_whole _) q.left fullShare.left ti f1 bp iP G 1 (fun _ => .rfl) γ γ₀ κ) $$ [Hti1 Hr1 Hbp1 Hc1]
  · isplitr; · iexact Hinv
    isplitl [Hti1]; · iexact Hti1
    isplitl [Hr1]; · iexact Hr1
    isplitl [Hbp1]; · iexact Hbp1
    iexact Hc1
  iintro Hq1
  iapply (wp_fetchW d i b entM pb per (View.set_whole _) (View.set_whole _) q.left fullShare.right te f2 bp iP G 2 (fun _ => .rfl) γ γ₀ κ) $$ [Hte1 Hr2 Hbp2 Hc2]
  · isplitr; · iexact Hinv
    isplitl [Hte1]; · iexact Hte1
    isplitl [Hr2]; · iexact Hr2
    isplitl [Hbp2]; · iexact Hbp2
    iexact Hc2
  iintro Hq2
  iapply (wp_fetchW d i b itemM nb nir (View.set_whole _) (View.set_whole _) q.right fullShare.left ti f3 bn iN G 3 (fun _ => .rfl) γ γ₀ κ) $$ [Hti2 Hr3 Hbn1 Hc3]
  · isplitr; · iexact Hinv
    isplitl [Hti2]; · iexact Hti2
    isplitl [Hr3]; · iexact Hr3
    isplitl [Hbn1]; · iexact Hbn1
    iexact Hc3
  iintro Hq3
  iapply (wp_fetchW d i b entM nb ner (View.set_whole _) (View.set_whole _) q.right fullShare.right te f4 bn iN G 4 (fun _ => .rfl) γ γ₀ κ) $$ [Hte2 Hr4 Hbn2 Hc4]
  · isplitr; · iexact Hinv
    isplitl [Hte2]; · iexact Hte2
    isplitl [Hr4]; · iexact Hr4
    isplitl [Hbn2]; · iexact Hbn2
    iexact Hc4
  iintro Hq4
  ihave HB := (batch_issued d i G γ γ₀ κ) $$ [H0 Hq0 Hq1 Hq2 Hq3 Hq4]
  · isplitr; · iexact Hinv
    isplitl [H0]; · iexact H0
    isplitl [Hq0]; · iexact Hq0
    isplitl [Hq1]; · iexact Hq1
    isplitl [Hq2]; · iexact Hq2
    isplitl [Hq3] <;> iassumption
  -- the five waits
  iapply (wp_await d i userM ur (Memref.isWhole_whole _) G 0 (by decide)) $$ [HB HO]
  · isplitl [HB]; · iexact HB
    isplitl [HO]; · iexact HO
    iexact Hmw
  iintro ⟨HB, HO⟩
  iapply (wp_await d i itemM pir (Memref.isWhole_whole _) G (0 + 128 * rowUnits) (by decide)) $$ [HB HO]
  · isplitl [HB]; · iexact HB
    isplitl [HO]; · iexact HO
    iexact Hmw
  iintro ⟨HB, HO⟩
  iapply (wp_await d i entM per (Memref.isWhole_whole _) G (0 + 128 * rowUnits + 128 * rowUnits) (by decide)) $$ [HB HO]
  · isplitl [HB]; · iexact HB
    isplitl [HO]; · iexact HO
    iexact Hmw
  iintro ⟨HB, HO⟩
  iapply (wp_await d i itemM nir (Memref.isWhole_whole _) G (0 + 128 * rowUnits + 128 * rowUnits + 128 * rowUnits) (by decide)) $$ [HB HO]
  · isplitl [HB]; · iexact HB
    isplitl [HO]; · iexact HO
    iexact Hmw
  iintro ⟨HB, HO⟩
  iapply (wp_await d i entM ner (Memref.isWhole_whole _) G (0 + 128 * rowUnits + 128 * rowUnits + 128 * rowUnits + 128 * rowUnits) (by decide)) $$ [HB HO]
  · isplitl [HB]; · iexact HB
    isplitl [HO]; · iexact HO
    iexact Hmw
  iintro ⟨HB, HO⟩
  simp only [Finset.insert_idem]
  imod (Transfers.batch_collect' EC (thr d i) (by decide : 0 < rowUnits) (sm := .dma gsem) (ι := (default : HIx 1)) (D := deliveries G)) $$ HB with ⟨HD, Hsem⟩
  ihave HD := (Entails.of_eq (bigSep_batch (deliveries G))) $$ HD
  simp only [deliveries_pos]
  icases HD with ⟨HD0, HD1, HD2, HD3, HD4⟩
  ihave HD0 := (got_joinW d i b userM ub ur (View.set_whole _) (View.set_whole _) q fullShare tu f0 bu iU
    (landed d i b userM ub tu bu iU) (View.write_whole_univ (Val := Elt F) cc0_scratch6 f0 (landed d i b userM ub tu bu iU))) $$ HD0
  icases HD0 with ⟨Hr0, Htu, Hbu⟩
  ihave HD1 := (got_joinW d i b itemM pb pir (View.set_whole _) (View.set_whole _) q.left fullShare.left ti f1 bp iP
    (landed d i b itemM pb ti bp iP) (View.write_whole_univ (Val := Elt F) cc0_scratch7 f1 (landed d i b itemM pb ti bp iP))) $$ HD1
  icases HD1 with ⟨Hr1, Hti1, Hbp1⟩
  ihave HD2 := (got_joinW d i b entM pb per (View.set_whole _) (View.set_whole _) q.left fullShare.right te f2 bp iP
    (landed d i b entM pb te bp iP) (View.write_whole_univ (Val := Elt F) cc0_scratch8 f2 (landed d i b entM pb te bp iP))) $$ HD2
  icases HD2 with ⟨Hr2, Hte1, Hbp2⟩
  ihave HD3 := (got_joinW d i b itemM nb nir (View.set_whole _) (View.set_whole _) q.right fullShare.left ti f3 bn iN
    (landed d i b itemM nb ti bn iN) (View.write_whole_univ (Val := Elt F) cc0_scratch9 f3 (landed d i b itemM nb ti bn iN))) $$ HD3
  icases HD3 with ⟨Hr3, Hti2, Hbn1⟩
  ihave HD4 := (got_joinW d i b entM nb ner (View.set_whole _) (View.set_whole _) q.right fullShare.right te f4 bn iN
    (landed d i b entM nb te bn iN) (View.write_whole_univ (Val := Elt F) cc0_scratch10 f4 (landed d i b entM nb te bn iN))) $$ HD4
  icases HD4 with ⟨Hr4, Hte2, Hbn2⟩
  -- the shares joined again
  ihave Hti := (Entails.of_eq (halves (F := F) (ℓ := (thr d i).loc main_v1_scv) Finset.univ q ti).symm) $$ [Hti1 Hti2]; · isplitl [Hti1] <;> iassumption
  ihave Hte := (Entails.of_eq (halves (F := F) (ℓ := (thr d i).loc main_v2_scv) Finset.univ q te).symm) $$ [Hte1 Hte2]; · isplitl [Hte1] <;> iassumption
  ihave Hbu := (Entails.of_eq (within (F := F) (ℓ := (thr d i).loc cc0_scratch3) (listAt ub b).view.set fullShare bu).symm) $$ [Hbu Hbu']; · isplitl [Hbu] <;> iassumption
  ihave Hbp := (Entails.of_eq (halves (F := F) (ℓ := (thr d i).loc cc0_scratch4) (listAt pb b).view.set fullShare bp).symm) $$ [Hbp1 Hbp2]; · isplitl [Hbp1] <;> iassumption
  ihave Hbp := (Entails.of_eq (within (F := F) (ℓ := (thr d i).loc cc0_scratch4) (listAt pb b).view.set fullShare bp).symm) $$ [Hbp Hbp']; · isplitl [Hbp] <;> iassumption
  ihave Hbn := (Entails.of_eq (halves (F := F) (ℓ := (thr d i).loc cc0_scratch5) (listAt nb b).view.set fullShare bn).symm) $$ [Hbn1 Hbn2]; · isplitl [Hbn1] <;> iassumption
  ihave Hbn := (Entails.of_eq (within (F := F) (ℓ := (thr d i).loc cc0_scratch5) (listAt nb b).view.set fullShare bn).symm) $$ [Hbn Hbn']; · isplitl [Hbn] <;> iassumption
  -- the dot products
  iapply (wp_dots d i b gu gp gn f (fu := landed d i b userM ub tu bu iU) (fpi := landed d i b itemM pb ti bp iP) (fpe := landed d i b entM pb te bp iP)
    (fni := landed d i b itemM nb ti bn iN) (fne := landed d i b entM nb te bn iN)) $$ [Hids Hr0 Hr1 Hr2 Hr3 Hr4 Hs]
  · isplitl [Hids]; · iexact Hids
    isplitr [Hs]
    · unfold rowsHeld
      isplitl [Hr0]; · iexact Hr0
      isplitl [Hr1]; · iexact Hr1
      isplitl [Hr2]; · iexact Hr2
      isplitl [Hr3]; · iexact Hr3
      iexact Hr4
    · iexact Hs
  iintro Hids Hrows Hs
  rw [scoreFn_landed (b := b) (tu := tu) (ti := ti) (te := te) (bu := bu) (bp := bp) (bn := bn)
    (fun n c h => rowsAt_landed d i (read_allOf_user tu) wU h) (fun n c h => rowsAt_landed d i (read_allOf_item ti) wP h)
    (fun n c h => rowsAt_landed d i (read_allOf_ent te) wP h) (fun n c h => rowsAt_landed d i (read_allOf_item ti) wN h)
    (fun n c h => rowsAt_landed d i (read_allOf_ent te) wN h) sbu sbp sbn f]
  iapply Hk $$ [Htu Hti Hte] [Hbu Hbp Hbn] Hids [Hrows] Hs Hsem HO
  · isplitl [Htu]; · iexact Htu
    isplitl [Hti] <;> iassumption
  · isplitl [Hbu]; · iexact Hbu
    isplitl [Hbp] <;> iassumption
  · unfold rowsHeld; iexists _, _, _, _, _; iexact Hrows

end Cert.Proof
-- ==== Proof.Copies.lean ====
/-
  A tile's copies and its row numbers: the 512 ids of each column copied in, each divided by four, and the 512 scores
  copied out to the tile's part of the result.
-/
module

public import proofs.«01_k».proof.Proof.Chunk

@[expose] public section

set_option maxRecDepth 16384

noncomputable section

namespace Cert.Proof

open Cert.KernelIdeal Cert.KernelIdeal.Gen Cert.Proof.Body
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
variable (d : Dev nD) (i : grid0.Coords)

/-! ## Elements -/

theorem el_mod {α : Type} (f : S512.Idx → α) (n : ℕ) : el f (n % 512) = el f n := by
  unfold el; simp only [Nat.mod_mod]

/-- A list replaced throughout. -/
theorem el_put_all {α : Type} (f : S512.Idx → α) (g : ℕ → α) (n : ℕ) : el (put f 0 512 g) n = g (n % 512) := by
  unfold el put
  exact if_pos ⟨Nat.zero_le _, by rw [Nat.zero_add]; exact Nat.mod_lt _ (by decide)⟩

theorem put_all_apply {α : Type} (f : S512.Idx → α) (g : ℕ → α) (x : S512.Idx) : put f 0 512 g x = g (x 0).val :=
  if_pos ⟨Nat.zero_le _, by rw [Nat.zero_add]; exact (x 0).isLt⟩

/-! ## The row numbers -/

theorem trips1 : k0_t1_loop.trips = 32 := by decide

theorem off2_eq : ∀ t : Fin k0_t1_loop.trips, k0_off2 t 0 = 0 + 16 * t.val := by decide

/-- An id divided by four. -/
def quarter (v : BitVec 32) : BitVec 32 := IntOp.shrui .vector v 2#32

/-- A list of row numbers whose first `m` are written. -/
def quartered (b g : S512.Idx → BitVec 32) (m : ℕ) : S512.Idx → BitVec 32 := put b 0 m fun n => quarter (el g n)

/-- The buffers of the tile's row numbers, being written. -/
def quartersHeld (bu bp bn gu gp gn : S512.Idx → BitVec 32) (t : ℕ) : sProp (𝕄 F) :=
  listsHeld d i (quartered bu gu (16 * t)) (quartered bp gp (16 * t)) (quartered bn gn (16 * t))

/-- One trip: sixteen ids of each column divided by four. -/
theorem wp_quarters (t : Fin k0_t1_loop.trips) (gu gp gn bu bp bn : S512.Idx → BitVec 32) :
    iprop(idsHeld (F := F) d i gu gp gn ∗ quartersHeld d i bu bp bn gu gp gn t.val)
      ⊢ wp frame (wpE (defs₀ (F := F)) 𝒱₀ (thr d i) none) Set.univ (do shift i ui ub t; shift i pi pb t; shift i ni nb t)
          fun _ => iprop(idsHeld (F := F) d i gu gp gn ∗ quartersHeld d i bu bp bn gu gp gn (t.val + 1)) := by
  unfold idsHeld quartersHeld listsHeld shift
  simp only [bind_assoc]
  iintro ⟨⟨Hu, Hp, Hn⟩, Hbu, Hbp, Hbn⟩
  iapply (wp_load_rect (c := thr d i) 𝒱₀ none Set.univ (m := ui) (r := Rect.unit (s := S512) (k0_off2 t) S16.size (k0_off2_inb t)) (S := Finset.univ) (q := fullShare) (f := gu) (Finset.subset_univ _)) $$ Hu
  iintro Hu
  iapply (wp_load_rect (c := thr d i) 𝒱₀ none Set.univ (m := ub) (r := Rect.unit (s := S512) (k0_off2 t) S16.size (k0_off2_inb t)) (S := Finset.univ) (q := fullShare) (f := quartered bu gu (16 * t.val)) (Finset.subset_univ _)) $$ Hbu
  iintro Hbu
  iapply (wp_store (c := thr d i) 𝒱₀ none Set.univ (m := ub) (r := Rect.unit (s := S512) (k0_off2 t) S16.size (k0_off2_inb t)) (S := Finset.univ) (f := quartered bu gu (16 * t.val)) (Finset.subset_univ _)) $$ Hbu
  iintro Hbu
  iapply (wp_load_rect (c := thr d i) 𝒱₀ none Set.univ (m := pi) (r := Rect.unit (s := S512) (k0_off2 t) S16.size (k0_off2_inb t)) (S := Finset.univ) (q := fullShare) (f := gp) (Finset.subset_univ _)) $$ Hp
  iintro Hp
  iapply (wp_load_rect (c := thr d i) 𝒱₀ none Set.univ (m := pb) (r := Rect.unit (s := S512) (k0_off2 t) S16.size (k0_off2_inb t)) (S := Finset.univ) (q := fullShare) (f := quartered bp gp (16 * t.val)) (Finset.subset_univ _)) $$ Hbp
  iintro Hbp
  iapply (wp_store (c := thr d i) 𝒱₀ none Set.univ (m := pb) (r := Rect.unit (s := S512) (k0_off2 t) S16.size (k0_off2_inb t)) (S := Finset.univ) (f := quartered bp gp (16 * t.val)) (Finset.subset_univ _)) $$ Hbp
  iintro Hbp
  iapply (wp_load_rect (c := thr d i) 𝒱₀ none Set.univ (m := ni) (r := Rect.unit (s := S512) (k0_off2 t) S16.size (k0_off2_inb t)) (S := Finset.univ) (q := fullShare) (f := gn) (Finset.subset_univ _)) $$ Hn
  iintro Hn
  iapply (wp_load_rect (c := thr d i) 𝒱₀ none Set.univ (m := nb) (r := Rect.unit (s := S512) (k0_off2 t) S16.size (k0_off2_inb t)) (S := Finset.univ) (q := fullShare) (f := quartered bn gn (16 * t.val)) (Finset.subset_univ _)) $$ Hbn
  iintro Hbn
  iapply (wp_store (c := thr d i) 𝒱₀ none Set.univ (m := nb) (r := Rect.unit (s := S512) (k0_off2 t) S16.size (k0_off2_inb t)) (S := Finset.univ) (f := quartered bn gn (16 * t.val)) (Finset.subset_univ _)) $$ Hbn
  iintro Hbn
  rw [wp_ret]
  imodintro
  isplitl [Hu Hp Hn]
  · isplitl [Hu]; · iexact Hu
    isplitl [Hp]; · iexact Hp
    iexact Hn
  rw [Nat.mul_succ, quartered, quartered, quartered, quartered, quartered, quartered, ← put_put bu, ← put_put bp, ← put_put bn, ← off2_eq t,
    ← write16 _ (k0_off2 t) (k0_off2_inb t) (shrui (fun x => gu ((Rect.unit (s := S512) (k0_off2 t) S16.size (k0_off2_inb t)).emb x)) (broadcast S16 2#32)) (fun n => quarter (el gu n))
      (fun x => congrArg quarter (read16 gu (k0_off2 t) (k0_off2_inb t) x)),
    ← write16 _ (k0_off2 t) (k0_off2_inb t) (shrui (fun x => gp ((Rect.unit (s := S512) (k0_off2 t) S16.size (k0_off2_inb t)).emb x)) (broadcast S16 2#32)) (fun n => quarter (el gp n))
      (fun x => congrArg quarter (read16 gp (k0_off2 t) (k0_off2_inb t) x)),
    ← write16 _ (k0_off2 t) (k0_off2_inb t) (shrui (fun x => gn ((Rect.unit (s := S512) (k0_off2 t) S16.size (k0_off2_inb t)).emb x)) (broadcast S16 2#32)) (fun n => quarter (el gn n))
      (fun x => congrArg quarter (read16 gn (k0_off2 t) (k0_off2_inb t) x)),
    ← View.write_whole_slice_unit (Val := Elt F) cc0_scratch3 (k0_off2 t) S16.size (k0_off2_inb t),
    ← View.write_whole_slice_unit (Val := Elt F) cc0_scratch4 (k0_off2 t) S16.size (k0_off2_inb t),
    ← View.write_whole_slice_unit (Val := Elt F) cc0_scratch5 (k0_off2 t) S16.size (k0_off2_inb t)]
  isplitl [Hbu]; · iexact Hbu
  isplitl [Hbp]; · iexact Hbp
  iexact Hbn

/-- The row numbers of the tile's 512 ids of each column. -/
theorem wp_shifts (gu gp gn bu bp bn : S512.Idx → BitVec 32) {β : Type} {Q : β → sProp (𝕄 F)}
    {k : PUnit → Prog (TpuEff nD τ sig (Elt F) Λ₀ (procOf i)) β} :
    iprop(idsHeld (F := F) d i gu gp gn ∗ listsHeld (F := F) d i bu bp bn)
      ⊢ iprop((idsHeld (F := F) d i gu gp gn
            -∗ listsHeld (F := F) d i (quartered bu gu 512) (quartered bp gp 512) (quartered bn gn 512)
            -∗ wp frame (wpE (defs₀ (F := F)) 𝒱₀ (thr d i) none) Set.univ (k ⟨⟩) Q)
          -∗ wp frame (wpE (defs₀ (F := F)) 𝒱₀ (thr d i) none) Set.univ (shifts i >>= k) Q) := by
  iintro H Hk
  iapply (Scf.wp_for_bind frame (wpE (defs₀ (F := F)) 𝒱₀ (thr d i) none) Set.univ _ _ _ k0_t1_ok ⟨⟩
    (fun t _ => do shift i ui ub t; shift i pi pb t; shift i ni nb t)
    (fun t _ => iprop(idsHeld (F := F) d i gu gp gn ∗ quartersHeld d i bu bp bn gu gp gn t))
    (fun t _ => wp_quarters d i t gu gp gn bu bp bn)) $$ [H]
  · unfold quartersHeld quartered; rw [Nat.mul_zero, put_zero, put_zero, put_zero]; iexact H
  iintro %_ ⟨Hi, Hs⟩
  iapply Hk $$ Hi
  rw [show Scf.trips k0_t1_loop.lb k0_t1_loop.ub k0_t1_loop.st = 32 from trips1]
  unfold quartersHeld
  iexact Hs

/-! ## A copy and its wait -/

/-- A copy on a semaphore at zero, and its wait: the destination holds what the source held, the semaphore is at zero again. -/
theorem wp_copy {sp sp' : Space} {e : EltTy} {src : Memref sig .scVector sp S512 e} {dst : Memref sig .scVector sp' S512 e} {sem : DmaSem sig}
    {h1 : src.view.WordExact} {h2 : dst.view.WordExact} {h3 : DmaTarget.Typed (nD := nD) sp (.dma sem) (DmaTarget.here (p := procOf i) dst)} {h4 : src.view.WordExact} {h5 : dst.view.WordExact}
    (q : PosShare TreeShare) (fs : Buf (Elt F) (src.view.loc (thr d i))) (Sd : Finset (Idx (dst.view.loc (thr d i)))) (fd : Buf (Elt F) (dst.view.loc (thr d i)))
    (hSd : dst.view.set ⊆ Sd) {O : CellTallies nD τ sig (HIx 1)} {W : Waits sig (HIx 1)}
    {β : Type} {Q : β → sProp (𝕄 F)} {k : PUnit → Prog (TpuEff nD τ sig (Elt F) Λ₀ (procOf i)) β} :
    iprop((src.view.loc (thr d i) ↦[src.view.set]{q} fs) ∗ (dst.view.loc (thr d i) ↦[Sd]{fullShare} fd) ∗ semVal ((thr d i, .dma sem) : GSem nD τ sig) 0
        ∗ owes (thr d i) O W ∗ Transfers.MayWaits (thr d i) (default : HIx 1) O)
      ⊢ iprop(((src.view.loc (thr d i) ↦[src.view.set]{q} fs)
            -∗ (dst.view.loc (thr d i) ↦[Sd]{fullShare} (dst.view.write (Elt F) fd (src.view.read (Elt F) fs) Finset.univ))
            -∗ semVal ((thr d i, .dma sem) : GSem nD τ sig) 0 -∗ owes (thr d i) O (insert (SemLoc.dma sem, (default : HIx 1)) W)
            -∗ wp frame (wpE (defs₀ (F := F)) 𝒱₀ (thr d i) none) Set.univ (k ⟨⟩) Q)
          -∗ wp frame (wpE (defs₀ (F := F)) 𝒱₀ (thr d i) none) Set.univ
            (Prog.lift (TpuEff.enqueueDma (p := procOf i) src (.here dst) (.dma sem) h1 h2 h3) >>= fun _ => Prog.lift (.waitDma2 sem src dst h4 h5) >>= k) Q) := by
  iintro ⟨Hs, Hd, Hv, HO, #Hmw⟩ Hk
  iapply (Transfers.wp_dmaLocal EC 𝒱₀ (thr d i) none (default : HIx 1) dst.view.dmaCredit rfl (View.dmaCredit_pos _ (by decide)) hSd) $$ [Hs Hd Hv]
  · isplitl [Hs]; · iexact Hs
    isplitl [Hd] <;> iassumption
  iintro Hf
  iapply (Transfers.wp_waitLocalO EC 𝒱₀ (thr d i) none (default : HIx 1) (rfl : dst.view.dmaCredit = _)) $$ [Hf HO]
  · isplitl [Hf]; · iexact Hf
    isplitl [HO]; · iexact HO
    iapply (Transfers.MayWaits.elim (SemLoc.dma sem)) $$ Hmw
  iintro ⟨⟨Hd, Hs⟩, Hv, HO⟩
  iapply Hk $$ Hs [Hd] Hv HO
  iexact Hd

/-! ## The copies in -/

/-- The tile's part of a column of 16384 words. -/
abbrev partIn (m : Memref sig .scVector .hbm S16384 .i32) : Memref sig .scVector .hbm S512 .i32 :=
  m.slice (Rect.unit (s := S16384) (k0_off1 i) S512.size (k0_off1_inb i)) (fun _ => rfl)

/-- The tile's part of the result. -/
abbrev partOut : Memref sig .scVector .hbm S512 .f32 :=
  outM.slice (Rect.unit (s := S16384) (k0_off1 i) S512.size (k0_off1_inb i)) (fun _ => rfl)

/-- The tile's part of the three columns. -/
def colsHeld (cu cp cn : S16384.Idx → BitVec 32) : sProp (𝕄 F) :=
  iprop(((partIn i uidM).view.loc (thr d i) ↦[(partIn i uidM).view.set]{fullShare} cu)
    ∗ ((partIn i pidM).view.loc (thr d i) ↦[(partIn i pidM).view.set]{fullShare} cp)
    ∗ ((partIn i nidM).view.loc (thr d i) ↦[(partIn i nidM).view.set]{fullShare} cn))

/-- The tile's 512 words of a column. -/
def ofTile (c : S16384.Idx → BitVec 32) : S512.Idx → BitVec 32 :=
  fun x => c ((Rect.unit (s := S16384) (k0_off1 i) S512.size (k0_off1_inb i)).emb x)

abbrev scell0 : GSem nD τ sig := (thr d i, .dma cc0_scoped0.sem)
abbrev scell1 : GSem nD τ sig := (thr d i, .dma cc0_scoped1.sem)
abbrev scell2 : GSem nD τ sig := (thr d i, .dma cc0_scoped2.sem)
abbrev scell3 : GSem nD τ sig := (thr d i, .dma cc0_scoped3.sem)

set_option maxHeartbeats 1000000 in
/-- The copies in. -/
theorem wp_copyIn (cu cp cn : S16384.Idx → BitVec 32) {O : CellTallies nD τ sig (HIx 1)} {W : Waits sig (HIx 1)}
    {β : Type} {Q : β → sProp (𝕄 F)} {k : PUnit → Prog (TpuEff nD τ sig (Elt F) Λ₀ (procOf i)) β} :
    iprop(colsHeld (F := F) d i cu cp cn ∗ (∃ gu gp gn, idsHeld (F := F) d i gu gp gn)
        ∗ semVal (scell0 d i) 0 ∗ semVal (scell1 d i) 0 ∗ semVal (scell2 d i) 0
        ∗ owes (thr d i) O W ∗ Transfers.MayWaits (thr d i) (default : HIx 1) O)
      ⊢ iprop((colsHeld (F := F) d i cu cp cn -∗ idsHeld (F := F) d i (ofTile i cu) (ofTile i cp) (ofTile i cn)
            -∗ semVal (scell0 d i) 0 -∗ semVal (scell1 d i) 0 -∗ semVal (scell2 d i) 0
            -∗ owes (thr d i) O (insert (SemLoc.dma cc0_scoped2.sem, (default : HIx 1)) (insert (SemLoc.dma cc0_scoped1.sem, (default : HIx 1))
              (insert (SemLoc.dma cc0_scoped0.sem, (default : HIx 1)) W)))
            -∗ wp frame (wpE (defs₀ (F := F)) 𝒱₀ (thr d i) none) Set.univ (k ⟨⟩) Q)
          -∗ wp frame (wpE (defs₀ (F := F)) 𝒱₀ (thr d i) none) Set.univ (copyIn i >>= k) Q) := by
  unfold colsHeld idsHeld copyIn
  simp only [bind_assoc]
  iintro ⟨⟨Hcu, Hcp, Hcn⟩, ⟨%gu, %gp, %gn, Hu, Hp, Hn⟩, Hs0, Hs1, Hs2, HO, #Hmw⟩ Hk
  iapply (wp_copy d i (src := partIn i uidM) (dst := ui) fullShare cu Finset.univ gu (Finset.subset_univ _)) $$ [Hcu Hu Hs0 HO]
  · isplitl [Hcu]; · iexact Hcu
    isplitl [Hu]; · iexact Hu
    isplitl [Hs0]; · iexact Hs0
    isplitl [HO]; · iexact HO
    iexact Hmw
  iintro Hcu Hu Hs0 HO
  iapply (wp_copy d i (src := partIn i pidM) (dst := pi) fullShare cp Finset.univ gp (Finset.subset_univ _)) $$ [Hcp Hp Hs1 HO]
  · isplitl [Hcp]; · iexact Hcp
    isplitl [Hp]; · iexact Hp
    isplitl [Hs1]; · iexact Hs1
    isplitl [HO]; · iexact HO
    iexact Hmw
  iintro Hcp Hp Hs1 HO
  iapply (wp_copy d i (src := partIn i nidM) (dst := ni) fullShare cn Finset.univ gn (Finset.subset_univ _)) $$ [Hcn Hn Hs2 HO]
  · isplitl [Hcn]; · iexact Hcn
    isplitl [Hn]; · iexact Hn
    isplitl [Hs2]; · iexact Hs2
    isplitl [HO]; · iexact HO
    iexact Hmw
  iintro Hcn Hn Hs2 HO
  ihave Hu := (Entails.of_eq (show (ui.view.loc (thr d i) ↦{fullShare} ui.view.write (Elt F) gu ((partIn i uidM).view.read (Elt F) cu) Finset.univ : sProp (𝕄 F))
      = ((thr d i).loc cc0_scratch0 ↦{fullShare} ofTile i cu)
    from congrArg (fun g => ((thr d i).loc cc0_scratch0 ↦{fullShare} g : sProp (𝕄 F))) (View.write_whole_univ (Val := Elt F) cc0_scratch0 gu (ofTile i cu)))) $$ Hu
  ihave Hp := (Entails.of_eq (show (pi.view.loc (thr d i) ↦{fullShare} pi.view.write (Elt F) gp ((partIn i pidM).view.read (Elt F) cp) Finset.univ : sProp (𝕄 F))
      = ((thr d i).loc cc0_scratch1 ↦{fullShare} ofTile i cp)
    from congrArg (fun g => ((thr d i).loc cc0_scratch1 ↦{fullShare} g : sProp (𝕄 F))) (View.write_whole_univ (Val := Elt F) cc0_scratch1 gp (ofTile i cp)))) $$ Hp
  ihave Hn := (Entails.of_eq (show (ni.view.loc (thr d i) ↦{fullShare} ni.view.write (Elt F) gn ((partIn i nidM).view.read (Elt F) cn) Finset.univ : sProp (𝕄 F))
      = ((thr d i).loc cc0_scratch2 ↦{fullShare} ofTile i cn)
    from congrArg (fun g => ((thr d i).loc cc0_scratch2 ↦{fullShare} g : sProp (𝕄 F))) (View.write_whole_univ (Val := Elt F) cc0_scratch2 gn (ofTile i cn)))) $$ Hn
  iapply Hk $$ [Hcu Hcp Hcn] [Hu Hp Hn] Hs0 Hs1 Hs2 HO
  · isplitl [Hcu]; · iexact Hcu
    isplitl [Hcp]; · iexact Hcp
    iexact Hcn
  · isplitl [Hu]; · iexact Hu
    isplitl [Hp]; · iexact Hp
    iexact Hn

/-! ## The copy out -/

/-- What the tile's part of the result holds: at the tile's `n`-th place, `g n`. -/
theorem write_partOut (fd G : S16384.Idx → F .f32) (f : S512.Idx → F .f32) (h : ∀ x : S512.Idx, f x = G ((partOut i).view.emb x)) :
    ∀ y ∈ (partOut i).view.set, (partOut i).view.write (Elt F) fd f Finset.univ y = G y := by
  intro y hy
  obtain ⟨x, -, rfl⟩ := Finset.mem_map.mp hy
  refine ((partOut i).view.write_emb_of_mem (Val := Elt F) fd f (Finset.mem_univ x)).trans ?_
  exact (h x)

/-- The copy out. -/
theorem wp_copyOut (f : S512.Idx → F .f32) (G : S16384.Idx → F .f32) (h : ∀ x : S512.Idx, f x = G ((partOut i).view.emb x))
    {O : CellTallies nD τ sig (HIx 1)} {W : Waits sig (HIx 1)} {Q : PUnit → sProp (𝕄 F)} :
    iprop(((thr d i).loc cc0_scratch11 ↦{fullShare} f) ∗ (∃ fd, (partOut i).view.loc (thr d i) ↦[(partOut i).view.set]{fullShare} fd)
        ∗ semVal (scell3 d i) 0 ∗ owes (thr d i) O W ∗ Transfers.MayWaits (thr d i) (default : HIx 1) O)
      ⊢ iprop((((thr d i).loc cc0_scratch11 ↦{fullShare} f) -∗ ((partOut i).view.loc (thr d i) ↦[(partOut i).view.set]{fullShare} G)
            -∗ semVal (scell3 d i) 0 -∗ owes (thr d i) O (insert (SemLoc.dma cc0_scoped3.sem, (default : HIx 1)) W) -∗ Q ⟨⟩)
          -∗ wp frame (wpE (defs₀ (F := F)) 𝒱₀ (thr d i) none) Set.univ (copyOut i) Q) := by
  rw [← bind_pure (copyOut i)]
  unfold copyOut
  simp only [bind_assoc]
  iintro ⟨Hs, ⟨%fd, Ho⟩, Hs3, HO, #Hmw⟩ Hk
  ihave Hs := (Entails.of_eq (show ((thr d i).loc cc0_scratch11 ↦{fullShare} f : sProp (𝕄 F)) = (sc20.view.loc (thr d i) ↦[sc20.view.set]{fullShare} f) by
    rw [show sc20.view.set = Finset.univ from View.set_whole _])) $$ Hs
  iapply (wp_copy d i (src := sc20) (dst := partOut i) fullShare f (partOut i).view.set fd (Finset.Subset.refl _)) $$ [Hs Ho Hs3 HO]
  · isplitl [Hs]; · iexact Hs
    isplitl [Ho]; · iexact Ho
    isplitl [Hs3]; · iexact Hs3
    isplitl [HO]; · iexact HO
    iexact Hmw
  iintro Hs Ho Hs3 HO
  ihave Hs := (Entails.of_eq (show (sc20.view.loc (thr d i) ↦[sc20.view.set]{fullShare} f : sProp (𝕄 F)) = ((thr d i).loc cc0_scratch11 ↦{fullShare} f) by
    rw [show sc20.view.set = Finset.univ from View.set_whole _])) $$ Hs
  ihave Ho := (Entails.of_eq (pointsTo_congr (write_partOut i fd G (sc20.view.read (Elt F) f) h))) $$ Ho
  rw [wp_pure]
  imodintro
  iapply Hk $$ Hs Ho Hs3 HO

end Cert.Proof
-- ==== Proof.Tile.lean ====
/-
  A tile's work: from its share of the tables, its part of the three columns of ids and its part of the result, it leaves
  the part of the result at the scores of the ids.
-/
module

public import proofs.«01_k».proof.Proof.Copies

@[expose] public section

set_option maxRecDepth 16384

noncomputable section

namespace Cert.Proof

open Cert.KernelIdeal Cert.KernelIdeal.Gen Cert.Proof.Body
open Idealize.ShloMosaic
open Idealize.ShloMosaic.SparseCore (S V T)
open Idealize.ShloMosaic.SparseCore.Cfg (HIx ownBufs ownSems0 ownRefs ownCells mem_ownCells)
open Idealize.SL Idealize.SL.RA Idealize.SL.BI
open scoped Idealize.SL.BI
open Idealize.SL.BI.BIBase Idealize.SL.BI.Laws Idealize.SL.ProofMode Idealize.SL.Sem

variable {F : FTy → Type} [FloatOps F]
variable (d : Dev nD) (i : grid0.Coords)

/-! ## A tile's own buffers and semaphores -/

/-- Some members of a set, taken out of a separating conjunction over it. -/
theorem bigSep_take {α : Type} [DecidableEq α] (Φ : α → sProp (𝕄 F)) : ∀ (l : List α) (s : Finset α), l.Nodup → (∀ x ∈ l, x ∈ s) →
    bigSep s Φ = l.foldr (fun x P => iprop(Φ x ∗ P)) (bigSep (s \ l.toFinset) Φ)
  | [], s, _, _ => by simp
  | x :: l, s, hn, hs => by
    have hn' := List.nodup_cons.mp hn
    rw [SparseCore.bigSep_erase' (hs x List.mem_cons_self),
      bigSep_take Φ l (s.erase x) hn'.2 (fun y hy => Finset.mem_erase.mpr ⟨fun e => hn'.1 (e ▸ hy), hs y (List.mem_cons_of_mem _ hy)⟩),
      List.foldr_cons, List.toFinset_cons, Finset.sdiff_insert, Finset.erase_sdiff_comm]

/-- The scratch buffers of a tile. -/
def scratch : List (Ref sig .scVector) :=
  [cc0_scratch0, cc0_scratch1, cc0_scratch2, cc0_scratch3, cc0_scratch4, cc0_scratch5, cc0_scratch6, cc0_scratch7, cc0_scratch8, cc0_scratch9,
    cc0_scratch10, cc0_scratch11]

theorem scratch_nodup : scratch.Nodup :=
  List.Nodup.of_map (fun r : Ref sig .scVector => r.idx.val) (show [0, 1, 2, 3, 4, 5, 6, 7, 8, 9, 10, 11].Nodup by decide)

/-- The semaphores of a tile. -/
def sems : List (DmaSem sig) := [cc0_scratch12.sem, cc0_scoped0.sem, cc0_scoped1.sem, cc0_scoped2.sem, cc0_scoped3.sem]

/-- The tile's other buffers. -/
def otherBufs : sProp (𝕄 F) :=
  bigSep (ownRefs (τ := τ) (procOf i) \ (scratch.map (procOf i).devRef).toFinset) fun b => iprop(∃ f, ((d, b) : Loc nD τ sig) ↦{fullShare} f)

/-- The tile's other semaphores. -/
def otherSems : sProp (𝕄 F) :=
  bigSep (ownCells (thr d i) \ (sems.map fun s => ((thr d i, .dma s) : GSem nD τ sig)).toFinset) fun g => semVal g 0

theorem ownBufs_tile :
    (ownBufs (thr d i) : sProp (𝕄 F))
      = iprop((∃ f, (thr d i).loc cc0_scratch0 ↦{fullShare} f) ∗ (∃ f, (thr d i).loc cc0_scratch1 ↦{fullShare} f) ∗ (∃ f, (thr d i).loc cc0_scratch2 ↦{fullShare} f)
        ∗ (∃ f, (thr d i).loc cc0_scratch3 ↦{fullShare} f) ∗ (∃ f, (thr d i).loc cc0_scratch4 ↦{fullShare} f) ∗ (∃ f, (thr d i).loc cc0_scratch5 ↦{fullShare} f)
        ∗ (∃ f, (thr d i).loc cc0_scratch6 ↦{fullShare} f) ∗ (∃ f, (thr d i).loc cc0_scratch7 ↦{fullShare} f) ∗ (∃ f, (thr d i).loc cc0_scratch8 ↦{fullShare} f)
        ∗ (∃ f, (thr d i).loc cc0_scratch9 ↦{fullShare} f) ∗ (∃ f, (thr d i).loc cc0_scratch10 ↦{fullShare} f) ∗ (∃ f, (thr d i).loc cc0_scratch11 ↦{fullShare} f)
        ∗ otherBufs d i) := by
  unfold SparseCore.Cfg.ownBufs otherBufs
  rw [bigSep_take _ (scratch.map (procOf i).devRef) (ownRefs (τ := τ) (procOf i)) (List.Nodup.map (Proc.devRef_injective _) scratch_nodup) ?_]
  · simp only [scratch, List.map_cons, List.map_nil, List.foldr_cons, List.foldr_nil]
  intro b hb
  obtain ⟨r, hr, rfl⟩ := List.mem_map.mp hb
  refine SparseCore.Cfg.mem_ownRefs_of_owner ?_
  simp only [scratch, List.mem_cons, List.not_mem_nil, _root_.or_false] at hr
  rcases hr with rfl | rfl | rfl | rfl | rfl | rfl | rfl | rfl | rfl | rfl | rfl | rfl <;> rfl

theorem ownSems_tile :
    (ownSems0 (thr d i) : sProp (𝕄 F))
      = iprop(semVal (gcell d i) 0 ∗ semVal (scell0 d i) 0 ∗ semVal (scell1 d i) 0 ∗ semVal (scell2 d i) 0 ∗ semVal (scell3 d i) 0 ∗ otherSems d i) := by
  unfold SparseCore.Cfg.ownSems0
  refine (bigSep_take _ (sems.map fun s => ((thr d i, .dma s) : GSem nD τ sig)) (ownCells (thr d i))
    (List.Nodup.map (fun a b e => by simpa using e) (by decide)) ?_).trans rfl
  intro g hg
  obtain ⟨s, hs, rfl⟩ := List.mem_map.mp hg
  refine mem_ownCells.mpr ⟨rfl, ?_⟩
  show (SemLoc.dma s : SemLoc sig).isScoped .scVector = true
  have : ∀ s ∈ sems, (SemLoc.dma s : SemLoc sig).isScoped .scVector = true := by decide
  exact this s hs

/-! ## The values -/

/-- The scores of every example, over the kernel's tables and columns of ids. -/
def scores (tu ti te : S250000x128.Idx → F .f32) (cu cp cn : S16384.Idx → BitVec 32) : S16384.Idx → F .f32 :=
  fun x => score tu ti te (cu x) (cp x) (cn x) ((x 0).val % 16)

/-- An id below a million divided by four is a row of a table. -/
theorem quarter_lt {v : BitVec 32} (h : v.toNat < 1000000) : (quarter v).toNat < 250000 := by
  unfold quarter IntOp.shrui
  simp only [BitVec.toNat_ushiftRight, BitVec.ushiftRight_eq']
  show _ < _
  simp [IntOp.shrui, Nat.shiftRight_eq_div_pow]
  omega

theorem el_ofTile (c : S16384.Idx → BitVec 32) (x : S512.Idx) :
    el (ofTile i c) (x 0).val = c ((Rect.unit (s := S16384) (k0_off1 i) S512.size (k0_off1_inb i)).emb x) := by
  unfold el ofTile
  congr 2
  funext a
  have ha : a = 0 := Subsingleton.elim _ _
  subst ha
  exact Fin.ext (Nat.mod_eq_of_lt (x 0).isLt)

theorem off1_eq : k0_off1 i 0 = 512 * (16 * (i 0).val + (i 1).val) := by
  have : ∀ (c : Fin 2) (s : Fin 16), (Scalar.muli (Scalar.addi (Scalar.muli (BitVec.ofNat 32 c.val) 16#32) (BitVec.ofNat 32 s.val)) 512#32).toNat
      = 512 * (16 * c.val + s.val) := by decide
  exact this (i 0) (i 1)

/-- What the tile leaves in its buffer of scores is its part of the scores. -/
theorem scores_tile (tu ti te : S250000x128.Idx → F .f32) (cu cp cn : S16384.Idx → BitVec 32) (f : S512.Idx → F .f32) (x : S512.Idx) :
    put f 0 512 (fun n => score tu ti te (el (ofTile i cu) n) (el (ofTile i cp) n) (el (ofTile i cn) n) (n % 16)) x
      = scores tu ti te cu cp cn ((partOut i).view.emb x) := by
  rw [put_all_apply, el_ofTile, el_ofTile, el_ofTile]
  show score tu ti te _ _ _ ((x 0).val % 16) = score tu ti te _ _ _ ((k0_off1 i 0 + 1 * (x 0).val) % 16)
  rw [off1_eq]
  congr 1
  omega

theorem put_chunks {α : Type} (f : S512.Idx → α) (g : ℕ → α) :
    put (put (put (put f (128 * (0 : Fin 4).val) 128 g) (128 * (1 : Fin 4).val) 128 g) (128 * (2 : Fin 4).val) 128 g) (128 * (3 : Fin 4).val) 128 g = put f 0 512 g := by
  have e1 := put_put f 0 128 128 g
  have e2 := put_put f 0 (128 + 128) 128 g
  have e3 := put_put f 0 (128 + 128 + 128) 128 g
  exact (congrArg (fun h => put (put h 256 128 g) 384 128 g) e1).trans ((congrArg (fun h => put h 384 128 g) e2).trans e3)

/-! ## The tile -/

/-- What a tile is handed: a share of the tables, its part of the columns, its part of the result. -/
def tileIn (q : PosShare TreeShare) (tu ti te : S250000x128.Idx → F .f32) (cu cp cn : S16384.Idx → BitVec 32) : sProp (𝕄 F) :=
  iprop(tabsHeld d i q tu ti te ∗ colsHeld (F := F) d i cu cp cn ∗ ∃ fd, (partOut i).view.loc (thr d i) ↦[(partOut i).view.set]{fullShare} fd)

/-- What a tile hands back: the same, its part of the result at the scores. -/
def tileOut (q : PosShare TreeShare) (tu ti te : S250000x128.Idx → F .f32) (cu cp cn : S16384.Idx → BitVec 32) : sProp (𝕄 F) :=
  iprop(tabsHeld d i q tu ti te ∗ colsHeld (F := F) d i cu cp cn
    ∗ ((partOut i).view.loc (thr d i) ↦[(partOut i).view.set]{fullShare} scores tu ti te cu cp cn))

/-- The row number of the `n`-th id. -/
theorem quartered_el (b g : S512.Idx → BitVec 32) (n : ℕ) : (el (quartered b g 512) n).toNat = rowNat (el g n) := by
  unfold quartered; rw [el_put_all, el_mod]; rfl

set_option maxHeartbeats 2000000 in
/-- A tile's work. -/
theorem wp_tile (q : PosShare TreeShare) (tu ti te : S250000x128.Idx → F .f32) (cu cp cn : S16384.Idx → BitVec 32)
    (hu : ∀ x, (cu x).toNat < 1000000) (hp : ∀ x, (cp x).toNat < 1000000) (hn : ∀ x, (cn x).toNat < 1000000)
    (O : CellTallies nD τ sig (HIx 1)) (W : Waits sig (HIx 1)) (hO : ∀ g, O g none = 0) :
    iprop(levAts (K (F := F)).L (K (F := F)).lev ∗ emp ∗ tileIn d i q tu ti te cu cp cn
        ∗ scopedBufs (thr d i) ∗ scopedSems0 (thr d i) ∗ owes (thr d i) O W)
      ⊢ wp frame (wpE (defs₀ (F := F)) 𝒱₀ (thr d i) none) Set.univ (tile i)
          fun _ => iprop(tileOut d i q tu ti te cu cp cn ∗ scopedBufs (thr d i) ∗ scopedSems0 (thr d i)
            ∗ ∃ W', ⌜∀ p ∈ W', p ∈ W ∨ p.2 = none⌝ ∗ owes (thr d i) O W') := by
  have hq : ∀ (c : S16384.Idx → BitVec 32), (∀ x, (c x).toNat < 1000000) → ∀ b n, (el (quartered b (ofTile i c) 512) n).toNat < 250000 := fun c h b n => by
    rw [quartered_el]; exact quarter_lt (h _)
  rw [(K (F := F)).scopedBufs_V facts d ((i 0).castLE hcore0) ((i 1).castLE hsub0),
    SparseCore.Cfg.scopedSems0_V (Val := Elt F) d ((i 0).castLE hcore0) ((i 1).castLE hsub0), ownSems_tile, ownBufs_tile]
  unfold tileIn tileOut tile
  iintro ⟨#Hlv, -, ⟨Htabs, Hcols, Ho⟩, ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, Hbufs⟩,
    ⟨Hg, Hs0, Hs1, Hs2, Hs3, Hsems⟩, HO⟩
  ihave #Hmw := (show levAts (K (F := F)).L (K (F := F)).lev ⊢ Transfers.MayWaits (thr d i) (default : HIx 1) O from
    (K (F := F)).mayWaits_none (thr := thr d i) hO) $$ Hlv
  iapply (wp_copyIn d i cu cp cn) $$ [Hcols H0 H1 H2 Hs0 Hs1 Hs2 HO]
  · isplitl [Hcols]; · iexact Hcols
    isplitl [H0 H1 H2]
    · iexists f0, f1, f2; unfold idsHeld
      isplitl [H0]; · iexact H0
      isplitl [H1] <;> iassumption
    isplitl [Hs0]; · iexact Hs0
    isplitl [Hs1]; · iexact Hs1
    isplitl [Hs2]; · iexact Hs2
    isplitl [HO]; · iexact HO
    iexact Hmw
  iintro Hcols Hids Hs0 Hs1 Hs2 HO
  iapply (wp_shifts d i (ofTile i cu) (ofTile i cp) (ofTile i cn) f3 f4 f5) $$ [Hids H3 H4 H5]
  · isplitl [Hids]; · iexact Hids
    unfold listsHeld
    isplitl [H3]; · iexact H3
    isplitl [H4] <;> iassumption
  iintro Hids Hlists
  iapply (wp_chunk d i 0 q tu ti te (ofTile i cu) (ofTile i cp) (ofTile i cn) _ _ _ (quartered_el _ _) (quartered_el _ _) (quartered_el _ _) (hq cu hu _) (hq cp hp _) (hq cn hn _) f11)
    $$ [Htabs Hlists Hids H6 H7 H8 H9 H10 H11 Hg HO]
  · isplitl [Htabs]; · iexact Htabs
    isplitl [Hlists]; · iexact Hlists
    isplitl [Hids]; · iexact Hids
    isplitl [H6 H7 H8 H9 H10]
    · iexists f6, f7, f8, f9, f10; unfold rowsHeld
      isplitl [H6]; · iexact H6
      isplitl [H7]; · iexact H7
      isplitl [H8]; · iexact H8
      isplitl [H9] <;> iassumption
    isplitl [H11]; · iexact H11
    isplitl [Hg]; · iexact Hg
    isplitl [HO]; · iexact HO
    iexact Hmw
  iintro Htabs Hlists Hids Hrows H11 Hg HO
  iapply (wp_chunk d i 1 q tu ti te (ofTile i cu) (ofTile i cp) (ofTile i cn) _ _ _ (quartered_el _ _) (quartered_el _ _) (quartered_el _ _) (hq cu hu _) (hq cp hp _) (hq cn hn _) _)
    $$ [Htabs Hlists Hids Hrows H11 Hg HO]
  · isplitl [Htabs]; · iexact Htabs
    isplitl [Hlists]; · iexact Hlists
    isplitl [Hids]; · iexact Hids
    isplitl [Hrows]; · iexact Hrows
    isplitl [H11]; · iexact H11
    isplitl [Hg]; · iexact Hg
    isplitl [HO]; · iexact HO
    iexact Hmw
  iintro Htabs Hlists Hids Hrows H11 Hg HO
  iapply (wp_chunk d i 2 q tu ti te (ofTile i cu) (ofTile i cp) (ofTile i cn) _ _ _ (quartered_el _ _) (quartered_el _ _) (quartered_el _ _) (hq cu hu _) (hq cp hp _) (hq cn hn _) _)
    $$ [Htabs Hlists Hids Hrows H11 Hg HO]
  · isplitl [Htabs]; · iexact Htabs
    isplitl [Hlists]; · iexact Hlists
    isplitl [Hids]; · iexact Hids
    isplitl [Hrows]; · iexact Hrows
    isplitl [H11]; · iexact H11
    isplitl [Hg]; · iexact Hg
    isplitl [HO]; · iexact HO
    iexact Hmw
  iintro Htabs Hlists Hids Hrows H11 Hg HO
  iapply (wp_chunk d i 3 q tu ti te (ofTile i cu) (ofTile i cp) (ofTile i cn) _ _ _ (quartered_el _ _) (quartered_el _ _) (quartered_el _ _) (hq cu hu _) (hq cp hp _) (hq cn hn _) _)
    $$ [Htabs Hlists Hids Hrows H11 Hg HO]
  · isplitl [Htabs]; · iexact Htabs
    isplitl [Hlists]; · iexact Hlists
    isplitl [Hids]; · iexact Hids
    isplitl [Hrows]; · iexact Hrows
    isplitl [H11]; · iexact H11
    isplitl [Hg]; · iexact Hg
    isplitl [HO]; · iexact HO
    iexact Hmw
  iintro Htabs Hlists Hids ⟨%r6, %r7, %r8, %r9, %r10, Hrows⟩ H11 Hg HO
  rw [put_chunks]
  iapply (wp_copyOut d i _ (scores tu ti te cu cp cn) (scores_tile i tu ti te cu cp cn f11)) $$ [H11 Ho Hs3 HO]
  · isplitl [H11]; · iexact H11
    isplitl [Ho]; · iexact Ho
    isplitl [Hs3]; · iexact Hs3
    isplitl [HO]; · iexact HO
    iexact Hmw
  iintro H11 Ho Hs3 HO
  unfold idsHeld listsHeld rowsHeld
  icases Hids with ⟨H0, H1, H2⟩
  icases Hlists with ⟨H3, H4, H5⟩
  icases Hrows with ⟨H6, H7, H8, H9, H10⟩
  isplitl [Htabs Hcols Ho]
  · isplitl [Htabs]; · iexact Htabs
    isplitl [Hcols] <;> iassumption
  isplitl [H0 H1 H2 H3 H4 H5 H6 H7 H8 H9 H10 H11 Hbufs]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexact Hbufs
  isplitl [Hg Hs0 Hs1 Hs2 Hs3 Hsems]
  · isplitl [Hg]; · iexact Hg
    isplitl [Hs0]; · iexact Hs0
    isplitl [Hs1]; · iexact Hs1
    isplitl [Hs2]; · iexact Hs2
    isplitl [Hs3]; · iexact Hs3
    iexact Hsems
  iexists _; isplitr
  swap; · iexact HO
  ipureintro; intro p hp
  simp only [Finset.mem_insert] at hp
  rcases hp with rfl | rfl | rfl | rfl | rfl | rfl | rfl | rfl | hp
  all_goals first | exact .inl hp | exact .inr rfl

end Cert.Proof
-- ==== Proof.Split.lean ====
/-
  How the arrays of the SparseCore call are dealt to its 32 tiles and gathered again: of the three columns of ids and of the
  result a tile gets its 512 consecutive elements, of the three tables a thirty-second share of the whole. Tile `(c, s)`
  has the part that begins at `512 (16 c + s)`; the parts are disjoint and cover the 16384 elements.
-/
module

public import proofs.«01_k».proof.Proof.Tile

@[expose] public section

set_option maxRecDepth 16384

noncomputable section

namespace Cert.Proof

open Cert.KernelIdeal Cert.KernelIdeal.Gen Cert.Proof.Body
open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A buffer of the TensorCore of device `d`. -/
abbrev hub (d : Dev nD) (b : Ref sig .tc) : Loc nD τ sig := (SparseCore.T d).loc b

/-- The tile with core `p.1` and subcore `p.2`, as the kernel's coordinates. -/
def tileAt (p : Fin 2 × Fin 16) : grid0.Coords :=
  fun | 0 => p.1 | 1 => p.2 | ⟨_ + 2, h⟩ => absurd h (Nat.not_lt.2 (Nat.le_add_left _ _))

/-- Its part of the 16384 elements. -/
def partSet (p : Fin 2 × Fin 16) : Finset S16384.Idx :=
  (Rect.unit (s := S16384) (k0_off1 (tileAt p)) S512.size (k0_off1_inb (tileAt p))).set

theorem mem_partSet (p : Fin 2 × Fin 16) (x : S16384.Idx) : x ∈ partSet p ↔ (x 0).val / 512 = 16 * p.1.val + p.2.val := by
  unfold partSet
  rw [Rect.mem_set_unit]
  have e : k0_off1 (tileAt p) 0 = 512 * (16 * p.1.val + p.2.val) := off1_eq (tileAt p)
  constructor
  · intro h
    have h0 : k0_off1 (tileAt p) 0 ≤ (x 0).val ∧ (x 0).val < k0_off1 (tileAt p) 0 + 512 := h 0
    rw [e] at h0; omega
  · intro h a
    obtain rfl : a = 0 := Subsingleton.elim _ _
    show k0_off1 (tileAt p) 0 ≤ (x 0).val ∧ (x 0).val < k0_off1 (tileAt p) 0 + 512
    rw [e]; omega

theorem parts_disjoint : ∀ p ∈ (Finset.univ : Finset (Fin 2 × Fin 16)), ∀ p' ∈ (Finset.univ : Finset (Fin 2 × Fin 16)),
    p ≠ p' → Disjoint (partSet p) (partSet p') := by
  intro p _ p' _ h
  refine Finset.disjoint_left.mpr fun x hx hx' => h ?_
  rw [mem_partSet] at hx hx'
  have := p.2.isLt; have := p'.2.isLt
  exact Prod.ext (Fin.ext (by omega)) (Fin.ext (by omega))

theorem parts_cover : (Finset.univ : Finset (Fin 2 × Fin 16)).biUnion partSet = Finset.univ := by
  refine Finset.eq_univ_iff_forall.mpr fun x => Finset.mem_biUnion.mpr ?_
  have hx : (x 0).val < 16384 := (x 0).isLt
  refine ⟨(⟨(x 0).val / 512 / 16, by omega⟩, ⟨(x 0).val / 512 % 16, by omega⟩), Finset.mem_univ _, ?_⟩
  rw [mem_partSet]; show _ = 16 * ((x 0).val / 512 / 16) + (x 0).val / 512 % 16; omega

/-- The share of the tables a tile holds. -/
def shareOf (p : Fin 2 × Fin 16) : PosShare TreeShare := pieceOf fullShare 32 (by decide) (finProdFinEquiv p)

/-- An array held whole is held by the tiles at their shares. -/
theorem pts_shares {ℓ : Loc nD τ sig} (f : Buf (Elt F) ℓ) :
    (ℓ ↦{fullShare} f : sProp (𝕄 F)) = bigSep Finset.univ fun p : Fin 2 × Fin 16 => ℓ ↦{shareOf p} f := by
  rw [pointsTo_piecesOf Finset.univ f (o := 32) (by decide) fullShare]
  exact BI.bigSep_univ_equiv (finProdFinEquiv : Fin 2 × Fin 16 ≃ Fin 32) _

variable (d : Dev nD)

theorem pts_uid (f : S16384.Idx → BitVec 32) :
    (hub d main_v4 ↦{fullShare} f : sProp (𝕄 F))
      = bigSep Finset.univ fun p : Fin 2 × Fin 16 => hub d main_v4 ↦[partSet p]{fullShare} f := by
  rw [← pointsTo_biUnion Finset.univ (ℓ := hub d main_v4) partSet parts_disjoint, parts_cover]
theorem pts_pid (f : S16384.Idx → BitVec 32) :
    (hub d main_v6 ↦{fullShare} f : sProp (𝕄 F))
      = bigSep Finset.univ fun p : Fin 2 × Fin 16 => hub d main_v6 ↦[partSet p]{fullShare} f := by
  rw [← pointsTo_biUnion Finset.univ (ℓ := hub d main_v6) partSet parts_disjoint, parts_cover]
theorem pts_nid (f : S16384.Idx → BitVec 32) :
    (hub d main_v8 ↦{fullShare} f : sProp (𝕄 F))
      = bigSep Finset.univ fun p : Fin 2 × Fin 16 => hub d main_v8 ↦[partSet p]{fullShare} f := by
  rw [← pointsTo_biUnion Finset.univ (ℓ := hub d main_v8) partSet parts_disjoint, parts_cover]
theorem pts_out (f : S16384.Idx → F .f32) :
    (hub d main_v9 ↦{fullShare} f : sProp (𝕄 F))
      = bigSep Finset.univ fun p : Fin 2 × Fin 16 => hub d main_v9 ↦[partSet p]{fullShare} f := by
  rw [← pointsTo_biUnion Finset.univ (ℓ := hub d main_v9) partSet parts_disjoint, parts_cover]

variable (tu ti te : S250000x128.Idx → F .f32) (cu cp cn : S16384.Idx → BitVec 32)

/-- The call's inputs, held whole. -/
def inputs : sProp (𝕄 F) :=
  iprop(((hub d main_v0 ↦{fullShare} tu) ∗ (hub d main_v1 ↦{fullShare} ti) ∗ (hub d main_v2 ↦{fullShare} te))
    ∗ (hub d main_v4 ↦{fullShare} cu) ∗ (hub d main_v6 ↦{fullShare} cp) ∗ (hub d main_v8 ↦{fullShare} cn))

/-- One tile's part of them. -/
def inputsOf (p : Fin 2 × Fin 16) : sProp (𝕄 F) :=
  iprop(((hub d main_v0 ↦{shareOf p} tu) ∗ (hub d main_v1 ↦{shareOf p} ti) ∗ (hub d main_v2 ↦{shareOf p} te))
    ∗ (hub d main_v4 ↦[partSet p]{fullShare} cu) ∗ (hub d main_v6 ↦[partSet p]{fullShare} cp) ∗ (hub d main_v8 ↦[partSet p]{fullShare} cn))

theorem inputs_eq : inputs (F := F) d tu ti te cu cp cn = bigSep Finset.univ fun p => inputsOf d tu ti te cu cp cn p := by
  unfold inputs inputsOf
  rw [pts_shares (ℓ := hub d main_v0) tu, pts_shares (ℓ := hub d main_v1) ti, pts_shares (ℓ := hub d main_v2) te,
    pts_uid, pts_pid, pts_nid, bigSep_sep', bigSep_sep', bigSep_sep', bigSep_sep', bigSep_sep']

theorem part_uid (p : Fin 2 × Fin 16) (f : S16384.Idx → BitVec 32) :
    ((partIn (tileAt p) uidM).view.loc (thr d (tileAt p)) ↦[(partIn (tileAt p) uidM).view.set]{fullShare} f : sProp (𝕄 F))
      = (hub d main_v4 ↦[partSet p]{fullShare} f) :=
  congrArg (fun I : Finset S16384.Idx => (hub d main_v4 ↦[I]{fullShare} f : sProp (𝕄 F))) (View.set_slice_whole _ _)
theorem part_pid (p : Fin 2 × Fin 16) (f : S16384.Idx → BitVec 32) :
    ((partIn (tileAt p) pidM).view.loc (thr d (tileAt p)) ↦[(partIn (tileAt p) pidM).view.set]{fullShare} f : sProp (𝕄 F))
      = (hub d main_v6 ↦[partSet p]{fullShare} f) :=
  congrArg (fun I : Finset S16384.Idx => (hub d main_v6 ↦[I]{fullShare} f : sProp (𝕄 F))) (View.set_slice_whole _ _)
theorem part_nid (p : Fin 2 × Fin 16) (f : S16384.Idx → BitVec 32) :
    ((partIn (tileAt p) nidM).view.loc (thr d (tileAt p)) ↦[(partIn (tileAt p) nidM).view.set]{fullShare} f : sProp (𝕄 F))
      = (hub d main_v8 ↦[partSet p]{fullShare} f) :=
  congrArg (fun I : Finset S16384.Idx => (hub d main_v8 ↦[I]{fullShare} f : sProp (𝕄 F))) (View.set_slice_whole _ _)
theorem part_out (p : Fin 2 × Fin 16) (f : S16384.Idx → F .f32) :
    ((partOut (tileAt p)).view.loc (thr d (tileAt p)) ↦[(partOut (tileAt p)).view.set]{fullShare} f : sProp (𝕄 F))
      = (hub d main_v9 ↦[partSet p]{fullShare} f) :=
  congrArg (fun I : Finset S16384.Idx => (hub d main_v9 ↦[I]{fullShare} f : sProp (𝕄 F))) (View.set_slice_whole _ _)

/-- What a tile is handed and what it hands back, in terms of the device's arrays. -/
theorem tileOut_eq (p : Fin 2 × Fin 16) : tileOut d (tileAt p) (shareOf p) tu ti te cu cp cn
    = iprop(inputsOf (F := F) d tu ti te cu cp cn p ∗ (hub d main_v9 ↦[partSet p]{fullShare} scores tu ti te cu cp cn)) := by
  unfold tileOut inputsOf tabsHeld colsHeld
  rw [part_uid, part_pid, part_nid, part_out]
  exact sep_assoc'.antisymm sep_assoc
theorem tileIn_of (p : Fin 2 × Fin 16) (f : S16384.Idx → F .f32) :
    iprop(inputsOf (F := F) d tu ti te cu cp cn p ∗ (hub d main_v9 ↦[partSet p]{fullShare} f))
      ⊢ tileIn d (tileAt p) (shareOf p) tu ti te cu cp cn := by
  unfold tileIn inputsOf tabsHeld colsHeld
  rw [part_uid, part_pid, part_nid, ← part_out]
  iintro ⟨⟨Ht, Hc⟩, Ho⟩
  iframe Ht Hc
  iexists f; iexact Ho

/-- The arrays go out to the tiles. -/
theorem deal (f : S16384.Idx → F .f32) : iprop(inputs (F := F) d tu ti te cu cp cn ∗ (hub d main_v9 ↦{fullShare} f))
    ⊢ bigSep Finset.univ fun c : Fin 2 => bigSep Finset.univ fun s : Fin 16 =>
        tileIn d (tileAt (c, s)) (shareOf (c, s)) tu ti te cu cp cn := by
  rw [inputs_eq, pts_out, ← bigSep_sep',
    ← BI.bigSep_univ_prod (fun p : Fin 2 × Fin 16 => tileIn d (tileAt p) (shareOf p) tu ti te cu cp cn)]
  exact bigSep_mono fun p _ => tileIn_of d tu ti te cu cp cn p f

/-- They come back whole, the result at the scores. -/
theorem gather : (bigSep Finset.univ fun c : Fin 2 => bigSep Finset.univ fun s : Fin 16 =>
        tileOut d (tileAt (c, s)) (shareOf (c, s)) tu ti te cu cp cn)
    ⊢ iprop(inputs (F := F) d tu ti te cu cp cn ∗ (hub d main_v9 ↦{fullShare} scores tu ti te cu cp cn)) := by
  rw [inputs_eq, pts_out, ← bigSep_sep',
    ← BI.bigSep_univ_prod (fun p : Fin 2 × Fin 16 => tileOut d (tileAt p) (shareOf p) tu ti te cu cp cn)]
  exact bigSep_mono fun p _ => le_of_eq (tileOut_eq d tu ti te cu cp cn p)

end Cert.Proof

end
-- ==== Proof.Region.lean ====
/-
  The TensorCore's part: the kernel's second call. It takes the 16384 scores as a 128×128 array, computes of each score x
  the value min(x, 0) − log1p(exp(0 − |x|)), sums the values and stores the sum in a 1×1 array. What its body
  computes, and its call as a step of the program that leaves every other array as it was.
-/
module

public import proofs.«01_k».proof.Proof.Setup
public import proofs.«01_k».proof.Proof.Gen.KernelIdeal.Launch
public import proofs.«01_k».proof.Proof.Gen.KernelIdeal.Points
public import Idealize.ShloMosaic.Lib.Pipeline.Regions
public import Idealize.ShloMosaic.Lib.Pipeline.RegionsLoop
public import Idealize.ShloMosaic.Lib.Pipeline.Value
public import Idealize.ShloMosaic.Lib.Tactic

@[expose] public section

noncomputable section

namespace Cert.Proof.Region

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A buffer's contents on the core, and the buffer held whole at contents `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp (𝕄 F) :=
  M.view.loc (c : Thread nD τ) ↦{fullShare} f

/-- What the body computes of the 128×128 scores `x`: the sum of min(x, 0) − log1p(exp(0 − |x|)). -/
def lossOf (x : FVec F S128x128 .f32) : F .f32 :=
  extractAt ![0, 0, 0] (shapeCast S1x1x1 (multiReduction .add [1, 2] S1 (shapeCast S1x128x128
    (subf (minimumf x (broadcast S128x128 (Scalar.ofBits .f32 0x00000000#32 : F .f32)))
      (log1p (exp (subf (broadcast S128x128 (Scalar.ofBits .f32 0x00000000#32 : F .f32)) (absf x)))))
    shapeCasts_S128x128_S1x128x128) 0x00000000#32 reduces_S1x128x128_S1 (.inl rfl) rfl) shapeCasts_S1_S1x1x1) inpos_S1x1x1_p0_0_0

/-- The body, from both staging buffers held whole: it leaves the sum in the 1×1 buffer. -/
theorem wp_loss (c : Dev nD) (f0 : Bf (F := F) c (stage1_0 0)) (f1 : Bf (F := F) c (stage1_1 0)) (E : Set ℕ) (Q : PUnit → sProp (𝕄 F)) :
    iprop(pt c (stage1_0 0) f0 ∗ pt c (stage1_1 0) f1 ∗ (iprop(pt c (stage1_0 0) f0 ∗ pt c (stage1_1 0) (fun _ => lossOf f0)) -∗ Q ⟨⟩))
      ⊢ wp frame (wpE (defs₀ (F := F)) Variants.none c none) E
          (cc1__tc_body (stage1_0 0) (hstage1_0 0) (stage1_1 0) (hstage1_1 0)) Q := by
  iintro ⟨H0, H1, Hk⟩
  sl_exec!
  sl_step
  iapply Hk
  isplitl [H0]; · iexact H0
  iapply (Entails.of_eq (congrArg (fun g => (pt c (stage1_1 0) g : sProp (𝕄 F))) ?_)) $$ H1
  funext j
  unfold wp_loss.sl.H1_1
  refine (?_ : _ = wp_loss.sl.v13 c f0).trans ?_
  · have h0 : (![0, 0] : Fin 2 → ℕ) = fun _ => 0 := by decide
    exact congrFun (Memref.write_access_unit_zero_univ (Elt F) cc1_stg1_0 h0 inb_S1x1_S1x1_0_0 _ _) j
  · have h1 : wp_loss.sl.v1 c f0 = f0 := by
      have h0 : (![0, 0] : Fin 2 → ℕ) = fun _ => 0 := by decide
      unfold wp_loss.sl.v1
      rw [shapeCast_self]
      exact Memref.readAt_unit_zero (Elt F) cc1_stg0_0 h0 inb_S128x128_S128x128_0_0 f0
    exact (show _ = lossOf (wp_loss.sl.v1 c f0) from rfl).trans (congrArg lossOf h1)

/-! ## The call as a step of the program -/

variable (V : (c : Dev nD) → (b : Ref sig .tc) → Buf (Elt F) ((c : Thread nD τ).loc b))

/-- The scores' array as the call stages it. -/
abbrev stg (c : Dev nD) : (cfg1.win 0).block.Idx → Elt F (cfg1.win 0).elt :=
  ((cfg1.win 0).blk t1_0).view.read (Elt F) (V c main_v10)

/-- What the TensorCore's waits have recorded: nothing above the level of the handshake's end. -/
abbrev below (c : Dev nD) : Set (SemLoc sig × HIx 1) := {p | (K (F := F)).lev ((c : Thread nD τ), p.1) p.2 ≤ 8}

/-- The proof data of the call: the two arrays at `V`; after the body the scores as staged, and their sum of logarithms. -/
def dat (c : Dev nD) : Dat τ (Elt F) (HIx 1) ℕ UU ℕ cfg1 c where
  A w := V c (Pipeline.arrRef spec1 w)
  after w _ := match w with
    | ⟨0, _⟩ => stg V c
    | ⟨1, _⟩ => fun _ => lossOf (stg V c)
  Φ _ := BI.emp
  q _ := fullShare
  owed _ := 0
  recorded _ := below (F := F) c

variable (adm : (p : Fin 1) → (pcfgs (F := F) p).Adm)

/-- The same, for the program's one pipeline. -/
def pdats : (p : Fin 1) → (c : Dev nD) → Dat τ (Elt F) (HIx 1) ℕ UU ℕ (Pipeline.pin (pcfgs (F := F)) adm p) c
  | ⟨0, _⟩ => fun c => dat V c

/-- The fetched buffer holds the scores when the body runs. -/
theorem before_in (c : Dev nD) (d : (cfg1.win 0).block.Idx → Elt F (cfg1.win 0).elt) : (dat V c).before 0 t1_0 d = stg V c := by
  unfold Dat.before; rw [if_pos (by decide)]; rfl

/-- The body's obligation, from `wp_loss`. -/
theorem body_obligation (c : Dev nD) : BodyObligation (dat V c) (defs₀ (F := F)) 𝒱₀ none Set.univ := fun t => by
  obtain rfl := fin_N1 t
  rw [bigSep_W1, bigSep_W1]
  simp only [owns_whole_eq]
  rw [show (dat V c).Φ t1_0.castSucc = BI.emp from rfl, show (dat V c).Φ t1_0.succ = BI.emp from rfl,
    show (dat V c).owesAt none t1_0.succ = (dat V c).owesAt none t1_0.castSucc from rfl]
  iintro ⟨HΦ, Howes, ⟨%d0, %f0, %hf0, H0⟩, ⟨%d1, %f1, -, H1⟩⟩
  rw [before_in] at hf0
  subst hf0
  iapply (wp_loss c (stg V c) f1 Set.univ _)
  isplitl [H0]; · iexact H0
  isplitl [H1]; · iexact H1
  iintro ⟨H0, H1⟩
  isplitl [HΦ]; · iexact HΦ
  isplitl [Howes]; · iexact Howes
  isplitl [H0]; · iexists _; isplitr; swap; (· iexact H0); ipureintro; dsimp only [dat]
  iexists _; isplitr; swap; (· iexact H1); ipureintro; rfl

/-- The result's array after the call. -/
def summed (c : Dev nD) : Buf (Elt F) ((c : Thread nD τ).loc main_v11) := (dat V c).arrAt 1 cfg1.N

/-- The staged scores are the whole array. -/
theorem stg_eq (c : Dev nD) : stg V c = V c main_v10 := by
  funext x
  refine congrArg (V c main_v10) (funext fun a => Fin.ext ?_)
  have e : ∀ a, win1_0.index t1_0 a * win1_0.size a = 0 := by decide +kernel
  show win1_0.index t1_0 a * win1_0.size a + 1 * (x a).val = (x a).val
  rw [e a]; omega

/-- The one block of the result is the whole array. -/
theorem covered (i : S1x1.Idx) : ∃ t : Fin cfg1.N, (cfg1.win 1).flush t = true ∧ i ∈ ((cfg1.win 1).blk t).view.set := by
  refine ⟨t1_0, flush1_1 _, ?_⟩
  show i ∈ ((View.whole main_v11).slice (win1_1.rect t1_0)).set
  rw [View.set_slice_whole, Rect.mem_set_unit]
  have e : ∀ a, win1_1.index t1_0 a * win1_1.size a = 0 ∧ win1_1.xsize (grid1.coords t1_0) a = S1x1.size a := by
    decide +kernel
  intro a
  show win1_1.index t1_0 a * win1_1.size a ≤ (i a : ℕ) ∧ (i a : ℕ) < win1_1.index t1_0 a * win1_1.size a + win1_1.xsize (grid1.coords t1_0) a
  rw [(e a).1, (e a).2, Nat.zero_add]
  exact ⟨Nat.zero_le _, (i a).isLt⟩

/-- The result's array ends holding the sum over the scores' array. -/
theorem summed_eq (c : Dev nD) : summed V c = fun _ => lossOf (V c main_v10) :=
  (dat V c).arrAt_eq_of_cover 1 _ (fun t _ => by
    show (cfg1.win 1).cut (grid1.coords t) (fun _ => lossOf (stg V c)) = _
    rw [stg_eq]; rfl) covered

/-- What the TensorCore holds of its waits around the call. -/
abbrev waits (c : Dev nD) : sProp (𝕄 F) :=
  iprop(∃ W, ⌜∀ p ∈ W, p ∈ below (F := F) c⌝ ∗ owes (c : Thread nD τ) (0 : CellTallies nD τ sig (HIx 1)) W)

variable (Vp : (c : Dev nD) → (b : Ref sig .tc) → Buf (Elt F) ((c : Thread nD τ).loc b))

set_option backward.isDefEq.respectTransparency.types false in
/-- The call, entered with every array at `V`, left with them at `Vp`, which differs at the result only. -/
def reg (R : Dev nD → sProp (𝕄 F)) (hVp_out : ∀ c, Vp c main_v11 = summed V c)
    (hVp_ne : ∀ c (b : Ref sig .tc), b ≠ main_v11 → Vp c b = V c b) :
    Pipeline.RegionSeg (pcfgs (F := F)) adm (pdats V adm) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ _ _ 0 fun _ _ => rfl
  pre c := iprop(unscopedBufs c (V c) ∗ R c ∗ waits (F := F) c)
  post c := iprop(unscopedBufs c (Vp c) ∗ R c ∗ waits (F := F) c)
  X _ := BI.emp
  Y _ := BI.emp
  Z c := iprop(Pipeline.unscopedRest (Ix := HIx 1) (Name := ℕ) (U := UU) (Lvl := ℕ) spec1 c (V c) ∗ R c)
  hentry c := by
    rw [Pipeline.ownSems0_none]
    have hsplit := Pipeline.arrays_of_unscopedBufs (p := 0) (pcfgs (F := F)) adm (pdats V adm) launch1.win launch1.arr_whole c
      ((pdats V adm 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (pdats V adm 0 c).Φ 0 = BI.emp from rfl]
    iintro ⟨-, -, Hr⟩; iempintro
  hout c := by
    rw [Pipeline.ownSems0_none, show (pdats V adm 0 c).Φ (Fin.last _) = BI.emp from rfl]
    iintro -
    isplitr; · iempintro
    isplitr; · iempintro
    iapply (Entails.of_eq (scopedRest1_eq c).symm); iempintro
  hexit c := by
    have hjoin := Pipeline.unscopedBufs_of_arrays (p := 0) (pcfgs (F := F)) adm (Ix := HIx 1) (Name := ℕ) (U := UU) (Lvl := ℕ) launch1.win launch1.arr_whole c
      (pdats V adm) ((pdats V adm 0 c).share_full fun _ => rfl) (V c) (Vp c) ((pdats V adm 0 c).arrAt · cfg1.N)
      (fun w => by
        fin_cases w
        · exact ((pdats V adm 0 c).arrAt_in 0 rfl _).trans (hVp_ne c main_v10 (by decide)).symm
        · exact (hVp_out c).symm)
      (fun b hb => hVp_ne c b fun h => hb (h ▸ Finset.mem_image.mpr ⟨1, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W; isplitr
    · ipureintro; intro p hp
      rcases hW hp with h | ⟨w, s, h⟩
      · exact h
      · show (K (F := F)).lev _ p.2 ≤ 8
        rw [h]; exact Nat.zero_le _
    iexact HO

end Cert.Proof.Region

end
-- ==== Proof.Deal.lean ====
/-
  What the handshakes of the SparseCore call carry: to each SparseCore its sixteen tiles' parts of the arrays, to each tile
  its own; back the same, with the result's parts at the scores. Every tile's task meets that; and the launch element of
  the proof's resources — the handshakes' rounds beside those of the TensorCore's pipeline — is dealt.
-/
module

public import proofs.«01_k».proof.Proof.Split
public import proofs.«01_k».proof.Proof.Region

@[expose] public section

set_option maxRecDepth 16384

noncomputable section

namespace Cert.Proof

open Cert.KernelIdeal Cert.KernelIdeal.Gen Cert.Proof.Body
open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-- The arrays as the call finds them: the three tables and the three columns of ids, per device. -/
structure Arrays (F : FTy → Type) where
  tu : Dev nD → S250000x128.Idx → F .f32
  ti : Dev nD → S250000x128.Idx → F .f32
  te : Dev nD → S250000x128.Idx → F .f32
  cu : Dev nD → S16384.Idx → BitVec 32
  cp : Dev nD → S16384.Idx → BitVec 32
  cn : Dev nD → S16384.Idx → BitVec 32

/-- Every id names a row of the tables. -/
def Arrays.Ok (A : Arrays F) : Prop :=
  ∀ d x, (A.cu d x).toNat < 1000000 ∧ (A.cp d x).toNat < 1000000 ∧ (A.cn d x).toNat < 1000000

variable (A : Arrays F)

/-- One tile's part, before and after its task. -/
def partBefore (d : Dev nD) (p : Fin 2 × Fin 16) : sProp (𝕄 F) :=
  tileIn d (tileAt p) (shareOf p) (A.tu d) (A.ti d) (A.te d) (A.cu d) (A.cp d) (A.cn d)
def partAfter (d : Dev nD) (p : Fin 2 × Fin 16) : sProp (𝕄 F) :=
  tileOut d (tileAt p) (shareOf p) (A.tu d) (A.ti d) (A.te d) (A.cu d) (A.cp d) (A.cn d)

set_option synthInstance.maxHeartbeats 400000 in
instance (d : Dev nD) (p : Fin 2 × Fin 16) : BI.Storable (upEmb : UEmb _ (𝕄 F)) (partBefore A d p) := by
  unfold partBefore tileIn tabsHeld colsHeld; infer_instance
set_option synthInstance.maxHeartbeats 400000 in
instance (d : Dev nD) (p : Fin 2 × Fin 16) : BI.Storable (upEmb : UEmb _ (𝕄 F)) (partAfter A d p) := by
  unfold partAfter tileOut tabsHeld colsHeld; infer_instance

/-- The handshakes' payloads. -/
def P : (K (F := F)).Pay (N := 1) (nD := nD) (Val := Elt F) (Name := ℕ) (U := UU) where
  st := fun q d c => match q with | 0 => bigSep Finset.univ fun s : Fin 16 => partBefore A d (c, s)
  dn := fun q d c => match q with | 0 => bigSep Finset.univ fun s : Fin 16 => partAfter A d (c, s)
  go := fun q d c s => match q with | 0 => partBefore A d (c, s)
  td := fun q d c s => match q with | 0 => partAfter A d (c, s)
  x := fun _ _ => iprop(emp)

instance : (P A).IsStorable where
  st := fun q d c => match q with | 0 => show BI.Storable _ (bigSep Finset.univ fun s : Fin 16 => partBefore A d (c, s)) by infer_instance
  dn := fun q d c => match q with | 0 => show BI.Storable _ (bigSep Finset.univ fun s : Fin 16 => partAfter A d (c, s)) by infer_instance
  go := fun q d c s => match q with | 0 => show BI.Storable _ (partBefore A d (c, s)) by infer_instance
  td := fun q d c s => match q with | 0 => show BI.Storable _ (partAfter A d (c, s)) by infer_instance

/-- The program text a tile runs. -/
theorem defs₀_tile (c : Fin τ.nSC) (s : Fin τ.nSub) :
    defs₀ (F := F) (.scVector c s) 0 () = SparseCore.onTile hcore0 hsub0 (fun c s => tile (tileAt (c, s))) ⟨⟩ c s :=
  congrArg (fun f => SparseCore.onTile hcore0 hsub0 f PUnit.unit c s) (funext fun c => funext fun s => body_eq (tileAt (c, s)))

/-- A task that records waits at the index of no call records none at another call's. -/
theorem weaken {thr : Thread nD τ} {A B C : sProp (𝕄 F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's task does its part. -/
theorem tileObl (hA : A.Ok) : (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (wp_tile d (tileAt (⟨_, hci.1⟩, ⟨_, hci.2⟩)) (shareOf (c, i)) (A.tu d) (A.ti d) (A.te d) (A.cu d) (A.cp d) (A.cn d)
    (fun x => (hA d x).1) (fun x => (hA d x).2.1) (fun x => (hA d x).2.2) O W hO).trans (wp_mono frame _ _ fun _ => weaken)

/-- A SparseCore hands on to its tiles what it was handed, and back what they hand back. -/
theorem vecSplit : (K (F := F)).VecSplit' (P A) 0 := by
  intro d c
  show (bigSep Finset.univ fun s : Fin 16 => partBefore A d (c, s)) ⊢ |={Set.univ}=> iprop(
      (bigSep Finset.univ fun s : Fin 16 => partBefore A d (c, s))
      ∗ ((bigSep Finset.univ fun s : Fin 16 => partAfter A d (c, s)) -∗ bigSep Finset.univ fun s : Fin 16 => partAfter A d (c, s)))
  iintro H; imodintro
  isplitl [H]; · iexact H
  iintro H; iexact H

/-! ## The launch element -/

/-- The pipeline of the TensorCore's call takes no table: its one admissible choice. -/
abbrev adm : (p : Fin 1) → (pcfgs (F := F) p).Adm := fun p => (cfgs p).toPCfg_adm

/-- The pipeline's cells, one per staging semaphore, are distinct. -/
theorem cells_inj : Function.Injective (Pipeline.cellOf (nD := nD) (τ := τ) (Pipeline.pin (pcfgs (F := F)) adm)) := cellOf_inj

/-- What the launch deals each TensorCore of the pipeline's resources. -/
def pipeGhost (d : Dev nD) : sProp (𝕄 F) :=
  iprop(Pipeline.cellsGhost (Pipeline.pin (pcfgs (F := F)) adm) EP 0 d ∗ Pipeline.toksInit (Pipeline.pin (pcfgs (F := F)) adm) EP 0 d)

/-- The pipeline's part of the launch element, and the whole of it. -/
def uPipe : UP := initOf (Pipeline.cells (nD := nD) (τ := τ) (Pipeline.pin (pcfgs (F := F)) adm) cells_inj)
  (Pipeline.launchToks (nD := nD) (τ := τ) (Pipeline.pin (pcfgs (F := F)) adm) cells_inj)
def u₀ : UU := (initOf (K (F := F)).hsCells (K (F := F)).hsToks, (uPipe (F := F), 1))

/-- The launch element funds the handshakes and the pipeline. -/
theorem hu₀ : (ownU (u₀ (F := F)) : sProp (𝕄 F))
    ⊢ |={Set.univ}=> iprop(BI.own (EH (initOf (K (F := F)).hsCells (K (F := F)).hsToks)) ∗ (bigSep Finset.univ fun d : Dev nD => pipeGhost (F := F) d)
        ∗ bigSep Finset.univ fun thr : Thread nD τ => bigSep Finset.univ fun q : Fin 1 => (P A).x q thr) := by
  unfold u₀
  iintro Hu
  ihave H := (ownU_pair (initOf (K (F := F)).hsCells (K (F := F)).hsToks) ((uPipe (F := F), 1) : UP × Counters)) $$ Hu
  icases H with ⟨HH, HR⟩
  ihave H := (own_pair_emb (embR : Emb (UP × Counters) (𝕄 F)) (uPipe (F := F)) (1 : Counters)) $$ HR
  icases H with ⟨HP, -⟩
  ihave HP := (Entails.of_eq (show (BI.own ((((Emb.inl : Emb UP (UP × Counters)).trans embR : Emb UP (𝕄 F))) (uPipe (F := F))) : sProp (𝕄 F))
    = BI.own (EP (F := F) (initOf (Pipeline.cells (nD := nD) (τ := τ) (Pipeline.pin (pcfgs (F := F)) adm) cells_inj)
        (Pipeline.launchToks (nD := nD) (τ := τ) (Pipeline.pin (pcfgs (F := F)) adm) cells_inj))) from rfl)) $$ HP
  imod (Pipeline.fund_ghost (Pipeline.pin (pcfgs (F := F)) adm) (EP (F := F)) cells_inj) $$ HP with ⟨Hg, Ht⟩
  imodintro
  isplitl [HH]; · iexact HH
  isplitl [Hg Ht]
  · unfold pipeGhost
    rw [bigSep_sep']
    isplitl [Hg]
    · iapply (Entails.of_eq (show (bigSep Finset.univ fun d : Dev nD => bigSep Finset.univ fun p : Fin 1 =>
          (Pipeline.cellsGhost (Pipeline.pin (pcfgs (F := F)) adm) EP p d : sProp (𝕄 F))) = _ from
        bigSep_congr fun _ _ => bigSep_univ_of_subsingleton (0 : Fin 1))); iexact Hg
    · iapply (Entails.of_eq (show (bigSep Finset.univ fun d : Dev nD => bigSep Finset.univ fun p : Fin 1 =>
          (Pipeline.toksInit (Pipeline.pin (pcfgs (F := F)) adm) EP p d : sProp (𝕄 F))) = _ from
        bigSep_congr fun _ _ => bigSep_univ_of_subsingleton (0 : Fin 1))); iexact Ht
  have he : (bigSep Finset.univ fun thr : Thread nD τ => bigSep Finset.univ fun q : Fin 1 => (P A).x q thr) = (iprop(emp) : sProp (𝕄 F)) :=
    (bigSep_congr fun _ _ => bigSep_univ_of_subsingleton (0 : Fin 1)).trans (bigSep_emp_const _)
  rw [he]
  iempintro

end Cert.Proof

end
-- ==== Proof.Values.lean ====
/-
  The contents of the TensorCore's buffers as the program runs: after the operations before the SparseCore call, after the
  call, after the reshape, after the TensorCore's call, and at the end. The arguments are as at the launch, and the result
  is the sum computed of the scores.
-/
module

public import proofs.«01_k».proof.Proof.Deal

@[expose] public section

set_option maxRecDepth 16384

noncomputable section

namespace Cert.Proof

open Cert.KernelIdeal Cert.KernelIdeal.Gen Cert.Proof.Body
open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A buffer of the TensorCore, as the device names it. -/
abbrev at' (b : Ref sig .tc) : DevRef τ sig := Proc.devRef .tc b

/-- The operations before the SparseCore call: the tables reshaped to rows of 128, the columns of ids cut out. -/
def opsBefore : List (HloOp τ sig (Elt F)) :=
  [StableHlo.reshape main_arg2 main_v0 rfl shapeCasts_S1000000x32_S250000x128,
   StableHlo.reshape main_arg3 main_v1 rfl shapeCasts_S1000000x32_S250000x128,
   StableHlo.reshape main_arg4 main_v2 rfl shapeCasts_S1000000x32_S250000x128,
   StableHlo.unary main_arg0 main_v3 ((extractStridedSlice S16384x1 ![0, 0] · slices_S16384x3_S16384x1_0_0) : (⟨S16384x3, .i32⟩ : BufTy).Contents (Elt F) → (⟨S16384x1, .i32⟩ : BufTy).Contents (Elt F)),
   StableHlo.reshape main_v3 main_v4 rfl shapeCasts_S16384x1_S16384,
   StableHlo.unary main_arg0 main_v5 ((extractStridedSlice S16384x1 ![0, 1] · slices_S16384x3_S16384x1_0_1) : (⟨S16384x3, .i32⟩ : BufTy).Contents (Elt F) → (⟨S16384x1, .i32⟩ : BufTy).Contents (Elt F)),
   StableHlo.reshape main_v5 main_v6 rfl shapeCasts_S16384x1_S16384,
   StableHlo.unary main_arg0 main_v7 ((extractStridedSlice S16384x1 ![0, 2] · slices_S16384x3_S16384x1_0_2) : (⟨S16384x3, .i32⟩ : BufTy).Contents (Elt F) → (⟨S16384x1, .i32⟩ : BufTy).Contents (Elt F)),
   StableHlo.reshape main_v7 main_v8 rfl shapeCasts_S16384x1_S16384]
/-- The scores laid out as 128 rows of 128; the result as a scalar. -/
def opGrid : HloOp τ sig (Elt F) := StableHlo.reshape main_v9 main_v10 rfl shapeCasts_S16384_S128x128
def opScalar : HloOp τ sig (Elt F) := StableHlo.reshape main_v11 main_v12 rfl shapeCasts_S1x1_S_

/-- The program's text in those terms. -/
theorem main_eq (d : Dev nD) : main (F := F) d = StableHlo.seq opsBefore >>= fun _ => (K (F := F)).run d 0 >>= fun _ =>
    StableHlo.seq [opGrid] >>= fun _ => Prog.lift (.customCall (SparseCore.inner (Pipeline.entry 0)) ()) >>= fun _ =>
      StableHlo.seq [opScalar] >>= fun _ => pure ⟨⟩ := rfl

/-- A table at the launch, as the kernel's rows of 128; a column of the ids. -/
def wide (t : S1000000x32.Idx → F .f32) : S250000x128.Idx → F .f32 := shapeCast S250000x128 t shapeCasts_S1000000x32_S250000x128
def column0 (x : S16384x3.Idx → BitVec 32) : S16384.Idx → BitVec 32 :=
  shapeCast S16384 (extractStridedSlice S16384x1 ![0, 0] x slices_S16384x3_S16384x1_0_0) shapeCasts_S16384x1_S16384
def column1 (x : S16384x3.Idx → BitVec 32) : S16384.Idx → BitVec 32 :=
  shapeCast S16384 (extractStridedSlice S16384x1 ![0, 1] x slices_S16384x3_S16384x1_0_1) shapeCasts_S16384x1_S16384
def column2 (x : S16384x3.Idx → BitVec 32) : S16384.Idx → BitVec 32 :=
  shapeCast S16384 (extractStridedSlice S16384x1 ![0, 2] x slices_S16384x3_S16384x1_0_2) shapeCasts_S16384x1_S16384

variable (m : (ℓ : Loc nD τ sig) → Buf (Elt F) ℓ) (d : Dev nD)

/-- The arrays of the SparseCore call, of the launch memory. -/
def arraysOf : Arrays F where
  tu d := wide (m (hub d main_arg2))
  ti d := wide (m (hub d main_arg3))
  te d := wide (m (hub d main_arg4))
  cu d := column0 (m (hub d main_arg0))
  cp d := column1 (m (hub d main_arg0))
  cn d := column2 (m (hub d main_arg0))

/-- The scores the call computes, of the launch memory. -/
def scoresOf : S16384.Idx → F .f32 :=
  scores ((arraysOf m).tu d) ((arraysOf m).ti d) ((arraysOf m).te d) ((arraysOf m).cu d) ((arraysOf m).cp d) ((arraysOf m).cn d)

/-- What the program's result is: the sum over the scores' grid. -/
def resultOf : F .f32 := Region.lossOf (shapeCast S128x128 (scoresOf m d) shapeCasts_S16384_S128x128)

/-- The contents at the launch, before the SparseCore call, after it, before the TensorCore's call, after it, at the end. -/
def V0 : Valuation τ sig (Elt F) := fun b => m (d, b)
def V1 : Valuation τ sig (Elt F) := StableHlo.after opsBefore (V0 m d)
def V2 : Valuation τ sig (Elt F) := Function.update (V1 m d) (at' main_v9) (scoresOf m d)
def V3 : Valuation τ sig (Elt F) := opGrid.result (V2 m d)
def V4 : Valuation τ sig (Elt F) := Function.update (V3 m d) (at' main_v11) (fun _ => Region.lossOf (V3 m d (at' main_v10)))
def V5 : Valuation τ sig (Elt F) := opScalar.result (V4 m d)

theorem V1_call : V1 m d (at' main_v0) = (arraysOf m).tu d ∧ V1 m d (at' main_v1) = (arraysOf m).ti d ∧ V1 m d (at' main_v2) = (arraysOf m).te d
    ∧ V1 m d (at' main_v4) = (arraysOf m).cu d ∧ V1 m d (at' main_v6) = (arraysOf m).cp d ∧ V1 m d (at' main_v8) = (arraysOf m).cn d := by
  refine ⟨?_, ?_, ?_, ?_, ?_, ?_⟩ <;>
    (unfold V1 opsBefore; after_results_simp; rfl)

/-- The arguments are never written. -/
theorem V5_arg (b : Ref sig .tc) (h : b ∈ [main_arg0, main_arg1, main_arg2, main_arg3, main_arg4, main_arg5, main_arg6]) :
    V5 m d (at' b) = m (hub d b) := by
  have h12 : b ≠ main_v12 := by rintro rfl; exact absurd h (by decide)
  have h11 : at' b ≠ at' main_v11 := fun e => by have := Proc.devRef_injective _ e; subst this; exact absurd h (by decide)
  have h10 : b ≠ main_v10 := by rintro rfl; exact absurd h (by decide)
  have h9 : at' b ≠ at' main_v9 := fun e => by have := Proc.devRef_injective _ e; subst this; exact absurd h (by decide)
  unfold V5 opScalar
  rw [StableHlo.reshape_result_ne _ _ _ _ _ _ _ h12]
  unfold V4
  rw [Function.update_of_ne h11]
  unfold V3 opGrid
  rw [StableHlo.reshape_result_ne _ _ _ _ _ _ _ h10]
  unfold V2
  rw [Function.update_of_ne h9]
  exact StableHlo.after_of_writes_sub (W := [main_v0, main_v1, main_v2, main_v3, main_v4, main_v5, main_v6, main_v7, main_v8]) opsBefore (V0 m d)
    (by simp only [opsBefore, List.Forall, StableHlo.reshape_writes, StableHlo.unary_writes]; decide) (fun hb => by revert h hb; revert b; decide)

/-- The result. -/
theorem V5_result : V5 m d (at' main_v12) = fun _ => resultOf m d := by
  have e3 : V3 m d (at' main_v10) = shapeCast S128x128 (scoresOf m d) shapeCasts_S16384_S128x128 := by
    unfold V3 opGrid
    rw [StableHlo.reshape_result']
    unfold V2
    rw [Function.update_self]
    rfl
  unfold V5 opScalar
  rw [StableHlo.reshape_result']
  unfold V4
  rw [Function.update_self, e3]
  rfl

end Cert.Proof

end
-- ==== Proof.Pre.lean ====
/-
  What the first precondition says: every id is a row of the tables.
-/
module

public import proofs.«01_k».proof.Defs
public import proofs.«01_k».proof.Proof.Gen.Pre_in_range
public import proofs.«01_k».proof.Proof.Values
public import Idealize.ShloMosaic.Lib.ReduceAll

@[expose] public section

noncomputable section

namespace Cert.Proof.Pre

open Idealize.ShloMosaic

/-- An id that compares as at least 0 and below a million, as a natural number. -/
theorem word_range (x : BitVec 32) (e : IntOp.andi (IntOp.cmpi .sge x 0#32) (IntOp.cmpi .slt x 1000000#32) = 1#1) :
    x.toNat < 1000000 := by
  obtain ⟨h1, h2⟩ := IntOp.andi_eq_one.1 e
  have h1 := IntOp.cmpi_sge.1 h1
  have h2 := IntOp.cmpi_slt.1 h2
  rw [BitVec.toInt_eq_toNat_cond] at h1 h2
  simp only [BitVec.toInt_eq_toNat_cond, BitVec.toNat_ofNat, Nat.reducePow, Nat.reduceMod] at h1 h2
  omega

section Range

variable {F : FTy → Type} [FloatOps F]

/-- The first precondition: every id is below a million. -/
theorem ids_of_range {x0 x1 x2 x3 x4 x5 x6} (h : Cert.Pre_in_range.fn (F := F) x0 x1 x2 x3 x4 x5 x6 = fun _ => 1#1)
    (i : Cert.Pre_in_range.S16384x3.Idx) : (x0 i).toNat < 1000000 := by
  have h := congrFun h (Shape.Idx.first Cert.Pre_in_range.Gen.h_S_)
  dsimp only [Cert.Pre_in_range.fn] at h
  haveI : Subsingleton Cert.Pre_in_range.S_.Idx := ⟨fun a b => funext fun k => k.elim0⟩
  exact word_range _ (Host.reduce_andi_all _ _ _ _ _ h i)

end Range

end Cert.Proof.Pre

namespace Cert.Proof

open Cert.KernelIdeal Cert.KernelIdeal.Gen Cert.Proof.Body
open Idealize.ShloMosaic

/-- Where every id is below a million, so is every entry of the three columns. -/
theorem ok_of_ids {F : FTy → Type} [FloatOps F] (m : (ℓ : Loc nD τ sig) → Buf (Elt F) ℓ)
    (h : ∀ (d : Dev nD) (i : S16384x3.Idx), (m (hub d main_arg0) i).toNat < 1000000) : (arraysOf m).Ok :=
  fun d _ => ⟨h d _, h d _, h d _⟩

end Cert.Proof

end
-- ==== Proof.Main.lean ====
/-
  The program's run. On the TensorCore: the operations before the SparseCore call, the call with the arrays dealt to the
  tiles and gathered again, the reshape, the pipelined call that sums, the reshape of the result. With the tiles' tasks
  this gives the run of the whole launch: every execution ends with the arguments as they were, the result at the value
  computed of them, and every semaphore at zero.
-/
module

public import proofs.«01_k».proof.Proof.Values

@[expose] public section

set_option maxRecDepth 16384

noncomputable section

namespace Cert.Proof

open Cert.KernelIdeal Cert.KernelIdeal.Gen Cert.Proof.Body
open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-! ## The buffers held at a valuation -/

/-- The TensorCore's buffers that @main works on. -/
def mainRefs : Finset (DevRef τ sig) := (StableHlo.tcRefs τ sig).filter fun b => ¬ b.isScoped

/-- The TensorCore's unscoped buffers are these. -/
theorem unscoped_eq (d : Dev nD) (W : Valuation τ sig (Elt F)) :
    (unscopedBufs d (fun b => W (at' b)) : sProp (𝕄 F)) = StableHlo.held (SparseCore.T d : Thread nD τ) mainRefs W := by
  have e : mainRefs = (Finset.univ.filter fun b : Ref sig .tc => ¬ b.isScoped).map ⟨Proc.devRef .tc, Proc.devRef_injective _⟩ := by
    unfold mainRefs StableHlo.tcRefs; rw [Finset.filter_map]; rfl
  unfold StableHlo.held
  rw [e, bigSep_map]; rfl

/-- Those of the SparseCore call. -/
def callRefs : Finset (DevRef τ sig) :=
  {at' main_v0, at' main_v1, at' main_v2, at' main_v4, at' main_v6, at' main_v8, at' main_v9}

theorem callRefs_sub : callRefs ⊆ mainRefs := by decide +kernel

/-- Held, they are the call's inputs and its result. -/
theorem held_call (d : Dev nD) (W : Valuation τ sig (Elt F)) : (StableHlo.held (SparseCore.T d : Thread nD τ) callRefs W : sProp (𝕄 F))
    = iprop(inputs d (W (at' main_v0)) (W (at' main_v1)) (W (at' main_v2)) (W (at' main_v4)) (W (at' main_v6)) (W (at' main_v8))
        ∗ (hub d main_v9 ↦{fullShare} W (at' main_v9))) := by
  have e : (StableHlo.held (SparseCore.T d : Thread nD τ) callRefs W : sProp (𝕄 F))
      = iprop((hub d main_v0 ↦{fullShare} W (at' main_v0)) ∗ (hub d main_v1 ↦{fullShare} W (at' main_v1)) ∗ (hub d main_v2 ↦{fullShare} W (at' main_v2))
        ∗ (hub d main_v4 ↦{fullShare} W (at' main_v4)) ∗ (hub d main_v6 ↦{fullShare} W (at' main_v6)) ∗ (hub d main_v8 ↦{fullShare} W (at' main_v8))
        ∗ (hub d main_v9 ↦{fullShare} W (at' main_v9))) := by
    unfold StableHlo.held callRefs
    rw [SparseCore.bigSep_insert' (by decide), SparseCore.bigSep_insert' (by decide), SparseCore.bigSep_insert' (by decide),
      SparseCore.bigSep_insert' (by decide), SparseCore.bigSep_insert' (by decide), SparseCore.bigSep_insert' (by decide), bigSep_singleton]
  have assoc (X Y Z : sProp (𝕄 F)) : iprop((X ∗ Y) ∗ Z) = iprop(X ∗ Y ∗ Z) := sep_assoc.antisymm sep_assoc'
  rw [e]
  unfold inputs
  simp only [assoc]

variable (m : (ℓ : Loc nD τ sig) → Buf (Elt F) ℓ) (d : Dev nD)

/-- Before the SparseCore call: what the SparseCores are handed, and the rest. -/
theorem before_call : (StableHlo.held (SparseCore.T d : Thread nD τ) mainRefs (V1 m d) : sProp (𝕄 F))
    ⊢ iprop((bigSep Finset.univ fun c : Fin ((K (F := F)).nCore 0) => (P (arraysOf m)).st 0 d c)
        ∗ StableHlo.held (SparseCore.T d : Thread nD τ) (mainRefs \ callRefs) (V1 m d)) := by
  obtain ⟨h0, h1, h2, h4, h6, h8⟩ := V1_call m d
  rw [StableHlo.held_sub_split (SparseCore.T d) callRefs_sub, held_call, h0, h1, h2, h4, h6, h8]
  iintro ⟨H, Hr⟩
  isplitl [H]; · iapply (deal (F := F) d); iexact H
  iexact Hr

/-- After it: what they hand back, and the rest. -/
theorem after_call : iprop((bigSep Finset.univ fun c : Fin ((K (F := F)).nCore 0) => (P (arraysOf m)).dn 0 d c)
        ∗ StableHlo.held (SparseCore.T d : Thread nD τ) (mainRefs \ callRefs) (V1 m d))
    ⊢ (StableHlo.held (SparseCore.T d : Thread nD τ) mainRefs (V2 m d) : sProp (𝕄 F)) := by
  obtain ⟨h0, h1, h2, h4, h6, h8⟩ := V1_call m d
  have e (b : Ref sig .tc) (h : at' b ≠ at' main_v9) : V2 m d (at' b) = V1 m d (at' b) := Function.update_of_ne h _ _
  have e9 : V2 m d (at' main_v9) = scoresOf m d := Function.update_self _ _ _
  rw [StableHlo.held_sub_split (SparseCore.T d) callRefs_sub (V2 m d), held_call, e main_v0 (by decide), e main_v1 (by decide), e main_v2 (by decide),
    e main_v4 (by decide), e main_v6 (by decide), e main_v8 (by decide), e9, h0, h1, h2, h4, h6, h8,
    StableHlo.held_congr (SparseCore.T d) (V := V1 m d) (V' := V2 m d) (S := mainRefs \ callRefs) fun b hb => (Function.update_of_ne (by
      rintro rfl; exact absurd (Finset.mem_sdiff.mp hb).2 (by decide)) _ _).symm]
  iintro ⟨H, Hr⟩
  isplitl [H]; · iapply (gather (F := F) d); iexact H
  iexact Hr

/-! ## The pipelined call -/

/-- The valuations before and after it, device by device. -/
def Vin (c : Dev nD) (b : Ref sig .tc) : Buf (Elt F) (hub c b) := V3 m c (at' b)
def Vout (c : Dev nD) (b : Ref sig .tc) : Buf (Elt F) (hub c b) := V4 m c (at' b)

theorem Vout_result (c : Dev nD) : Vout m c main_v11 = Region.summed (Vin m) c := by
  refine Eq.trans ?_ (Region.summed_eq (Vin m) c).symm
  unfold Vout V4
  exact Function.update_self _ _ _
theorem Vout_ne (c : Dev nD) (b : Ref sig .tc) (hb : b ≠ main_v11) : Vout m c b = Vin m c b := by
  have h : at' b ≠ at' main_v11 := fun e => hb (Proc.devRef_injective _ e)
  unfold Vout V4 Vin
  exact Function.update_of_ne h _ _

/-- The call as a region, from the one to the other. -/
def sumReg : Pipeline.RegionSeg (pcfgs (F := F)) adm (Region.pdats (Vin m) adm) none defs₀ 𝒱₀ (K (F := F)).L (K (F := F)).lev 0 :=
  Region.reg (Vin m) adm (Vout m) (fun _ => iprop(emp)) (Vout_result m) (Vout_ne m)

/-- The call, as the pipelines' program has it. -/
def sumProg : Prog (TpuEff nD τ sig (Elt F) (ΛP (F := F)) .tc) PUnit := .op (.customCall (Pipeline.entry 0) ()) fun _ => .ret ⟨⟩

/-- The call in @main is that program's, among the labels of the SparseCore program. -/
theorem lift_sumProg : (Prog.lift (.customCall (SparseCore.inner (Pipeline.entry 0)) ()) :
    Prog (TpuEff nD τ sig (Elt F) (SparseCore.Sig (ΛP (F := F)) 1) .tc) PUnit) = SparseCore.liftProg (sumProg (F := F)) := rfl

/-- The call's run on the TensorCore, from its buffers before to its buffers after. -/
theorem wp_sumCall [∀ e, Nonempty (Elt F e)] (Q : PUnit → sProp (𝕄 F)) :
    iprop(boundary (SparseCore.T d : Thread nD τ) ∗ StableHlo.held (SparseCore.T d : Thread nD τ) mainRefs (V3 m d) ∗ Region.waits d
        ∗ levAts (K (F := F)).L (K (F := F)).lev ∗ pipeGhost (F := F) d
        ∗ ((boundary (SparseCore.T d : Thread nD τ) ∗ StableHlo.held (SparseCore.T d : Thread nD τ) mainRefs (V4 m d) ∗ Region.waits d) -∗ Q ⟨⟩))
      ⊢ wp frame (wpE ((K (F := F)).defs (D (F := F))) 𝒱 (SparseCore.T d) none) Set.univ
          (Prog.lift (.customCall (SparseCore.inner (Pipeline.entry 0)) ())) Q := by
  have hreg := Pipeline.RegionSeg.wp (pcfgs (F := F)) adm (Region.pdats (Vin m) adm) none cells_inj (EP (F := F)) defs₀ 𝒱₀ (K (F := F)).L (K (F := F)).lev
    (sumReg m) d none (by simp) (fun _ => .ret ⟨⟩) Q
  rw [lift_sumProg]
  unfold pipeGhost
  rw [← unscoped_eq, ← unscoped_eq]
  iintro ⟨Hb, HV, Hw, Hlv, ⟨Hg, Ht⟩, Hk⟩
  iapply ((K (F := F)).wp_liftProg (D (F := F)) 𝒱 (SparseCore.T d) Set.univ none sumProg Q)
  iapply hreg
  isplitl [Hk]
  · iintro ⟨Hb, Hpost⟩
    ihave Hpost := (Entails.of_eq (show (sumReg m).post d = iprop(unscopedBufs d (Vout m d) ∗ emp ∗ Region.waits d) from rfl)) $$ Hpost
    icases Hpost with ⟨HV, -, Hw⟩
    rw [wp_ret]
    imodintro
    iapply Hk
    isplitl [Hb]; · iexact Hb
    isplitl [HV]; · iexact HV
    iexact Hw
  isplitl [Hb]; · iexact Hb
  isplitl [HV Hw]
  · iapply (Entails.of_eq (show iprop(unscopedBufs d (Vin m d) ∗ emp ∗ Region.waits d) = (sumReg m).pre d from rfl))
    isplitl [HV]; · iexact HV
    isplitr; · iempintro
    iexact Hw
  isplitl [Hlv]; · iexact Hlv
  isplitl [Hg] <;> iassumption

end Cert.Proof

end
-- ==== Proof.Run.lean ====
/-
  The run of the launch: @main on the TensorCore, put together, and with it every execution's end — the arguments as they
  were, the result at the value computed of them, every semaphore at zero.
-/
module

public import proofs.«01_k».proof.Proof.Main

@[expose] public section

set_option maxRecDepth 16384

noncomputable section

namespace Cert.Proof

open Cert.KernelIdeal Cert.KernelIdeal.Gen Cert.Proof.Body
open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]
variable (m : (ℓ : Loc nD τ sig) → Buf (Elt F) ℓ) (ρ : Dev nD → PrngReg) (d : Dev nD)

/-- Once the SparseCore call is over the TensorCore owes nothing: its waits are open to the next call, and go back as they
    came. -/
theorem waits_out : ((K (F := F)).tcSt EH d 1 : sProp (𝕄 F)) ⊢ iprop(Region.waits d ∗ (Region.waits d -∗ (K (F := F)).tcSt EH d 1)) := by
  unfold SparseCore.Cfg.tcSt
  rw [(K (F := F)).Otc_end d le_rfl]
  iintro ⟨⟨%W, %hW, HO⟩, Hr⟩
  isplitl [HO]
  · iexists W
    isplitr; · ipureintro; exact fun p hp => hW p hp
    iexact HO
  iintro ⟨%W', %hW', HO⟩
  isplitl [HO]
  · iexists W'
    isplitr; · ipureintro; exact fun p hp => hW' p hp
    iexact HO
  iexact Hr

theorem mem_mainRefs (b : Ref sig .tc) (h : b.isScoped = false) : at' b ∈ mainRefs :=
  Finset.mem_filter.mpr ⟨StableHlo.devRef_mem_tcRefs b, by
    show ¬ (b.isScoped = true); rw [h]; exact Bool.false_ne_true⟩
theorem pair_sub {x y : Ref sig .tc} (hx : x.isScoped = false) (hy : y.isScoped = false) :
    (insert (at' x) {at' y} : Finset (DevRef τ sig)) ⊆ mainRefs :=
  Finset.insert_subset_iff.mpr ⟨mem_mainRefs x hx, Finset.singleton_subset_iff.mpr (mem_mainRefs y hy)⟩

theorem before_bufs : ∀ op ∈ opsBefore (F := F), op.bufs ⊆ mainRefs := by
  intro op h
  simp only [opsBefore, List.mem_cons, List.not_mem_nil, _root_.or_false] at h
  rcases h with rfl | rfl | rfl | rfl | rfl | rfl | rfl | rfl | rfl
  · exact pair_sub (x := main_arg2) (y := main_v0) rfl rfl
  · exact pair_sub (x := main_arg3) (y := main_v1) rfl rfl
  · exact pair_sub (x := main_arg4) (y := main_v2) rfl rfl
  · exact pair_sub (x := main_arg0) (y := main_v3) rfl rfl
  · exact pair_sub (x := main_v3) (y := main_v4) rfl rfl
  · exact pair_sub (x := main_arg0) (y := main_v5) rfl rfl
  · exact pair_sub (x := main_v5) (y := main_v6) rfl rfl
  · exact pair_sub (x := main_arg0) (y := main_v7) rfl rfl
  · exact pair_sub (x := main_v7) (y := main_v8) rfl rfl
theorem before_fresh : ∀ op ∈ opsBefore (F := F), op.fresh = ∅ := by
  intro op h
  simp only [opsBefore, List.mem_cons, List.not_mem_nil, _root_.or_false] at h
  rcases h with rfl | rfl | rfl | rfl | rfl | rfl | rfl | rfl | rfl <;> rfl

/-- @main on the TensorCore, from its buffers at the launch to its buffers at the end. -/
theorem hmain [∀ e, Nonempty (Elt F e)] (κ : GSem nD τ sig → ℕ) (d : Dev nD) :
    iprop((K (F := F)).ctx EH (P (arraysOf m)) κ ∗ (K (F := F)).tcSt EH d 0 ∗ (K (F := F)).tcRes m ρ d ∗ pipeGhost (F := F) d)
      ⊢ wp frame (wpE ((K (F := F)).defs (D (F := F))) 𝒱 (SparseCore.T d) none) Set.univ (main d)
          fun _ => iprop((K (F := F)).tcSt EH d 1 ∗ StableHlo.held (SparseCore.T d : Thread nD τ) mainRefs (V5 m d) ∗ (K (F := F)).tcEnd d) := by
  unfold SparseCore.Cfg.tcRes SparseCore.Cfg.tcEnd
  rw [show (unscopedBufs d (fun b => m ((SparseCore.T d : Thread nD τ).loc b)) : sProp (𝕄 F)) = StableHlo.held (SparseCore.T d : Thread nD τ) mainRefs (V0 m d)
    from unscoped_eq d (V0 m d), main_eq]
  iintro ⟨#Hctx, Hst, ⟨Hb, HV, Hts, -⟩, Hg⟩
  iapply (StableHlo.wp_seq 𝒱 none Set.univ d mainRefs _ opsBefore before_bufs before_fresh (V0 m d)) $$ [Hb HV]
  · isplitl [Hb] <;> iassumption
  iintro ⟨Hb, HV⟩
  ihave HV := (show (StableHlo.held (d.tc : Thread nD τ) mainRefs (StableHlo.after opsBefore (V0 m d)) : sProp (𝕄 F)) ⊢ _ from before_call m d) $$ HV
  icases HV with ⟨Hin, Hrest⟩
  rw [wp_bind]
  iapply ((K (F := F)).wp_run (D (F := F)) 𝒱 (EH := EH) (P := P (arraysOf m)) κ d 0) $$ [Hst Hin Hb Hts Hrest Hg]
  isplitr; · iexact Hctx
  isplitl [Hst]; · iexact Hst
  isplitl [Hin]; · iexact Hin
  iintro ⟨Hst, Hout⟩
  ihave HV := (after_call m d) $$ [Hout Hrest]
  · isplitl [Hout] <;> iassumption
  iapply (StableHlo.wp_seq 𝒱 none Set.univ d mainRefs _ [opGrid] (by
    intro op h; rw [List.mem_singleton.mp h]; exact pair_sub (x := main_v9) (y := main_v10) rfl rfl)
    (by intro op h; rw [List.mem_singleton.mp h]; rfl) (V2 m d)) $$ [Hb HV]
  · isplitl [Hb] <;> iassumption
  iintro ⟨Hb, HV⟩
  ihave H := (show ((K (F := F)).tcSt EH d ((0 : Fin 1).val + 1) : sProp (𝕄 F)) ⊢ _ from waits_out d) $$ Hst
  icases H with ⟨Hw, Hback⟩
  ihave Hlv := (SparseCore.Cfg.ctx_levAts (K := K (F := F)) (EH := EH) (P := P (arraysOf m)) κ) $$ Hctx
  rw [wp_bind]
  iapply (wp_sumCall m d _) $$ [Hb HV Hw Hlv Hg Hback Hts]
  isplitl [Hb]; · iexact Hb
  isplitl [HV]; · iexact HV
  isplitl [Hw]; · iexact Hw
  isplitl [Hlv]; · iexact Hlv
  isplitl [Hg]; · iexact Hg
  iintro ⟨Hb, HV, Hw⟩
  iapply (StableHlo.wp_seq 𝒱 none Set.univ d mainRefs _ [opScalar] (by
    intro op h; rw [List.mem_singleton.mp h]; exact pair_sub (x := main_v11) (y := main_v12) rfl rfl)
    (by intro op h; rw [List.mem_singleton.mp h]; rfl) (V4 m d)) $$ [Hb HV]
  · isplitl [Hb] <;> iassumption
  iintro ⟨Hb, HV⟩
  rw [wp_pure]
  imodintro
  isplitl [Hback Hw]; · iapply Hback; iexact Hw
  isplitl [HV]; · iexact HV
  isplitl [Hb] <;> iassumption

/-! ## The launch -/

/-- What the final memory is to be on a device: every buffer of @main at its contents at the end. -/
def fq (d : Dev nD) (s' : Phys nD τ sig (Elt F)) : Prop := ∀ b ∈ mainRefs, s'.mem.mem (d, b) = V5 m d b

/-- The buffers held at the end fix the final memory. -/
theorem hfin (d : Dev nD) (s' : Phys nD τ sig (Elt F)) :
    iprop(StableHlo.held (SparseCore.T d : Thread nD τ) mainRefs (V5 m d) ∗ SI s') ⊢ (⌜fq m d s'⌝ : sProp (𝕄 F)) := by
  have h1 (b : DevRef τ sig) (hb : b ∈ mainRefs) :
      iprop(StableHlo.held (SparseCore.T d : Thread nD τ) mainRefs (V5 m d) ∗ SI s') ⊢ (⌜s'.mem.mem (d, b) = V5 m d b⌝ : sProp (𝕄 F)) := by
    iintro ⟨H, HSI⟩
    ihave H := (show (StableHlo.held (SparseCore.T d : Thread nD τ) mainRefs (V5 m d) : sProp (𝕄 F)) ⊢ ((d, b) ↦{fullShare} V5 m d b) from
      bigSep_elim (Φ := fun b => ((d, b) ↦{fullShare} V5 m d b : sProp (𝕄 F))) hb) $$ H
    ihave H := (SI_pointsTo_agree (st := s') (ℓ := (d, b)) (I := Finset.univ) (q := fullShare) (f := V5 m d b)) $$ [HSI H]
    · isplitl [HSI] <;> iassumption
    icases H with %h
    ipureintro; exact funext fun i => h i (Finset.mem_univ i)
  exact fun a h b hb => h1 b hb a h

/-- What every execution leaves: the arguments as they were, the result at the value computed of them, no semaphore raised. -/
def Ends : PUnit × MemSt nD τ sig (Elt F) → Prop := fun r =>
  (∀ d : Dev nD, r.2.mem (hub d main_v12) = (fun _ => resultOf m d)
    ∧ ∀ b ∈ [main_arg0, main_arg1, main_arg2, main_arg3, main_arg4, main_arg5, main_arg6], r.2.mem (hub d b) = m (hub d b))
  ∧ r.2.sem = fun _ => 0

theorem run_main [∀ e, Nonempty (Elt F e)] (hA : (arraysOf m).Ok) :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P (arraysOf m)) (A := ∅) facts v₀
    (fun q hq => match q with | 0 => nomatch hq)
    (fun q _ => match q with | 0 => tileObl (arraysOf m) hA)
    (fun q _ => match q with | 0 => SparseCore.Cfg.VecSplit.of_plain (vecSplit (arraysOf m)))
    m ρ main (fun d => pipeGhost (F := F) d) (fun d => StableHlo.held (SparseCore.T d : Thread nD τ) mainRefs (V5 m d))
    (u₀ (F := F)) (sep_elim_left.trans (hu₀ (arraysOf m))) (hmain m ρ) (fq m) (hfin m) (Ends m)
    (fun s' h hz => ⟨fun d => ⟨(h d _ (mem_mainRefs main_v12 rfl)).trans (V5_result m d), fun b hb =>
      (h d _ (mem_mainRefs b (by revert hb; revert b; decide))).trans (V5_arg m d b hb)⟩, hz⟩)

end Cert.Proof

end
-- ==== Proof.Frames.lean ====
/-
  The frames: the kernel as printed, its idealisation and the reference run to the end from every memory the claims allow,
  leave their arguments as they were and every counter at zero.
-/
module

public import proofs.«01_k».proof.Proof.Pre
public import proofs.«01_k».proof.Proof.Run
public import proofs.«01_k».proof.Proof.Gen.Kernel
public import proofs.«01_k».proof.Proof.Gen.ReferenceIdeal.Run

@[expose] public section

noncomputable section

namespace Cert.Proof

open Cert.KernelIdeal Cert.KernelIdeal.Gen Cert.Proof.Body
open Idealize.ShloMosaic Idealize.SL.Sem

variable {F : FTy → Type} [FloatOps F]

/-- Of a final state of the kernel: each argument as at the launch. -/
theorem Ends.args {m : (ℓ : Loc nD τ sig) → Buf (Elt F) ℓ} {r : PUnit × MemSt nD τ sig (Elt F)} (h : Ends m r) (d : Dev nD) :
    r.2.mem (hub d main_arg0) = m (hub d main_arg0) ∧ r.2.mem (hub d main_arg1) = m (hub d main_arg1)
      ∧ r.2.mem (hub d main_arg2) = m (hub d main_arg2) ∧ r.2.mem (hub d main_arg3) = m (hub d main_arg3)
      ∧ r.2.mem (hub d main_arg4) = m (hub d main_arg4) ∧ r.2.mem (hub d main_arg5) = m (hub d main_arg5)
      ∧ r.2.mem (hub d main_arg6) = m (hub d main_arg6) := by
  have h := (h.1 d).2
  exact ⟨h _ (by simp), h _ (by simp), h _ (by simp), h _ (by simp), h _ (by simp), h _ (by simp), h _ (by simp)⟩

/-- The kernel's run, read at its arguments and its counters. -/
theorem run_args (m : (ℓ : Loc nD τ sig) → Buf (Elt F) ℓ) (ρ : Dev nD → PrngReg)
    (h : ∀ (d : Dev nD) (i : S16384x3.Idx), (m (hub d main_arg0) i).toNat < 1000000) :
    θ_run Cert.KernelIdeal.defs Cert.KernelIdeal.threads ⟨m, fun _ => 0, ρ⟩ (fun r => (∀ d : Dev nD,
      r.2.mem (hub d main_arg0) = m (hub d main_arg0) ∧ r.2.mem (hub d main_arg1) = m (hub d main_arg1)
      ∧ r.2.mem (hub d main_arg2) = m (hub d main_arg2) ∧ r.2.mem (hub d main_arg3) = m (hub d main_arg3)
      ∧ r.2.mem (hub d main_arg4) = m (hub d main_arg4) ∧ r.2.mem (hub d main_arg5) = m (hub d main_arg5)
      ∧ r.2.mem (hub d main_arg6) = m (hub d main_arg6)) ∧ r.2.sem = fun _ => 0) :=
  (θ_run _ _ _).mono (fun _ e => ⟨fun d => e.args d, e.2⟩) (run_main m ρ (ok_of_ids m h))

/-- The kernel as printed and its idealisation have one text: the same table of bodies and the same threads. -/
theorem defs_same : (Cert.Kernel.defs (F := F)) = Cert.KernelIdeal.defs (F := F) := by sl_kernel_rfl
theorem threads_same : (Cert.Kernel.threads (F := F)) = Cert.KernelIdeal.threads (F := F) := by sl_kernel_rfl

/-- The kernel as printed. -/
theorem frame_kernel : Cert.quiescent_Kernel := by
  intro m ρ h
  have e := run_args (F := Bits) m ρ fun d i => Pre.ids_of_range (h d) i
  rw [← defs_same, ← threads_same] at e
  exact e

/-- The idealised kernel. -/
theorem frame_ideal : Cert.quiescent_KernelIdeal := by
  intro m ρ h
  exact run_args (F := Ideal) m ρ fun d i => Pre.ids_of_range (h d) i

/-- The reference. -/
theorem frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Finite.lean ====
/-
  What the second precondition says: every id is a row of the tables, and every entry of the three tables is a real number.
  And the frames under it.
-/
module

public import proofs.«01_k».proof.Proof.Frames
public import proofs.«01_k».proof.Proof.Gen.Pre_in_range_finite

@[expose] public section

noncomputable section

namespace Cert.Proof.Pre

open Idealize.ShloMosaic

variable {F : FTy → Type} [FloatOps F]

/-- The second precondition, taken apart: the ids, and each table's comparisons. -/
theorem parts_of_finite {x0 x1 x2 x3 x4 x5 x6} (h : Cert.Pre_in_range_finite.fn (F := F) x0 x1 x2 x3 x4 x5 x6 = fun _ => 1#1) :
    (∀ i, (x0 i).toNat < 1000000)
      ∧ (∀ i, FloatOps.cmpf .olt (FloatOps.hostAbsf (x2 i)) (FloatOps.ofBits (F := F) .f32 0x7F800000#32) = 1#1)
      ∧ (∀ i, FloatOps.cmpf .olt (FloatOps.hostAbsf (x3 i)) (FloatOps.ofBits (F := F) .f32 0x7F800000#32) = 1#1)
      ∧ (∀ i, FloatOps.cmpf .olt (FloatOps.hostAbsf (x4 i)) (FloatOps.ofBits (F := F) .f32 0x7F800000#32) = 1#1) := by
  have h := congrFun h (Shape.Idx.first Cert.Pre_in_range_finite.Gen.h_S_)
  dsimp only [Cert.Pre_in_range_finite.fn, Cert.Pre_in_range_finite.fn_part1] at h
  haveI : Subsingleton Cert.Pre_in_range_finite.S_.Idx := ⟨fun a b => funext fun k => k.elim0⟩
  obtain ⟨h, h4⟩ := IntOp.andi_eq_one.1 h
  obtain ⟨h, h3⟩ := IntOp.andi_eq_one.1 h
  obtain ⟨h, h2⟩ := IntOp.andi_eq_one.1 h
  exact ⟨fun i => word_range _ (Host.reduce_andi_all _ _ _ _ _ h i), fun i => Host.reduce_andi_all _ _ _ _ _ h2 i,
    fun i => Host.reduce_andi_all _ _ _ _ _ h3 i, fun i => Host.reduce_andi_all _ _ _ _ _ h4 i⟩

/-- A number whose absolute value is below infinity is a real number. -/
theorem real_of_lt (x : EReal) (h : FloatOps.cmpf (F := Ideal) (φ := .f32) .olt (FloatOps.hostAbsf (F := Ideal) (φ := .f32) x)
    (FloatOps.ofBits (F := Ideal) .f32 0x7F800000#32) = 1#1) : ∃ r : ℝ, x = r := by
  have htop : FloatOps.ofBits (F := Ideal) .f32 0x7F800000#32 = (⊤ : EReal) := by
    show Ideal.ieee 8 23 0x7F800000#32 = ⊤
    unfold Ideal.ieee
    simp
  rw [htop] at h
  have h' : max x (-x) < ⊤ := by
    by_contra hn
    have : FloatOps.cmpf (F := Ideal) (φ := .f32) .olt (FloatOps.hostAbsf (F := Ideal) (φ := .f32) x) (⊤ : EReal)
        = BitVec.ofBool (decide (max x (-x) < ⊤)) := rfl
    rw [this, decide_eq_false hn] at h
    exact absurd h (by decide)
  obtain ⟨h1, h2⟩ := max_lt_iff.1 h'
  refine ⟨x.toReal, (EReal.coe_toReal (ne_of_lt h1) ?_).symm⟩
  rintro rfl
  simp at h2

end Cert.Proof.Pre

namespace Cert.Proof

open Cert.KernelIdeal Cert.KernelIdeal.Gen Cert.Proof.Body
open Idealize.ShloMosaic Idealize.SL.Sem

/-- The idealised kernel, of finite tables. -/
theorem frame_ideal_finite : Cert.quiescent_KernelIdeal_pre_in_range_finite := by
  intro m ρ h
  exact run_args (F := Ideal) m ρ fun d i => (Pre.parts_of_finite (h d)).1 i

/-- The reference, of finite tables. -/
theorem frame_reference_finite : Cert.quiescent_ReferenceIdeal_pre_in_range_finite := by
  intro m ρ _
  exact frame_reference m ρ trivial

end Cert.Proof

end
-- ==== Proof.Rows.lean ====
/-
  Where the kernel's reads land. A table of a million rows of 32 is reshaped to 250000 rows of 128, so the embedding of id v
  is a quarter of row v / 4; the entry that a lane reads there in one step is an entry of row v of the table as it was. For
  each lane the steps take the 32 dimensions in some order.
-/
module

public import proofs.«01_k».proof.Proof.Values
public import Idealize.ShloMosaic.Lib.Pipeline.Value

@[expose] public section

noncomputable section

namespace Cert.Proof

open Cert.KernelIdeal Cert.KernelIdeal.Gen Cert.Proof.Body
open Idealize.ShloMosaic Idealize.ShloMosaic.ValueIdx

variable {F : FTy → Type} [FloatOps F]

/-- The dimension of a step, as one of the 32. -/
def dimFin (l : ℕ) (sh : BitVec 32 × BitVec 32) : Fin 32 := ⟨(dimOf l sh).toNat % 32, Nat.mod_lt _ (by decide)⟩

/-- An entry of a table: row `v`, taken modulo the number of rows, and dimension `d`. -/
def entry {α : Type} (t : S1000000x32.Idx → α) (v : ℕ) (d : Fin 32) : α :=
  t (ix2 (⟨v % 1000000, Nat.mod_lt _ (by decide)⟩ : Fin 1000000) d)

/-- The halves of the kernel's list. -/
theorem half_of_mem {sh : BitVec 32 × BitVec 32} (h : sh ∈ dims) : sh.2 = 0#32 ∨ sh.2 = 16#32 :=
  (by decide : ∀ sh ∈ dims, sh.2 = 0#32 ∨ sh.2 = 16#32) sh h

/-- A step's dimension is below 32. -/
theorem dimOf_lt (l : ℕ) {sh : BitVec 32 × BitVec 32} (h : sh ∈ dims) : (dimOf l sh).toNat < 32 := by
  have key : ∀ y z : BitVec 32, (z = 0#32 ∨ z = 16#32) → ((y &&& 15#32) + z).toNat < 32 := by
    intro y z hz
    have hy : (y &&& 15#32).toNat ≤ 15 := by rw [BitVec.toNat_and]; exact Nat.and_le_right
    rcases hz with rfl | rfl <;> simp only [BitVec.toNat_add, BitVec.toNat_ofNat, Nat.reducePow, Nat.reduceMod] <;> omega
  exact key _ _ (half_of_mem h)

/-- The column read: the quarter of the row, and the dimension in it. -/
theorem colNat_eq (v : BitVec 32) (l : ℕ) {sh : BitVec 32 × BitVec 32} (h : sh ∈ dims) :
    colNat v l sh = v.toNat % 4 * 32 + (dimOf l sh).toNat := by
  have hd := dimOf_lt l h
  have e3 : (v &&& 3#32).toNat = v.toNat % 4 := by
    rw [BitVec.toNat_and]
    exact Nat.and_two_pow_sub_one_eq_mod v.toNat 2
  unfold colNat colWord
  show (((v &&& 3#32) * 32#32) + dimOf l sh).toNat = _
  simp only [BitVec.toNat_add, BitVec.toNat_mul, BitVec.toNat_ofNat, e3, Nat.reducePow, Nat.reduceMod]
  omega

/-- The row read. -/
theorem rowNat_eq (v : BitVec 32) : rowNat v = v.toNat / 4 := by
  unfold rowNat
  show (quarter v).toNat = _
  unfold quarter IntOp.shrui
  simp [Nat.shiftRight_eq_div_pow]

/-- What a lane reads in a step: an entry of row `v` of the table. -/
theorem tabAt_wide (t : S1000000x32.Idx → F .f32) (v : BitVec 32) (hv : v.toNat < 1000000) (l : ℕ) {sh : BitVec 32 × BitVec 32}
    (h : sh ∈ dims) : tabAt (wide t) (rowNat v) (colNat v l sh) = entry t v.toNat (dimFin l sh) := by
  have hd := dimOf_lt l h
  unfold tabAt wide entry
  refine shapeCast_apply t _ _ _ ?_
  rw [Shape.rowMajor_val_two, Shape.rowMajor_val_two]
  show v.toNat % 1000000 * 32 + (dimOf l sh).toNat % 32 = rowNat v % 250000 * 128 + colNat v l sh % 128
  rw [rowNat_eq, colNat_eq v l h]
  omega

/-- Each lane takes every dimension once. -/
theorem dims_perm : ∀ l : Fin 16, (dims.map (dimFin l.val)).Perm (List.finRange 32) := by decide +kernel

end Cert.Proof

end
-- ==== Proof.Score.lean ====
/-
  What one score is, over the real numbers: the sum over the 32 dimensions of the user's entry times the difference of the
  two items' entries, each item's entry being the sum of its entries in two tables.
-/
module

public import proofs.«01_k».proof.Proof.Rows
public import Idealize.ShloMosaic.PureOps.Ideal

@[expose] public section

noncomputable section

namespace Cert.Proof

open Cert.KernelIdeal Cert.KernelIdeal.Gen Cert.Proof.Body
open Idealize.ShloMosaic Idealize.ShloMosaic.ValueIdx

/-- The word of zero. -/
theorem zero_word : (Scalar.ofBits .f32 0x00000000#32 : Ideal .f32) = ((0 : ℝ) : EReal) := by
  show Ideal.ieee 8 23 0x00000000#32 = _
  unfold Ideal.ieee
  simp

/-- A step of real numbers is a step of the sum. -/
theorem step_real (a b c d e : BitVec 32 × BitVec 32 → Ideal .f32) (a' b' c' d' e' acc : ℝ) (sh : BitVec 32 × BitVec 32)
    (ha : a sh = (a' : EReal)) (hb : b sh = (b' : EReal)) (hc : c sh = (c' : EReal)) (hd : d sh = (d' : EReal)) (he : e sh = (e' : EReal)) :
    stepOf (F := Ideal) a b c d e (acc : EReal) sh = ((acc + a' * ((b' + c') - (d' + e')) : ℝ) : EReal) := by
  unfold stepOf
  rw [ha, hb, hc, hd, he]
  show ((acc : EReal) + (a' : EReal) * (((b' : EReal) + (c' : EReal)) - ((d' : EReal) + (e' : EReal)))) = _
  norm_cast

/-- The steps of a list add up its terms. -/
theorem fold_real (a b c d e : BitVec 32 × BitVec 32 → Ideal .f32) (g : BitVec 32 × BitVec 32 → ℝ) :
    ∀ (L : List (BitVec 32 × BitVec 32)) (acc : ℝ),
      (∀ sh ∈ L, ∀ acc : ℝ, stepOf (F := Ideal) a b c d e (acc : EReal) sh = ((acc + g sh : ℝ) : EReal)) →
      L.foldl (stepOf (F := Ideal) a b c d e) (acc : EReal) = ((acc + (L.map g).sum : ℝ) : EReal)
  | [], acc, _ => by simp
  | sh :: L, acc, h => by
    rw [List.foldl_cons, h sh (List.mem_cons_self ..) acc,
      fold_real a b c d e g L (acc + g sh) fun sh' h' => h sh' (List.mem_cons_of_mem _ h'), List.map_cons, List.sum_cons, add_assoc]

/-- A score over the reals, of tables `U`, `I`, `E` and ids `u`, `p`, `n`. -/
def realScore (U I E : S1000000x32.Idx → ℝ) (u p n : ℕ) : ℝ :=
  ∑ d : Fin 32, entry U u d * ((entry I p d + entry E p d) - (entry I n d + entry E n d))

/-- The kernel's score of tables of real numbers. -/
theorem score_real {tu ti te : S1000000x32.Idx → Ideal .f32} {U I E : S1000000x32.Idx → ℝ}
    (hU : ∀ i, tu i = (U i : EReal)) (hI : ∀ i, ti i = (I i : EReal)) (hE : ∀ i, te i = (E i : EReal))
    (u p n : BitVec 32) (hu : u.toNat < 1000000) (hp : p.toNat < 1000000) (hn : n.toNat < 1000000) (l : Fin 16) :
    score (F := Ideal) (wide tu) (wide ti) (wide te) u p n l.val = (realScore U I E u.toNat p.toNat n.toNat : EReal) := by
  let g : Fin 32 → ℝ := fun d => entry U u.toNat d * ((entry I p.toNat d + entry E p.toNat d) - (entry I n.toNat d + entry E n.toNat d))
  unfold score sumOf
  rw [zero_word, fold_real _ _ _ _ _ (fun sh => g (dimFin l.val sh)) dims 0 fun sh h acc =>
    step_real _ _ _ _ _ (entry U u.toNat (dimFin l.val sh)) (entry I p.toNat (dimFin l.val sh)) (entry E p.toNat (dimFin l.val sh))
      (entry I n.toNat (dimFin l.val sh)) (entry E n.toNat (dimFin l.val sh)) acc sh
      ((tabAt_wide tu u hu l.val h).trans (hU _)) ((tabAt_wide ti p hp l.val h).trans (hI _)) ((tabAt_wide te p hp l.val h).trans (hE _))
      ((tabAt_wide ti n hn l.val h).trans (hI _)) ((tabAt_wide te n hn l.val h).trans (hE _))]
  have e : (dims.map fun sh => g (dimFin l.val sh)).sum = ∑ d : Fin 32, g d := by
    rw [Fin.sum_univ_def, ← ((dims_perm l).map g).sum_eq, List.map_map]
    rfl
  rw [e, zero_add]
  rfl

/-- The score as a difference of two dot products. -/
theorem realScore_eq (U I E : S1000000x32.Idx → ℝ) (u p n : ℕ) :
    realScore U I E u p n = ∑ d : Fin 32, entry U u d * (entry I p d + entry E p d) - ∑ d : Fin 32, entry U u d * (entry I n d + entry E n d) := by
  unfold realScore
  rw [← Finset.sum_sub_distrib]
  exact Finset.sum_congr rfl fun d _ => mul_sub _ _ _

end Cert.Proof

end
-- ==== Proof.Loss.lean ====
/-
  What the TensorCore's call sums, over the real numbers: min(x, 0) − log(1 + exp(−|x|)) of every score x, which is the
  logarithm of the logistic function of x.
-/
module

public import proofs.«01_k».proof.Proof.Score
public import Idealize.ShloMosaic.PureOps.Ideal.Laws

@[expose] public section

noncomputable section

namespace Cert.Proof

open Cert.KernelIdeal Cert.KernelIdeal.Gen Cert.Proof.Body
open Idealize.ShloMosaic Idealize.ShloMosaic.ValueIdx

/-- The logarithm of the logistic function, of a real number. -/
def logSigmoid (x : ℝ) : ℝ := Real.log (1 / (1 + Real.exp (-x)))

/-- The form that does not overflow is the same function. -/
theorem stable_eq (x : ℝ) : min x 0 - Real.log (1 + Real.exp (0 - |x|)) = logSigmoid x := by
  unfold logSigmoid
  rw [Real.log_div one_ne_zero (by positivity), Real.log_one, zero_sub, zero_sub]
  rcases le_total 0 x with h | h
  · rw [min_eq_right h, abs_of_nonneg h, zero_sub]
  · rw [min_eq_left h, abs_of_nonpos h, neg_neg]
    have e : 1 + Real.exp (-x) = Real.exp (-x) * (1 + Real.exp x) := by
      rw [mul_add, mul_one, ← Real.exp_add, neg_add_cancel, Real.exp_zero, add_comm]
    rw [e, Real.log_mul (Real.exp_pos _).ne' (by positivity), Real.log_exp]
    ring

/-- The kernel's term of one real score. -/
theorem term_real (x : ℝ) : FloatOps.subf (F := Ideal) (φ := .f32) (FloatOps.minimumf (F := Ideal) (φ := .f32) (x : EReal) (Scalar.ofBits .f32 0x00000000#32 : Ideal .f32))
    (FloatOps.log1p (F := Ideal) (φ := .f32) (FloatOps.exp (F := Ideal) (φ := .f32)
      (FloatOps.subf (F := Ideal) (φ := .f32) (Scalar.ofBits .f32 0x00000000#32 : Ideal .f32) (FloatOps.absf (F := Ideal) (φ := .f32) (x : EReal)))))
      = (logSigmoid x : EReal) := by
  rw [zero_word]
  show (min (x : EReal) ((0 : ℝ) : EReal)) - Ideal.log (1 + Ideal.exp (((0 : ℝ) : EReal) - max (x : EReal) (-(x : EReal)))) = _
  have e1 : ((0 : ℝ) : EReal) - max (x : EReal) (-(x : EReal)) = ((0 - |x| : ℝ) : EReal) := by
    rw [abs_eq_max_neg, EReal.coe_sub, ← EReal.coe_neg, ← (EReal.coe_strictMono.monotone.map_max : ((max x (-x) : ℝ) : EReal) = _)]
  have e2 : (1 : EReal) + Ideal.exp ((0 - |x| : ℝ) : EReal) = ((1 + Real.exp (0 - |x|) : ℝ) : EReal) := by
    show (1 : EReal) + ((Real.exp (0 - |x|) : ℝ) : EReal) = _
    norm_cast
  have e3 : Ideal.log ((1 + Real.exp (0 - |x|) : ℝ) : EReal) = ((Real.log (1 + Real.exp (0 - |x|)) : ℝ) : EReal) := by
    show (if 1 + Real.exp (0 - |x|) ≤ 0 then ⊥ else ((Real.log (1 + Real.exp (0 - |x|)) : ℝ) : EReal)) = _
    rw [if_neg (not_le.2 (by positivity))]
  rw [e1, e2, e3, ← (EReal.coe_strictMono.monotone.map_min : ((min x 0 : ℝ) : EReal) = _), ← EReal.coe_sub, stable_eq]

/-- A finite sum of real numbers, among the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- The sum that the call computes of real scores. -/
theorem lossOf_real (r : S16384.Idx → ℝ) :
    Region.lossOf (F := Ideal) (shapeCast S128x128 (fun i => ((r i : ℝ) : EReal)) shapeCasts_S16384_S128x128)
      = ((∑ i, logSigmoid (r i) : ℝ) : EReal) := by
  unfold Region.lossOf extractAt
  show multiReduction .add [1, 2] S1 _ 0x00000000#32 reduces_S1x128x128_S1 (.inl rfl) rfl (Shape.reshapeEquiv shapeCasts_S1_S1x1x1 _) = _
  refine (Ideal.multiReduction_add_total _ _ _ (by decide) _ _ _).trans ?_
  rw [← coe_sum]
  refine (Fintype.sum_equiv ((Shape.reshapeEquiv shapeCasts_S128x128_S1x128x128).trans (Shape.reshapeEquiv shapeCasts_S16384_S128x128)) _ _ fun i => ?_)
  exact term_real (r (Shape.reshapeEquiv shapeCasts_S16384_S128x128 (Shape.reshapeEquiv shapeCasts_S128x128_S1x128x128 i)))

end Cert.Proof

end
-- ==== Proof.Reference.lean ====
/-
  What the reference computes, over the real numbers: it takes the rows of three tables by the ids, forms two dot products
  for each triple, and sums the logarithm of the logistic function of their difference.
-/
module

public import proofs.«01_k».proof.Proof.Loss
public import proofs.«01_k».proof.Proof.Gen.ReferenceIdeal.Run
public import Idealize.ShloMosaic.Lib.Routing.Ops
public import Idealize.ShloMosaic.Lib.ReduceAll
public import Idealize.ShloMosaic.Lib.IdealHost
public import Idealize.ShloMosaic.Lib.Affine

@[expose] public section

noncomputable section

namespace Cert.Proof.Ref

open Cert.ReferenceIdeal Cert.ReferenceIdeal.Gen
open Idealize.ShloMosaic Idealize.ShloMosaic.ValueIdx Idealize.ShloMosaic.TcCoe

section Takes

variable {F : FTy → Type} [FloatOps F]

/-- The ids as the reference looks them up: a negative one counts from the end of the table. -/
def lookups (v : IVec S16384 32) : IVec S16384x1 32 :=
  broadcastInDim S16384x1 ![0] bcast_S16384_S16384x1_0
    (select (cmpi .slt v (broadcastInDim S16384 ![] bcast_S_S16384 (constantI S_ 32 0#32)))
      (addi v (broadcastInDim S16384 ![] bcast_S_S16384 (constantI S_ 32 1000000#32))) v)

/-- Which lookups name a row of the table. -/
def inside (w : IVec S16384x1 32) : IVec S16384 1 :=
  Host.reduce IntOp.andi
    (andi (cmpi .sge w (broadcastInDim S16384x1 ![] bcast_S_S16384x1 (constantI S_ 32 0#32)))
      (cmpi .sle w (broadcastInDim S16384x1 ![0, 1] bcast_S1x1_S16384x1_0_1
        (broadcastInDim S1x1 ![1] bcast_S1_S1x1_1 (constantI S1 32 999999#32)))))
    (constantI S_ 1 1#1) reducesTo_S16384x1_S16384_d1 h_S_

/-- The rows of a table that the ids name. -/
def taken (t : FVec F S1000000x32 .f32) (v : IVec S16384 32) : FVec F S16384x32 .f32 :=
  select (broadcastInDim S16384x32 ![0] bcast_S16384_S16384x32_0 (inside (lookups v)))
    (Host.gather gather_S1000000x32_S16384x1_S16384x32_1_0_n_n_0_1_132 t (lookups v))
    (broadcastInDim S16384x32 ![] bcast_S_S16384x32 (constant S_ .f32 0x7FC00000#32))

/-- A column of the triples. -/
def ids0 (x : IVec S16384x3 32) : IVec S16384 32 :=
  shapeCast S16384 (extractStridedSlice S16384x1 ![0, 0] x slices_S16384x3_S16384x1_0_0) shapeCasts_S16384x1_S16384

/-- A column of the triples. -/
def ids1 (x : IVec S16384x3 32) : IVec S16384 32 :=
  shapeCast S16384 (extractStridedSlice S16384x1 ![0, 1] x slices_S16384x3_S16384x1_0_1) shapeCasts_S16384x1_S16384

/-- A column of the triples. -/
def ids2 (x : IVec S16384x3 32) : IVec S16384 32 :=
  shapeCast S16384 (extractStridedSlice S16384x1 ![0, 2] x slices_S16384x3_S16384x1_0_2) shapeCasts_S16384x1_S16384

/-- The dot products of the rows of one array with the sum of two others. -/
def dots (u a b : FVec F S16384x32 .f32) : FVec F S16384 .f32 :=
  Host.reduceAdd (mulf u (addf a b)) (constant S_ .f32 0x00000000#32) reducesTo_S16384x32_S16384_d1 h_S_

/-- The logarithm of the logistic function, as the reference writes it. -/
def logs (x : FVec F S16384 .f32) : FVec F S16384 .f32 :=
  Host.log (Host.divf (broadcastInDim S16384 ![] bcast_S_S16384 (constant S_ .f32 0x3F800000#32))
    (addf (broadcastInDim S16384 ![] bcast_S_S16384 (constant S_ .f32 0x3F800000#32)) (Host.exp (Host.negf x))))

/-- The reference's result as a term of its parts. -/
theorem result_eq (m : (ℓ : Loc nD τ sig) → Buf (Elt F) ℓ) (c : Dev nD) :
    Cert.ReferenceIdeal.Value.res_main_v25 m c
      = Host.reduceAdd (logs (subf
          (dots (taken (m ((c.tc : Thread nD τ).loc main_arg2)) (ids0 (m ((c.tc : Thread nD τ).loc main_arg0)))) (taken (m ((c.tc : Thread nD τ).loc main_arg3)) (ids1 (m ((c.tc : Thread nD τ).loc main_arg0))))
            (taken (m ((c.tc : Thread nD τ).loc main_arg4)) (ids1 (m ((c.tc : Thread nD τ).loc main_arg0)))))
          (dots (taken (m ((c.tc : Thread nD τ).loc main_arg2)) (ids0 (m ((c.tc : Thread nD τ).loc main_arg0)))) (taken (m ((c.tc : Thread nD τ).loc main_arg3)) (ids2 (m ((c.tc : Thread nD τ).loc main_arg0))))
            (taken (m ((c.tc : Thread nD τ).loc main_arg4)) (ids2 (m ((c.tc : Thread nD τ).loc main_arg0)))))))
        (constant S_ .f32 0x00000000#32) reducesTo_S16384_S_d0 h_S_ := rfl

/-- A word below a million is not negative, and is at most 999999, as a signed number. -/
theorem signed (x : BitVec 32) (h : x.toNat < 1000000) : x.toInt = x.toNat := by
  rw [BitVec.toInt_eq_toNat_cond, if_pos (by omega)]

/-- A choice whose mask is set. -/
theorem select_one {s : Shape} {α : Type} (c : IVec s 1) (a b : s.Idx → α) (i : s.Idx) (h : c i = 1#1) : select c a b i = a i := if_pos h

variable {v : IVec S16384 32} (hv : ∀ i, (v i).toNat < 1000000)
include hv

/-- The lookup of an id that is in range is the id. -/
theorem lookups_apply (j : S16384x1.Idx) : lookups v j = v (ix1 (j 0)) := by
  unfold lookups
  refine (broadcastInDim_apply _ _ _ j (ix1 (j 0)) fun a => ?_).trans ?_
  · match a with
    | ⟨0, _⟩ => rfl
  · show (if IntOp.cmpi .slt (v (ix1 (j 0))) 0#32 = 1#1 then _ else v (ix1 (j 0))) = _
    refine if_neg fun h => ?_
    have h := IntOp.cmpi_slt.1 h
    rw [signed _ (hv _)] at h
    simp only [BitVec.toInt_zero] at h
    omega

/-- Every lookup names a row. -/
theorem inside_one (j : S16384.Idx) : inside (lookups v) j = 1#1 := by
  unfold inside
  refine Host.reduce_andi_one _ _ _ _ j rfl fun i => ?_
  show IntOp.andi (IntOp.cmpi .sge (lookups v i) 0#32) (IntOp.cmpi .sle (lookups v i) 999999#32) = 1#1
  have h := hv (ix1 (i 0))
  rw [lookups_apply hv i]
  refine IntOp.andi_eq_one.2 ⟨IntOp.cmpi_sge.2 ?_, IntOp.cmpi_sle.2 ?_⟩
  · rw [signed _ h]
    simp only [BitVec.toInt_zero]
    omega
  · rw [signed _ h, signed 999999#32 (by decide)]
    simp only [BitVec.toNat_ofNat, Nat.reducePow, Nat.reduceMod]
    omega

/-- The rows taken are the rows named. -/
theorem taken_apply (t : FVec F S1000000x32 .f32) (i : Fin 16384) (d : Fin 32) :
    taken t v (ix2 i d) = entry (α := F .f32) t (v (ix1 i)).toNat d := by
  have h := hv (ix1 i)
  unfold taken
  refine (select_one _ _ _ _ (by unfold broadcastInDim; exact inside_one hv _)).trans ?_
  unfold entry
  refine Routing.gather_row gather_S1000000x32_S16384x1_S16384x32_1_0_n_n_0_1_132 rfl rfl rfl rfl rfl t (lookups v) i d
    ⟨(v (ix1 i)).toNat % 1000000, Nat.mod_lt _ (by decide)⟩ ?_ (by decide)
  have e : BitVec.ofNat 32 ((v (ix1 i)).toNat % 1000000) = v (ix1 i) := by
    rw [Nat.mod_eq_of_lt h, BitVec.ofNat_toNat, BitVec.setWidth_eq]
  exact (lookups_apply hv _).trans e.symm

end Takes

/-- The shape that a sum along the second axis leaves. -/
theorem reduces_rows : S16384x32.Reduces [1] S16384 := by decide

/-- A dot product of real numbers. -/
theorem dots_real {u a b : FVec Ideal S16384x32 .f32} {u' a' b' : Fin 16384 → Fin 32 → ℝ}
    (hu : ∀ i d, u (ix2 i d) = (u' i d : EReal)) (ha : ∀ i d, a (ix2 i d) = (a' i d : EReal)) (hb : ∀ i d, b (ix2 i d) = (b' i d : EReal))
    (i : Fin 16384) : dots u a b (ix1 i) = ((∑ d, u' i d * (a' i d + b' i d) : ℝ) : EReal) := by
  unfold dots
  refine (ValueIdx.hostReduceAdd_apply _ _ _ _ _).trans ((Ideal.hostReduceAdd_single _ reduces_rows _ _ _).trans ?_)
  rw [show (constant (F := Ideal) S_ .f32 0x00000000#32 (Shape.Idx.first h_S_)) = ((0 : ℝ) : EReal) from zero_word, ← coe_sum, EReal.coe_zero, zero_add]
  refine Finset.sum_congr rfl fun (d : Fin 32) _ => ?_
  have e : reduces_rows.lift (ix1 i) d = ix2 i d := by
    funext c
    match c with
    | ⟨0, _⟩ => rfl
    | ⟨1, _⟩ => rfl
  rw [e]
  show u (ix2 i d) * (a (ix2 i d) + b (ix2 i d)) = _
  rw [hu, ha, hb]
  norm_cast

/-- The reference's logarithm of the logistic function of a real number. -/
theorem logs_real (x : FVec Ideal S16384 .f32) (i : S16384.Idx) (r : ℝ) (h : x i = (r : EReal)) : logs x i = (logSigmoid r : EReal) := by
  have one : (Scalar.ofBits .f32 0x3F800000#32 : Ideal .f32) = ((1 : ℝ) : EReal) := by
    rw [EReal.coe_one]
    exact Ideal.ofBits_one_f32
  unfold logs
  show Ideal.log (Ideal.div (Scalar.ofBits .f32 0x3F800000#32 : Ideal .f32) ((Scalar.ofBits .f32 0x3F800000#32 : Ideal .f32) + Ideal.exp (-(x i)))) = _
  rw [one, h]
  have e1 : ((1 : ℝ) : EReal) + Ideal.exp (-(r : EReal)) = ((1 + Real.exp (-r) : ℝ) : EReal) := by
    rw [← EReal.coe_neg]
    show ((1 : ℝ) : EReal) + ((Real.exp (-r) : ℝ) : EReal) = _
    norm_cast
  have hp : 0 < 1 + Real.exp (-r) := by positivity
  have e2 : Ideal.div ((1 : ℝ) : EReal) ((1 + Real.exp (-r) : ℝ) : EReal) = ((1 / (1 + Real.exp (-r)) : ℝ) : EReal) := by
    unfold Ideal.div
    rw [if_neg (by exact_mod_cast hp.ne'), ← EReal.coe_inv, ← EReal.coe_mul, one_div, one_mul]
  rw [e1, e2]
  show (if 1 / (1 + Real.exp (-r)) ≤ 0 then ⊥ else ((Real.log (1 / (1 + Real.exp (-r))) : ℝ) : EReal)) = _
  rw [if_neg (not_le.2 (by positivity))]
  rfl

/-- One row taken of a table of real numbers. -/
theorem taken_real {t : FVec Ideal S1000000x32 .f32} {T : S1000000x32.Idx → ℝ} (hT : ∀ i, t i = (T i : EReal))
    {v : IVec S16384 32} (hv : ∀ i, (v i).toNat < 1000000) (i : Fin 16384) (d : Fin 32) :
    taken t v (ix2 i d) = ((entry T (v (ix1 i)).toNat d : ℝ) : EReal) := by
  refine (taken_apply hv t i d).trans ?_
  unfold entry
  exact hT _

/-- One score, as the reference computes it. -/
theorem score_reference {tu ti te : FVec Ideal S1000000x32 .f32} {U I E : S1000000x32.Idx → ℝ}
    (hU : ∀ i, tu i = (U i : EReal)) (hI : ∀ i, ti i = (I i : EReal)) (hE : ∀ i, te i = (E i : EReal))
    {u p n : IVec S16384 32} (hu : ∀ i, (u i).toNat < 1000000) (hp : ∀ i, (p i).toNat < 1000000) (hn : ∀ i, (n i).toNat < 1000000)
    (k : Fin 16384) :
    subf (dots (taken tu u) (taken ti p) (taken te p)) (dots (taken tu u) (taken ti n) (taken te n)) (ix1 k)
      = (realScore U I E (u (ix1 k)).toNat (p (ix1 k)).toNat (n (ix1 k)).toNat : EReal) := by
  rw [realScore_eq, EReal.coe_sub]
  exact congrArg₂ (fun x y : EReal => x - y)
    (dots_real (taken_real hU hu) (taken_real hI hp) (taken_real hE hp) k)
    (dots_real (taken_real hU hu) (taken_real hI hn) (taken_real hE hn) k)

/-- The sum of the logarithms. -/
theorem sum_reference {tu ti te : FVec Ideal S1000000x32 .f32} {U I E : S1000000x32.Idx → ℝ}
    (hU : ∀ i, tu i = (U i : EReal)) (hI : ∀ i, ti i = (I i : EReal)) (hE : ∀ i, te i = (E i : EReal))
    {u p n : IVec S16384 32} (hu : ∀ i, (u i).toNat < 1000000) (hp : ∀ i, (p i).toNat < 1000000) (hn : ∀ i, (n i).toNat < 1000000)
    (j : S_.Idx) :
    Host.reduceAdd (logs (subf (dots (taken tu u) (taken ti p) (taken te p)) (dots (taken tu u) (taken ti n) (taken te n))))
        (constant (F := Ideal) S_ .f32 0x00000000#32) reducesTo_S16384_S_d0 h_S_ j
      = ((∑ i : S16384.Idx, logSigmoid (realScore U I E (u i).toNat (p i).toNat (n i).toNat) : ℝ) : EReal) := by
  refine (ValueIdx.hostReduceAdd_apply _ _ _ _ _).trans ((Ideal.hostReduceAdd_total _ (fun b => b.elim0) _ _ _).trans ?_)
  rw [show (constant (F := Ideal) S_ .f32 0x00000000#32 (Shape.Idx.first h_S_)) = ((0 : ℝ) : EReal) from zero_word, ← coe_sum, EReal.coe_zero, zero_add]
  refine Finset.sum_congr rfl fun i _ => ?_
  obtain ⟨k, rfl⟩ : ∃ k : Fin 16384, i = ix1 k := ⟨i 0, eq_ix1 i⟩
  exact logs_real _ _ _ (score_reference hU hI hE hu hp hn k)

/-- The columns of ids in range are in range. -/
theorem ids_lt {x : IVec S16384x3 32} (hx : ∀ i, (x i).toNat < 1000000) :
    (∀ i, (ids0 x i).toNat < 1000000) ∧ (∀ i, (ids1 x i).toNat < 1000000) ∧ ∀ i, (ids2 x i).toNat < 1000000 :=
  ⟨fun i => by unfold ids0 shapeCast extractStridedSlice; exact hx _, fun i => by unfold ids1 shapeCast extractStridedSlice; exact hx _,
    fun i => by unfold ids2 shapeCast extractStridedSlice; exact hx _⟩

end Cert.Proof.Ref

end
-- ==== Proof.Equation.lean ====
/-
  The equation: over the real numbers the kernel's result is the reference's, and the value claim that follows from the two
  runs.
-/
module

public import proofs.«01_k».proof.Proof.Finite
public import proofs.«01_k».proof.Proof.Reference

@[expose] public section

noncomputable section

namespace Cert.Proof

open Cert.KernelIdeal Cert.KernelIdeal.Gen Cert.Proof.Body
open Idealize.ShloMosaic Idealize.ShloMosaic.ValueIdx Idealize.SL.Sem

/-- A table all of whose entries are finite is a table of real numbers. -/
theorem table_real {t : FVec Ideal S1000000x32 .f32}
    (h : ∀ i, FloatOps.cmpf (F := Ideal) (φ := .f32) .olt (FloatOps.hostAbsf (F := Ideal) (φ := .f32) (t i))
      (FloatOps.ofBits (F := Ideal) .f32 0x7F800000#32) = 1#1) : ∃ T : S1000000x32.Idx → ℝ, ∀ i, t i = (T i : EReal) :=
  Classical.skolem.1 fun i => Pre.real_of_lt (t i) (h i)

/-- The sum that the kernel computes, of tables of real numbers and ids in range. -/
theorem sum_kernel {tu ti te : FVec Ideal S1000000x32 .f32} {U I E : S1000000x32.Idx → ℝ}
    (hU : ∀ i, tu i = (U i : EReal)) (hI : ∀ i, ti i = (I i : EReal)) (hE : ∀ i, te i = (E i : EReal))
    {u p n : IVec S16384 32} (hu : ∀ i, (u i).toNat < 1000000) (hp : ∀ i, (p i).toNat < 1000000) (hn : ∀ i, (n i).toNat < 1000000) :
    Region.lossOf (F := Ideal) (shapeCast S128x128 (scores (F := Ideal) (wide tu) (wide ti) (wide te) u p n) shapeCasts_S16384_S128x128)
      = ((∑ i : S16384.Idx, logSigmoid (realScore U I E (u i).toNat (p i).toNat (n i).toNat) : ℝ) : EReal) := by
  have e : scores (F := Ideal) (wide tu) (wide ti) (wide te) u p n
      = fun i => ((realScore U I E (u i).toNat (p i).toNat (n i).toNat : ℝ) : EReal) := by
    funext i
    exact score_real hU hI hE (u i) (p i) (n i) (hu i) (hp i) (hn i) ⟨(i 0).val % 16, Nat.mod_lt _ (by decide)⟩
  rw [e]
  exact lossOf_real _

/-- The idealised kernel computes the reference's result. -/
theorem algebraic : Cert.algebraic_KernelIdeal_ReferenceIdeal_pre_in_range_finite := by
  intro m g m' g' hpre hargs
  refine ⟨fun c => fun _ => resultOf m c, ?_, ?_⟩
  · refine (θ_run _ _ _).mono (fun r e c => ⟨(e.1 c).1, e.args c⟩)
      (run_main m g (ok_of_ids m fun d i => (Pre.parts_of_finite (hpre d)).1 i))
  · refine (θ_run _ _ _).mono (fun r e c => ⟨(e c).1.trans ?_, (e c).2⟩) (Cert.ReferenceIdeal.Value.run (F := Ideal) m' g')
    obtain ⟨hx, h2, h3, h4⟩ := Pre.parts_of_finite (hpre c)
    obtain ⟨a0, -, a2, a3, a4, -, -⟩ := hargs c
    obtain ⟨U, hU⟩ := table_real h2
    obtain ⟨I, hI⟩ := table_real h3
    obtain ⟨E, hE⟩ := table_real h4
    obtain ⟨hu, hp, hn⟩ := Ref.ids_lt hx
    funext j
    refine (congrFun (Ref.result_eq m' c) j).trans ?_
    rw [a0, a2, a3, a4]
    exact (Ref.sum_reference hU hI hE hu hp hn j).trans (sum_kernel hU hI hE hu hp hn).symm

end Cert.Proof

end
-- ==== Proof.lean ====
/-
  The claim: the kernel as printed and its idealisation run to the end from every memory whose ids are rows of the tables,
  the reference from every memory, all leaving their arguments as they were and every counter at zero; and the idealisation
  is the kernel's own text. And where the tables' entries are finite as well, the idealised kernel and the reference compute
  the same number.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Gen.Pre_in_range_finite
public import proofs.«01_k».proof.Proof.Frames
public import proofs.«01_k».proof.Proof.Finite
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The claims, with the facts that the programs state. -/
theorem claim : Cert.Claim :=
  ⟨Cert.Kernel.Gen.facts, Cert.KernelIdeal.Gen.facts, Cert.ReferenceIdeal.Gen.facts, Cert.Pre_in_range.Gen.facts,
    Cert.Pre_in_range_finite.Gen.facts, frame_kernel, frame_ideal, frame_ideal_finite, frame_reference, frame_reference_finite,
    trivial, algebraic⟩

end Cert.Proof

end
